-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v39_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v39_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "inv_head" .f32 0x3BAAAAAB#32 ((1 / 192 : ℝ) : EReal)

def algebraic_Kernel6Ideal_Reference6Ideal_on_result_mask6_pre_finite6 [hKernel6Ideal : Cert.Kernel6Ideal.Facts] [hReference6Ideal : Cert.Reference6Ideal.Facts] [hPre_finite6 : Cert.Pre_finite6.Facts] [hOn_result_mask6 : Cert.On_result_mask6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v38_0)) (v1 : (c : Dev Cert.Kernel6Ideal.nD) → Buf (Elt Ideal) ((c.tc : Thread Cert.Kernel6Ideal.nD Cert.Kernel6Ideal.τ).loc Cert.Kernel6Ideal.main_v38_1)) (v2 : (c : Dev Cert.Kernel6Ideal.nD) → Buf (Elt Ideal) ((c.tc : Thread Cert.Kernel6Ideal.nD Cert.Kernel6Ideal.τ).loc Cert.Kernel6Ideal.main_v38_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨3, ![4, 4096, 256]⟩ : Shape).Idx, (Cert.On_result_mask6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 i = 1#1 → r.2.mem ((c.tc : Thread Cert.Kernel6Ideal.nD Cert.Kernel6Ideal.τ).loc Cert.Kernel6Ideal.main_v38_0) i = v0 c i)
          ∧ (∀ i : (⟨3, ![18, 4096, 256]⟩ : Shape).Idx, (Cert.On_result_mask6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 i = 1#1 → r.2.mem ((c.tc : Thread Cert.Kernel6Ideal.nD Cert.Kernel6Ideal.τ).loc Cert.Kernel6Ideal.main_v38_1) i = v1 c i)
          ∧ (∀ i : (⟨3, ![4, 1, 256]⟩ : Shape).Idx, (Cert.On_result_mask6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 i = 1#1 → r.2.mem ((c.tc : Thread Cert.Kernel6Ideal.nD Cert.Kernel6Ideal.τ).loc Cert.Kernel6Ideal.main_v38_2) i = v2 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨3, ![4, 4096, 256]⟩ : Shape).Idx, (Cert.On_result_mask6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 i = 1#1 → r.2.mem ((c.tc : Thread Cert.Reference6Ideal.nD Cert.Reference6Ideal.τ).loc Cert.Reference6Ideal.main_v77) i = v0 c i)
          ∧ (∀ i : (⟨3, ![18, 4096, 256]⟩ : Shape).Idx, (Cert.On_result_mask6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 i = 1#1 → r.2.mem ((c.tc : Thread Cert.Reference6Ideal.nD Cert.Reference6Ideal.τ).loc Cert.Reference6Ideal.main_v83) i = v1 c i)
          ∧ (∀ i : (⟨3, ![4, 1, 256]⟩ : Shape).Idx, (Cert.On_result_mask6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 i = 1#1 → r.2.mem ((c.tc : Thread Cert.Reference6Ideal.nD Cert.Reference6Ideal.τ).loc Cert.Reference6Ideal.main_v85) i = v2 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)) (v3 : (c : Dev Cert.Kernel7Ideal.nD) → Buf (Elt Ideal) ((c.tc : Thread Cert.Kernel7Ideal.nD Cert.Kernel7Ideal.τ).loc Cert.Kernel7Ideal.main_v12_3)) (v4 : (c : Dev Cert.Kernel7Ideal.nD) → Buf (Elt Ideal) ((c.tc : Thread Cert.Kernel7Ideal.nD Cert.Kernel7Ideal.τ).loc Cert.Kernel7Ideal.main_v12_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_v12_3) = v3 c
          ∧ r.2.mem ((c.tc : Thread Cert.Kernel7Ideal.nD Cert.Kernel7Ideal.τ).loc Cert.Kernel7Ideal.main_v12_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v74) = v1 c
          ∧ r.2.mem ((c.tc : Thread Cert.Reference7Ideal.nD Cert.Reference7Ideal.τ).loc Cert.Reference7Ideal.main_v76) = v2 c
          ∧ r.2.mem ((c.tc : Thread Cert.Reference7Ideal.nD Cert.Reference7Ideal.τ).loc Cert.Reference7Ideal.main_v77) = v3 c
          ∧ r.2.mem ((c.tc : Thread Cert.Reference7Ideal.nD Cert.Reference7Ideal.τ).loc Cert.Reference7Ideal.main_v78) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v41_0)) (v1 : (c : Dev Cert.Kernel8Ideal.nD) → Buf (Elt Ideal) ((c.tc : Thread Cert.Kernel8Ideal.nD Cert.Kernel8Ideal.τ).loc Cert.Kernel8Ideal.main_v41_1)) (v2 : (c : Dev Cert.Kernel8Ideal.nD) → Buf (Elt Ideal) ((c.tc : Thread Cert.Kernel8Ideal.nD Cert.Kernel8Ideal.τ).loc Cert.Kernel8Ideal.main_v41_2)) (v3 : (c : Dev Cert.Kernel8Ideal.nD) → Buf (Elt Ideal) ((c.tc : Thread Cert.Kernel8Ideal.nD Cert.Kernel8Ideal.τ).loc Cert.Kernel8Ideal.main_v41_3)) (v4 : (c : Dev Cert.Kernel8Ideal.nD) → Buf (Elt Ideal) ((c.tc : Thread Cert.Kernel8Ideal.nD Cert.Kernel8Ideal.τ).loc Cert.Kernel8Ideal.main_v41_4)) (v5 : (c : Dev Cert.Kernel8Ideal.nD) → Buf (Elt Ideal) ((c.tc : Thread Cert.Kernel8Ideal.nD Cert.Kernel8Ideal.τ).loc Cert.Kernel8Ideal.main_v41_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v41_0) = v0 c
          ∧ r.2.mem ((c.tc : Thread Cert.Kernel8Ideal.nD Cert.Kernel8Ideal.τ).loc Cert.Kernel8Ideal.main_v41_1) = v1 c
          ∧ r.2.mem ((c.tc : Thread Cert.Kernel8Ideal.nD Cert.Kernel8Ideal.τ).loc Cert.Kernel8Ideal.main_v41_2) = v2 c
          ∧ r.2.mem ((c.tc : Thread Cert.Kernel8Ideal.nD Cert.Kernel8Ideal.τ).loc Cert.Kernel8Ideal.main_v41_3) = v3 c
          ∧ r.2.mem ((c.tc : Thread Cert.Kernel8Ideal.nD Cert.Kernel8Ideal.τ).loc Cert.Kernel8Ideal.main_v41_4) = v4 c
          ∧ r.2.mem ((c.tc : Thread Cert.Kernel8Ideal.nD Cert.Kernel8Ideal.τ).loc Cert.Kernel8Ideal.main_v41_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v90) = v0 c
          ∧ r.2.mem ((c.tc : Thread Cert.Reference8Ideal.nD Cert.Reference8Ideal.τ).loc Cert.Reference8Ideal.main_v94) = v1 c
          ∧ r.2.mem ((c.tc : Thread Cert.Reference8Ideal.nD Cert.Reference8Ideal.τ).loc Cert.Reference8Ideal.main_v96) = v2 c
          ∧ r.2.mem ((c.tc : Thread Cert.Reference8Ideal.nD Cert.Reference8Ideal.τ).loc Cert.Reference8Ideal.main_v98) = v3 c
          ∧ r.2.mem ((c.tc : Thread Cert.Reference8Ideal.nD Cert.Reference8Ideal.τ).loc Cert.Reference8Ideal.main_v99) = v4 c
          ∧ r.2.mem ((c.tc : Thread Cert.Reference8Ideal.nD Cert.Reference8Ideal.τ).loc Cert.Reference8Ideal.main_v100) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v27)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v27) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_on_result_mask11 [hKernel11Ideal : Cert.Kernel11Ideal.Facts] [hReference11Ideal : Cert.Reference11Ideal.Facts] [hOn_result_mask11 : Cert.On_result_mask11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨3, ![4, 4096, 256]⟩ : Shape).Idx, (Cert.On_result_mask11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Kernel11Ideal.nD Cert.Kernel11Ideal.τ).loc Cert.Kernel11Ideal.main_v7) i = v0 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨3, ![4, 4096, 256]⟩ : Shape).Idx, (Cert.On_result_mask11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Reference11Ideal.nD Cert.Reference11Ideal.τ).loc Cert.Reference11Ideal.main_v32) i = v0 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  IdealRules.named_const.Statement Cert.Kernel12Ideal.κ "inv_head" .f32 0x3BAAAAAB#32 ((1 / 192 : ℝ) : EReal)

def algebraic_Kernel12Ideal_Reference12Ideal_on_result_mask12_pre_finite12 [hKernel12Ideal : Cert.Kernel12Ideal.Facts] [hReference12Ideal : Cert.Reference12Ideal.Facts] [hPre_finite12 : Cert.Pre_finite12.Facts] [hOn_result_mask12 : Cert.On_result_mask12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v29)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          (∀ i : (⟨3, ![5, 4096, 256]⟩ : Shape).Idx, (Cert.On_result_mask12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) i = 1#1 → r.2.mem ((c.tc : Thread Cert.Kernel12Ideal.nD Cert.Kernel12Ideal.τ).loc Cert.Kernel12Ideal.main_v29) i = v0 c i)
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          (∀ i : (⟨3, ![5, 4096, 256]⟩ : Shape).Idx, (Cert.On_result_mask12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) i = 1#1 → r.2.mem ((c.tc : Thread Cert.Reference12Ideal.nD Cert.Reference12Ideal.τ).loc Cert.Reference12Ideal.main_v34) i = v0 c i)
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v26)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v26) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v31) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v13_0)) (v1 : (c : Dev Cert.Kernel15Ideal.nD) → Buf (Elt Ideal) ((c.tc : Thread Cert.Kernel15Ideal.nD Cert.Kernel15Ideal.τ).loc Cert.Kernel15Ideal.main_v13_1)) (v2 : (c : Dev Cert.Kernel15Ideal.nD) → Buf (Elt Ideal) ((c.tc : Thread Cert.Kernel15Ideal.nD Cert.Kernel15Ideal.τ).loc Cert.Kernel15Ideal.main_v13_2)) (v3 : (c : Dev Cert.Kernel15Ideal.nD) → Buf (Elt Ideal) ((c.tc : Thread Cert.Kernel15Ideal.nD Cert.Kernel15Ideal.τ).loc Cert.Kernel15Ideal.main_v13_3)) (v4 : (c : Dev Cert.Kernel15Ideal.nD) → Buf (Elt Ideal) ((c.tc : Thread Cert.Kernel15Ideal.nD Cert.Kernel15Ideal.τ).loc Cert.Kernel15Ideal.main_v13_4)) (v5 : (c : Dev Cert.Kernel15Ideal.nD) → Buf (Elt Ideal) ((c.tc : Thread Cert.Kernel15Ideal.nD Cert.Kernel15Ideal.τ).loc Cert.Kernel15Ideal.main_v13_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v13_0) = v0 c
          ∧ r.2.mem ((c.tc : Thread Cert.Kernel15Ideal.nD Cert.Kernel15Ideal.τ).loc Cert.Kernel15Ideal.main_v13_1) = v1 c
          ∧ r.2.mem ((c.tc : Thread Cert.Kernel15Ideal.nD Cert.Kernel15Ideal.τ).loc Cert.Kernel15Ideal.main_v13_2) = v2 c
          ∧ r.2.mem ((c.tc : Thread Cert.Kernel15Ideal.nD Cert.Kernel15Ideal.τ).loc Cert.Kernel15Ideal.main_v13_3) = v3 c
          ∧ r.2.mem ((c.tc : Thread Cert.Kernel15Ideal.nD Cert.Kernel15Ideal.τ).loc Cert.Kernel15Ideal.main_v13_4) = v4 c
          ∧ r.2.mem ((c.tc : Thread Cert.Kernel15Ideal.nD Cert.Kernel15Ideal.τ).loc Cert.Kernel15Ideal.main_v13_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v41) = v1 c
          ∧ r.2.mem ((c.tc : Thread Cert.Reference15Ideal.nD Cert.Reference15Ideal.τ).loc Cert.Reference15Ideal.main_v45) = v2 c
          ∧ r.2.mem ((c.tc : Thread Cert.Reference15Ideal.nD Cert.Reference15Ideal.τ).loc Cert.Reference15Ideal.main_v46) = v3 c
          ∧ r.2.mem ((c.tc : Thread Cert.Reference15Ideal.nD Cert.Reference15Ideal.τ).loc Cert.Reference15Ideal.main_v47) = v4 c
          ∧ r.2.mem ((c.tc : Thread Cert.Reference15Ideal.nD Cert.Reference15Ideal.τ).loc Cert.Reference15Ideal.main_v49) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite2 : Cert.Pre_finite2.Facts) (hPre_finite3 : Cert.Pre_finite3.Facts) (hPre_finite5 : Cert.Pre_finite5.Facts) (hPre_finite6 : Cert.Pre_finite6.Facts) (hPre_finite7 : Cert.Pre_finite7.Facts) (hPre_finite8 : Cert.Pre_finite8.Facts) (hPre_finite12 : Cert.Pre_finite12.Facts) (hOn_result_mask6 : Cert.On_result_mask6.Facts) (hOn_result_mask11 : Cert.On_result_mask11.Facts) (hOn_result_mask12 : Cert.On_result_mask12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_on_result_mask6_pre_finite6 (hKernel6Ideal := hKernel6Ideal) (hReference6Ideal := hReference6Ideal) (hPre_finite6 := hPre_finite6) (hOn_result_mask6 := hOn_result_mask6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_on_result_mask11 (hKernel11Ideal := hKernel11Ideal) (hReference11Ideal := hReference11Ideal) (hOn_result_mask11 := hOn_result_mask11)
    ∧ preserves_Kernel12_Kernel12Ideal
    ∧ algebraic_Kernel12Ideal_Reference12Ideal_on_result_mask12_pre_finite12 (hKernel12Ideal := hKernel12Ideal) (hReference12Ideal := hReference12Ideal) (hPre_finite12 := hPre_finite12) (hOn_result_mask12 := hOn_result_mask12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== On_result_mask11.lean ====
abbrev S1x4096x2560 : Shape := ⟨3, ![1, 4096, 2560]⟩
abbrev S3x768 : Shape := ⟨2, ![3, 768]⟩
abbrev S4x4096x256 : Shape := ⟨3, ![4, 4096, 256]⟩
abbrev S_ : Shape := ⟨0, ![]⟩

class Facts : Prop where
  bcast_S_S4x4096x256 : S_.BroadcastsInDim S4x4096x256 (![] : Fin 0 → Fin S4x4096x256.rank)

variable [Facts]

def fn {F : FTy → Type} [FloatOps F] (main_arg0 : FVec F S1x4096x2560 .f32) (main_arg1 : FVec F S3x768 .f32) : IVec S4x4096x256 1 :=
  let main_v0 : IVec S4x4096x256 32 := iotaInDim S4x4096x256 32 0
  let main_c : IVec S_ 32 := constantI S_ 32 3#32
  let main_v1 : IVec S4x4096x256 32 := broadcastInDim S4x4096x256 ![] bcast_S_S4x4096x256 main_c
  let main_v2 : IVec S4x4096x256 1 := cmpi .slt main_v0 main_v1
  main_v2
-- ==== On_result_mask12.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S5x4096x256 : Shape := ⟨3, ![5, 4096, 256]⟩
abbrev S_ : Shape := ⟨0, ![]⟩

class Facts : Prop where
  bcast_S_S5x4096x256 : S_.BroadcastsInDim S5x4096x256 (![] : Fin 0 → Fin S5x4096x256.rank)

variable [Facts]

def fn {F : FTy → Type} [FloatOps F] (main_arg0 : FVec F S1x4096x4x192 .f32) (main_arg1 : FVec F S1x4096x3336 .f32) (main_arg2 : FVec F S4x192 .f32) : IVec S5x4096x256 1 :=
  let main_v0 : IVec S5x4096x256 32 := iotaInDim S5x4096x256 32 0
  let main_c : IVec S_ 32 := constantI S_ 32 4#32
  let main_v1 : IVec S5x4096x256 32 := broadcastInDim S5x4096x256 ![] bcast_S_S5x4096x256 main_c
  let main_v2 : IVec S5x4096x256 1 := cmpi .slt main_v0 main_v1
  main_v2
-- ==== On_result_mask6.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S1x4096x1024 : Shape := ⟨3, ![1, 4096, 1024]⟩
abbrev S18x4096x256 : Shape := ⟨3, ![18, 4096, 256]⟩
abbrev S_ : Shape := ⟨0, ![]⟩
abbrev S4x4096x256 : Shape := ⟨3, ![4, 4096, 256]⟩
abbrev S4x1x256 : Shape := ⟨3, ![4, 1, 256]⟩

class Facts : Prop where
  bcast_S_S4x4096x256 : S_.BroadcastsInDim S4x4096x256 (![] : Fin 0 → Fin S4x4096x256.rank)
  bcast_S_S18x4096x256 : S_.BroadcastsInDim S18x4096x256 (![] : Fin 0 → Fin S18x4096x256.rank)
  bcast_S_S4x1x256 : S_.BroadcastsInDim S4x1x256 (![] : Fin 0 → Fin S4x1x256.rank)

variable [Facts]

def fn {F : FTy → Type} [FloatOps F] (main_arg0 : FVec F S1x4096x4x192 .f32) (main_arg1 : FVec F S1x4096x3336 .f32) (main_arg2 : FVec F S4x192 .f32) (main_arg3 : FVec F S1x4096x1024 .f32) : IVec S4x4096x256 1 × IVec S18x4096x256 1 × IVec S4x1x256 1 :=
  let main_v0 : IVec S18x4096x256 32 := iotaInDim S18x4096x256 32 0
  let main_c : IVec S_ 1 := constantI S_ 1 1#1
  let main_v1 : IVec S4x4096x256 1 := broadcastInDim S4x4096x256 ![] bcast_S_S4x4096x256 main_c
  let main_c_0 : IVec S_ 32 := constantI S_ 32 12#32
  let main_v2 : IVec S18x4096x256 32 := broadcastInDim S18x4096x256 ![] bcast_S_S18x4096x256 main_c_0
  let main_v3 : IVec S18x4096x256 1 := cmpi .sge main_v0 main_v2
  let main_c_1 : IVec S_ 32 := constantI S_ 32 16#32
  let main_v4 : IVec S18x4096x256 32 := broadcastInDim S18x4096x256 ![] bcast_S_S18x4096x256 main_c_1
  let main_v5 : IVec S18x4096x256 1 := cmpi .slt main_v0 main_v4
  let main_v6 : IVec S18x4096x256 1 := andi main_v3 main_v5
  let main_c_2 : IVec S_ 1 := constantI S_ 1 1#1
  let main_v7 : IVec S4x1x256 1 := broadcastInDim S4x1x256 ![] bcast_S_S4x1x256 main_c_2
  (main_v1, main_v6, main_v7)
-- ==== Pre_finite12.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S_ : Shape := ⟨0, ![]⟩

class Facts : Prop where
  bcast_S_S1x4096x4x192 : S_.BroadcastsInDim S1x4096x4x192 (![] : Fin 0 → Fin S1x4096x4x192.rank)
  bcast_S_S1x4096x3336 : S_.BroadcastsInDim S1x4096x3336 (![] : Fin 0 → Fin S1x4096x3336.rank)
  bcast_S_S4x192 : S_.BroadcastsInDim S4x192 (![] : Fin 0 → Fin S4x192.rank)

variable [Facts]

def fn {F : FTy → Type} [FloatOps F] (main_arg0 : FVec F S1x4096x4x192 .f32) (main_arg1 : FVec F S1x4096x3336 .f32) (main_arg2 : FVec F S4x192 .f32) : IVec S1x4096x4x192 1 × IVec S1x4096x3336 1 × IVec S4x192 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_v3 : FVec F S1x4096x3336 .f32 := Host.absf main_arg1
  let main_cst_0 : FVec F S_ .f32 := constant S_ .f32 0x7F800000#32
  let main_v4 : FVec F S1x4096x3336 .f32 := broadcastInDim S1x4096x3336 ![] bcast_S_S1x4096x3336 main_cst_0
  let main_v5 : IVec S1x4096x3336 1 := cmpf .olt main_v3 main_v4
  let main_v6 : FVec F S4x192 .f32 := Host.absf main_arg2
  let main_cst_1 : FVec F S_ .f32 := constant S_ .f32 0x7F800000#32
  let main_v7 : FVec F S4x192 .f32 := broadcastInDim S4x192 ![] bcast_S_S4x192 main_cst_1
  let main_v8 : IVec S4x192 1 := cmpf .olt main_v6 main_v7
  (main_v2, main_v5, main_v8)
-- ==== Pre_finite2.lean ====
abbrev S1x4096x2560 : Shape := ⟨3, ![1, 4096, 2560]⟩
abbrev S1x256x512 : Shape := ⟨3, ![1, 256, 512]⟩
abbrev S1x4096x1024 : Shape := ⟨3, ![1, 4096, 1024]⟩
abbrev S_ : Shape := ⟨0, ![]⟩

class Facts : Prop where
  bcast_S_S1x4096x2560 : S_.BroadcastsInDim S1x4096x2560 (![] : Fin 0 → Fin S1x4096x2560.rank)
  bcast_S_S1x256x512 : S_.BroadcastsInDim S1x256x512 (![] : Fin 0 → Fin S1x256x512.rank)
  bcast_S_S1x4096x1024 : S_.BroadcastsInDim S1x4096x1024 (![] : Fin 0 → Fin S1x4096x1024.rank)

variable [Facts]

def fn {F : FTy → Type} [FloatOps F] (main_arg0 : FVec F S1x4096x2560 .f32) (main_arg1 : FVec F S1x256x512 .f32) (main_arg2 : FVec F S1x4096x1024 .f32) : IVec S1x4096x2560 1 × IVec S1x256x512 1 × IVec S1x4096x1024 1 :=
  let main_v0 : FVec F S1x4096x2560 .f32 := Host.absf main_arg0
  let main_cst : FVec F S_ .f32 := constant S_ .f32 0x7F800000#32
  let main_v1 : FVec F S1x4096x2560 .f32 := broadcastInDim S1x4096x2560 ![] bcast_S_S1x4096x2560 main_cst
  let main_v2 : IVec S1x4096x2560 1 := cmpf .olt main_v0 main_v1
  let main_v3 : FVec F S1x256x512 .f32 := Host.absf main_arg1
  let main_cst_0 : FVec F S_ .f32 := constant S_ .f32 0x7F800000#32
  let main_v4 : FVec F S1x256x512 .f32 := broadcastInDim S1x256x512 ![] bcast_S_S1x256x512 main_cst_0
  let main_v5 : IVec S1x256x512 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  (main_v2, main_v5, main_v8)
-- ==== Pre_finite3.lean ====
abbrev S1x4096x3336 : Shape := ⟨3, ![1, 4096, 3336]⟩
abbrev S1x256x512 : Shape := ⟨3, ![1, 256, 512]⟩
abbrev S1x4096x1024 : Shape := ⟨3, ![1, 4096, 1024]⟩
abbrev S18x4096x256 : Shape := ⟨3, ![18, 4096, 256]⟩
abbrev S1x4096x256 : Shape := ⟨3, ![1, 4096, 256]⟩
abbrev S_ : Shape := ⟨0, ![]⟩

class Facts : Prop where
  bcast_S_S1x4096x3336 : S_.BroadcastsInDim S1x4096x3336 (![] : Fin 0 → Fin S1x4096x3336.rank)
  bcast_S_S1x256x512 : S_.BroadcastsInDim S1x256x512 (![] : Fin 0 → Fin S1x256x512.rank)
  bcast_S_S1x4096x1024 : S_.BroadcastsInDim S1x4096x1024 (![] : Fin 0 → Fin S1x4096x1024.rank)

variable [Facts]

def fn {F : FTy → Type} [FloatOps F] (main_arg0 : FVec F S1x4096x3336 .f32) (main_arg1 : FVec F S1x256x512 .f32) (main_arg2 : FVec F S1x4096x1024 .f32) (main_arg3 : FVec F S18x4096x256 .bf16) (main_arg4 : FVec F S1x4096x256 .bf16) : IVec S1x4096x3336 1 × IVec S1x256x512 1 × IVec S1x4096x1024 1 :=
  let main_v0 : FVec F S1x4096x3336 .f32 := Host.absf main_arg0
  let main_cst : FVec F S_ .f32 := constant S_ .f32 0x7F800000#32
  let main_v1 : FVec F S1x4096x3336 .f32 := broadcastInDim S1x4096x3336 ![] bcast_S_S1x4096x3336 main_cst
  let main_v2 : IVec S1x4096x3336 1 := cmpf .olt main_v0 main_v1
  let main_v3 : FVec F S1x256x512 .f32 := Host.absf main_arg1
  let main_cst_0 : FVec F S_ .f32 := constant S_ .f32 0x7F800000#32
  let main_v4 : FVec F S1x256x512 .f32 := broadcastInDim S1x256x512 ![] bcast_S_S1x256x512 main_cst_0
  let main_v5 : IVec S1x256x512 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  (main_v2, main_v5, main_v8)
-- ==== Pre_finite5.lean ====
abbrev S1x4096x3336 : Shape := ⟨3, ![1, 4096, 3336]⟩
abbrev S4x1536 : Shape := ⟨2, ![4, 1536]⟩
abbrev S1x4096x1536 : Shape := ⟨3, ![1, 4096, 1536]⟩
abbrev S18x4096x256 : Shape := ⟨3, ![18, 4096, 256]⟩
abbrev S_ : Shape := ⟨0, ![]⟩

class Facts : Prop where
  bcast_S_S1x4096x3336 : S_.BroadcastsInDim S1x4096x3336 (![] : Fin 0 → Fin S1x4096x3336.rank)
  bcast_S_S4x1536 : S_.BroadcastsInDim S4x1536 (![] : Fin 0 → Fin S4x1536.rank)
  bcast_S_S1x4096x1536 : S_.BroadcastsInDim S1x4096x1536 (![] : Fin 0 → Fin S1x4096x1536.rank)

variable [Facts]

def fn {F : FTy → Type} [FloatOps F] (main_arg0 : FVec F S1x4096x3336 .f32) (main_arg1 : FVec F S4x1536 .f32) (main_arg2 : FVec F S1x4096x1536 .f32) (main_arg3 : FVec F S18x4096x256 .bf16) : IVec S1x4096x3336 1 × IVec S4x1536 1 × IVec S1x4096x1536 1 :=
  let main_v0 : FVec F S1x4096x3336 .f32 := Host.absf main_arg0
  let main_cst : FVec F S_ .f32 := constant S_ .f32 0x7F800000#32
  let main_v1 : FVec F S1x4096x3336 .f32 := broadcastInDim S1x4096x3336 ![] bcast_S_S1x4096x3336 main_cst
  let main_v2 : IVec S1x4096x3336 1 := cmpf .olt main_v0 main_v1
  let main_v3 : FVec F S4x1536 .f32 := Host.absf main_arg1
  let main_cst_0 : FVec F S_ .f32 := constant S_ .f32 0x7F800000#32
  let main_v4 : FVec F S4x1536 .f32 := broadcastInDim S4x1536 ![] bcast_S_S4x1536 main_cst_0
  let main_v5 : IVec S4x1536 1 := cmpf .olt main_v3 main_v4
  let main_v6 : FVec F S1x4096x1536 .f32 := Host.absf main_arg2
  let main_cst_1 : FVec F S_ .f32 := constant S_ .f32 0x7F800000#32
  let main_v7 : FVec F S1x4096x1536 .f32 := broadcastInDim S1x4096x1536 ![] bcast_S_S1x4096x1536 main_cst_1
  let main_v8 : IVec S1x4096x1536 1 := cmpf .olt main_v6 main_v7
  (main_v2, main_v5, main_v8)
-- ==== Pre_finite6.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S1x4096x1024 : Shape := ⟨3, ![1, 4096, 1024]⟩
abbrev S_ : Shape := ⟨0, ![]⟩

class Facts : Prop where
  bcast_S_S1x4096x4x192 : S_.BroadcastsInDim S1x4096x4x192 (![] : Fin 0 → Fin S1x4096x4x192.rank)
  bcast_S_S1x4096x3336 : S_.BroadcastsInDim S1x4096x3336 (![] : Fin 0 → Fin S1x4096x3336.rank)
  bcast_S_S4x192 : S_.BroadcastsInDim S4x192 (![] : Fin 0 → Fin S4x192.rank)
  bcast_S_S1x4096x1024 : S_.BroadcastsInDim S1x4096x1024 (![] : Fin 0 → Fin S1x4096x1024.rank)

variable [Facts]

def fn {F : FTy → Type} [FloatOps F] (main_arg0 : FVec F S1x4096x4x192 .f32) (main_arg1 : FVec F S1x4096x3336 .f32) (main_arg2 : FVec F S4x192 .f32) (main_arg3 : FVec F S1x4096x1024 .f32) : IVec S1x4096x4x192 1 × IVec S1x4096x3336 1 × IVec S4x192 1 × IVec S1x4096x1024 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_v3 : FVec F S1x4096x3336 .f32 := Host.absf main_arg1
  let main_cst_0 : FVec F S_ .f32 := constant S_ .f32 0x7F800000#32
  let main_v4 : FVec F S1x4096x3336 .f32 := broadcastInDim S1x4096x3336 ![] bcast_S_S1x4096x3336 main_cst_0
  let main_v5 : IVec S1x4096x3336 1 := cmpf .olt main_v3 main_v4
  let main_v6 : FVec F S4x192 .f32 := Host.absf main_arg2
  let main_cst_1 : FVec F S_ .f32 := constant S_ .f32 0x7F800000#32
  let main_v7 : FVec F S4x192 .f32 := broadcastInDim S4x192 ![] bcast_S_S4x192 main_cst_1
  let main_v8 : IVec S4x192 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  (main_v2, main_v5, main_v8, main_v11)
-- ==== Pre_finite7.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S1x4096x1024 .f32) (main_arg1 : FVec F S1x4096x1024 .f32) (main_arg2 : FVec F S1024x1024 .f32) (main_arg3 : FVec F S1024 .f32) (main_arg4 : FVec F S1x4096x1024 .f32) : IVec S1x4096x1024 1 × IVec S1x4096x1024 1 × IVec S1024x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_finite8.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S1x4096x1024 .f32) (main_arg1 : FVec F S1024x2816 .f32) (main_arg2 : FVec F S1024x2816 .f32) (main_arg3 : FVec F S2816x1024 .f32) (main_arg4 : FVec F S1024 .f32) (main_arg5 : FVec F S1x4096x1024 .f32) : IVec S1x4096x1024 1 × IVec S1024x2816 1 × IVec S1024x2816 1 × IVec S2816x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Kernel.lean ====
abbrev S1x4096x2560 : Shape := ⟨3, ![1, 4096, 2560]⟩
abbrev S3x768 : Shape := ⟨2, ![3, 768]⟩
abbrev S1x4096x1024 : Shape := ⟨3, ![1, 4096, 1024]⟩
abbrev S4096x2560 : Shape := ⟨2, ![4096, 2560]⟩
abbrev S4096x10x256 : Shape := ⟨3, ![4096, 10, 256]⟩
abbrev S10x4096x256 : Shape := ⟨3, ![10, 4096, 256]⟩
abbrev S3x3x256 : Shape := ⟨3, ![3, 3, 256]⟩
abbrev S_ : Shape := ⟨0, ![]⟩
abbrev S3x8x256 : Shape := ⟨3, ![3, 8, 256]⟩
abbrev S4096x1024 : Shape := ⟨2, ![4096, 1024]⟩
abbrev S4096x4x256 : Shape := ⟨3, ![4096, 4, 256]⟩
abbrev S4x4096x256 : Shape := ⟨3, ![4, 4096, 256]⟩
abbrev S3x4096x256 : Shape := ⟨3, ![3, 4096, 256]⟩
abbrev S1x4096x128 : Shape := ⟨3, ![1, 4096, 128]⟩
abbrev S1x8x128 : Shape := ⟨3, ![1, 8, 128]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩
abbrev S5x128 : Shape := ⟨2, ![5, 128]⟩

abbrev nBuf : Space → Nat
  | .hbm => 21
  | .vmem => 18
  | .smem => 0
  | _ => 0

abbrev bufTy : (tb : Table) → Fin (tcTables nBuf tb) → BufTy
  | .hbm, ⟨0, _⟩ => ⟨S1x4096x2560, .f32⟩
  | .hbm, ⟨1, _⟩ => ⟨S3x768, .f32⟩
  | .hbm, ⟨2, _⟩ => ⟨S1x4096x1024, .f32⟩
  | .hbm, ⟨3, _⟩ => ⟨S4096x2560, .f32⟩
  | .hbm, ⟨4, _⟩ => ⟨S4096x10x256, .f32⟩
  | .hbm, ⟨5, _⟩ => ⟨S10x4096x256, .f32⟩
  | .hbm, ⟨6, _⟩ => ⟨S3x3x256, .f32⟩
  | .hbm, ⟨7, _⟩ => ⟨S_, .i32⟩
  | .hbm, ⟨8, _⟩ => ⟨S_, .f32⟩
  | .hbm, ⟨9, _⟩ => ⟨S3x3x256, .f32⟩
  | .hbm, ⟨10, _⟩ => ⟨S3x3x256, .f32⟩
  | .hbm, ⟨11, _⟩ => ⟨S_, .i32⟩
  | .hbm, ⟨12, _⟩ => ⟨S_, .f32⟩
  | .hbm, ⟨13, _⟩ => ⟨S3x8x256, .f32⟩
  | .hbm, ⟨14, _⟩ => ⟨S4096x1024, .f32⟩
  | .hbm, ⟨15, _⟩ => ⟨S4096x4x256, .f32⟩
  | .hbm, ⟨16, _⟩ => ⟨S4x4096x256, .f32⟩
  | .hbm, ⟨17, _⟩ => ⟨S3x4096x256, .bf16⟩
  | .hbm, ⟨18, _⟩ => ⟨S3x4096x256, .bf16⟩
  | .hbm, ⟨19, _⟩ => ⟨S3x4096x256, .bf16⟩
  | .hbm, ⟨20, _⟩ => ⟨S3x8x256, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x8x128, .f32⟩
  | .local _ .vmem, ⟨7, _⟩ => ⟨S1x8x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x8x128, .f32⟩
  | .local _ .vmem, ⟨17, _⟩ => ⟨S1x8x128, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1x4096x2560 : Shape := ⟨3, ![1, 4096, 2560]⟩
abbrev S3x768 : Shape := ⟨2, ![3, 768]⟩
abbrev S1x4096x1024 : Shape := ⟨3, ![1, 4096, 1024]⟩
abbrev S1x4096x2304 : Shape := ⟨3, ![1, 4096, 2304]⟩
abbrev S1x4096x768 : Shape := ⟨3, ![1, 4096, 768]⟩
abbrev S_ : Shape := ⟨0, ![]⟩
abbrev S1x2x768 : Shape := ⟨3, ![1, 2, 768]⟩
abbrev S1x4098x768 : Shape := ⟨3, ![1, 4098, 768]⟩
abbrev S1x768 : Shape := ⟨2, ![1, 768]⟩
abbrev S768 : Shape := ⟨1, ![768]⟩
abbrev S1x1x768 : Shape := ⟨3, ![1, 1, 768]⟩
abbrev S4096x2304 : Shape := ⟨2, ![4096, 2304]⟩
abbrev S4096x9x256 : Shape := ⟨3, ![4096, 9, 256]⟩
abbrev S9x4096x256 : Shape := ⟨3, ![9, 4096, 256]⟩
abbrev S3x4096x256 : Shape := ⟨3, ![3, 4096, 256]⟩
abbrev S3x3x256 : Shape := ⟨3, ![3, 3, 256]⟩
abbrev S3x8x256 : Shape := ⟨3, ![3, 8, 256]⟩

abbrev nBuf : Space → Nat
  | .hbm => 97
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S3x768, .f32⟩
  | .hbm, ⟨2, _⟩ => ⟨S1x4096x1024, .f32⟩
  | .hbm, ⟨3, _⟩ => ⟨S1x4096x2304, .f32⟩
  | .hbm, ⟨4, _⟩ => ⟨S1x4096x768, .f32⟩
  | .hbm, ⟨5, _⟩ => ⟨S1x4096x768, .f32⟩
  | .hbm, ⟨6, _⟩ => ⟨S1x4096x768, .f32⟩
  | .hbm, ⟨7, _⟩ => ⟨S1x4096x768, .f32⟩
  | .hbm, ⟨8, _⟩ => ⟨S_, .f32⟩
  | .hbm, ⟨9, _⟩ => ⟨S1x2x768, .f32⟩
  | .hbm, ⟨10, _⟩ => ⟨S1x4098x768, .f32⟩
  | .hbm, ⟨11, _⟩ => ⟨S_, .f32⟩
  | .hbm, ⟨12, _⟩ => ⟨S1x2x768, .f32⟩
  | .hbm, ⟨13, _⟩ => ⟨S1x4096x768, .f32⟩
  | .hbm, ⟨14, _⟩ => ⟨S1x768, .f32⟩
  | .hbm, ⟨15, _⟩ => ⟨S768, .f32⟩
  | .hbm, ⟨16, _⟩ => ⟨S1x1x768, .f32⟩
  | .hbm, ⟨17, _⟩ => ⟨S1x4096x768, .f32⟩
  | .hbm, ⟨18, _⟩ => ⟨S1x4096x768, .f32⟩
  | .hbm, ⟨19, _⟩ => ⟨S1x4096x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S1x4096x768, .f32⟩
  | .hbm, ⟨24, _⟩ => ⟨S1x4096x768, .f32⟩
  | .hbm, ⟨25, _⟩ => ⟨S1x4096x768, .f32⟩
  | .hbm, ⟨26, _⟩ => ⟨S1x4096x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S1x4096x768, .f32⟩
  | .hbm, ⟨31, _⟩ => ⟨S1x4096x768, .f32⟩
  | .hbm, ⟨32, _⟩ => ⟨S1x4096x768, .f32⟩
  | .hbm, ⟨33, _⟩ => ⟨S1x4096x768, .f32⟩
  | .hbm, ⟨34, _⟩ => ⟨S1x4096x768, .f32⟩
  | .hbm, ⟨35, _⟩ => ⟨S1x4096x768, .f32⟩
  | .hbm, ⟨36, _⟩ => ⟨S1x4096x768, .f32⟩
  | .hbm, ⟨37, _⟩ => ⟨S1x4096x768, .f32⟩
  | .hbm, ⟨38, _⟩ => ⟨S_, .f32⟩
  | .hbm, ⟨39, _⟩ => ⟨S1x768, .f32⟩
  | .hbm, ⟨40, _⟩ => ⟨S1x1x768, .f32⟩
  | .hbm, ⟨41, _⟩ => ⟨S1x4096x768, .f32⟩
  | .hbm, ⟨42, _⟩ => ⟨S1x4096x768, .f32⟩
  | .hbm, ⟨43, _⟩ => ⟨S_, .f32⟩
  | .hbm, ⟨44, _⟩ => ⟨S768, .f32⟩
  | .hbm, ⟨45, _⟩ => ⟨S1x768, .f32⟩
  | .hbm, ⟨46, _⟩ => ⟨S_, .f32⟩
  | .hbm, ⟨47, _⟩ => ⟨S3x768, .f32⟩
  | .hbm, ⟨48, _⟩ => ⟨S_, .f32⟩
  | .hbm, ⟨49, _⟩ => ⟨S1x4098x768, .f32⟩
  | .hbm, ⟨50, _⟩ => ⟨S1x4096x768, .f32⟩
  | .hbm, ⟨51, _⟩ => ⟨S_, .f32⟩
  | .hbm, ⟨52, _⟩ => ⟨S1x768, .f32⟩
  | .hbm, ⟨53, _⟩ => ⟨S1x1x768, .f32⟩
  | .hbm, ⟨54, _⟩ => ⟨S1x4096x768, .f32⟩
  | .hbm, ⟨55, _⟩ => ⟨S1x4096x768, .f32⟩
  | .hbm, ⟨56, _⟩ => ⟨S_, .f32⟩
  | .hbm, ⟨57, _⟩ => ⟨S768, .f32⟩
  | .hbm, ⟨58, _⟩ => ⟨S1x768, .f32⟩
  | .hbm, ⟨59, _⟩ => ⟨S_, .f32⟩
  | .hbm, ⟨60, _⟩ => ⟨S3x768, .f32⟩
  | .hbm, ⟨61, _⟩ => ⟨S3x768, .f32⟩
  | .hbm, ⟨62, _⟩ => ⟨S_, .f32⟩
  | .hbm, ⟨63, _⟩ => ⟨S1x4098x768, .f32⟩
  | .hbm, ⟨64, _⟩ => ⟨S1x4098x768, .f32⟩
  | .hbm, ⟨65, _⟩ => ⟨S1x4096x768, .f32⟩
  | .hbm, ⟨66, _⟩ => ⟨S_, .f32⟩
  | .hbm, ⟨67, _⟩ => ⟨S1x768, .f32⟩
  | .hbm, ⟨68, _⟩ => ⟨S1x1x768, .f32⟩
  | .hbm, ⟨69, _⟩ => ⟨S1x4096x768, .f32⟩
  | .hbm, ⟨70, _⟩ => ⟨S1x4096x768, .f32⟩
  | .hbm, ⟨71, _⟩ => ⟨S_, .f32⟩
  | .hbm, ⟨72, _⟩ => ⟨S768, .f32⟩
  | .hbm, ⟨73, _⟩ => ⟨S1x768, .f32⟩
  | .hbm, ⟨74, _⟩ => ⟨S_, .f32⟩
  | .hbm, ⟨75, _⟩ => ⟨S3x768, .f32⟩
  | .hbm, ⟨76, _⟩ => ⟨S3x768, .f32⟩
  | .hbm, ⟨77, _⟩ => ⟨S_, .f32⟩
  | .hbm, ⟨78, _⟩ => ⟨S1x4098x768, .f32⟩
  | .hbm, ⟨79, _⟩ => ⟨S1x4098x768, .f32⟩
  | .hbm, ⟨80, _⟩ => ⟨S1x2x768, .f32⟩
  | .hbm, ⟨81, _⟩ => ⟨S1x4096x768, .f32⟩
  | .hbm, ⟨82, _⟩ => ⟨S1x4096x768, .f32⟩
  | .hbm, ⟨83, _⟩ => ⟨S1x4096x768, .f32⟩
  | .hbm, ⟨84, _⟩ => ⟨S1x4096x2304, .f32⟩
  | .hbm, ⟨85, _⟩ => ⟨S4096x2304, .f32⟩
  | .hbm, ⟨86, _⟩ => ⟨S4096x9x256, .f32⟩
  | .hbm, ⟨87, _⟩ => ⟨S9x4096x256, .f32⟩
  | .hbm, ⟨88, _⟩ => ⟨S9x4096x256, .bf16⟩
  | .hbm, ⟨89, _⟩ => ⟨S3x4096x256, .bf16⟩
  | .hbm, ⟨90, _⟩ => ⟨S3x4096x256, .bf16⟩
  | .hbm, ⟨91, _⟩ => ⟨S3x4096x256, .bf16⟩
  | .hbm, ⟨92, _⟩ => ⟨S3x3x256, .f32⟩
  | .hbm, ⟨93, _⟩ => ⟨S3x3x256, .f32⟩
  | .hbm, ⟨94, _⟩ => ⟨S_, .i32⟩
  | .hbm, ⟨95, _⟩ => ⟨S_, .f32⟩
  | .hbm, ⟨96, _⟩ => ⟨S3x8x256, .f32⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c : Ref sig .tc := ⟨.hbm, 94, rfl⟩
abbrev main_call0_v0 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Kernel2.lean ====
abbrev S1x4096x2560 : Shape := ⟨3, ![1, 4096, 2560]⟩
abbrev S1x256x512 : Shape := ⟨3, ![1, 256, 512]⟩
abbrev S1x4096x1024 : Shape := ⟨3, ![1, 4096, 1024]⟩
abbrev S4096x2560 : Shape := ⟨2, ![4096, 2560]⟩
abbrev S4096x10x256 : Shape := ⟨3, ![4096, 10, 256]⟩
abbrev S10x4096x256 : Shape := ⟨3, ![10, 4096, 256]⟩
abbrev S256x512 : Shape := ⟨2, ![256, 512]⟩
abbrev S256x2x256 : Shape := ⟨3, ![256, 2, 256]⟩
abbrev S2x256x256 : Shape := ⟨3, ![2, 256, 256]⟩
abbrev S4096x1024 : Shape := ⟨2, ![4096, 1024]⟩
abbrev S4096x4x256 : Shape := ⟨3, ![4096, 4, 256]⟩
abbrev S4x4096x256 : Shape := ⟨3, ![4, 4096, 256]⟩
abbrev S1x4096x256 : Shape := ⟨3, ![1, 4096, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S1024 : Shape := ⟨1, ![1024]⟩
abbrev S1024x1 : Shape := ⟨2, ![1024, 1]⟩

abbrev nBuf : Space → Nat
  | .hbm => 14
  | .vmem => 8
  | .smem => 0
  | _ => 0

abbrev bufTy : (tb : Table) → Fin (tcTables nBuf tb) → BufTy
  | .hbm, ⟨0, _⟩ => ⟨S1x4096x2560, .f32⟩
  | .hbm, ⟨1, _⟩ => ⟨S1x256x512, .f32⟩
  | .hbm, ⟨2, _⟩ => ⟨S1x4096x1024, .f32⟩
  | .hbm, ⟨3, _⟩ => ⟨S4096x2560, .f32⟩
  | .hbm, ⟨4, _⟩ => ⟨S4096x10x256, .f32⟩
  | .hbm, ⟨5, _⟩ => ⟨S10x4096x256, .f32⟩
  | .hbm, ⟨6, _⟩ => ⟨S256x512, .f32⟩
  | .hbm, ⟨7, _⟩ => ⟨S256x2x256, .f32⟩
  | .hbm, ⟨8, _⟩ => ⟨S2x256x256, .f32⟩
  | .hbm, ⟨9, _⟩ => ⟨S4096x1024, .f32⟩
  | .hbm, ⟨10, _⟩ => ⟨S4096x4x256, .f32⟩
  | .hbm, ⟨11, _⟩ => ⟨S4x4096x256, .f32⟩
  | .hbm, ⟨12, _⟩ => ⟨S1x4096x256, .bf16⟩
  | .hbm, ⟨13, _⟩ => ⟨S2x256x256, .f32⟩
  | .local _ .vmem, ⟨0, _⟩ => ⟨S1x1024x256, .f32⟩
  | .local _ .vmem, ⟨1, _⟩ => ⟨S1x1024x256, .f32⟩
  | .local _ .vmem, ⟨2, _⟩ => ⟨S2x256x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .bf16⟩
  | .local _ .vmem, ⟨6, _⟩ => ⟨S1x1024x256, .bf16⟩
  | .local _ .vmem, ⟨7, _⟩ => ⟨S2x256x256, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S1x4096x2560 : Shape := ⟨3, ![1, 4096, 2560]⟩
abbrev S1x256x512 : Shape := ⟨3, ![1, 256, 512]⟩
abbrev S1x4096x1024 : Shape := ⟨3, ![1, 4096, 1024]⟩
abbrev S1x4096x256 : Shape := ⟨3, ![1, 4096, 256]⟩
abbrev S1x4096x4x64 : Shape := ⟨4, ![1, 4096, 4, 64]⟩
abbrev S1x256x256 : Shape := ⟨3, ![1, 256, 256]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S1x4x64x256 : Shape := ⟨4, ![1, 4, 64, 256]⟩
abbrev S4x4096 : Shape := ⟨2, ![4, 4096]⟩
abbrev S1x4x256x64 : Shape := ⟨4, ![1, 4, 256, 64]⟩
abbrev S1x4x4096x64 : Shape := ⟨4, ![1, 4, 4096, 64]⟩
abbrev S256x512 : Shape := ⟨2, ![256, 512]⟩
abbrev S256x2x256 : Shape := ⟨3, ![256, 2, 256]⟩
abbrev S2x256x256 : Shape := ⟨3, ![2, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S1x256x512, .f32⟩
  | .hbm, ⟨2, _⟩ => ⟨S1x4096x1024, .f32⟩
  | .hbm, ⟨3, _⟩ => ⟨S1x4096x256, .f32⟩
  | .hbm, ⟨4, _⟩ => ⟨S1x4096x4x64, .f32⟩
  | .hbm, ⟨5, _⟩ => ⟨S1x256x256, .f32⟩
  | .hbm, ⟨6, _⟩ => ⟨S1x256x256, .f32⟩
  | .hbm, ⟨7, _⟩ => ⟨S1x256x4x64, .f32⟩
  | .hbm, ⟨8, _⟩ => ⟨S1x256x4x64, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S1x4x4096x1, .f32⟩
  | .hbm, ⟨16, _⟩ => ⟨S1x4x4096x256, .f32⟩
  | .hbm, ⟨17, _⟩ => ⟨S1x4x4096x256, .i1⟩
  | .hbm, ⟨18, _⟩ => ⟨S1x4x4096x256, .f32⟩
  | .hbm, ⟨19, _⟩ => ⟨S_, .f32⟩
  | .hbm, ⟨20, _⟩ => ⟨S1x4x4096, .f32⟩
  | .hbm, ⟨21, _⟩ => ⟨S_, .f32⟩
  | .hbm, ⟨22, _⟩ => ⟨S1x4x4096, .f32⟩
  | .hbm, ⟨23, _⟩ => ⟨S1x4x4096, .f32⟩
  | .hbm, ⟨24, _⟩ => ⟨S_, .f32⟩
  | .hbm, ⟨25, _⟩ => ⟨S1x4x4096, .f32⟩
  | .hbm, ⟨26, _⟩ => ⟨S1x4x4096, .i1⟩
  | .hbm, ⟨27, _⟩ => ⟨S_, .f32⟩
  | .hbm, ⟨28, _⟩ => ⟨S1x4x4096, .f32⟩
  | .hbm, ⟨29, _⟩ => ⟨S1x4x4096, .i1⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S1x4x4096, .f32⟩
  | .hbm, ⟨37, _⟩ => ⟨S1x4x4096, .f32⟩
  | .hbm, ⟨38, _⟩ => ⟨S1x4x4096x1, .f32⟩
  | .hbm, ⟨39, _⟩ => ⟨S1x4x4096x256, .f32⟩
  | .hbm, ⟨40, _⟩ => ⟨S1x4x4096x256, .f32⟩
  | .hbm, ⟨41, _⟩ => ⟨S1x4x4096x256, .f32⟩
  | .hbm, ⟨42, _⟩ => ⟨S_, .f32⟩
  | .hbm, ⟨43, _⟩ => ⟨S1x4x4096, .f32⟩
  | .hbm, ⟨44, _⟩ => ⟨S1x4x4096x1, .f32⟩
  | .hbm, ⟨45, _⟩ => ⟨S1x4x4096x256, .f32⟩
  | .hbm, ⟨46, _⟩ => ⟨S1x4x4096x256, .f32⟩
  | .hbm, ⟨47, _⟩ => ⟨S1x4x4096x1, .f32⟩
  | .hbm, ⟨48, _⟩ => ⟨S_, .f32⟩
  | .hbm, ⟨49, _⟩ => ⟨S1x4x4096x1, .f32⟩
  | .hbm, ⟨50, _⟩ => ⟨S1x4x4096x1, .f32⟩
  | .hbm, ⟨51, _⟩ => ⟨S1x4x64x4096, .f32⟩
  | .hbm, ⟨52, _⟩ => ⟨S1x4096x4x64, .f32⟩
  | .hbm, ⟨53, _⟩ => ⟨S1x4096x256, .f32⟩
  | .hbm, ⟨54, _⟩ => ⟨S1x4096x256, .f32⟩
  | .hbm, ⟨55, _⟩ => ⟨S1x4096x4x64, .f32⟩
  | .hbm, ⟨56, _⟩ => ⟨S1x4x64x4096, .f32⟩
  | .hbm, ⟨57, _⟩ => ⟨S1x4x4096x256, .f32⟩
  | .hbm, ⟨58, _⟩ => ⟨S1x4x64x256, .f32⟩
  | .hbm, ⟨59, _⟩ => ⟨S1x256x4x64, .f32⟩
  | .hbm, ⟨60, _⟩ => ⟨S1x4x4096x256, .f32⟩
  | .hbm, ⟨61, _⟩ => ⟨S1x4x4096x256, .f32⟩
  | .hbm, ⟨62, _⟩ => ⟨S1x4x4096x256, .f32⟩
  | .hbm, ⟨63, _⟩ => ⟨S_, .f32⟩
  | .hbm, ⟨64, _⟩ => ⟨S1x4x4096, .f32⟩
  | .hbm, ⟨65, _⟩ => ⟨S1x4x4096x1, .f32⟩
  | .hbm, ⟨66, _⟩ => ⟨S1x4x4096x1, .f32⟩
  | .hbm, ⟨67, _⟩ => ⟨S1x4x4096x256, .f32⟩
  | .hbm, ⟨68, _⟩ => ⟨S1x4x4096x256, .f32⟩
  | .hbm, ⟨69, _⟩ => ⟨S_, .f32⟩
  | .hbm, ⟨70, _⟩ => ⟨S4x4096, .f32⟩
  | .hbm, ⟨71, _⟩ => ⟨S1x4x4096, .f32⟩
  | .hbm, ⟨72, _⟩ => ⟨S1x4x4096x256, .f32⟩
  | .hbm, ⟨73, _⟩ => ⟨S1x4x4096x256, .f32⟩
  | .hbm, ⟨74, _⟩ => ⟨S1x4x4096x256, .f32⟩
  | .hbm, ⟨75, _⟩ => ⟨S_, .f32⟩
  | .hbm, ⟨76, _⟩ => ⟨S1x4x4096x256, .f32⟩
  | .hbm, ⟨77, _⟩ => ⟨S1x4x4096x256, .f32⟩
  | .hbm, ⟨78, _⟩ => ⟨S1x4x256x64, .f32⟩
  | .hbm, ⟨79, _⟩ => ⟨S1x256x4x64, .f32⟩
  | .hbm, ⟨80, _⟩ => ⟨S1x4x4096x64, .f32⟩
  | .hbm, ⟨81, _⟩ => ⟨S1x4096x4x64, .f32⟩
  | .hbm, ⟨82, _⟩ => ⟨S1x256x256, .f32⟩
  | .hbm, ⟨83, _⟩ => ⟨S1x256x256, .f32⟩
  | .hbm, ⟨84, _⟩ => ⟨S1x256x512, .f32⟩
  | .hbm, ⟨85, _⟩ => ⟨S1x4096x256, .f32⟩
  | .hbm, ⟨86, _⟩ => ⟨S1x4096x256, .bf16⟩
  | .hbm, ⟨87, _⟩ => ⟨S256x512, .f32⟩
  | .hbm, ⟨88, _⟩ => ⟨S256x2x256, .f32⟩
  | .hbm, ⟨89, _⟩ => ⟨S2x256x256, .f32⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel3.lean ====
abbrev S1x4096x3336 : Shape := ⟨3, ![1, 4096, 3336]⟩
abbrev S1x256x512 : Shape := ⟨3, ![1, 256, 512]⟩
abbrev S1x4096x1024 : Shape := ⟨3, ![1, 4096, 1024]⟩
abbrev S18x4096x256 : Shape := ⟨3, ![18, 4096, 256]⟩
abbrev S1x4096x256 : Shape := ⟨3, ![1, 4096, 256]⟩
abbrev S4096x3336 : Shape := ⟨2, ![4096, 3336]⟩
abbrev S4096x768 : Shape := ⟨2, ![4096, 768]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x8 : Shape := ⟨2, ![4096, 8]⟩
abbrev S4096x256 : Shape := ⟨2, ![4096, 256]⟩
abbrev S256x512 : Shape := ⟨2, ![256, 512]⟩
abbrev S256x2x256 : Shape := ⟨3, ![256, 2, 256]⟩
abbrev S2x256x256 : Shape := ⟨3, ![2, 256, 256]⟩
abbrev S1x4096x768 : Shape := ⟨3, ![1, 4096, 768]⟩
abbrev S5x4096x256 : Shape := ⟨3, ![5, 4096, 256]⟩
abbrev S1x1024x256 : Shape := ⟨3, ![1, 1024, 256]⟩
abbrev S2x1024x256 : Shape := ⟨3, ![2, 1024, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S1024 : Shape := ⟨1, ![1024]⟩
abbrev S1024x1 : Shape := ⟨2, ![1024, 1]⟩

abbrev nBuf : Space → Nat
  | .hbm => 54
  | .vmem => 10
  | .smem => 0
  | _ => 0

abbrev bufTy : (tb : Table) → Fin (tcTables nBuf tb) → BufTy
  | .hbm, ⟨0, _⟩ => ⟨S1x4096x3336, .f32⟩
  | .hbm, ⟨1, _⟩ => ⟨S1x256x512, .f32⟩
  | .hbm, ⟨2, _⟩ => ⟨S1x4096x1024, .f32⟩
  | .hbm, ⟨3, _⟩ => ⟨S18x4096x256, .bf16⟩
  | .hbm, ⟨4, _⟩ => ⟨S1x4096x256, .bf16⟩
  | .hbm, ⟨5, _⟩ => ⟨S4096x3336, .f32⟩
  | .hbm, ⟨6, _⟩ => ⟨S4096x768, .f32⟩
  | .hbm, ⟨7, _⟩ => ⟨S4096x4x192, .f32⟩
  | .hbm, ⟨8, _⟩ => ⟨S4x4096x192, .f32⟩
  | .hbm, ⟨9, _⟩ => ⟨S_, .i32⟩
  | .hbm, ⟨10, _⟩ => ⟨S_, .f32⟩
  | .hbm, ⟨11, _⟩ => ⟨S4x4096x256, .f32⟩
  | .hbm, ⟨12, _⟩ => ⟨S4096x768, .f32⟩
  | .hbm, ⟨13, _⟩ => ⟨S4096x4x192, .f32⟩
  | .hbm, ⟨14, _⟩ => ⟨S4x4096x192, .f32⟩
  | .hbm, ⟨15, _⟩ => ⟨S_, .i32⟩
  | .hbm, ⟨16, _⟩ => ⟨S_, .f32⟩
  | .hbm, ⟨17, _⟩ => ⟨S4x4096x256, .f32⟩
  | .hbm, ⟨18, _⟩ => ⟨S4096x768, .f32⟩
  | .hbm, ⟨19, _⟩ => ⟨S4096x4x192, .f32⟩
  | .hbm, ⟨20, _⟩ => ⟨S4x4096x192, .f32⟩
  | .hbm, ⟨21, _⟩ => ⟨S_, .i32⟩
  | .hbm, ⟨22, _⟩ => ⟨S_, .f32⟩
  | .hbm, ⟨23, _⟩ => ⟨S4x4096x256, .f32⟩
  | .hbm, ⟨24, _⟩ => ⟨S4096x768, .f32⟩
  | .hbm, ⟨25, _⟩ => ⟨S4096x4x192, .f32⟩
  | .hbm, ⟨26, _⟩ => ⟨S4x4096x192, .f32⟩
  | .hbm, ⟨27, _⟩ => ⟨S_, .i32⟩
  | .hbm, ⟨28, _⟩ => ⟨S_, .f32⟩
  | .hbm, ⟨29, _⟩ => ⟨S4x4096x256, .f32⟩
  | .hbm, ⟨30, _⟩ => ⟨S4096x8, .f32⟩
  | .hbm, ⟨31, _⟩ => ⟨S_, .i32⟩
  | .hbm, ⟨32, _⟩ => ⟨S_, .f32⟩
  | .hbm, ⟨33, _⟩ => ⟨S4096x256, .f32⟩
  | .hbm, ⟨34, _⟩ => ⟨S1x4096x256, .f32⟩
  | .hbm, ⟨35, _⟩ => ⟨S4096x256, .f32⟩
  | .hbm, ⟨36, _⟩ => ⟨S1x4096x256, .f32⟩
  | .hbm, ⟨37, _⟩ => ⟨S18x4096x256, .f32⟩
  | .hbm, ⟨38, _⟩ => ⟨S256x512, .f32⟩
  | .hbm, ⟨39, _⟩ => ⟨S256x2x256, .f32⟩
  | .hbm, ⟨40, _⟩ => ⟨S2x256x256, .f32⟩
  | .hbm, ⟨41, _⟩ => ⟨S1x4096x768, .f32⟩
  | .hbm, ⟨42, _⟩ => ⟨S4096x768, .f32⟩
  | .hbm, ⟨43, _⟩ => ⟨S4096x4x192, .f32⟩
  | .hbm, ⟨44, _⟩ => ⟨S4x4096x192, .f32⟩
  | .hbm, ⟨45, _⟩ => ⟨S_, .i32⟩
  | .hbm, ⟨46, _⟩ => ⟨S_, .f32⟩
  | .hbm, ⟨47, _⟩ => ⟨S4x4096x256, .f32⟩
  | .hbm, ⟨48, _⟩ => ⟨S1x4096x256, .f32⟩
  | .hbm, ⟨49, _⟩ => ⟨S4096x256, .f32⟩
  | .hbm, ⟨50, _⟩ => ⟨S1x4096x256, .f32⟩
  | .hbm, ⟨51, _⟩ => ⟨S5x4096x256, .f32⟩
  | .hbm, ⟨52, _⟩ => ⟨S18x4096x256, .bf16⟩
  | .hbm, ⟨53, _⟩ => ⟨S2x256x256, .f32⟩
  | .local _ .vmem, ⟨0, _⟩ => ⟨S1x1024x256, .f32⟩
  | .local _ .vmem, ⟨1, _⟩ => ⟨S1x1024x256, .f32⟩
  | .local _ .vmem, ⟨2, _⟩ => ⟨S2x256x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .bf16⟩
  | .local _ .vmem, ⟨6, _⟩ => ⟨S1x1024x256, .bf16⟩
  | .local _ .vmem, ⟨7, _⟩ => ⟨S2x1024x256, .bf16⟩
  | .local _ .vmem, ⟨8, _⟩ => ⟨S2x1024x256, .bf16⟩
  | .local _ .vmem, ⟨9, _⟩ => ⟨S2x256x256, .f32⟩
  | _, _ => ⟨S1x4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call4_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call5_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  ![c16_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S1x4096x3336 : Shape := ⟨3, ![1, 4096, 3336]⟩
abbrev S1x256x512 : Shape := ⟨3, ![1, 256, 512]⟩
abbrev S1x4096x1024 : Shape := ⟨3, ![1, 4096, 1024]⟩
abbrev S18x4096x256 : Shape := ⟨3, ![18, 4096, 256]⟩
abbrev S1x4096x256 : Shape := ⟨3, ![1, 4096, 256]⟩
abbrev S1x4096x4x64 : Shape := ⟨4, ![1, 4096, 4, 64]⟩
abbrev S1x256x256 : Shape := ⟨3, ![1, 256, 256]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S1x4x64x256 : Shape := ⟨4, ![1, 4, 64, 256]⟩
abbrev S4x4096 : Shape := ⟨2, ![4, 4096]⟩
abbrev S1x4x256x64 : Shape := ⟨4, ![1, 4, 256, 64]⟩
abbrev S1x4x4096x64 : Shape := ⟨4, ![1, 4, 4096, 64]⟩
abbrev S16x4096x256 : Shape := ⟨3, ![16, 4096, 256]⟩
abbrev S256x512 : Shape := ⟨2, ![256, 512]⟩
abbrev S256x2x256 : Shape := ⟨3, ![256, 2, 256]⟩
abbrev S2x256x256 : Shape := ⟨3, ![2, 256, 256]⟩

abbrev nBuf : Space → Nat
  | .hbm => 94
  | .vmem => 0
  | .smem => 0
  | _ => 0

abbrev bufTy : (tb : Table) → Fin (tcTables nBuf tb) → BufTy
  | .hbm, ⟨0, _⟩ => ⟨S1x4096x3336, .f32⟩
  | .hbm, ⟨1, _⟩ => ⟨S1x256x512, .f32⟩
  | .hbm, ⟨2, _⟩ => ⟨S1x4096x1024, .f32⟩
  | .hbm, ⟨3, _⟩ => ⟨S18x4096x256, .bf16⟩
  | .hbm, ⟨4, _⟩ => ⟨S1x4096x256, .bf16⟩
  | .hbm, ⟨5, _⟩ => ⟨S1x4096x256, .f32⟩
  | .hbm, ⟨6, _⟩ => ⟨S1x4096x4x64, .f32⟩
  | .hbm, ⟨7, _⟩ => ⟨S1x256x256, .f32⟩
  | .hbm, ⟨8, _⟩ => ⟨S1x256x256, .f32⟩
  | .hbm, ⟨9, _⟩ => ⟨S1x256x4x64, .f32⟩
  | .hbm, ⟨10, _⟩ => ⟨S1x256x4x64, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x64x4096, .f32⟩
  | .hbm, ⟨54, _⟩ => ⟨S1x4096x4x64, .f32⟩
  | .hbm, ⟨55, _⟩ => ⟨S1x4096x256, .f32⟩
  | .hbm, ⟨56, _⟩ => ⟨S1x4096x256, .f32⟩
  | .hbm, ⟨57, _⟩ => ⟨S1x4096x4x64, .f32⟩
  | .hbm, ⟨58, _⟩ => ⟨S1x4x64x4096, .f32⟩
  | .hbm, ⟨59, _⟩ => ⟨S1x4x4096x256, .f32⟩
  | .hbm, ⟨60, _⟩ => ⟨S1x4x64x256, .f32⟩
  | .hbm, ⟨61, _⟩ => ⟨S1x256x4x64, .f32⟩
  | .hbm, ⟨62, _⟩ => ⟨S1x4x4096x256, .f32⟩
  | .hbm, ⟨63, _⟩ => ⟨S1x4x4096x256, .f32⟩
  | .hbm, ⟨64, _⟩ => ⟨S1x4x4096x256, .f32⟩
  | .hbm, ⟨65, _⟩ => ⟨S_, .f32⟩
  | .hbm, ⟨66, _⟩ => ⟨S1x4x4096, .f32⟩
  | .hbm, ⟨67, _⟩ => ⟨S1x4x4096x1, .f32⟩
  | .hbm, ⟨68, _⟩ => ⟨S1x4x4096x1, .f32⟩
  | .hbm, ⟨69, _⟩ => ⟨S1x4x4096x256, .f32⟩
  | .hbm, ⟨70, _⟩ => ⟨S1x4x4096x256, .f32⟩
  | .hbm, ⟨71, _⟩ => ⟨S_, .f32⟩
  | .hbm, ⟨72, _⟩ => ⟨S4x4096, .f32⟩
  | .hbm, ⟨73, _⟩ => ⟨S1x4x4096, .f32⟩
  | .hbm, ⟨74, _⟩ => ⟨S1x4x4096x256, .f32⟩
  | .hbm, ⟨75, _⟩ => ⟨S1x4x4096x256, .f32⟩
  | .hbm, ⟨76, _⟩ => ⟨S1x4x4096x256, .f32⟩
  | .hbm, ⟨77, _⟩ => ⟨S_, .f32⟩
  | .hbm, ⟨78, _⟩ => ⟨S1x4x4096x256, .f32⟩
  | .hbm, ⟨79, _⟩ => ⟨S1x4x4096x256, .f32⟩
  | .hbm, ⟨80, _⟩ => ⟨S1x4x256x64, .f32⟩
  | .hbm, ⟨81, _⟩ => ⟨S1x256x4x64, .f32⟩
  | .hbm, ⟨82, _⟩ => ⟨S1x4x4096x64, .f32⟩
  | .hbm, ⟨83, _⟩ => ⟨S1x4096x4x64, .f32⟩
  | .hbm, ⟨84, _⟩ => ⟨S1x256x256, .f32⟩
  | .hbm, ⟨85, _⟩ => ⟨S1x256x256, .f32⟩
  | .hbm, ⟨86, _⟩ => ⟨S1x256x512, .f32⟩
  | .hbm, ⟨87, _⟩ => ⟨S1x4096x256, .f32⟩
  | .hbm, ⟨88, _⟩ => ⟨S16x4096x256, .bf16⟩
  | .hbm, ⟨89, _⟩ => ⟨S1x4096x256, .bf16⟩
  | .hbm, ⟨90, _⟩ => ⟨S18x4096x256, .bf16⟩
  | .hbm, ⟨91, _⟩ => ⟨S256x512, .f32⟩
  | .hbm, ⟨92, _⟩ => ⟨S256x2x256, .f32⟩
  | .hbm, ⟨93, _⟩ => ⟨S2x256x256, .f32⟩
  | _, _ => ⟨S1x4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel4.lean ====
abbrev S1x4096x1024 : Shape := ⟨3, ![1, 4096, 1024]⟩
abbrev S4096x1024 : Shape := ⟨2, ![4096, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S1x1, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1x4096x1024 : Shape := ⟨3, ![1, 4096, 1024]⟩
abbrev S_ : Shape := ⟨0, ![]⟩
abbrev S1x4096 : Shape := ⟨2, ![1, 4096]⟩
abbrev S1x1 : Shape := ⟨2, ![1, 1]⟩
abbrev S4096x1024 : Shape := ⟨2, ![4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S1x4096x1024, .f32⟩
  | .hbm, ⟨25, _⟩ => ⟨S1x4096x1024, .f32⟩
  | .hbm, ⟨26, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel5.lean ====
abbrev S1x4096x3336 : Shape := ⟨3, ![1, 4096, 3336]⟩
abbrev S4x1536 : Shape := ⟨2, ![4, 1536]⟩
abbrev S1x4096x1536 : Shape := ⟨3, ![1, 4096, 1536]⟩
abbrev S18x4096x256 : Shape := ⟨3, ![18, 4096, 256]⟩
abbrev S4096x3336 : Shape := ⟨2, ![4096, 3336]⟩
abbrev S4096x768 : Shape := ⟨2, ![4096, 768]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x8 : Shape := ⟨2, ![4096, 8]⟩
abbrev S4096x256 : Shape := ⟨2, ![4096, 256]⟩
abbrev S1x4096x256 : Shape := ⟨3, ![1, 4096, 256]⟩
abbrev S4x8x192 : Shape := ⟨3, ![4, 8, 192]⟩
abbrev S4x8x256 : Shape := ⟨3, ![4, 8, 256]⟩
abbrev S8x4x256 : Shape := ⟨3, ![8, 4, 256]⟩
abbrev S8x8x256 : Shape := ⟨3, ![8, 8, 256]⟩
abbrev S1x4096x768 : Shape := ⟨3, ![1, 4096, 768]⟩
abbrev S8x4096x256 : Shape := ⟨3, ![8, 4096, 256]⟩
abbrev S1x4096x128 : Shape := ⟨3, ![1, 4096, 128]⟩
abbrev S1x8x128 : Shape := ⟨3, ![1, 8, 128]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩
abbrev S4x128 : Shape := ⟨2, ![4, 128]⟩

abbrev nBuf : Space → Nat
  | .hbm => 63
  | .vmem => 10
  | .smem => 0
  | _ => 0

abbrev bufTy : (tb : Table) → Fin (tcTables nBuf tb) → BufTy
  | .hbm, ⟨0, _⟩ => ⟨S1x4096x3336, .f32⟩
  | .hbm, ⟨1, _⟩ => ⟨S4x1536, .f32⟩
  | .hbm, ⟨2, _⟩ => ⟨S1x4096x1536, .f32⟩
  | .hbm, ⟨3, _⟩ => ⟨S18x4096x256, .bf16⟩
  | .hbm, ⟨4, _⟩ => ⟨S4096x3336, .f32⟩
  | .hbm, ⟨5, _⟩ => ⟨S4096x768, .f32⟩
  | .hbm, ⟨6, _⟩ => ⟨S4096x4x192, .f32⟩
  | .hbm, ⟨7, _⟩ => ⟨S4x4096x192, .f32⟩
  | .hbm, ⟨8, _⟩ => ⟨S_, .i32⟩
  | .hbm, ⟨9, _⟩ => ⟨S_, .f32⟩
  | .hbm, ⟨10, _⟩ => ⟨S4x4096x256, .f32⟩
  | .hbm, ⟨11, _⟩ => ⟨S4096x768, .f32⟩
  | .hbm, ⟨12, _⟩ => ⟨S4096x4x192, .f32⟩
  | .hbm, ⟨13, _⟩ => ⟨S4x4096x192, .f32⟩
  | .hbm, ⟨14, _⟩ => ⟨S_, .i32⟩
  | .hbm, ⟨15, _⟩ => ⟨S_, .f32⟩
  | .hbm, ⟨16, _⟩ => ⟨S4x4096x256, .f32⟩
  | .hbm, ⟨17, _⟩ => ⟨S4096x768, .f32⟩
  | .hbm, ⟨18, _⟩ => ⟨S4096x4x192, .f32⟩
  | .hbm, ⟨19, _⟩ => ⟨S4x4096x192, .f32⟩
  | .hbm, ⟨20, _⟩ => ⟨S_, .i32⟩
  | .hbm, ⟨21, _⟩ => ⟨S_, .f32⟩
  | .hbm, ⟨22, _⟩ => ⟨S4x4096x256, .f32⟩
  | .hbm, ⟨23, _⟩ => ⟨S4096x768, .f32⟩
  | .hbm, ⟨24, _⟩ => ⟨S4096x4x192, .f32⟩
  | .hbm, ⟨25, _⟩ => ⟨S4x4096x192, .f32⟩
  | .hbm, ⟨26, _⟩ => ⟨S_, .i32⟩
  | .hbm, ⟨27, _⟩ => ⟨S_, .f32⟩
  | .hbm, ⟨28, _⟩ => ⟨S4x4096x256, .f32⟩
  | .hbm, ⟨29, _⟩ => ⟨S4096x8, .f32⟩
  | .hbm, ⟨30, _⟩ => ⟨S_, .i32⟩
  | .hbm, ⟨31, _⟩ => ⟨S_, .f32⟩
  | .hbm, ⟨32, _⟩ => ⟨S4096x256, .f32⟩
  | .hbm, ⟨33, _⟩ => ⟨S1x4096x256, .f32⟩
  | .hbm, ⟨34, _⟩ => ⟨S4096x256, .f32⟩
  | .hbm, ⟨35, _⟩ => ⟨S1x4096x256, .f32⟩
  | .hbm, ⟨36, _⟩ => ⟨S18x4096x256, .f32⟩
  | .hbm, ⟨37, _⟩ => ⟨S4x8x192, .f32⟩
  | .hbm, ⟨38, _⟩ => ⟨S_, .i32⟩
  | .hbm, ⟨39, _⟩ => ⟨S_, .f32⟩
  | .hbm, ⟨40, _⟩ => ⟨S4x8x256, .f32⟩
  | .hbm, ⟨41, _⟩ => ⟨S8x4x256, .f32⟩
  | .hbm, ⟨42, _⟩ => ⟨S_, .i32⟩
  | .hbm, ⟨43, _⟩ => ⟨S_, .f32⟩
  | .hbm, ⟨44, _⟩ => ⟨S8x8x256, .f32⟩
  | .hbm, ⟨45, _⟩ => ⟨S1x4096x768, .f32⟩
  | .hbm, ⟨46, _⟩ => ⟨S4096x768, .f32⟩
  | .hbm, ⟨47, _⟩ => ⟨S4096x4x192, .f32⟩
  | .hbm, ⟨48, _⟩ => ⟨S4x4096x192, .f32⟩
  | .hbm, ⟨49, _⟩ => ⟨S_, .i32⟩
  | .hbm, ⟨50, _⟩ => ⟨S_, .f32⟩
  | .hbm, ⟨51, _⟩ => ⟨S4x4096x256, .f32⟩
  | .hbm, ⟨52, _⟩ => ⟨S1x4096x768, .f32⟩
  | .hbm, ⟨53, _⟩ => ⟨S4096x768, .f32⟩
  | .hbm, ⟨54, _⟩ => ⟨S4096x4x192, .f32⟩
  | .hbm, ⟨55, _⟩ => ⟨S4x4096x192, .f32⟩
  | .hbm, ⟨56, _⟩ => ⟨S_, .i32⟩
  | .hbm, ⟨57, _⟩ => ⟨S_, .f32⟩
  | .hbm, ⟨58, _⟩ => ⟨S4x4096x256, .f32⟩
  | .hbm, ⟨59, _⟩ => ⟨S8x4096x256, .f32⟩
  | .hbm, ⟨60, _⟩ => ⟨S8x4096x256, .bf16⟩
  | .hbm, ⟨61, _⟩ => ⟨S18x4096x256, .bf16⟩
  | .hbm, ⟨62, _⟩ => ⟨S8x8x256, .f32⟩
  | .local _ .vmem, ⟨0, _⟩ => ⟨S1x4096x128, .f32⟩
  | .local _ .vmem, ⟨1, _⟩ => ⟨S1x4096x128, .f32⟩
  | .local _ .vmem, ⟨2, _⟩ => ⟨S1x8x128, .f32⟩
  | .local _ .vmem, ⟨3, _⟩ => ⟨S1x8x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x8x128, .f32⟩
  | .local _ .vmem, ⟨9, _⟩ => ⟨S1x8x128, .f32⟩
  | _, _ => ⟨S1x4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call3_v0 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call4_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_call5_v0 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_call6_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_call7_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_call8_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S1x4096x3336 : Shape := ⟨3, ![1, 4096, 3336]⟩
abbrev S4x1536 : Shape := ⟨2, ![4, 1536]⟩
abbrev S1x4096x1536 : Shape := ⟨3, ![1, 4096, 1536]⟩
abbrev S18x4096x256 : Shape := ⟨3, ![18, 4096, 256]⟩
abbrev S_ : Shape := ⟨0, ![]⟩
abbrev S1x3x1536 : Shape := ⟨3, ![1, 3, 1536]⟩
abbrev S1x4099x1536 : Shape := ⟨3, ![1, 4099, 1536]⟩
abbrev S1x1536 : Shape := ⟨2, ![1, 1536]⟩
abbrev S1536 : Shape := ⟨1, ![1536]⟩
abbrev S1x1x1536 : Shape := ⟨3, ![1, 1, 1536]⟩
abbrev S4096x1536 : Shape := ⟨2, ![4096, 1536]⟩
abbrev S4096x8x192 : Shape := ⟨3, ![4096, 8, 192]⟩
abbrev S8x4096x192 : Shape := ⟨3, ![8, 4096, 192]⟩
abbrev S8x4096x256 : Shape := ⟨3, ![8, 4096, 256]⟩
abbrev S10x4096x256 : Shape := ⟨3, ![10, 4096, 256]⟩
abbrev S4x8x192 : Shape := ⟨3, ![4, 8, 192]⟩
abbrev S8x4x192 : Shape := ⟨3, ![8, 4, 192]⟩
abbrev S8x8x256 : Shape := ⟨3, ![8, 8, 256]⟩

abbrev nBuf : Space → Nat
  | .hbm => 128
  | .vmem => 0
  | .smem => 0
  | _ => 0

abbrev bufTy : (tb : Table) → Fin (tcTables nBuf tb) → BufTy
  | .hbm, ⟨0, _⟩ => ⟨S1x4096x3336, .f32⟩
  | .hbm, ⟨1, _⟩ => ⟨S4x1536, .f32⟩
  | .hbm, ⟨2, _⟩ => ⟨S1x4096x1536, .f32⟩
  | .hbm, ⟨3, _⟩ => ⟨S18x4096x256, .bf16⟩
  | .hbm, ⟨4, _⟩ => ⟨S1x4096x1536, .f32⟩
  | .hbm, ⟨5, _⟩ => ⟨S_, .f32⟩
  | .hbm, ⟨6, _⟩ => ⟨S1x3x1536, .f32⟩
  | .hbm, ⟨7, _⟩ => ⟨S1x4099x1536, .f32⟩
  | .hbm, ⟨8, _⟩ => ⟨S_, .f32⟩
  | .hbm, ⟨9, _⟩ => ⟨S1x3x1536, .f32⟩
  | .hbm, ⟨10, _⟩ => ⟨S1x4096x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S1x4096x1536, .f32⟩
  | .hbm, ⟨15, _⟩ => ⟨S1x4096x1536, .f32⟩
  | .hbm, ⟨16, _⟩ => ⟨S1x4096x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S1x4096x1536, .f32⟩
  | .hbm, ⟨21, _⟩ => ⟨S1x4096x1536, .f32⟩
  | .hbm, ⟨22, _⟩ => ⟨S1x4096x1536, .f32⟩
  | .hbm, ⟨23, _⟩ => ⟨S1x4096x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S1x4096x1536, .f32⟩
  | .hbm, ⟨28, _⟩ => ⟨S1x4096x1536, .f32⟩
  | .hbm, ⟨29, _⟩ => ⟨S1x4096x1536, .f32⟩
  | .hbm, ⟨30, _⟩ => ⟨S1x4096x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S1x4096x1536, .f32⟩
  | .hbm, ⟨35, _⟩ => ⟨S1x4096x1536, .f32⟩
  | .hbm, ⟨36, _⟩ => ⟨S1x4096x1536, .f32⟩
  | .hbm, ⟨37, _⟩ => ⟨S1x4096x1536, .f32⟩
  | .hbm, ⟨38, _⟩ => ⟨S1x4096x1536, .f32⟩
  | .hbm, ⟨39, _⟩ => ⟨S_, .f32⟩
  | .hbm, ⟨40, _⟩ => ⟨S1x4096x1536, .f32⟩
  | .hbm, ⟨41, _⟩ => ⟨S1x4096x1536, .f32⟩
  | .hbm, ⟨42, _⟩ => ⟨S_, .f32⟩
  | .hbm, ⟨43, _⟩ => ⟨S1x4096x1536, .f32⟩
  | .hbm, ⟨44, _⟩ => ⟨S1x4096x1536, .f32⟩
  | .hbm, ⟨45, _⟩ => ⟨S_, .f32⟩
  | .hbm, ⟨46, _⟩ => ⟨S1x4096x1536, .f32⟩
  | .hbm, ⟨47, _⟩ => ⟨S1x4096x1536, .f32⟩
  | .hbm, ⟨48, _⟩ => ⟨S1x4096x1536, .f32⟩
  | .hbm, ⟨49, _⟩ => ⟨S1x4096x1536, .f32⟩
  | .hbm, ⟨50, _⟩ => ⟨S1x4096x1536, .f32⟩
  | .hbm, ⟨51, _⟩ => ⟨S1x4096x1536, .f32⟩
  | .hbm, ⟨52, _⟩ => ⟨S1x4096x1536, .f32⟩
  | .hbm, ⟨53, _⟩ => ⟨S1x4096x1536, .f32⟩
  | .hbm, ⟨54, _⟩ => ⟨S1x4096x1536, .f32⟩
  | .hbm, ⟨55, _⟩ => ⟨S_, .f32⟩
  | .hbm, ⟨56, _⟩ => ⟨S1x1536, .f32⟩
  | .hbm, ⟨57, _⟩ => ⟨S1x1x1536, .f32⟩
  | .hbm, ⟨58, _⟩ => ⟨S1x4096x1536, .f32⟩
  | .hbm, ⟨59, _⟩ => ⟨S1x4096x1536, .f32⟩
  | .hbm, ⟨60, _⟩ => ⟨S_, .f32⟩
  | .hbm, ⟨61, _⟩ => ⟨S1536, .f32⟩
  | .hbm, ⟨62, _⟩ => ⟨S1x1536, .f32⟩
  | .hbm, ⟨63, _⟩ => ⟨S_, .f32⟩
  | .hbm, ⟨64, _⟩ => ⟨S4x1536, .f32⟩
  | .hbm, ⟨65, _⟩ => ⟨S_, .f32⟩
  | .hbm, ⟨66, _⟩ => ⟨S1x4099x1536, .f32⟩
  | .hbm, ⟨67, _⟩ => ⟨S1x4096x1536, .f32⟩
  | .hbm, ⟨68, _⟩ => ⟨S_, .f32⟩
  | .hbm, ⟨69, _⟩ => ⟨S1x1536, .f32⟩
  | .hbm, ⟨70, _⟩ => ⟨S1x1x1536, .f32⟩
  | .hbm, ⟨71, _⟩ => ⟨S1x4096x1536, .f32⟩
  | .hbm, ⟨72, _⟩ => ⟨S1x4096x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S_, .f32⟩
  | .hbm, ⟨77, _⟩ => ⟨S4x1536, .f32⟩
  | .hbm, ⟨78, _⟩ => ⟨S4x1536, .f32⟩
  | .hbm, ⟨79, _⟩ => ⟨S_, .f32⟩
  | .hbm, ⟨80, _⟩ => ⟨S1x4099x1536, .f32⟩
  | .hbm, ⟨81, _⟩ => ⟨S1x4099x1536, .f32⟩
  | .hbm, ⟨82, _⟩ => ⟨S1x4096x1536, .f32⟩
  | .hbm, ⟨83, _⟩ => ⟨S_, .f32⟩
  | .hbm, ⟨84, _⟩ => ⟨S1x1536, .f32⟩
  | .hbm, ⟨85, _⟩ => ⟨S1x1x1536, .f32⟩
  | .hbm, ⟨86, _⟩ => ⟨S1x4096x1536, .f32⟩
  | .hbm, ⟨87, _⟩ => ⟨S1x4096x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S4x1536, .f32⟩
  | .hbm, ⟨93, _⟩ => ⟨S4x1536, .f32⟩
  | .hbm, ⟨94, _⟩ => ⟨S_, .f32⟩
  | .hbm, ⟨95, _⟩ => ⟨S1x4099x1536, .f32⟩
  | .hbm, ⟨96, _⟩ => ⟨S1x4099x1536, .f32⟩
  | .hbm, ⟨97, _⟩ => ⟨S1x4096x1536, .f32⟩
  | .hbm, ⟨98, _⟩ => ⟨S_, .f32⟩
  | .hbm, ⟨99, _⟩ => ⟨S1x1536, .f32⟩
  | .hbm, ⟨100, _⟩ => ⟨S1x1x1536, .f32⟩
  | .hbm, ⟨101, _⟩ => ⟨S1x4096x1536, .f32⟩
  | .hbm, ⟨102, _⟩ => ⟨S1x4096x1536, .f32⟩
  | .hbm, ⟨103, _⟩ => ⟨S_, .f32⟩
  | .hbm, ⟨104, _⟩ => ⟨S1536, .f32⟩
  | .hbm, ⟨105, _⟩ => ⟨S1x1536, .f32⟩
  | .hbm, ⟨106, _⟩ => ⟨S_, .f32⟩
  | .hbm, ⟨107, _⟩ => ⟨S4x1536, .f32⟩
  | .hbm, ⟨108, _⟩ => ⟨S4x1536, .f32⟩
  | .hbm, ⟨109, _⟩ => ⟨S_, .f32⟩
  | .hbm, ⟨110, _⟩ => ⟨S1x4099x1536, .f32⟩
  | .hbm, ⟨111, _⟩ => ⟨S1x4099x1536, .f32⟩
  | .hbm, ⟨112, _⟩ => ⟨S1x3x1536, .f32⟩
  | .hbm, ⟨113, _⟩ => ⟨S1x4096x1536, .f32⟩
  | .hbm, ⟨114, _⟩ => ⟨S4096x1536, .f32⟩
  | .hbm, ⟨115, _⟩ => ⟨S4096x8x192, .f32⟩
  | .hbm, ⟨116, _⟩ => ⟨S8x4096x192, .f32⟩
  | .hbm, ⟨117, _⟩ => ⟨S_, .i32⟩
  | .hbm, ⟨118, _⟩ => ⟨S_, .f32⟩
  | .hbm, ⟨119, _⟩ => ⟨S8x4096x256, .f32⟩
  | .hbm, ⟨120, _⟩ => ⟨S8x4096x256, .bf16⟩
  | .hbm, ⟨121, _⟩ => ⟨S10x4096x256, .bf16⟩
  | .hbm, ⟨122, _⟩ => ⟨S18x4096x256, .bf16⟩
  | .hbm, ⟨123, _⟩ => ⟨S4x8x192, .f32⟩
  | .hbm, ⟨124, _⟩ => ⟨S8x4x192, .f32⟩
  | .hbm, ⟨125, _⟩ => ⟨S_, .i32⟩
  | .hbm, ⟨126, _⟩ => ⟨S_, .f32⟩
  | .hbm, ⟨127, _⟩ => ⟨S8x8x256, .f32⟩
  | _, _ => ⟨S1x4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c : Ref sig .tc := ⟨.hbm, 117, rfl⟩
abbrev main_call2_v0 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_call3_v0 : Ref sig .tc := ⟨.hbm, 126, rfl⟩
abbrev main_v86 : Ref sig .tc := ⟨.hbm, 127, rfl⟩

abbrev nD : Nat := 1
abbrev τ : Topo := Topo.v7x

variable {F : FTy → Type} [FloatOps F]
-- ==== Kernel6.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S1x4096x1024 : Shape := ⟨3, ![1, 4096, 1024]⟩
abbrev S4096x768 : Shape := ⟨2, ![4096, 768]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x3336 : Shape := ⟨2, ![4096, 3336]⟩
abbrev S4096x8 : Shape := ⟨2, ![4096, 8]⟩
abbrev S4096x256 : Shape := ⟨2, ![4096, 256]⟩
abbrev S1x4096x256 : Shape := ⟨3, ![1, 4096, 256]⟩
abbrev S18x4096x256 : Shape := ⟨3, ![18, 4096, 256]⟩
abbrev S4x256 : Shape := ⟨2, ![4, 256]⟩
abbrev S4x1x256 : Shape := ⟨3, ![4, 1, 256]⟩
abbrev S1x4096x768 : Shape := ⟨3, ![1, 4096, 768]⟩
abbrev S5x4096x256 : Shape := ⟨3, ![5, 4096, 256]⟩
abbrev S1x2048x256 : Shape := ⟨3, ![1, 2048, 256]⟩
abbrev S1x1x256 : Shape := ⟨3, ![1, 1, 256]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩
abbrev S256 : Shape := ⟨1, ![256]⟩

abbrev nBuf : Space → Nat
  | .hbm => 61
  | .vmem => 14
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x3336, .f32⟩
  | .hbm, ⟨2, _⟩ => ⟨S4x192, .f32⟩
  | .hbm, ⟨3, _⟩ => ⟨S1x4096x1024, .f32⟩
  | .hbm, ⟨4, _⟩ => ⟨S4096x768, .f32⟩
  | .hbm, ⟨5, _⟩ => ⟨S4096x4x192, .f32⟩
  | .hbm, ⟨6, _⟩ => ⟨S4x4096x192, .f32⟩
  | .hbm, ⟨7, _⟩ => ⟨S_, .i32⟩
  | .hbm, ⟨8, _⟩ => ⟨S_, .f32⟩
  | .hbm, ⟨9, _⟩ => ⟨S4x4096x256, .f32⟩
  | .hbm, ⟨10, _⟩ => ⟨S4096x3336, .f32⟩
  | .hbm, ⟨11, _⟩ => ⟨S4096x768, .f32⟩
  | .hbm, ⟨12, _⟩ => ⟨S4096x4x192, .f32⟩
  | .hbm, ⟨13, _⟩ => ⟨S4x4096x192, .f32⟩
  | .hbm, ⟨14, _⟩ => ⟨S_, .i32⟩
  | .hbm, ⟨15, _⟩ => ⟨S_, .f32⟩
  | .hbm, ⟨16, _⟩ => ⟨S4x4096x256, .f32⟩
  | .hbm, ⟨17, _⟩ => ⟨S4096x768, .f32⟩
  | .hbm, ⟨18, _⟩ => ⟨S4096x4x192, .f32⟩
  | .hbm, ⟨19, _⟩ => ⟨S4x4096x192, .f32⟩
  | .hbm, ⟨20, _⟩ => ⟨S_, .i32⟩
  | .hbm, ⟨21, _⟩ => ⟨S_, .f32⟩
  | .hbm, ⟨22, _⟩ => ⟨S4x4096x256, .f32⟩
  | .hbm, ⟨23, _⟩ => ⟨S4096x768, .f32⟩
  | .hbm, ⟨24, _⟩ => ⟨S4096x4x192, .f32⟩
  | .hbm, ⟨25, _⟩ => ⟨S4x4096x192, .f32⟩
  | .hbm, ⟨26, _⟩ => ⟨S_, .i32⟩
  | .hbm, ⟨27, _⟩ => ⟨S_, .f32⟩
  | .hbm, ⟨28, _⟩ => ⟨S4x4096x256, .f32⟩
  | .hbm, ⟨29, _⟩ => ⟨S4096x768, .f32⟩
  | .hbm, ⟨30, _⟩ => ⟨S4096x4x192, .f32⟩
  | .hbm, ⟨31, _⟩ => ⟨S4x4096x192, .f32⟩
  | .hbm, ⟨32, _⟩ => ⟨S_, .i32⟩
  | .hbm, ⟨33, _⟩ => ⟨S_, .f32⟩
  | .hbm, ⟨34, _⟩ => ⟨S4x4096x256, .f32⟩
  | .hbm, ⟨35, _⟩ => ⟨S4096x8, .f32⟩
  | .hbm, ⟨36, _⟩ => ⟨S_, .i32⟩
  | .hbm, ⟨37, _⟩ => ⟨S_, .f32⟩
  | .hbm, ⟨38, _⟩ => ⟨S4096x256, .f32⟩
  | .hbm, ⟨39, _⟩ => ⟨S1x4096x256, .f32⟩
  | .hbm, ⟨40, _⟩ => ⟨S4096x256, .f32⟩
  | .hbm, ⟨41, _⟩ => ⟨S1x4096x256, .f32⟩
  | .hbm, ⟨42, _⟩ => ⟨S18x4096x256, .f32⟩
  | .hbm, ⟨43, _⟩ => ⟨S_, .i32⟩
  | .hbm, ⟨44, _⟩ => ⟨S_, .f32⟩
  | .hbm, ⟨45, _⟩ => ⟨S4x256, .f32⟩
  | .hbm, ⟨46, _⟩ => ⟨S4x1x256, .f32⟩
  | .hbm, ⟨47, _⟩ => ⟨S1x4096x768, .f32⟩
  | .hbm, ⟨48, _⟩ => ⟨S4096x768, .f32⟩
  | .hbm, ⟨49, _⟩ => ⟨S4096x4x192, .f32⟩
  | .hbm, ⟨50, _⟩ => ⟨S4x4096x192, .f32⟩
  | .hbm, ⟨51, _⟩ => ⟨S_, .i32⟩
  | .hbm, ⟨52, _⟩ => ⟨S_, .f32⟩
  | .hbm, ⟨53, _⟩ => ⟨S4x4096x256, .f32⟩
  | .hbm, ⟨54, _⟩ => ⟨S1x4096x256, .f32⟩
  | .hbm, ⟨55, _⟩ => ⟨S4096x256, .f32⟩
  | .hbm, ⟨56, _⟩ => ⟨S1x4096x256, .f32⟩
  | .hbm, ⟨57, _⟩ => ⟨S5x4096x256, .f32⟩
  | .hbm, ⟨58, _⟩ => ⟨S4x4096x256, .f32⟩
  | .hbm, ⟨59, _⟩ => ⟨S18x4096x256, .bf16⟩
  | .hbm, ⟨60, _⟩ => ⟨S4x1x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .bf16⟩
  | .local _ .vmem, ⟨11, _⟩ => ⟨S1x2048x256, .bf16⟩
  | .local _ .vmem, ⟨12, _⟩ => ⟨S1x1x256, .f32⟩
  | .local _ .vmem, ⟨13, _⟩ => ⟨S1x1x256, .f32⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call3_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call4_v0 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_call5_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_call6_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_call7_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel6Ideal.lean ====
variable {F : FTy → Type} [FloatOps F] [Named F]
def κ : String → Option EReal := fun
  | "inv_head" => some ((1 / 192 : ℝ) : EReal)
  | _ => none
-- ==== Reference6Ideal.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S1x4096x1024 : Shape := ⟨3, ![1, 4096, 1024]⟩
abbrev S1x4096x768 : Shape := ⟨3, ![1, 4096, 768]⟩
abbrev S_ : Shape := ⟨0, ![]⟩
abbrev S1x4096x4 : Shape := ⟨3, ![1, 4096, 4]⟩
abbrev S1x4096x4x1 : Shape := ⟨4, ![1, 4096, 4, 1]⟩
abbrev S1x1x4x192 : Shape := ⟨4, ![1, 1, 4, 192]⟩
abbrev S1x4x192 : Shape := ⟨3, ![1, 4, 192]⟩
abbrev S4096x4 : Shape := ⟨2, ![4096, 4]⟩
abbrev S4096x4x192 : Shape := ⟨3, ![4096, 4, 192]⟩
abbrev S4x4096x192 : Shape := ⟨3, ![4, 4096, 192]⟩
abbrev S4x4096x256 : Shape := ⟨3, ![4, 4096, 256]⟩
abbrev S4096x768 : Shape := ⟨2, ![4096, 768]⟩
abbrev S18x4096x256 : Shape := ⟨3, ![18, 4096, 256]⟩
abbrev S4x1x192 : Shape := ⟨3, ![4, 1, 192]⟩
abbrev S4x1x256 : Shape := ⟨3, ![4, 1, 256]⟩

abbrev nBuf : Space → Nat
  | .hbm => 117
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x3336, .f32⟩
  | .hbm, ⟨2, _⟩ => ⟨S4x192, .f32⟩
  | .hbm, ⟨3, _⟩ => ⟨S1x4096x1024, .f32⟩
  | .hbm, ⟨4, _⟩ => ⟨S1x4096x768, .f32⟩
  | .hbm, ⟨5, _⟩ => ⟨S_, .f32⟩
  | .hbm, ⟨6, _⟩ => ⟨S1x4096x4, .f32⟩
  | .hbm, ⟨7, _⟩ => ⟨S1x4096x4x1, .f32⟩
  | .hbm, ⟨8, _⟩ => ⟨S_, .f32⟩
  | .hbm, ⟨9, _⟩ => ⟨S1x4096x4x1, .f32⟩
  | .hbm, ⟨10, _⟩ => ⟨S1x4096x4x1, .f32⟩
  | .hbm, ⟨11, _⟩ => ⟨S1x4096x4x192, .f32⟩
  | .hbm, ⟨12, _⟩ => ⟨S1x4096x4x192, .f32⟩
  | .hbm, ⟨13, _⟩ => ⟨S1x4096x4x192, .f32⟩
  | .hbm, ⟨14, _⟩ => ⟨S_, .f32⟩
  | .hbm, ⟨15, _⟩ => ⟨S1x4096x4x192, .f32⟩
  | .hbm, ⟨16, _⟩ => ⟨S1x4096x4x192, .f32⟩
  | .hbm, ⟨17, _⟩ => ⟨S_, .f32⟩
  | .hbm, ⟨18, _⟩ => ⟨S1x4096x4, .f32⟩
  | .hbm, ⟨19, _⟩ => ⟨S1x4096x4x1, .f32⟩
  | .hbm, ⟨20, _⟩ => ⟨S_, .f32⟩
  | .hbm, ⟨21, _⟩ => ⟨S1x4096x4x1, .f32⟩
  | .hbm, ⟨22, _⟩ => ⟨S1x4096x4x1, .f32⟩
  | .hbm, ⟨23, _⟩ => ⟨S1x4096x4x192, .f32⟩
  | .hbm, ⟨24, _⟩ => ⟨S1x4096x4x192, .f32⟩
  | .hbm, ⟨25, _⟩ => ⟨S_, .f32⟩
  | .hbm, ⟨26, _⟩ => ⟨S1x4096x4x1, .f32⟩
  | .hbm, ⟨27, _⟩ => ⟨S1x4096x4x1, .f32⟩
  | .hbm, ⟨28, _⟩ => ⟨S1x4096x4x1, .f32⟩
  | .hbm, ⟨29, _⟩ => ⟨S1x4096x4x1, .f32⟩
  | .hbm, ⟨30, _⟩ => ⟨S_, .f32⟩
  | .hbm, ⟨31, _⟩ => ⟨S1x4096x4x1, .f32⟩
  | .hbm, ⟨32, _⟩ => ⟨S1x4096x4x1, .f32⟩
  | .hbm, ⟨33, _⟩ => ⟨S1x4096x4x192, .f32⟩
  | .hbm, ⟨34, _⟩ => ⟨S1x4096x4x192, .f32⟩
  | .hbm, ⟨35, _⟩ => ⟨S1x1x4x192, .f32⟩
  | .hbm, ⟨36, _⟩ => ⟨S1x4096x4x192, .f32⟩
  | .hbm, ⟨37, _⟩ => ⟨S1x4096x4x192, .f32⟩
  | .hbm, ⟨38, _⟩ => ⟨S1x4096x768, .f32⟩
  | .hbm, ⟨39, _⟩ => ⟨S1x4096x768, .f32⟩
  | .hbm, ⟨40, _⟩ => ⟨S_, .f32⟩
  | .hbm, ⟨41, _⟩ => ⟨S1x4096x768, .f32⟩
  | .hbm, ⟨42, _⟩ => ⟨S1x4096x768, .f32⟩
  | .hbm, ⟨43, _⟩ => ⟨S_, .f32⟩
  | .hbm, ⟨44, _⟩ => ⟨S1x4096x768, .f32⟩
  | .hbm, ⟨45, _⟩ => ⟨S1x4096x768, .f32⟩
  | .hbm, ⟨46, _⟩ => ⟨S_, .f32⟩
  | .hbm, ⟨47, _⟩ => ⟨S1x4096x768, .f32⟩
  | .hbm, ⟨48, _⟩ => ⟨S1x4096x768, .f32⟩
  | .hbm, ⟨49, _⟩ => ⟨S1x4096x768, .f32⟩
  | .hbm, ⟨50, _⟩ => ⟨S1x4096x768, .f32⟩
  | .hbm, ⟨51, _⟩ => ⟨S1x4096x768, .f32⟩
  | .hbm, ⟨52, _⟩ => ⟨S1x4096x768, .f32⟩
  | .hbm, ⟨53, _⟩ => ⟨S1x4096x768, .f32⟩
  | .hbm, ⟨54, _⟩ => ⟨S1x4096x768, .f32⟩
  | .hbm, ⟨55, _⟩ => ⟨S1x4096x4x192, .f32⟩
  | .hbm, ⟨56, _⟩ => ⟨S1x4096x768, .f32⟩
  | .hbm, ⟨57, _⟩ => ⟨S1x4096x4x192, .f32⟩
  | .hbm, ⟨58, _⟩ => ⟨S_, .f32⟩
  | .hbm, ⟨59, _⟩ => ⟨S1x4x192, .f32⟩
  | .hbm, ⟨60, _⟩ => ⟨S1x1x4x192, .f32⟩
  | .hbm, ⟨61, _⟩ => ⟨S1x4096x4x192, .f32⟩
  | .hbm, ⟨62, _⟩ => ⟨S1x4096x4x192, .f32⟩
  | .hbm, ⟨63, _⟩ => ⟨S_, .f32⟩
  | .hbm, ⟨64, _⟩ => ⟨S4x192, .f32⟩
  | .hbm, ⟨65, _⟩ => ⟨S1x4096x4x192, .f32⟩
  | .hbm, ⟨66, _⟩ => ⟨S_, .f32⟩
  | .hbm, ⟨67, _⟩ => ⟨S1x4096x4, .f32⟩
  | .hbm, ⟨68, _⟩ => ⟨S1x4096x4x1, .f32⟩
  | .hbm, ⟨69, _⟩ => ⟨S1x4096x4x192, .f32⟩
  | .hbm, ⟨70, _⟩ => ⟨S1x4096x4x192, .f32⟩
  | .hbm, ⟨71, _⟩ => ⟨S1x4096x4x1, .f32⟩
  | .hbm, ⟨72, _⟩ => ⟨S1x4096x4x192, .f32⟩
  | .hbm, ⟨73, _⟩ => ⟨S_, .f32⟩
  | .hbm, ⟨74, _⟩ => ⟨S1x4096x4, .f32⟩
  | .hbm, ⟨75, _⟩ => ⟨S1x4096x4x1, .f32⟩
  | .hbm, ⟨76, _⟩ => ⟨S_, .f32⟩
  | .hbm, ⟨77, _⟩ => ⟨S1x4096x4x1, .f32⟩
  | .hbm, ⟨78, _⟩ => ⟨S1x4096x4x1, .f32⟩
  | .hbm, ⟨79, _⟩ => ⟨S_, .f32⟩
  | .hbm, ⟨80, _⟩ => ⟨S4096x4, .f32⟩
  | .hbm, ⟨81, _⟩ => ⟨S1x4096x4, .f32⟩
  | .hbm, ⟨82, _⟩ => ⟨S1x4096x4x192, .f32⟩
  | .hbm, ⟨83, _⟩ => ⟨S1x4096x4x192, .f32⟩
  | .hbm, ⟨84, _⟩ => ⟨S1x4096x4x192, .f32⟩
  | .hbm, ⟨85, _⟩ => ⟨S_, .f32⟩
  | .hbm, ⟨86, _⟩ => ⟨S1x4096x4, .f32⟩
  | .hbm, ⟨87, _⟩ => ⟨S1x4096x4x1, .f32⟩
  | .hbm, ⟨88, _⟩ => ⟨S1x4096x4x192, .f32⟩
  | .hbm, ⟨89, _⟩ => ⟨S1x4096x4x1, .f32⟩
  | .hbm, ⟨90, _⟩ => ⟨S_, .f32⟩
  | .hbm, ⟨91, _⟩ => ⟨S1x4096x4x1, .f32⟩
  | .hbm, ⟨92, _⟩ => ⟨S1x4096x4x1, .f32⟩
  | .hbm, ⟨93, _⟩ => ⟨S_, .f32⟩
  | .hbm, ⟨94, _⟩ => ⟨S4096x4, .f32⟩
  | .hbm, ⟨95, _⟩ => ⟨S1x4096x4, .f32⟩
  | .hbm, ⟨96, _⟩ => ⟨S1x4096x4x192, .f32⟩
  | .hbm, ⟨97, _⟩ => ⟨S1x4096x4x192, .f32⟩
  | .hbm, ⟨98, _⟩ => ⟨S4096x4x192, .f32⟩
  | .hbm, ⟨99, _⟩ => ⟨S4x4096x192, .f32⟩
  | .hbm, ⟨100, _⟩ => ⟨S_, .i32⟩
  | .hbm, ⟨101, _⟩ => ⟨S_, .f32⟩
  | .hbm, ⟨102, _⟩ => ⟨S4x4096x256, .f32⟩
  | .hbm, ⟨103, _⟩ => ⟨S4096x768, .f32⟩
  | .hbm, ⟨104, _⟩ => ⟨S4096x4x192, .f32⟩
  | .hbm, ⟨105, _⟩ => ⟨S4x4096x192, .f32⟩
  | .hbm, ⟨106, _⟩ => ⟨S_, .i32⟩
  | .hbm, ⟨107, _⟩ => ⟨S_, .f32⟩
  | .hbm, ⟨108, _⟩ => ⟨S4x4096x256, .f32⟩
  | .hbm, ⟨109, _⟩ => ⟨S_, .i32⟩
  | .hbm, ⟨110, _⟩ => ⟨S_, .f32⟩
  | .hbm, ⟨111, _⟩ => ⟨S18x4096x256, .f32⟩
  | .hbm, ⟨112, _⟩ => ⟨S18x4096x256, .bf16⟩
  | .hbm, ⟨113, _⟩ => ⟨S4x1x192, .f32⟩
  | .hbm, ⟨114, _⟩ => ⟨S_, .i32⟩
  | .hbm, ⟨115, _⟩ => ⟨S_, .f32⟩
  | .hbm, ⟨116, _⟩ => ⟨S4x1x256, .f32⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_15 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c : Ref sig .tc := ⟨.hbm, 100, rfl⟩
abbrev main_call0_v0 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_18 : Ref sig .tc := ⟨.hbm, 106, rfl⟩
abbrev main_call1_v0 : Ref sig .tc := ⟨.hbm, 107, rfl⟩
abbrev main_v81 : Ref sig .tc := ⟨.hbm, 108, rfl⟩
abbrev main_c_19 : Ref sig .tc := ⟨.hbm, 109, rfl⟩
abbrev main_call2_v0 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_call3_v0 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel7.lean ====
abbrev S1x4096x1024 : Shape := ⟨3, ![1, 4096, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S1x1024 : Shape := ⟨2, ![1, 1024]⟩
abbrev S4x256x1024 : Shape := ⟨3, ![4, 256, 1024]⟩
abbrev S4x4096x256 : Shape := ⟨3, ![4, 4096, 256]⟩
abbrev S512x1024 : Shape := ⟨2, ![512, 1024]⟩
abbrev S4x512x256 : Shape := ⟨3, ![4, 512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 23
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024x1024, .f32⟩
  | .hbm, ⟨3, _⟩ => ⟨S1024, .f32⟩
  | .hbm, ⟨4, _⟩ => ⟨S1x4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024x1024, .bf16⟩
  | .hbm, ⟨17, _⟩ => ⟨S4x256x1024, .bf16⟩
  | .hbm, ⟨18, _⟩ => ⟨S4x4096x256, .f32⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x256x1024, .bf16⟩
  | .local _ .vmem, ⟨6, _⟩ => ⟨S4x512x256, .f32⟩
  | .local _ .vmem, ⟨7, _⟩ => ⟨S4x512x256, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S4096x4x256 : Shape := ⟨3, ![4096, 4, 256]⟩
abbrev S4x4096x256 : Shape := ⟨3, ![4, 4096, 256]⟩

abbrev nBuf : Space → Nat
  | .hbm => 104
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024x1024, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096, .f32⟩
  | .hbm, ⟨26, _⟩ => ⟨S1x4096x1, .f32⟩
  | .hbm, ⟨27, _⟩ => ⟨S_, .f32⟩
  | .hbm, ⟨28, _⟩ => ⟨S1x4096x1, .f32⟩
  | .hbm, ⟨29, _⟩ => ⟨S1x4096x1, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S_, .f32⟩
  | .hbm, ⟨38, _⟩ => ⟨S1x4096x1, .f32⟩
  | .hbm, ⟨39, _⟩ => ⟨S1x4096x1, .f32⟩
  | .hbm, ⟨40, _⟩ => ⟨S1x4096x1024, .f32⟩
  | .hbm, ⟨41, _⟩ => ⟨S1x4096x1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1024, .f32⟩
  | .hbm, ⟨62, _⟩ => ⟨S1x4096x1024, .f32⟩
  | .hbm, ⟨63, _⟩ => ⟨S_, .f32⟩
  | .hbm, ⟨64, _⟩ => ⟨S1x4096, .f32⟩
  | .hbm, ⟨65, _⟩ => ⟨S1x4096x1, .f32⟩
  | .hbm, ⟨66, _⟩ => ⟨S1x4096x1024, .f32⟩
  | .hbm, ⟨67, _⟩ => ⟨S1x4096x1024, .f32⟩
  | .hbm, ⟨68, _⟩ => ⟨S1x4096x1, .f32⟩
  | .hbm, ⟨69, _⟩ => ⟨S1x4096x1024, .f32⟩
  | .hbm, ⟨70, _⟩ => ⟨S_, .f32⟩
  | .hbm, ⟨71, _⟩ => ⟨S1x4096, .f32⟩
  | .hbm, ⟨72, _⟩ => ⟨S1x4096x1, .f32⟩
  | .hbm, ⟨73, _⟩ => ⟨S_, .f32⟩
  | .hbm, ⟨74, _⟩ => ⟨S1x4096x1, .f32⟩
  | .hbm, ⟨75, _⟩ => ⟨S1x4096x1, .f32⟩
  | .hbm, ⟨76, _⟩ => ⟨S_, .f32⟩
  | .hbm, ⟨77, _⟩ => ⟨S4096, .f32⟩
  | .hbm, ⟨78, _⟩ => ⟨S1x4096, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S_, .f32⟩
  | .hbm, ⟨83, _⟩ => ⟨S1x4096, .f32⟩
  | .hbm, ⟨84, _⟩ => ⟨S1x4096x1, .f32⟩
  | .hbm, ⟨85, _⟩ => ⟨S1x4096x1024, .f32⟩
  | .hbm, ⟨86, _⟩ => ⟨S1x4096x1, .f32⟩
  | .hbm, ⟨87, _⟩ => ⟨S_, .f32⟩
  | .hbm, ⟨88, _⟩ => ⟨S1x4096x1, .f32⟩
  | .hbm, ⟨89, _⟩ => ⟨S1x4096x1, .f32⟩
  | .hbm, ⟨90, _⟩ => ⟨S_, .f32⟩
  | .hbm, ⟨91, _⟩ => ⟨S4096, .f32⟩
  | .hbm, ⟨92, _⟩ => ⟨S1x4096, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S4096x1024, .f32⟩
  | .hbm, ⟨97, _⟩ => ⟨S4096x4x256, .f32⟩
  | .hbm, ⟨98, _⟩ => ⟨S4x4096x256, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Kernel8.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S_ : Shape := ⟨0, ![]⟩
abbrev S1x1024 : Shape := ⟨2, ![1, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S1x384x1024 : Shape := ⟨3, ![1, 384, 1024]⟩
abbrev S384x1024 : Shape := ⟨2, ![384, 1024]⟩
abbrev S512x384 : Shape := ⟨2, ![512, 384]⟩
abbrev S1x512x384 : Shape := ⟨3, ![1, 512, 384]⟩
abbrev S1x320x1024 : Shape := ⟨3, ![1, 320, 1024]⟩
abbrev S320x1024 : Shape := ⟨2, ![320, 1024]⟩
abbrev S512x320 : Shape := ⟨2, ![512, 320]⟩
abbrev S1x512x320 : Shape := ⟨3, ![1, 512, 320]⟩

abbrev nBuf : Space → Nat
  | .hbm => 57
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1x4096x1024, .f32⟩
  | .hbm, ⟨6, _⟩ => ⟨S4096x1024, .f32⟩
  | .hbm, ⟨7, _⟩ => ⟨S4096x1024, .bf16⟩
  | .hbm, ⟨8, _⟩ => ⟨S2816x1024, .f32⟩
  | .hbm, ⟨9, _⟩ => ⟨S2816x1024, .bf16⟩
  | .hbm, ⟨10, _⟩ => ⟨S4096x2816, .f32⟩
  | .hbm, ⟨11, _⟩ => ⟨S2816x1024, .f32⟩
  | .hbm, ⟨12, _⟩ => ⟨S2816x1024, .bf16⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S2816x1024, .bf16⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S2816x1024, .bf16⟩
  | .hbm, ⟨38, _⟩ => ⟨S4x704x1024, .bf16⟩
  | .hbm, ⟨39, _⟩ => ⟨S2816x1024, .f32⟩
  | .hbm, ⟨40, _⟩ => ⟨S2816x1024, .bf16⟩
  | .hbm, ⟨41, _⟩ => ⟨S4x704x1024, .bf16⟩
  | .hbm, ⟨42, _⟩ => ⟨S2816x1024, .f32⟩
  | .hbm, ⟨43, _⟩ => ⟨S2816x1024, .bf16⟩
  | .hbm, ⟨44, _⟩ => ⟨S4x704x1024, .bf16⟩
  | .hbm, ⟨45, _⟩ => ⟨S4096x2816, .bf16⟩
  | .hbm, ⟨46, _⟩ => ⟨S4096x4x704, .bf16⟩
  | .hbm, ⟨47, _⟩ => ⟨S4x4096x704, .bf16⟩
  | .hbm, ⟨48, _⟩ => ⟨S4096x2816, .bf16⟩
  | .hbm, ⟨49, _⟩ => ⟨S4096x4x704, .bf16⟩
  | .hbm, ⟨50, _⟩ => ⟨S4x4096x704, .bf16⟩
  | .hbm, ⟨51, _⟩ => ⟨S4x4096x704, .bf16⟩
  | .hbm, ⟨52, _⟩ => ⟨S4x4096x704, .bf16⟩
  | .hbm, ⟨53, _⟩ => ⟨S4096x1024, .f32⟩
  | .hbm, ⟨54, _⟩ => ⟨S4096x1024, .bf16⟩
  | .hbm, ⟨55, _⟩ => ⟨S1x1024, .f32⟩
  | .hbm, ⟨56, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x704x1024, .bf16⟩
  | .local _ .vmem, ⟨6, _⟩ => ⟨S4x704x1024, .bf16⟩
  | .local _ .vmem, ⟨7, _⟩ => ⟨S4x704x1024, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev main_v41_3 : Ref sig .tc := ⟨.hbm, 54, rfl⟩
abbrev main_v41_4 : Ref sig .tc := ⟨.hbm, 55, rfl⟩
abbrev main_v41_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v10 : Index := Scalar.indexCast arg1
  let c0_5 : Index := 0#32
  let c0_6 : Index := 0#32
  ![v10.toNat, 0, 0]
def k0_off2 (i : grid0.Coords) : Fin 3 → Nat :=
  let arg1 : BitVec 32 := BitVec.ofNat 32 (i 1).val
  let v54 : Index := Scalar.indexCast arg1
  let c384 : Index := 384#32
  let c0_30 : Index := 0#32
  ![v54.toNat, 384, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference8Ideal.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S1x4096x2816 : Shape := ⟨3, ![1, 4096, 2816]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 145
  | .vmem => 0
  | .smem => 0
  | _ => 0

abbrev hbmTy0_0 (i : Nat) : BufTy := match i % 128 with
  | 0 => ⟨S1x4096x1024, .f32⟩
  | 1 => ⟨S1024x2816, .f32⟩
  | 2 => ⟨S1024x2816, .f32⟩
  | 3 => ⟨S2816x1024, .f32⟩
  | 4 => ⟨S1024, .f32⟩
  | 5 => ⟨S1x4096x1024, .f32⟩
  | 6 => ⟨S1x4096x2816, .f32⟩
  | 7 => ⟨S1x4096x2816, .f32⟩
  | 8 => ⟨S1x4096x2816, .f32⟩
  | 9 => ⟨S1x4096x2816, .f32⟩
  | 10 => ⟨S_, .f32⟩
  | 11 => ⟨S1x4096x2816, .f32⟩
  | 12 => ⟨S1x4096x2816, .f32⟩
  | 13 => ⟨S_, .f32⟩
  | 14 => ⟨S1x4096x2816, .f32⟩
  | 15 => ⟨S1x4096x2816, .f32⟩
  | 16 => ⟨S_, .f32⟩
  | 17 => ⟨S1x4096x2816, .f32⟩
  | 18 => ⟨S1x4096x2816, .f32⟩
  | 19 => ⟨S1x4096x2816, .f32⟩
  | 20 => ⟨S1x4096x2816, .f32⟩
  | 21 => ⟨S1x4096x2816, .f32⟩
  | 22 => ⟨S1x4096x1024, .f32⟩
  | 23 => ⟨S_, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S1x4096x1024, .f32⟩
  | 30 => ⟨S_, .f32⟩
  | 31 => ⟨S1024, .f32⟩
  | 32 => ⟨S_, .f32⟩
  | 33 => ⟨S1x4096, .f32⟩
  | 34 => ⟨S1x4096x1, .f32⟩
  | 35 => ⟨S_, .f32⟩
  | 36 => ⟨S1x4096x1, .f32⟩
  | 37 => ⟨S1x4096x1, .f32⟩
  | 38 => ⟨S1x4096x1024, .f32⟩
  | 39 => ⟨S1x4096x1024, .f32⟩
  | 40 => ⟨S1x4096x1024, .f32⟩
  | 41 => ⟨S_, .f32⟩
  | 42 => ⟨S1x4096x1024, .f32⟩
  | 43 => ⟨S1x4096x1024, .f32⟩
  | 44 => ⟨S_, .f32⟩
  | 45 => ⟨S1x4096, .f32⟩
  | 46 => ⟨S1x4096x1, .f32⟩
  | 47 => ⟨S_, .f32⟩
  | 48 => ⟨S1x4096x1, .f32⟩
  | 49 => ⟨S1x4096x1, .f32⟩
  | 50 => ⟨S1x4096x1024, .f32⟩
  | 51 => ⟨S1x4096x1024, .f32⟩
  | 52 => ⟨S_, .f32⟩
  | 53 => ⟨S1x4096x1, .f32⟩
  | 54 => ⟨S1x4096x1, .f32⟩
  | 55 => ⟨S1x4096x1, .f32⟩
  | 56 => ⟨S1x4096x1, .f32⟩
  | 57 => ⟨S_, .f32⟩
  | 58 => ⟨S1x4096x1, .f32⟩
  | 59 => ⟨S1x4096x1, .f32⟩
  | 60 => ⟨S1x4096x1024, .f32⟩
  | 61 => ⟨S1x4096x1024, .f32⟩
  | 62 => ⟨S1x1x1024, .f32⟩
  | 63 => ⟨S1x4096x1024, .f32⟩
  | 64 => ⟨S1x4096x1024, .f32⟩
  | 65 => ⟨S1x1x1024, .f32⟩
  | 66 => ⟨S1x4096x1024, .f32⟩
  | 67 => ⟨S1x4096x1024, .f32⟩
  | 68 => ⟨S1x4096x1024, .f32⟩
  | 69 => ⟨S_, .f32⟩
  | 70 => ⟨S1x1024, .f32⟩
  | 71 => ⟨S1x1x1024, .f32⟩
  | 72 => ⟨S_, .f32⟩
  | 73 => ⟨S1024, .f32⟩
  | 74 => ⟨S1x4096x1024, .f32⟩
  | 75 => ⟨S_, .f32⟩
  | 76 => ⟨S1x1024, .f32⟩
  | 77 => ⟨S1x1x1024, .f32⟩
  | 78 => ⟨S1x4096x1024, .f32⟩
  | 79 => ⟨S1x4096x1024, .f32⟩
  | 80 => ⟨S_, .f32⟩
  | 81 => ⟨S1024, .f32⟩
  | 82 => ⟨S1x4096x1024, .f32⟩
  | 83 => ⟨S_, .f32⟩
  | 84 => ⟨S1x4096, .f32⟩
  | 85 => ⟨S1x4096x1, .f32⟩
  | 86 => ⟨S1x4096x1024, .f32⟩
  | 87 => ⟨S1x4096x1024, .f32⟩
  | 88 => ⟨S1x4096x1, .f32⟩
  | 89 => ⟨S1x4096x1024, .f32⟩
  | 90 => ⟨S_, .f32⟩
  | 91 => ⟨S1x4096, .f32⟩
  | 92 => ⟨S1x4096x1, .f32⟩
  | 93 => ⟨S_, .f32⟩
  | 94 => ⟨S1x4096x1, .f32⟩
  | 95 => ⟨S1x4096x1, .f32⟩
  | 96 => ⟨S_, .f32⟩
  | 97 => ⟨S4096, .f32⟩
  | 98 => ⟨S1x4096, .f32⟩
  | 99 => ⟨S1x4096x1024, .f32⟩
  | 100 => ⟨S1x4096x1024, .f32⟩
  | 101 => ⟨S1x4096x1024, .f32⟩
  | 102 => ⟨S_, .f32⟩
  | 103 => ⟨S1x4096, .f32⟩
  | 104 => ⟨S1x4096x1, .f32⟩
  | 105 => ⟨S1x4096x1024, .f32⟩
  | 106 => ⟨S1x4096x1, .f32⟩
  | 107 => ⟨S_, .f32⟩
  | 108 => ⟨S1x4096x1, .f32⟩
  | 109 => ⟨S1x4096x1, .f32⟩
  | 110 => ⟨S_, .f32⟩
  | 111 => ⟨S4096, .f32⟩
  | 112 => ⟨S1x4096, .f32⟩
  | 113 => ⟨S1x4096x1024, .f32⟩
  | 114 => ⟨S1x4096x1024, .f32⟩
  | 115 => ⟨S_, .f32⟩
  | 116 => ⟨S1x4096x1024, .f32⟩
  | 117 => ⟨S1x4096x1024, .f32⟩
  | 118 => ⟨S_, .f32⟩
  | 119 => ⟨S1x4096x1024, .f32⟩
  | 120 => ⟨S1x4096x1024, .f32⟩
  | 121 => ⟨S1x4096x2816, .f32⟩
  | 122 => ⟨S1x4096x2816, .f32⟩
  | 123 => ⟨S1x4096x2816, .f32⟩
  | 124 => ⟨S1x4096x2816, .f32⟩
  | 125 => ⟨S1x4096x2816, .f32⟩
  | 126 => ⟨S1x4096x2816, .f32⟩
  | 127 => ⟨S1x4096x2816, .f32⟩
  | _ => ⟨S1x4096x1024, .f32⟩

abbrev hbmTy0_1 (i : Nat) : BufTy := match i % 128 with
  | 0 => ⟨S1x4096x1024, .f32⟩
  | 1 => ⟨S1x4096x1024, .f32⟩
  | 2 => ⟨S1x4096x1024, .f32⟩
  | 3 => ⟨S4096x2816, .f32⟩
  | 4 => ⟨S4096x4x704, .f32⟩
  | 5 => ⟨S4x4096x704, .f32⟩
  | 6 => ⟨S4x4096x704, .bf16⟩
  | 7 => ⟨S4096x2816, .f32⟩
  | 8 => ⟨S4096x4x704, .f32⟩
  | 9 => ⟨S4x4096x704, .f32⟩
  | 10 => ⟨S4x4096x704, .bf16⟩
  | 11 => ⟨S1x4096x1024, .f32⟩
  | 12 => ⟨S4096x1024, .f32⟩
  | 13 => ⟨S4096x1024, .f32⟩
  | 14 => ⟨S4096x1024, .bf16⟩
  | 15 => ⟨S1x1024, .f32⟩
  | 16 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_v59 : Ref sig .tc := ⟨.hbm, 94, rfl⟩
abbrev main_v60 : Ref sig .tc := ⟨.hbm, 95, rfl⟩
abbrev main_cst_16 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_v76 : Ref sig .tc := ⟨.hbm, 116, rfl⟩
abbrev main_v77 : Ref sig .tc := ⟨.hbm, 117, rfl⟩
abbrev main_cst_21 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]
-- ==== Kernel9.lean ====
abbrev S1x4096x2560 : Shape := ⟨3, ![1, 4096, 2560]⟩
abbrev S1x256x512 : Shape := ⟨3, ![1, 256, 512]⟩
abbrev S4x4096x256 : Shape := ⟨3, ![4, 4096, 256]⟩
abbrev S4096x2560 : Shape := ⟨2, ![4096, 2560]⟩
abbrev S4096x10x256 : Shape := ⟨3, ![4096, 10, 256]⟩
abbrev S10x4096x256 : Shape := ⟨3, ![10, 4096, 256]⟩
abbrev S256x512 : Shape := ⟨2, ![256, 512]⟩
abbrev S256x2x256 : Shape := ⟨3, ![256, 2, 256]⟩
abbrev S2x256x256 : Shape := ⟨3, ![2, 256, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S1024 : Shape := ⟨1, ![1024]⟩
abbrev S1024x1 : Shape := ⟨2, ![1024, 1]⟩

abbrev nBuf : Space → Nat
  | .hbm => 10
  | .vmem => 5
  | .smem => 0
  | _ => 0

abbrev bufTy : (tb : Table) → Fin (tcTables nBuf tb) → BufTy
  | .hbm, ⟨0, _⟩ => ⟨S1x4096x2560, .f32⟩
  | .hbm, ⟨1, _⟩ => ⟨S1x256x512, .f32⟩
  | .hbm, ⟨2, _⟩ => ⟨S4x4096x256, .bf16⟩
  | .hbm, ⟨3, _⟩ => ⟨S4096x2560, .f32⟩
  | .hbm, ⟨4, _⟩ => ⟨S4096x10x256, .f32⟩
  | .hbm, ⟨5, _⟩ => ⟨S10x4096x256, .f32⟩
  | .hbm, ⟨6, _⟩ => ⟨S256x512, .f32⟩
  | .hbm, ⟨7, _⟩ => ⟨S256x2x256, .f32⟩
  | .hbm, ⟨8, _⟩ => ⟨S2x256x256, .f32⟩
  | .hbm, ⟨9, _⟩ => ⟨S4x4096x256, .bf16⟩
  | .local _ .vmem, ⟨0, _⟩ => ⟨S1x1024x256, .f32⟩
  | .local _ .vmem, ⟨1, _⟩ => ⟨S1x1024x256, .f32⟩
  | .local _ .vmem, ⟨2, _⟩ => ⟨S2x256x256, .f32⟩
  | .local _ .vmem, ⟨3, _⟩ => ⟨S1x1024x256, .bf16⟩
  | .local _ .vmem, ⟨4, _⟩ => ⟨S1x1024x256, .bf16⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1x4096x2560 : Shape := ⟨3, ![1, 4096, 2560]⟩
abbrev S1x256x512 : Shape := ⟨3, ![1, 256, 512]⟩
abbrev S4x4096x256 : Shape := ⟨3, ![4, 4096, 256]⟩
abbrev S1x4096x256 : Shape := ⟨3, ![1, 4096, 256]⟩
abbrev S1x4096x4x64 : Shape := ⟨4, ![1, 4096, 4, 64]⟩
abbrev S1x256x256 : Shape := ⟨3, ![1, 256, 256]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S3x4096x256 : Shape := ⟨3, ![3, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S1x256x512, .f32⟩
  | .hbm, ⟨2, _⟩ => ⟨S4x4096x256, .bf16⟩
  | .hbm, ⟨3, _⟩ => ⟨S1x4096x256, .f32⟩
  | .hbm, ⟨4, _⟩ => ⟨S1x4096x4x64, .f32⟩
  | .hbm, ⟨5, _⟩ => ⟨S1x256x256, .f32⟩
  | .hbm, ⟨6, _⟩ => ⟨S1x256x256, .f32⟩
  | .hbm, ⟨7, _⟩ => ⟨S1x256x4x64, .f32⟩
  | .hbm, ⟨8, _⟩ => ⟨S1x256x4x64, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x64x4096, .f32⟩
  | .hbm, ⟨28, _⟩ => ⟨S1x4096x4x64, .f32⟩
  | .hbm, ⟨29, _⟩ => ⟨S1x4096x256, .f32⟩
  | .hbm, ⟨30, _⟩ => ⟨S3x4096x256, .bf16⟩
  | .hbm, ⟨31, _⟩ => ⟨S1x4096x256, .bf16⟩
  | .hbm, ⟨32, _⟩ => ⟨S4x4096x256, .bf16⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel10.lean ====
abbrev S1x4096x3336 : Shape := ⟨3, ![1, 4096, 3336]⟩
abbrev S4x1536 : Shape := ⟨2, ![4, 1536]⟩
abbrev S4096x3336 : Shape := ⟨2, ![4096, 3336]⟩
abbrev S4096x768 : Shape := ⟨2, ![4096, 768]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x8 : Shape := ⟨2, ![4096, 8]⟩
abbrev S4096x256 : Shape := ⟨2, ![4096, 256]⟩
abbrev S1x4096x256 : Shape := ⟨3, ![1, 4096, 256]⟩
abbrev S18x4096x256 : Shape := ⟨3, ![18, 4096, 256]⟩
abbrev S4x8x192 : Shape := ⟨3, ![4, 8, 192]⟩
abbrev S4x8x256 : Shape := ⟨3, ![4, 8, 256]⟩
abbrev S8x4x256 : Shape := ⟨3, ![8, 4, 256]⟩
abbrev S8x8x256 : Shape := ⟨3, ![8, 8, 256]⟩
abbrev S8x4096x256 : Shape := ⟨3, ![8, 4096, 256]⟩
abbrev S1x8x256 : Shape := ⟨3, ![1, 8, 256]⟩
abbrev S8x256 : Shape := ⟨2, ![8, 256]⟩
abbrev S1x256 : Shape := ⟨2, ![1, 256]⟩

abbrev nBuf : Space → Nat
  | .hbm => 44
  | .vmem => 6
  | .smem => 0
  | _ => 0

abbrev bufTy : (tb : Table) → Fin (tcTables nBuf tb) → BufTy
  | .hbm, ⟨0, _⟩ => ⟨S1x4096x3336, .f32⟩
  | .hbm, ⟨1, _⟩ => ⟨S4x1536, .f32⟩
  | .hbm, ⟨2, _⟩ => ⟨S4096x3336, .f32⟩
  | .hbm, ⟨3, _⟩ => ⟨S4096x768, .f32⟩
  | .hbm, ⟨4, _⟩ => ⟨S4096x4x192, .f32⟩
  | .hbm, ⟨5, _⟩ => ⟨S4x4096x192, .f32⟩
  | .hbm, ⟨6, _⟩ => ⟨S_, .i32⟩
  | .hbm, ⟨7, _⟩ => ⟨S_, .f32⟩
  | .hbm, ⟨8, _⟩ => ⟨S4x4096x256, .f32⟩
  | .hbm, ⟨9, _⟩ => ⟨S4096x768, .f32⟩
  | .hbm, ⟨10, _⟩ => ⟨S4096x4x192, .f32⟩
  | .hbm, ⟨11, _⟩ => ⟨S4x4096x192, .f32⟩
  | .hbm, ⟨12, _⟩ => ⟨S_, .i32⟩
  | .hbm, ⟨13, _⟩ => ⟨S_, .f32⟩
  | .hbm, ⟨14, _⟩ => ⟨S4x4096x256, .f32⟩
  | .hbm, ⟨15, _⟩ => ⟨S4096x768, .f32⟩
  | .hbm, ⟨16, _⟩ => ⟨S4096x4x192, .f32⟩
  | .hbm, ⟨17, _⟩ => ⟨S4x4096x192, .f32⟩
  | .hbm, ⟨18, _⟩ => ⟨S_, .i32⟩
  | .hbm, ⟨19, _⟩ => ⟨S_, .f32⟩
  | .hbm, ⟨20, _⟩ => ⟨S4x4096x256, .f32⟩
  | .hbm, ⟨21, _⟩ => ⟨S4096x768, .f32⟩
  | .hbm, ⟨22, _⟩ => ⟨S4096x4x192, .f32⟩
  | .hbm, ⟨23, _⟩ => ⟨S4x4096x192, .f32⟩
  | .hbm, ⟨24, _⟩ => ⟨S_, .i32⟩
  | .hbm, ⟨25, _⟩ => ⟨S_, .f32⟩
  | .hbm, ⟨26, _⟩ => ⟨S4x4096x256, .f32⟩
  | .hbm, ⟨27, _⟩ => ⟨S4096x8, .f32⟩
  | .hbm, ⟨28, _⟩ => ⟨S_, .i32⟩
  | .hbm, ⟨29, _⟩ => ⟨S_, .f32⟩
  | .hbm, ⟨30, _⟩ => ⟨S4096x256, .f32⟩
  | .hbm, ⟨31, _⟩ => ⟨S1x4096x256, .f32⟩
  | .hbm, ⟨32, _⟩ => ⟨S4096x256, .f32⟩
  | .hbm, ⟨33, _⟩ => ⟨S1x4096x256, .f32⟩
  | .hbm, ⟨34, _⟩ => ⟨S18x4096x256, .f32⟩
  | .hbm, ⟨35, _⟩ => ⟨S4x8x192, .f32⟩
  | .hbm, ⟨36, _⟩ => ⟨S_, .i32⟩
  | .hbm, ⟨37, _⟩ => ⟨S_, .f32⟩
  | .hbm, ⟨38, _⟩ => ⟨S4x8x256, .f32⟩
  | .hbm, ⟨39, _⟩ => ⟨S8x4x256, .f32⟩
  | .hbm, ⟨40, _⟩ => ⟨S_, .i32⟩
  | .hbm, ⟨41, _⟩ => ⟨S_, .f32⟩
  | .hbm, ⟨42, _⟩ => ⟨S8x8x256, .f32⟩
  | .hbm, ⟨43, _⟩ => ⟨S8x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x8x256, .f32⟩
  | .local _ .vmem, ⟨3, _⟩ => ⟨S1x8x256, .f32⟩
  | .local _ .vmem, ⟨4, _⟩ => ⟨S1x4096x256, .f32⟩
  | .local _ .vmem, ⟨5, _⟩ => ⟨S1x4096x256, .f32⟩
  | _, _ => ⟨S1x4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call2_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call3_v0 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call4_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_call5_v0 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_call6_v0 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S1x4096x3336 : Shape := ⟨3, ![1, 4096, 3336]⟩
abbrev S4x1536 : Shape := ⟨2, ![4, 1536]⟩
abbrev S1x4096x1536 : Shape := ⟨3, ![1, 4096, 1536]⟩
abbrev S_ : Shape := ⟨0, ![]⟩
abbrev S1x3x1536 : Shape := ⟨3, ![1, 3, 1536]⟩
abbrev S1x4099x1536 : Shape := ⟨3, ![1, 4099, 1536]⟩
abbrev S1x1536 : Shape := ⟨2, ![1, 1536]⟩
abbrev S1536 : Shape := ⟨1, ![1536]⟩
abbrev S1x1x1536 : Shape := ⟨3, ![1, 1, 1536]⟩
abbrev S4096x1536 : Shape := ⟨2, ![4096, 1536]⟩
abbrev S4096x8x192 : Shape := ⟨3, ![4096, 8, 192]⟩
abbrev S8x4096x192 : Shape := ⟨3, ![8, 4096, 192]⟩
abbrev S8x4096x256 : Shape := ⟨3, ![8, 4096, 256]⟩

abbrev nBuf : Space → Nat
  | .hbm => 48
  | .vmem => 0
  | .smem => 0
  | _ => 0

abbrev bufTy : (tb : Table) → Fin (tcTables nBuf tb) → BufTy
  | .hbm, ⟨0, _⟩ => ⟨S1x4096x3336, .f32⟩
  | .hbm, ⟨1, _⟩ => ⟨S4x1536, .f32⟩
  | .hbm, ⟨2, _⟩ => ⟨S1x4096x1536, .f32⟩
  | .hbm, ⟨3, _⟩ => ⟨S_, .f32⟩
  | .hbm, ⟨4, _⟩ => ⟨S1x3x1536, .f32⟩
  | .hbm, ⟨5, _⟩ => ⟨S1x4099x1536, .f32⟩
  | .hbm, ⟨6, _⟩ => ⟨S1x4096x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S1x4096x1536, .f32⟩
  | .hbm, ⟨11, _⟩ => ⟨S1x4096x1536, .f32⟩
  | .hbm, ⟨12, _⟩ => ⟨S1x4096x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S1x4096x1536, .f32⟩
  | .hbm, ⟨17, _⟩ => ⟨S1x4096x1536, .f32⟩
  | .hbm, ⟨18, _⟩ => ⟨S1x4096x1536, .f32⟩
  | .hbm, ⟨19, _⟩ => ⟨S1x4096x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S1x4096x1536, .f32⟩
  | .hbm, ⟨24, _⟩ => ⟨S1x4096x1536, .f32⟩
  | .hbm, ⟨25, _⟩ => ⟨S1x4096x1536, .f32⟩
  | .hbm, ⟨26, _⟩ => ⟨S1x4096x1536, .f32⟩
  | .hbm, ⟨27, _⟩ => ⟨S1x1536, .f32⟩
  | .hbm, ⟨28, _⟩ => ⟨S1536, .f32⟩
  | .hbm, ⟨29, _⟩ => ⟨S1x1x1536, .f32⟩
  | .hbm, ⟨30, _⟩ => ⟨S1x4096x1536, .f32⟩
  | .hbm, ⟨31, _⟩ => ⟨S1x4096x1536, .f32⟩
  | .hbm, ⟨32, _⟩ => ⟨S1x4096x1536, .f32⟩
  | .hbm, ⟨33, _⟩ => ⟨S1x4096x1536, .f32⟩
  | .hbm, ⟨34, _⟩ => ⟨S1x4096x1536, .f32⟩
  | .hbm, ⟨35, _⟩ => ⟨S_, .f32⟩
  | .hbm, ⟨36, _⟩ => ⟨S1x4096x1536, .f32⟩
  | .hbm, ⟨37, _⟩ => ⟨S1x4096x1536, .f32⟩
  | .hbm, ⟨38, _⟩ => ⟨S_, .f32⟩
  | .hbm, ⟨39, _⟩ => ⟨S1x4096x1536, .f32⟩
  | .hbm, ⟨40, _⟩ => ⟨S1x4096x1536, .f32⟩
  | .hbm, ⟨41, _⟩ => ⟨S1x4096x1536, .f32⟩
  | .hbm, ⟨42, _⟩ => ⟨S4096x1536, .f32⟩
  | .hbm, ⟨43, _⟩ => ⟨S4096x8x192, .f32⟩
  | .hbm, ⟨44, _⟩ => ⟨S8x4096x192, .f32⟩
  | .hbm, ⟨45, _⟩ => ⟨S_, .i32⟩
  | .hbm, ⟨46, _⟩ => ⟨S_, .f32⟩
  | .hbm, ⟨47, _⟩ => ⟨S8x4096x256, .f32⟩
  | _, _ => ⟨S1x4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call1_v0 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel11.lean ====
abbrev S1x4096x2560 : Shape := ⟨3, ![1, 4096, 2560]⟩
abbrev S3x768 : Shape := ⟨2, ![3, 768]⟩
abbrev S4096x2560 : Shape := ⟨2, ![4096, 2560]⟩
abbrev S4096x10x256 : Shape := ⟨3, ![4096, 10, 256]⟩
abbrev S10x4096x256 : Shape := ⟨3, ![10, 4096, 256]⟩
abbrev S3x3x256 : Shape := ⟨3, ![3, 3, 256]⟩
abbrev S_ : Shape := ⟨0, ![]⟩
abbrev S3x8x256 : Shape := ⟨3, ![3, 8, 256]⟩
abbrev S4x4096x256 : Shape := ⟨3, ![4, 4096, 256]⟩
abbrev S1x4096x256 : Shape := ⟨3, ![1, 4096, 256]⟩
abbrev S1x8x256 : Shape := ⟨3, ![1, 8, 256]⟩
abbrev S4096x256 : Shape := ⟨2, ![4096, 256]⟩
abbrev S8x256 : Shape := ⟨2, ![8, 256]⟩
abbrev S1x256 : Shape := ⟨2, ![1, 256]⟩

abbrev nBuf : Space → Nat
  | .hbm => 14
  | .vmem => 10
  | .smem => 0
  | _ => 0

abbrev bufTy : (tb : Table) → Fin (tcTables nBuf tb) → BufTy
  | .hbm, ⟨0, _⟩ => ⟨S1x4096x2560, .f32⟩
  | .hbm, ⟨1, _⟩ => ⟨S3x768, .f32⟩
  | .hbm, ⟨2, _⟩ => ⟨S4096x2560, .f32⟩
  | .hbm, ⟨3, _⟩ => ⟨S4096x10x256, .f32⟩
  | .hbm, ⟨4, _⟩ => ⟨S10x4096x256, .f32⟩
  | .hbm, ⟨5, _⟩ => ⟨S3x3x256, .f32⟩
  | .hbm, ⟨6, _⟩ => ⟨S_, .i32⟩
  | .hbm, ⟨7, _⟩ => ⟨S_, .f32⟩
  | .hbm, ⟨8, _⟩ => ⟨S3x3x256, .f32⟩
  | .hbm, ⟨9, _⟩ => ⟨S3x3x256, .f32⟩
  | .hbm, ⟨10, _⟩ => ⟨S_, .i32⟩
  | .hbm, ⟨11, _⟩ => ⟨S_, .f32⟩
  | .hbm, ⟨12, _⟩ => ⟨S3x8x256, .f32⟩
  | .hbm, ⟨13, _⟩ => ⟨S4x4096x256, .bf16⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x8x256, .f32⟩
  | .local _ .vmem, ⟨7, _⟩ => ⟨S1x8x256, .f32⟩
  | .local _ .vmem, ⟨8, _⟩ => ⟨S1x4096x256, .bf16⟩
  | .local _ .vmem, ⟨9, _⟩ => ⟨S1x4096x256, .bf16⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S1x4096x2560 : Shape := ⟨3, ![1, 4096, 2560]⟩
abbrev S3x768 : Shape := ⟨2, ![3, 768]⟩
abbrev S1x4096x2304 : Shape := ⟨3, ![1, 4096, 2304]⟩
abbrev S1x4096x768 : Shape := ⟨3, ![1, 4096, 768]⟩
abbrev S_ : Shape := ⟨0, ![]⟩
abbrev S1x2x768 : Shape := ⟨3, ![1, 2, 768]⟩
abbrev S1x4098x768 : Shape := ⟨3, ![1, 4098, 768]⟩
abbrev S1x768 : Shape := ⟨2, ![1, 768]⟩
abbrev S768 : Shape := ⟨1, ![768]⟩
abbrev S1x1x768 : Shape := ⟨3, ![1, 1, 768]⟩
abbrev S4096x768 : Shape := ⟨2, ![4096, 768]⟩
abbrev S4096x3x256 : Shape := ⟨3, ![4096, 3, 256]⟩
abbrev S3x4096x256 : Shape := ⟨3, ![3, 4096, 256]⟩
abbrev S4x4096x256 : Shape := ⟨3, ![4, 4096, 256]⟩

abbrev nBuf : Space → Nat
  | .hbm => 38
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S3x768, .f32⟩
  | .hbm, ⟨2, _⟩ => ⟨S1x4096x2304, .f32⟩
  | .hbm, ⟨3, _⟩ => ⟨S1x4096x768, .f32⟩
  | .hbm, ⟨4, _⟩ => ⟨S1x4096x768, .f32⟩
  | .hbm, ⟨5, _⟩ => ⟨S1x4096x768, .f32⟩
  | .hbm, ⟨6, _⟩ => ⟨S1x4096x768, .f32⟩
  | .hbm, ⟨7, _⟩ => ⟨S_, .f32⟩
  | .hbm, ⟨8, _⟩ => ⟨S1x2x768, .f32⟩
  | .hbm, ⟨9, _⟩ => ⟨S1x4098x768, .f32⟩
  | .hbm, ⟨10, _⟩ => ⟨S1x4096x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S1x4096x768, .f32⟩
  | .hbm, ⟨15, _⟩ => ⟨S1x4096x768, .f32⟩
  | .hbm, ⟨16, _⟩ => ⟨S1x4096x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S1x4096x768, .f32⟩
  | .hbm, ⟨21, _⟩ => ⟨S1x4096x768, .f32⟩
  | .hbm, ⟨22, _⟩ => ⟨S1x4096x768, .f32⟩
  | .hbm, ⟨23, _⟩ => ⟨S1x4096x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S1x4096x768, .f32⟩
  | .hbm, ⟨28, _⟩ => ⟨S1x4096x768, .f32⟩
  | .hbm, ⟨29, _⟩ => ⟨S1x4096x768, .f32⟩
  | .hbm, ⟨30, _⟩ => ⟨S1x4096x768, .f32⟩
  | .hbm, ⟨31, _⟩ => ⟨S4096x768, .f32⟩
  | .hbm, ⟨32, _⟩ => ⟨S4096x3x256, .f32⟩
  | .hbm, ⟨33, _⟩ => ⟨S3x4096x256, .f32⟩
  | .hbm, ⟨34, _⟩ => ⟨S_, .i32⟩
  | .hbm, ⟨35, _⟩ => ⟨S_, .f32⟩
  | .hbm, ⟨36, _⟩ => ⟨S4x4096x256, .f32⟩
  | .hbm, ⟨37, _⟩ => ⟨S4x4096x256, .bf16⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_c : Ref sig .tc := ⟨.hbm, 34, rfl⟩
abbrev main_call0_v0 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Kernel12.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S4096x768 : Shape := ⟨2, ![4096, 768]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x3336 : Shape := ⟨2, ![4096, 3336]⟩
abbrev S4096x8 : Shape := ⟨2, ![4096, 8]⟩
abbrev S4096x256 : Shape := ⟨2, ![4096, 256]⟩
abbrev S1x4096x256 : Shape := ⟨3, ![1, 4096, 256]⟩
abbrev S18x4096x256 : Shape := ⟨3, ![18, 4096, 256]⟩
abbrev S4x256 : Shape := ⟨2, ![4, 256]⟩
abbrev S4x1x256 : Shape := ⟨3, ![4, 1, 256]⟩
abbrev S5x4096x256 : Shape := ⟨3, ![5, 4096, 256]⟩
abbrev S1x2048x256 : Shape := ⟨3, ![1, 2048, 256]⟩
abbrev S1x1x256 : Shape := ⟨3, ![1, 1, 256]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩

abbrev nBuf : Space → Nat
  | .hbm => 47
  | .vmem => 8
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x3336, .f32⟩
  | .hbm, ⟨2, _⟩ => ⟨S4x192, .f32⟩
  | .hbm, ⟨3, _⟩ => ⟨S4096x768, .f32⟩
  | .hbm, ⟨4, _⟩ => ⟨S4096x4x192, .f32⟩
  | .hbm, ⟨5, _⟩ => ⟨S4x4096x192, .f32⟩
  | .hbm, ⟨6, _⟩ => ⟨S_, .i32⟩
  | .hbm, ⟨7, _⟩ => ⟨S_, .f32⟩
  | .hbm, ⟨8, _⟩ => ⟨S4x4096x256, .f32⟩
  | .hbm, ⟨9, _⟩ => ⟨S4096x3336, .f32⟩
  | .hbm, ⟨10, _⟩ => ⟨S4096x768, .f32⟩
  | .hbm, ⟨11, _⟩ => ⟨S4096x4x192, .f32⟩
  | .hbm, ⟨12, _⟩ => ⟨S4x4096x192, .f32⟩
  | .hbm, ⟨13, _⟩ => ⟨S_, .i32⟩
  | .hbm, ⟨14, _⟩ => ⟨S_, .f32⟩
  | .hbm, ⟨15, _⟩ => ⟨S4x4096x256, .f32⟩
  | .hbm, ⟨16, _⟩ => ⟨S4096x768, .f32⟩
  | .hbm, ⟨17, _⟩ => ⟨S4096x4x192, .f32⟩
  | .hbm, ⟨18, _⟩ => ⟨S4x4096x192, .f32⟩
  | .hbm, ⟨19, _⟩ => ⟨S_, .i32⟩
  | .hbm, ⟨20, _⟩ => ⟨S_, .f32⟩
  | .hbm, ⟨21, _⟩ => ⟨S4x4096x256, .f32⟩
  | .hbm, ⟨22, _⟩ => ⟨S4096x768, .f32⟩
  | .hbm, ⟨23, _⟩ => ⟨S4096x4x192, .f32⟩
  | .hbm, ⟨24, _⟩ => ⟨S4x4096x192, .f32⟩
  | .hbm, ⟨25, _⟩ => ⟨S_, .i32⟩
  | .hbm, ⟨26, _⟩ => ⟨S_, .f32⟩
  | .hbm, ⟨27, _⟩ => ⟨S4x4096x256, .f32⟩
  | .hbm, ⟨28, _⟩ => ⟨S4096x768, .f32⟩
  | .hbm, ⟨29, _⟩ => ⟨S4096x4x192, .f32⟩
  | .hbm, ⟨30, _⟩ => ⟨S4x4096x192, .f32⟩
  | .hbm, ⟨31, _⟩ => ⟨S_, .i32⟩
  | .hbm, ⟨32, _⟩ => ⟨S_, .f32⟩
  | .hbm, ⟨33, _⟩ => ⟨S4x4096x256, .f32⟩
  | .hbm, ⟨34, _⟩ => ⟨S4096x8, .f32⟩
  | .hbm, ⟨35, _⟩ => ⟨S_, .i32⟩
  | .hbm, ⟨36, _⟩ => ⟨S_, .f32⟩
  | .hbm, ⟨37, _⟩ => ⟨S4096x256, .f32⟩
  | .hbm, ⟨38, _⟩ => ⟨S1x4096x256, .f32⟩
  | .hbm, ⟨39, _⟩ => ⟨S4096x256, .f32⟩
  | .hbm, ⟨40, _⟩ => ⟨S1x4096x256, .f32⟩
  | .hbm, ⟨41, _⟩ => ⟨S18x4096x256, .f32⟩
  | .hbm, ⟨42, _⟩ => ⟨S_, .i32⟩
  | .hbm, ⟨43, _⟩ => ⟨S_, .f32⟩
  | .hbm, ⟨44, _⟩ => ⟨S4x256, .f32⟩
  | .hbm, ⟨45, _⟩ => ⟨S4x1x256, .f32⟩
  | .hbm, ⟨46, _⟩ => ⟨S5x4096x256, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .bf16⟩
  | .local _ .vmem, ⟨7, _⟩ => ⟨S1x2048x256, .bf16⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call4_v0 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_call5_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_call6_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel12Ideal.lean ====
variable {F : FTy → Type} [FloatOps F] [Named F]
def κ : String → Option EReal := fun
  | "inv_head" => some ((1 / 192 : ℝ) : EReal)
  | _ => none
-- ==== Reference12Ideal.lean ====
abbrev S1x4096x4x192 : Shape := ⟨4, ![1, 4096, 4, 192]⟩
abbrev S1x4096x3336 : Shape := ⟨3, ![1, 4096, 3336]⟩
abbrev S4x192 : Shape := ⟨2, ![4, 192]⟩
abbrev S_ : Shape := ⟨0, ![]⟩
abbrev S1x4096x4 : Shape := ⟨3, ![1, 4096, 4]⟩
abbrev S1x4096x4x1 : Shape := ⟨4, ![1, 4096, 4, 1]⟩
abbrev S1x1x4x192 : Shape := ⟨4, ![1, 1, 4, 192]⟩
abbrev S1x4096x768 : Shape := ⟨3, ![1, 4096, 768]⟩
abbrev S4096x768 : Shape := ⟨2, ![4096, 768]⟩
abbrev S4096x4x192 : Shape := ⟨3, ![4096, 4, 192]⟩
abbrev S4x4096x192 : Shape := ⟨3, ![4, 4096, 192]⟩
abbrev S5x4096x256 : Shape := ⟨3, ![5, 4096, 256]⟩

abbrev nBuf : Space → Nat
  | .hbm => 47
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x3336, .f32⟩
  | .hbm, ⟨2, _⟩ => ⟨S4x192, .f32⟩
  | .hbm, ⟨3, _⟩ => ⟨S_, .f32⟩
  | .hbm, ⟨4, _⟩ => ⟨S1x4096x4, .f32⟩
  | .hbm, ⟨5, _⟩ => ⟨S1x4096x4x1, .f32⟩
  | .hbm, ⟨6, _⟩ => ⟨S_, .f32⟩
  | .hbm, ⟨7, _⟩ => ⟨S1x4096x4x1, .f32⟩
  | .hbm, ⟨8, _⟩ => ⟨S1x4096x4x1, .f32⟩
  | .hbm, ⟨9, _⟩ => ⟨S1x4096x4x192, .f32⟩
  | .hbm, ⟨10, _⟩ => ⟨S1x4096x4x192, .f32⟩
  | .hbm, ⟨11, _⟩ => ⟨S1x4096x4x192, .f32⟩
  | .hbm, ⟨12, _⟩ => ⟨S_, .f32⟩
  | .hbm, ⟨13, _⟩ => ⟨S1x4096x4, .f32⟩
  | .hbm, ⟨14, _⟩ => ⟨S1x4096x4x1, .f32⟩
  | .hbm, ⟨15, _⟩ => ⟨S_, .f32⟩
  | .hbm, ⟨16, _⟩ => ⟨S1x4096x4x1, .f32⟩
  | .hbm, ⟨17, _⟩ => ⟨S1x4096x4x1, .f32⟩
  | .hbm, ⟨18, _⟩ => ⟨S1x4096x4x192, .f32⟩
  | .hbm, ⟨19, _⟩ => ⟨S1x4096x4x192, .f32⟩
  | .hbm, ⟨20, _⟩ => ⟨S_, .f32⟩
  | .hbm, ⟨21, _⟩ => ⟨S1x4096x4x1, .f32⟩
  | .hbm, ⟨22, _⟩ => ⟨S1x4096x4x1, .f32⟩
  | .hbm, ⟨23, _⟩ => ⟨S1x4096x4x1, .f32⟩
  | .hbm, ⟨24, _⟩ => ⟨S1x4096x4x192, .f32⟩
  | .hbm, ⟨25, _⟩ => ⟨S1x4096x4x192, .f32⟩
  | .hbm, ⟨26, _⟩ => ⟨S1x1x4x192, .f32⟩
  | .hbm, ⟨27, _⟩ => ⟨S1x4096x4x192, .f32⟩
  | .hbm, ⟨28, _⟩ => ⟨S1x4096x4x192, .f32⟩
  | .hbm, ⟨29, _⟩ => ⟨S1x4096x768, .f32⟩
  | .hbm, ⟨30, _⟩ => ⟨S1x4096x768, .f32⟩
  | .hbm, ⟨31, _⟩ => ⟨S1x4096x768, .f32⟩
  | .hbm, ⟨32, _⟩ => ⟨S_, .f32⟩
  | .hbm, ⟨33, _⟩ => ⟨S1x4096x768, .f32⟩
  | .hbm, ⟨34, _⟩ => ⟨S1x4096x768, .f32⟩
  | .hbm, ⟨35, _⟩ => ⟨S_, .f32⟩
  | .hbm, ⟨36, _⟩ => ⟨S1x4096x768, .f32⟩
  | .hbm, ⟨37, _⟩ => ⟨S1x4096x768, .f32⟩
  | .hbm, ⟨38, _⟩ => ⟨S1x4096x768, .f32⟩
  | .hbm, ⟨39, _⟩ => ⟨S1x4096x768, .f32⟩
  | .hbm, ⟨40, _⟩ => ⟨S4096x768, .f32⟩
  | .hbm, ⟨41, _⟩ => ⟨S4096x4x192, .f32⟩
  | .hbm, ⟨42, _⟩ => ⟨S4x4096x192, .f32⟩
  | .hbm, ⟨43, _⟩ => ⟨S_, .i32⟩
  | .hbm, ⟨44, _⟩ => ⟨S_, .f32⟩
  | .hbm, ⟨45, _⟩ => ⟨S5x4096x256, .f32⟩
  | .hbm, ⟨46, _⟩ => ⟨S5x4096x256, .bf16⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel13.lean ====
abbrev S1x4096x3336 : Shape := ⟨3, ![1, 4096, 3336]⟩
abbrev S1x256x512 : Shape := ⟨3, ![1, 256, 512]⟩
abbrev S5x4096x256 : Shape := ⟨3, ![5, 4096, 256]⟩
abbrev S4096x3336 : Shape := ⟨2, ![4096, 3336]⟩
abbrev S4096x768 : Shape := ⟨2, ![4096, 768]⟩
abbrev S4096x4x192 : Shape := ⟨3, ![4096, 4, 192]⟩
abbrev S4x4096x192 : Shape := ⟨3, ![4, 4096, 192]⟩
abbrev S_ : Shape := ⟨0, ![]⟩
abbrev S4x4096x256 : Shape := ⟨3, ![4, 4096, 256]⟩
abbrev S4096x8 : Shape := ⟨2, ![4096, 8]⟩
abbrev S4096x256 : Shape := ⟨2, ![4096, 256]⟩
abbrev S1x4096x256 : Shape := ⟨3, ![1, 4096, 256]⟩
abbrev S18x4096x256 : Shape := ⟨3, ![18, 4096, 256]⟩
abbrev S256x512 : Shape := ⟨2, ![256, 512]⟩
abbrev S256x2x256 : Shape := ⟨3, ![256, 2, 256]⟩
abbrev S2x256x256 : Shape := ⟨3, ![2, 256, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S1024 : Shape := ⟨1, ![1024]⟩
abbrev S1024x1 : Shape := ⟨2, ![1024, 1]⟩

abbrev nBuf : Space → Nat
  | .hbm => 40
  | .vmem => 5
  | .smem => 0
  | _ => 0

abbrev bufTy : (tb : Table) → Fin (tcTables nBuf tb) → BufTy
  | .hbm, ⟨0, _⟩ => ⟨S1x4096x3336, .f32⟩
  | .hbm, ⟨1, _⟩ => ⟨S1x256x512, .f32⟩
  | .hbm, ⟨2, _⟩ => ⟨S5x4096x256, .bf16⟩
  | .hbm, ⟨3, _⟩ => ⟨S4096x3336, .f32⟩
  | .hbm, ⟨4, _⟩ => ⟨S4096x768, .f32⟩
  | .hbm, ⟨5, _⟩ => ⟨S4096x4x192, .f32⟩
  | .hbm, ⟨6, _⟩ => ⟨S4x4096x192, .f32⟩
  | .hbm, ⟨7, _⟩ => ⟨S_, .i32⟩
  | .hbm, ⟨8, _⟩ => ⟨S_, .f32⟩
  | .hbm, ⟨9, _⟩ => ⟨S4x4096x256, .f32⟩
  | .hbm, ⟨10, _⟩ => ⟨S4096x768, .f32⟩
  | .hbm, ⟨11, _⟩ => ⟨S4096x4x192, .f32⟩
  | .hbm, ⟨12, _⟩ => ⟨S4x4096x192, .f32⟩
  | .hbm, ⟨13, _⟩ => ⟨S_, .i32⟩
  | .hbm, ⟨14, _⟩ => ⟨S_, .f32⟩
  | .hbm, ⟨15, _⟩ => ⟨S4x4096x256, .f32⟩
  | .hbm, ⟨16, _⟩ => ⟨S4096x768, .f32⟩
  | .hbm, ⟨17, _⟩ => ⟨S4096x4x192, .f32⟩
  | .hbm, ⟨18, _⟩ => ⟨S4x4096x192, .f32⟩
  | .hbm, ⟨19, _⟩ => ⟨S_, .i32⟩
  | .hbm, ⟨20, _⟩ => ⟨S_, .f32⟩
  | .hbm, ⟨21, _⟩ => ⟨S4x4096x256, .f32⟩
  | .hbm, ⟨22, _⟩ => ⟨S4096x768, .f32⟩
  | .hbm, ⟨23, _⟩ => ⟨S4096x4x192, .f32⟩
  | .hbm, ⟨24, _⟩ => ⟨S4x4096x192, .f32⟩
  | .hbm, ⟨25, _⟩ => ⟨S_, .i32⟩
  | .hbm, ⟨26, _⟩ => ⟨S_, .f32⟩
  | .hbm, ⟨27, _⟩ => ⟨S4x4096x256, .f32⟩
  | .hbm, ⟨28, _⟩ => ⟨S4096x8, .f32⟩
  | .hbm, ⟨29, _⟩ => ⟨S_, .i32⟩
  | .hbm, ⟨30, _⟩ => ⟨S_, .f32⟩
  | .hbm, ⟨31, _⟩ => ⟨S4096x256, .f32⟩
  | .hbm, ⟨32, _⟩ => ⟨S1x4096x256, .f32⟩
  | .hbm, ⟨33, _⟩ => ⟨S4096x256, .f32⟩
  | .hbm, ⟨34, _⟩ => ⟨S1x4096x256, .f32⟩
  | .hbm, ⟨35, _⟩ => ⟨S18x4096x256, .f32⟩
  | .hbm, ⟨36, _⟩ => ⟨S256x512, .f32⟩
  | .hbm, ⟨37, _⟩ => ⟨S256x2x256, .f32⟩
  | .hbm, ⟨38, _⟩ => ⟨S2x256x256, .f32⟩
  | .hbm, ⟨39, _⟩ => ⟨S5x4096x256, .bf16⟩
  | .local _ .vmem, ⟨0, _⟩ => ⟨S1x1024x256, .f32⟩
  | .local _ .vmem, ⟨1, _⟩ => ⟨S1x1024x256, .f32⟩
  | .local _ .vmem, ⟨2, _⟩ => ⟨S2x256x256, .f32⟩
  | .local _ .vmem, ⟨3, _⟩ => ⟨S1x1024x256, .bf16⟩
  | .local _ .vmem, ⟨4, _⟩ => ⟨S1x1024x256, .bf16⟩
  | _, _ => ⟨S1x4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call4_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  ![c16_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S1x4096x3336 : Shape := ⟨3, ![1, 4096, 3336]⟩
abbrev S1x256x512 : Shape := ⟨3, ![1, 256, 512]⟩
abbrev S5x4096x256 : Shape := ⟨3, ![5, 4096, 256]⟩
abbrev S1x4096x256 : Shape := ⟨3, ![1, 4096, 256]⟩
abbrev S1x4096x4x64 : Shape := ⟨4, ![1, 4096, 4, 64]⟩
abbrev S1x256x256 : Shape := ⟨3, ![1, 256, 256]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S4x4096x256 : Shape := ⟨3, ![4, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x3336, .f32⟩
  | .hbm, ⟨1, _⟩ => ⟨S1x256x512, .f32⟩
  | .hbm, ⟨2, _⟩ => ⟨S5x4096x256, .bf16⟩
  | .hbm, ⟨3, _⟩ => ⟨S1x4096x256, .f32⟩
  | .hbm, ⟨4, _⟩ => ⟨S1x4096x4x64, .f32⟩
  | .hbm, ⟨5, _⟩ => ⟨S1x256x256, .f32⟩
  | .hbm, ⟨6, _⟩ => ⟨S1x256x256, .f32⟩
  | .hbm, ⟨7, _⟩ => ⟨S1x256x4x64, .f32⟩
  | .hbm, ⟨8, _⟩ => ⟨S1x256x4x64, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x64x4096, .f32⟩
  | .hbm, ⟨28, _⟩ => ⟨S1x4096x4x64, .f32⟩
  | .hbm, ⟨29, _⟩ => ⟨S1x4096x256, .f32⟩
  | .hbm, ⟨30, _⟩ => ⟨S4x4096x256, .bf16⟩
  | .hbm, ⟨31, _⟩ => ⟨S1x4096x256, .bf16⟩
  | .hbm, ⟨32, _⟩ => ⟨S5x4096x256, .bf16⟩
  | _, _ => ⟨S1x4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel14.lean ====
abbrev S1x4096x1024 : Shape := ⟨3, ![1, 4096, 1024]⟩
abbrev S1024x1024 : Shape := ⟨2, ![1024, 1024]⟩
abbrev S1024 : Shape := ⟨1, ![1024]⟩
abbrev S4096x1024 : Shape := ⟨2, ![4096, 1024]⟩
abbrev S4096x4x256 : Shape := ⟨3, ![4096, 4, 256]⟩
abbrev S4x4096x256 : Shape := ⟨3, ![4, 4096, 256]⟩
abbrev S4x256x1024 : Shape := ⟨3, ![4, 256, 1024]⟩
abbrev S1x1024 : Shape := ⟨2, ![1, 1024]⟩
abbrev S4x1024x256 : Shape := ⟨3, ![4, 1024, 256]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x4x256, .f32⟩
  | .hbm, ⟨7, _⟩ => ⟨S4x4096x256, .f32⟩
  | .hbm, ⟨8, _⟩ => ⟨S4x4096x256, .bf16⟩
  | .hbm, ⟨9, _⟩ => ⟨S1024x1024, .bf16⟩
  | .hbm, ⟨10, _⟩ => ⟨S4x256x1024, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .local _ .vmem, ⟨0, _⟩ => ⟨S4x1024x256, .bf16⟩
  | .local _ .vmem, ⟨1, _⟩ => ⟨S4x1024x256, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S_, .f32⟩
  | .hbm, ⟨20, _⟩ => ⟨S1x4096, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1, .f32⟩
  | .hbm, ⟨29, _⟩ => ⟨S1x4096x1, .f32⟩
  | .hbm, ⟨30, _⟩ => ⟨S1x4096x1, .f32⟩
  | .hbm, ⟨31, _⟩ => ⟨S1x4096x1024, .f32⟩
  | .hbm, ⟨32, _⟩ => ⟨S1x4096x1024, .f32⟩
  | .hbm, ⟨33, _⟩ => ⟨S1x1x1024, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel15.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S4096x1024 : Shape := ⟨2, ![4096, 1024]⟩
abbrev S4x704x1024 : Shape := ⟨3, ![4, 704, 1024]⟩
abbrev S1x1024 : Shape := ⟨2, ![1, 1024]⟩
abbrev S4x4096x704 : Shape := ⟨3, ![4, 4096, 704]⟩
abbrev S512x1024 : Shape := ⟨2, ![512, 1024]⟩
abbrev S1x512x704 : Shape := ⟨3, ![1, 512, 704]⟩
abbrev S1x704x1024 : Shape := ⟨3, ![1, 704, 1024]⟩
abbrev S704x1024 : Shape := ⟨2, ![704, 1024]⟩
abbrev S512x704 : Shape := ⟨2, ![512, 704]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S2816x1024, .f32⟩
  | .hbm, ⟨10, _⟩ => ⟨S2816x1024, .bf16⟩
  | .hbm, ⟨11, _⟩ => ⟨S4x704x1024, .bf16⟩
  | .hbm, ⟨12, _⟩ => ⟨S2816x1024, .f32⟩
  | .hbm, ⟨13, _⟩ => ⟨S2816x1024, .bf16⟩
  | .hbm, ⟨14, _⟩ => ⟨S4x704x1024, .bf16⟩
  | .hbm, ⟨15, _⟩ => ⟨S2816x1024, .bf16⟩
  | .hbm, ⟨16, _⟩ => ⟨S4x704x1024, .bf16⟩
  | .hbm, ⟨17, _⟩ => ⟨S1x1024, .f32⟩
  | .hbm, ⟨18, _⟩ => ⟨S1x1024, .f32⟩
  | .hbm, ⟨19, _⟩ => ⟨S4x4096x704, .bf16⟩
  | .hbm, ⟨20, _⟩ => ⟨S4x4096x704, .bf16⟩
  | .hbm, ⟨21, _⟩ => ⟨S4x4096x704, .bf16⟩
  | .hbm, ⟨22, _⟩ => ⟨S4096x1024, .f32⟩
  | .hbm, ⟨23, _⟩ => ⟨S4096x1024, .f32⟩
  | .hbm, ⟨24, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x704x1024, .bf16⟩
  | .local _ .vmem, ⟨5, _⟩ => ⟨S4x704x1024, .bf16⟩
  | .local _ .vmem, ⟨6, _⟩ => ⟨S4x704x1024, .bf16⟩
  | .local _ .vmem, ⟨7, _⟩ => ⟨S1x1024, .f32⟩
  | .local _ .vmem, ⟨8, _⟩ => ⟨S1x1024, .f32⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_21 : BitVec 32 := 0#32
  let v37 : BitVec 1 := Scalar.cmpi .ne v36 c0_i32_21
  v37

def k0_cond2 (i : grid0.Coords) : BitVec 1 :=
  let arg1 : BitVec 32 := BitVec.ofNat 32 (i 1).val
  let c0_i32_22 : BitVec 32 := 0#32
  let v38 : BitVec 1 := Scalar.cmpi .sgt arg1 c0_i32_22
  let v39 : BitVec 32 := Scalar.extui v38
  let c0_i32_23 : BitVec 32 := 0#32
  let v40 : BitVec 1 := Scalar.cmpi .ne v39 c0_i32_23
  v40

def k0_cond3 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference15Ideal.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S1x4096x2816 : Shape := ⟨3, ![1, 4096, 2816]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x4096x2816, .f32⟩
  | .hbm, ⟨7, _⟩ => ⟨S1x4096x2816, .f32⟩
  | .hbm, ⟨8, _⟩ => ⟨S1x4096x2816, .f32⟩
  | .hbm, ⟨9, _⟩ => ⟨S1x4096x2816, .f32⟩
  | .hbm, ⟨10, _⟩ => ⟨S_, .f32⟩
  | .hbm, ⟨11, _⟩ => ⟨S1x4096x2816, .f32⟩
  | .hbm, ⟨12, _⟩ => ⟨S1x4096x2816, .f32⟩
  | .hbm, ⟨13, _⟩ => ⟨S_, .f32⟩
  | .hbm, ⟨14, _⟩ => ⟨S1x4096x2816, .f32⟩
  | .hbm, ⟨15, _⟩ => ⟨S1x4096x2816, .f32⟩
  | .hbm, ⟨16, _⟩ => ⟨S1x4096x2816, .f32⟩
  | .hbm, ⟨17, _⟩ => ⟨S1x4096x2816, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S1x1x1024, .f32⟩
  | .hbm, ⟨53, _⟩ => ⟨S1x4096x1024, .f32⟩
  | .hbm, ⟨54, _⟩ => ⟨S1x4096x1024, .f32⟩
  | .hbm, ⟨55, _⟩ => ⟨S4096x2816, .f32⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x2816, .f32⟩
  | .hbm, ⟨60, _⟩ => ⟨S4096x4x704, .f32⟩
  | .hbm, ⟨61, _⟩ => ⟨S4x4096x704, .f32⟩
  | .hbm, ⟨62, _⟩ => ⟨S4x4096x704, .bf16⟩
  | .hbm, ⟨63, _⟩ => ⟨S4096x2816, .f32⟩
  | .hbm, ⟨64, _⟩ => ⟨S4096x4x704, .f32⟩
  | .hbm, ⟨65, _⟩ => ⟨S4x4096x704, .f32⟩
  | .hbm, ⟨66, _⟩ => ⟨S4x4096x704, .bf16⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Proof.Common.lean ====
/-
  Small facts every value proof of this certificate uses: a select on a comparison of two row numbers is an `if`, and an
  array read at natural-number coordinates (zero outside), so that equations between shifted reads carry no bounds.
-/
module

public import Idealize.ShloMosaic.Lib.Pipeline.ValueKit
public import Idealize.ShloMosaic.Lib.Claim
public import Idealize.ShloMosaic.Lib.Pointwise
public import Idealize.ShloMosaic.Lib.WordCmp

@[expose] public section

noncomputable section

namespace Cert.Common

open Idealize.ShloMosaic
open scoped BigOperators

/-- A select on `a ≥ b` between two row numbers. -/
theorem select_sge {α : Type} (a b : ℕ) (ha : a < 2147483648) (hb : b < 2147483648) (x y : α) :
    Scalar.select (IntOp.cmpi .sge (BitVec.ofNat 32 a) (BitVec.ofNat 32 b)) x y = if b ≤ a then x else y := by
  unfold Scalar.select
  exact if_congr (WordCmp.cmpi_sge_ofNat_eq_one_iff (w := 32) (by simpa using ha) (by simpa using hb)) rfl rfl

/-- A select on `a < b` between two row numbers. -/
theorem select_slt {α : Type} (a b : ℕ) (ha : a < 2147483648) (hb : b < 2147483648) (x y : α) :
    Scalar.select (IntOp.cmpi .slt (BitVec.ofNat 32 a) (BitVec.ofNat 32 b)) x y = if a < b then x else y := by
  unfold Scalar.select
  exact if_congr (WordCmp.cmpi_slt_ofNat_eq_one_iff (w := 32) (by simpa using ha) (by simpa using hb)) rfl rfl

/-- A matrix at natural-number coordinates, zero outside. -/
def at2 {n k : ℕ} (X : (⟨2, ![n, k]⟩ : Shape).Idx → EReal) (i j : ℕ) : EReal :=
  if h : i < n ∧ j < k then X (ix2 ⟨i, h.1⟩ ⟨j, h.2⟩) else 0

theorem at2_ix {n k : ℕ} (X : (⟨2, ![n, k]⟩ : Shape).Idx → EReal) (i : Fin n) (j : Fin k) :
    X (ix2 i j) = at2 X i.val j.val := by
  unfold at2; rw [dif_pos ⟨i.isLt, j.isLt⟩]

/-- A rank-three array at natural-number coordinates, zero outside. -/
def at3 {l n k : ℕ} (X : (⟨3, ![l, n, k]⟩ : Shape).Idx → EReal) (h i j : ℕ) : EReal :=
  if p : h < l ∧ i < n ∧ j < k then X (ix3 ⟨h, p.1⟩ ⟨i, p.2.1⟩ ⟨j, p.2.2⟩) else 0

theorem at3_ix {l n k : ℕ} (X : (⟨3, ![l, n, k]⟩ : Shape).Idx → EReal) (h : Fin l) (i : Fin n) (j : Fin k) :
    X (ix3 h i j) = at3 X h.val i.val j.val := by
  unfold at3; rw [dif_pos ⟨h.isLt, i.isLt, j.isLt⟩]

/-- An index of a `1 × n × k` block. -/
theorem eq_ix3_unit {n k : ℕ} (y : (⟨3, ![1, n, k]⟩ : Shape).Idx) : ∃ (s : Fin n) (l : Fin k), y = ix3 0 s l :=
  ⟨y 1, y 2, by
    funext b
    match b with
    | ⟨0, _⟩ => exact Fin.ext (by have := (y 0).isLt; change _ < 1 at this; show (y 0).val = 0; omega)
    | ⟨1, _⟩ => rfl
    | ⟨2, _⟩ => rfl⟩

/-- A sequence moved down by `k` rows, zero above. -/
def down (k : ℕ) (f : ℕ → EReal) (s : ℕ) : EReal := if k ≤ s then f (s - k) else 0

/-- A sequence of `n` rows moved up by `k` rows, zero below. -/
def up (n k : ℕ) (f : ℕ → EReal) (s : ℕ) : EReal := if s + k < n then f (s + k) else 0

/-- A host sum over several axes, its source indices listed by a family `e`. -/
theorem hostReduceAdd_of_family {s t : Shape} {axes : List (Fin s.rank)} {ι : Type} [Fintype ι] (h : s.ReducesTo axes t)
    (x : s.Idx → EReal) (init : EReal) (j : t.Idx) (e : ι → s.Idx) (he : Function.Injective e)
    (hd : ∀ k, h.drop (e k) = j) (hs : ∀ i, h.drop i = j → ∃ k, e k = i) :
    Ideal.hostReduceAdd h x init j = init + ∑ k, x (e k) := by
  unfold Ideal.hostReduceAdd
  congr 1
  symm
  refine Finset.sum_bij (fun k _ => e k) (fun k _ => by simpa using hd k) (fun a _ b _ hab => he hab) (fun i hi => ?_)
    (fun _ _ => rfl)
  obtain ⟨k, hk⟩ := hs i (by simpa using hi)
  exact ⟨k, Finset.mem_univ _, hk⟩

/-- The sum of a `1 × 1 × n` array over its two unit axes is its entry. -/
theorem hostReduceAdd_unit_axes {n : ℕ} (h : (⟨3, ![1, 1, n]⟩ : Shape).ReducesTo [0, 1] ⟨1, ![n]⟩)
    (x : (⟨3, ![1, 1, n]⟩ : Shape).Idx → EReal) (init : EReal) (j : Fin n) :
    Ideal.hostReduceAdd h x init (ix1 j) = init + x (ix3 0 0 j) := by
  rw [hostReduceAdd_of_family h x init (ix1 j) (fun _ : Unit => ix3 0 0 j) (fun _ _ _ => rfl) (fun _ => ?_) (fun i hi => ⟨(), ?_⟩)]
  · simp
  · funext b
    have hb : b = 0 := Subsingleton.elim _ _
    subst hb
    exact Fin.ext (Shape.ReducesTo.drop_apply_val h _ 0)
  · have h0 : (h.drop i 0 : Nat) = i 2 := Shape.ReducesTo.drop_apply_val h i 0
    rw [hi] at h0
    funext b
    match b with
    | ⟨0, _⟩ => exact Fin.ext (by have := (i 0).isLt; change _ < 1 at this; show 0 = (i 0).val; omega)
    | ⟨1, _⟩ => exact Fin.ext (by have := (i 1).isLt; change _ < 1 at this; show 0 = (i 1).val; omega)
    | ⟨2, _⟩ => exact Fin.ext h0

/-- The sum of a `1 × a × b × 1` array over its two unit axes is its entry. -/
theorem hostReduceAdd_outer_units {a b : ℕ} (h : (⟨4, ![1, a, b, 1]⟩ : Shape).ReducesTo [0, 3] ⟨2, ![a, b]⟩)
    (x : (⟨4, ![1, a, b, 1]⟩ : Shape).Idx → EReal) (init : EReal) (i : Fin a) (j : Fin b) :
    Ideal.hostReduceAdd h x init (ix2 i j) = init + x (ix4 0 i j 0) := by
  rw [hostReduceAdd_of_family h x init (ix2 i j) (fun _ : Unit => ix4 0 i j 0) (fun _ _ _ => rfl) (fun _ => ?_) (fun y hy => ⟨(), ?_⟩)]
  · simp
  · funext p
    match p with
    | ⟨0, _⟩ => exact Fin.ext (Shape.ReducesTo.drop_apply_val h _ 0)
    | ⟨1, _⟩ => exact Fin.ext (Shape.ReducesTo.drop_apply_val h _ 1)
  · have h0 : (h.drop y 0 : Nat) = y 1 := Shape.ReducesTo.drop_apply_val h y 0
    have h1 : (h.drop y 1 : Nat) = y 2 := Shape.ReducesTo.drop_apply_val h y 1
    rw [hy] at h0 h1
    funext p
    match p with
    | ⟨0, _⟩ => exact Fin.ext (by have := (y 0).isLt; change _ < 1 at this; show 0 = (y 0).val; omega)
    | ⟨1, _⟩ => exact Fin.ext h0
    | ⟨2, _⟩ => exact Fin.ext h1
    | ⟨3, _⟩ => exact Fin.ext (by have := (y 3).isLt; change _ < 1 at this; show 0 = (y 3).val; omega)

/-- The sum over a `1 × n` array's indices is the sum over its row. -/
theorem sum_row {n : ℕ} (f : (⟨2, ![1, n]⟩ : Shape).Idx → EReal) : ∑ j, f j = ∑ s : Fin n, f (ix2 0 s) := by
  refine (Fintype.sum_bijective (fun s : Fin n => (ix2 0 s : (⟨2, ![1, n]⟩ : Shape).Idx)) ⟨fun a b h => congrFun h 1, fun i => ⟨i 1, ?_⟩⟩ _ _ fun _ => rfl).symm
  funext b
  match b with
  | ⟨0, _⟩ => exact Fin.ext (by have := (i 0).isLt; change _ < 1 at this; show 0 = (i 0).val; omega)
  | ⟨1, _⟩ => rfl

end Cert.Common

end
-- ==== Proof.ConvRef.lean ====
module

public import proofs.«01_k».proof.Proof.Common
public import proofs.«01_k».proof.Proof.Gen.ReferenceIdeal.Read

@[expose] public section

set_option maxRecDepth 65536

noncomputable section

namespace Cert.ConvRef

open Idealize.ShloMosaic Idealize.ShloMosaic.TcCoe Idealize.SL Idealize.SL.Sem
open Cert.ReferenceIdeal Cert.ReferenceIdeal.Gen Cert.ReferenceIdeal.Read Cert.Common
open scoped BigOperators

/-! ## The gradient of the gated short convolution, at natural-number coordinates

`U` is the projected input (gate, then the two factors), `W` the three taps, `D` the cotangent. -/

section Spec
variable (U W D : ℕ → ℕ → EReal)

/-- The convolution's input: the product of the two factors. -/
def P (s j : ℕ) : EReal := U s (768 + j) * U s (1536 + j)
/-- The cotangent of the convolution's output. -/
def G (s j : ℕ) : EReal := U s j * D s j
/-- The gradient of the gate. -/
def dGate (s j : ℕ) : EReal :=
  D s j * (P U s j * W 2 j + down 2 (fun r => P U r j) s * W 0 j + down 1 (fun r => P U r j) s * W 1 j)
/-- The gradient of the convolution's input. -/
def dP (s j : ℕ) : EReal :=
  up 4096 1 (fun r => G U D r j * W 1 j) s + up 4096 2 (fun r => G U D r j * W 0 j) s + G U D s j * W 2 j
/-- The gradient of tap `k`. -/
def dTap (k j : ℕ) : EReal := ∑ s : Fin 4096, down (2 - k) (fun r => P U r j) s.val * G U D s.val j

end Spec

/-! ## What the reference computes -/

variable (x0 : S1x4096x2560.Idx → EReal) (x1 : S3x768.Idx → EReal) (x2 : S1x4096x1024.Idx → EReal)

theorem v4_at (s : Fin 4096) (j : Fin 768) : val_main_v4 (F := Ideal) x0 (ix3 0 s j) = P (at3 x0 0) s.val j.val := by
  unfold val_main_v4 val_main_v2 val_main_v3 val_main_v0
  pointwise
  simp only [at3_ix x0]
  rfl

theorem v6_at (s : Fin 4098) (j : Fin 768) :
    val_main_v6 (F := Ideal) x0 (ix3 0 s j) = down 2 (fun r => P (at3 x0 0) r j.val) s.val := by
  unfold val_main_v6 val_main_v5 val_main_cst
  pointwise
  unfold down
  by_cases h : s.val < 2
  · rw [dif_pos h, if_neg (by omega)]
  · rw [dif_neg h]
    exact (v4_at x0 ⟨s.val - 2, by omega⟩ j).trans (if_pos (by omega)).symm

theorem v30_at (s : Fin 4096) (j : Fin 768) :
    val_main_v30 (F := Ideal) x0 x2 (ix3 0 s j) = G (at3 x0 0) (at3 x2 0) s.val j.val := by
  unfold val_main_v30 val_main_v1 val_main_v29 val_main_v0
  pointwise
  simp only [at3_ix x0, at3_ix x2]
  rfl

/-- A shifted slice of the padded product is the product moved down. -/
theorem down_down (k s : ℕ) (f : ℕ → EReal) (hk : k ≤ 2) : down 2 f (k + s) = down (2 - k) f s := by
  unfold down
  by_cases h : 2 ≤ k + s
  · rw [if_pos h, if_pos (by omega)]; congr 1; omega
  · rw [if_neg h, if_neg (by omega)]

theorem v31_at (s : Fin 4096) (j : Fin 768) :
    val_main_v31 (F := Ideal) x0 x1 x2 (ix3 0 s j) = dGate (at3 x0 0) (at2 x1) (at3 x2 0) s.val j.val := by
  unfold val_main_v31 val_main_v29 val_main_v27 val_main_v20 val_main_v26 val_main_v13 val_main_v19 val_main_v8 val_main_v12 val_main_v14 val_main_v18 val_main_v21 val_main_v25 val_main_v11 val_main_v10 val_main_v9 val_main_v17 val_main_v16 val_main_v15 val_main_v24 val_main_v23 val_main_v22
  pointwise
  simp only [v6_at, at2_ix x1, at3_ix x2, down_down 2 _ _ le_rfl, down_down 1 _ _ (by norm_num : 1 ≤ 2)]
  rfl

theorem v64_at (s : Fin 4096) (j : Fin 768) :
    val_main_v64 (F := Ideal) x0 x1 x2 (ix3 0 s j) = dP (at3 x0 0) (at2 x1) (at3 x2 0) s.val j.val := by
  unfold val_main_v64 val_main_v62 val_main_v51 val_main_v61 val_main_v40 val_main_v50 val_main_v36 val_main_v45 val_main_v56 val_main_v35 val_main_v44 val_main_v55 val_main_v11 val_main_v10 val_main_v9 val_main_v17 val_main_v16 val_main_v15 val_main_v24 val_main_v23 val_main_v22 val_main_cst_4 val_main_cst_8 val_main_cst_12
  pointwise
  simp only [v30_at, at2_ix x1, dite_eq_ite]
  unfold dP up
  congr 2
  · by_cases h : s.val + 1 < 4096
    · rw [if_pos (by omega), if_pos h, show 2 + s.val - 1 = s.val + 1 by omega]; rfl
    · rw [if_neg (by omega), if_neg h]
  · by_cases h : s.val + 2 < 4096
    · rw [if_pos (by omega), if_pos h, show 2 + s.val = s.val + 2 by omega]; rfl
    · rw [if_neg (by omega), if_neg h]

theorem v37_at (j : Fin 768) : val_main_v37 (F := Ideal) x0 x2 (ix1 j) = dTap (at3 x0 0) (at3 x2 0) 1 j.val := by
  unfold val_main_v37 val_main_v34 val_main_cst_2
  simp only [Host.reduceAdd, Ideal.hostReduceAdd_def]
  rw [hostReduceAdd_unit_axes]
  unfold val_main_v33 val_main_v32 val_main_v21 val_main_cst_1
  pointwise
  simp only [v6_at, v30_at, down_down 1 _ _ (by norm_num : 1 ≤ 2)]
  rfl

theorem v46_at (j : Fin 768) : val_main_v46 (F := Ideal) x0 x2 (ix1 j) = dTap (at3 x0 0) (at3 x2 0) 0 j.val := by
  unfold val_main_v46 val_main_v43 val_main_cst_6
  simp only [Host.reduceAdd, Ideal.hostReduceAdd_def]
  rw [hostReduceAdd_unit_axes]
  unfold val_main_v42 val_main_v41 val_main_v14 val_main_cst_5
  pointwise
  simp only [v6_at, v30_at]
  rfl

theorem v57_at (j : Fin 768) : val_main_v57 (F := Ideal) x0 x2 (ix1 j) = dTap (at3 x0 0) (at3 x2 0) 2 j.val := by
  unfold val_main_v57 val_main_v54 val_main_cst_10
  simp only [Host.reduceAdd, Ideal.hostReduceAdd_def]
  rw [hostReduceAdd_unit_axes]
  unfold val_main_v53 val_main_v52 val_main_v8 val_main_cst_9
  pointwise
  simp only [v6_at, v30_at, down_down 2 _ _ le_rfl]
  rfl

/-- The gradient of the taps, in groups of columns. -/
theorem v77_at (g : Fin 3) (s : Fin 8) (j : Fin 256) : val_main_v77 (F := Ideal) x0 x2 (ix3 g s j) =
    if s.val < 3 then dTap (at3 x0 0) (at3 x2 0) s.val (g.val * 256 + j.val) else 0 := by
  unfold val_main_v77 val_main_v76 val_main_v75 val_main_v60 val_main_v59 val_main_v49 val_main_v48 val_main_v39 val_main_v58 val_main_v47 val_main_v38 val_main_cst_3 val_main_cst_7 val_main_cst_11 val_main_call0_v0 val_main_c
  pointwise
  have hj : g.val * 256 + j.val < 768 := by omega
  simp only [v37_at, v46_at, v57_at, dite_eq_ite, hj, and_true]
  match s with
  | ⟨0, _⟩ => simp
  | ⟨1, _⟩ => simp
  | ⟨2, _⟩ => simp
  | ⟨n + 3, _⟩ => simp [FloatOps.sitofp]

/-- The gradient of the gate, in groups of columns. -/
theorem v72_at (g : Fin 3) (s : Fin 4096) (j : Fin 256) : val_main_v72 (F := Ideal) x0 x1 x2 (ix3 g s j) =
    dGate (at3 x0 0) (at2 x1) (at3 x2 0) s.val (g.val * 256 + j.val) := by
  unfold val_main_v72 val_main_v71 val_main_v70 val_main_v69 val_main_v68 val_main_v67
  pointwise
  rw [dif_pos (by omega)]
  exact v31_at x0 x1 x2 s ⟨g.val * 256 + j.val, by omega⟩

/-- The gradient of the first factor, in groups of columns. -/
theorem v73_at (g : Fin 3) (s : Fin 4096) (j : Fin 256) : val_main_v73 (F := Ideal) x0 x1 x2 (ix3 g s j) =
    dP (at3 x0 0) (at2 x1) (at3 x2 0) s.val (g.val * 256 + j.val) * at3 x0 0 s.val (1536 + (g.val * 256 + j.val)) := by
  unfold val_main_v73 val_main_v71 val_main_v70 val_main_v69 val_main_v68 val_main_v67
  pointwise
  rw [dif_neg (by omega), dif_pos (by omega)]
  unfold val_main_v66 val_main_v3 val_main_v0
  pointwise
  rw [v64_at, at3_ix x0]
  show dP _ _ _ s.val ((3 + g.val) * 256 + j.val - 768) * at3 x0 0 s.val (1536 + ((3 + g.val) * 256 + j.val - 768)) = _
  rw [show (3 + g.val) * 256 + j.val - 768 = g.val * 256 + j.val by omega]

/-- The gradient of the second factor, in groups of columns. -/
theorem v74_at (g : Fin 3) (s : Fin 4096) (j : Fin 256) : val_main_v74 (F := Ideal) x0 x1 x2 (ix3 g s j) =
    at3 x0 0 s.val (768 + (g.val * 256 + j.val)) * dP (at3 x0 0) (at2 x1) (at3 x2 0) s.val (g.val * 256 + j.val) := by
  unfold val_main_v74 val_main_v71 val_main_v70 val_main_v69 val_main_v68 val_main_v67
  pointwise
  rw [dif_neg (by omega), dif_neg (by omega)]
  unfold val_main_v65 val_main_v2 val_main_v0
  pointwise
  rw [v64_at, at3_ix x0]
  show at3 x0 0 s.val (768 + ((6 + g.val) * 256 + j.val - 768 - 768)) * dP _ _ _ s.val ((6 + g.val) * 256 + j.val - 768 - 768) = _
  rw [show (6 + g.val) * 256 + j.val - 768 - 768 = g.val * 256 + j.val by omega]

end Cert.ConvRef
end
-- ==== Proof.ConvValue.lean ====
/-
  What the backward kernel of the gated short convolution leaves in its four output arrays, at each index.
-/
module

public import proofs.«01_k».proof.Proof.Gen.KernelIdeal.Value
public import proofs.«01_k».proof.Proof.ConvRef

@[expose] public section

set_option maxRecDepth 200000

noncomputable section

namespace Cert.ConvValue

open Idealize.ShloMosaic Idealize.ShloMosaic.TcCoe Idealize.SL.Sem Idealize.ShloMosaic.Pipeline
open Cert.KernelIdeal Cert.KernelIdeal.Gen
open Cert.Common Cert.ConvRef

variable (m : (ℓ : Loc nD τ sig) → Buf (Elt Ideal) ℓ)

/-! ## The arrays the kernel is called on -/

theorem V_u (c : Dev nD) (g : Fin 10) (s : Fin 4096) (l : Fin 256) :
    V m c main_v2 (ix3 g s l) = m ((c : Thread nD τ).loc main_arg0) (ix3 (0 : Fin 1) s (⟨g.val * 256 + l.val, by omega⟩ : Fin 2560)) := by
  unfold V
  simp only [List.flatten_cons, List.flatten_nil, List.append_nil, hostOps0, hostOps0_1, hostOps0_2, hostOps0_3, hostOps0_4, List.cons_append, List.nil_append]
  after_results
  pointwise
  blk_ext

theorem V_d (c : Dev nD) (g : Fin 4) (s : Fin 4096) (l : Fin 256) :
    V m c main_v9 (ix3 g s l) = m ((c : Thread nD τ).loc main_arg2) (ix3 (0 : Fin 1) s (⟨g.val * 256 + l.val, by omega⟩ : Fin 1024)) := by
  unfold V
  simp only [List.flatten_cons, List.flatten_nil, List.append_nil, hostOps0, hostOps0_1, hostOps0_2, hostOps0_3, hostOps0_4, List.cons_append, List.nil_append]
  after_results
  pointwise
  blk_ext

theorem V_w (c : Dev nD) (g : Fin 3) (s : Fin 8) (h : s.val < 3) (l : Fin 256) :
    V m c main_v6 (ix3 g s l) = m ((c : Thread nD τ).loc main_arg1) (ix2 (⟨s.val, h⟩ : Fin 3) (⟨g.val * 256 + l.val, by omega⟩ : Fin 768)) := by
  unfold V
  simp only [List.flatten_cons, List.flatten_nil, List.append_nil, hostOps0, hostOps0_1, hostOps0_2, hostOps0_3, hostOps0_4, List.cons_append, List.nil_append]
  after_results
  simp only [StableHlo.TRef.toBuf, StableHlo.TRef.ofBuf, cast_eq]
  pointwise
  rw [dif_pos h, dif_pos h]

/-! ## The blocks of a grid point -/

theorem idx : ∀ t : Fin cfg0.N,
    win0_0.index t = ![(grid0.coords t 0).val, 0, (grid0.coords t 1).val] ∧
    win0_1.index t = ![(grid0.coords t 0).val + 3, 0, (grid0.coords t 1).val] ∧
    win0_2.index t = ![(grid0.coords t 0).val + 6, 0, (grid0.coords t 1).val] ∧
    win0_3.index t = ![(grid0.coords t 0).val, 0, (grid0.coords t 1).val] ∧
    win0_4.index t = ![(grid0.coords t 0).val, 0, (grid0.coords t 1).val] ∧
    win0_5.index t = ![(grid0.coords t 0).val, 0, (grid0.coords t 1).val] ∧
    win0_6.index t = ![(grid0.coords t 0).val, 0, (grid0.coords t 1).val] ∧
    win0_7.index t = ![(grid0.coords t 0).val, 0, (grid0.coords t 1).val] ∧
    win0_8.index t = ![(grid0.coords t 0).val, 0, (grid0.coords t 1).val] :=
  (by decide +kernel : ∀ t : Fin grid0.N, _)

/-- The column of the whole array that lane `l` of grid point `t` holds. -/
def col (t : Fin cfg0.N) (l : Fin 128) : ℕ := (grid0.coords t 0).val * 256 + ((grid0.coords t 1).val * 128 + l.val)

/-- The projected input, the taps and the cotangent, at natural-number coordinates. -/
abbrev U (c : Dev nD) : ℕ → ℕ → EReal := at3 (m ((c : Thread nD τ).loc main_arg0)) 0
abbrev W (c : Dev nD) : ℕ → ℕ → EReal := at2 (m ((c : Thread nD τ).loc main_arg1))
abbrev D (c : Dev nD) : ℕ → ℕ → EReal := at3 (m ((c : Thread nD τ).loc main_arg2)) 0

theorem iblk0 (c : Dev nD) (t : Fin cfg0.N) (s : Fin 4096) (l : Fin 128) :
    iblk m c 0 t (ix3 (0 : Fin 1) s l) = U m c s.val (col t l) := by
  have h0 : (grid0.coords t 0).val < 3 := (grid0.coords t 0).isLt
  have h1 : (grid0.coords t 1).val < 2 := (grid0.coords t 1).isLt
  refine Eq.trans ?_ ((V_u m c ⟨(grid0.coords t 0).val, by omega⟩ s ⟨(grid0.coords t 1).val * 128 + l.val, by omega⟩).trans
    (at3_ix (m ((c : Thread nD τ).loc main_arg0)) _ _ _))
  blk_ext [iblk, (idx t).1]

theorem iblk1 (c : Dev nD) (t : Fin cfg0.N) (s : Fin 4096) (l : Fin 128) :
    iblk m c 1 t (ix3 (0 : Fin 1) s l) = U m c s.val (768 + col t l) := by
  have h0 : (grid0.coords t 0).val < 3 := (grid0.coords t 0).isLt
  have h1 : (grid0.coords t 1).val < 2 := (grid0.coords t 1).isLt
  refine Eq.trans ?_ ((V_u m c ⟨(grid0.coords t 0).val + 3, by omega⟩ s ⟨(grid0.coords t 1).val * 128 + l.val, by omega⟩).trans
    ((at3_ix (m ((c : Thread nD τ).loc main_arg0)) _ _ _).trans ?_))
  · blk_ext [iblk, (idx t).2.1]
  · exact congrArg (U m c s.val) (by show ((grid0.coords t 0).val + 3) * 256 + ((grid0.coords t 1).val * 128 + l.val) = 768 + col t l; unfold col; omega)

theorem iblk2 (c : Dev nD) (t : Fin cfg0.N) (s : Fin 4096) (l : Fin 128) :
    iblk m c 2 t (ix3 (0 : Fin 1) s l) = U m c s.val (1536 + col t l) := by
  have h0 : (grid0.coords t 0).val < 3 := (grid0.coords t 0).isLt
  have h1 : (grid0.coords t 1).val < 2 := (grid0.coords t 1).isLt
  refine Eq.trans ?_ ((V_u m c ⟨(grid0.coords t 0).val + 6, by omega⟩ s ⟨(grid0.coords t 1).val * 128 + l.val, by omega⟩).trans
    ((at3_ix (m ((c : Thread nD τ).loc main_arg0)) _ _ _).trans ?_))
  · blk_ext [iblk, (idx t).2.2.1]
  · exact congrArg (U m c s.val) (by show ((grid0.coords t 0).val + 6) * 256 + ((grid0.coords t 1).val * 128 + l.val) = 1536 + col t l; unfold col; omega)

theorem iblk3 (c : Dev nD) (t : Fin cfg0.N) (k : Fin 8) (hk : k.val < 3) (l : Fin 128) :
    iblk m c 3 t (ix3 (0 : Fin 1) k l) = W m c k.val (col t l) := by
  have h0 : (grid0.coords t 0).val < 3 := (grid0.coords t 0).isLt
  have h1 : (grid0.coords t 1).val < 2 := (grid0.coords t 1).isLt
  refine Eq.trans ?_ ((V_w m c ⟨(grid0.coords t 0).val, by omega⟩ k hk ⟨(grid0.coords t 1).val * 128 + l.val, by omega⟩).trans
    (at2_ix (m ((c : Thread nD τ).loc main_arg1)) _ _))
  blk_ext [iblk, (idx t).2.2.2.1]

theorem iblk4 (c : Dev nD) (t : Fin cfg0.N) (s : Fin 4096) (l : Fin 128) :
    iblk m c 4 t (ix3 (0 : Fin 1) s l) = D m c s.val (col t l) := by
  have h0 : (grid0.coords t 0).val < 3 := (grid0.coords t 0).isLt
  have h1 : (grid0.coords t 1).val < 2 := (grid0.coords t 1).isLt
  refine Eq.trans ?_ ((V_d m c ⟨(grid0.coords t 0).val, by omega⟩ s ⟨(grid0.coords t 1).val * 128 + l.val, by omega⟩).trans
    (at3_ix (m ((c : Thread nD τ).loc main_arg2)) _ _ _))
  blk_ext [iblk, (idx t).2.2.2.2.1]

/-! ## What the body computes of its blocks -/

section Body
variable (x0 x1 x2 : Vec Ideal S1x4096x128 .f32) (x3 : Vec Ideal S1x8x128 .f32) (x4 : Vec Ideal S1x4096x128 .f32)

/-- A row moved down by a rotation and a mask. -/
theorem rot_down (k : ℕ) (hk : k < 4096) (s : Fin 4096) (f : Fin 4096 → EReal) (g : ℕ → EReal) (hg : ∀ s : Fin 4096, f s = g s.val)
    (h : (s.val + 4096 - k) % 4096 < 4096) :
    Scalar.select (IntOp.cmpi .sge (BitVec.ofNat 32 s.val) (BitVec.ofNat 32 k)) (f ⟨(s.val + 4096 - k) % 4096, h⟩) 0 = down k g s.val := by
  rw [select_sge _ _ (by omega) (by omega), hg]
  unfold down
  by_cases h1 : k ≤ s.val
  · rw [if_pos h1, if_pos h1]
    exact congrArg g (by show (s.val + 4096 - k) % 4096 = s.val - k; omega)
  · rw [if_neg h1, if_neg h1]

/-- A row moved up by a rotation and a mask. -/
theorem rot_up (k : ℕ) (hk : k < 4096) (s : Fin 4096) (f : Fin 4096 → EReal) (g : ℕ → EReal) (hg : ∀ s : Fin 4096, f s = g s.val)
    (h : (s.val + 4096 - (4096 - k)) % 4096 < 4096) :
    Scalar.select (IntOp.cmpi .slt (BitVec.ofNat 32 s.val) (BitVec.ofNat 32 (4096 - k))) (f ⟨(s.val + 4096 - (4096 - k)) % 4096, h⟩) 0 =
      up 4096 k g s.val := by
  rw [select_slt _ _ (by omega) (by omega), hg]
  unfold up
  by_cases h1 : s.val + k < 4096
  · rw [if_pos (by omega), if_pos h1]
    exact congrArg g (by show (s.val + 4096 - (4096 - k)) % 4096 = s.val + k; omega)
  · rw [if_neg (by omega), if_neg h1]

theorem down_mul (k : ℕ) (w : EReal) (f : ℕ → EReal) (s : ℕ) : down k (fun r => w * f r) s = down k f s * w := by
  unfold down; split
  · exact mul_comm _ _
  · exact (zero_mul w).symm

variable (l : Fin 128) (A B C w E : ℕ → EReal) (h0 : ∀ s : Fin 4096, x0 (ix3 0 s l) = A s.val)
  (h1 : ∀ s : Fin 4096, x1 (ix3 0 s l) = B s.val) (h2 : ∀ s : Fin 4096, x2 (ix3 0 s l) = C s.val)
  (h3 : ∀ k : Fin 8, k.val < 3 → x3 (ix3 0 k l) = w k.val) (h4 : ∀ s : Fin 4096, x4 (ix3 0 s l) = E s.val)

include h1 h2 h3 h4 in
theorem pay9_at (s : Fin 4096) : k0_pay9 x1 x2 x3 x4 (ix3 0 s l) =
    E s.val * (B s.val * C s.val * w 2 + down 2 (fun r => B r * C r) s.val * w 0 + down 1 (fun r => B r * C r) s.val * w 1) := by
  unfold_payloads
  pointwise
  rw [rot_down 1 (by norm_num) s (fun r => x3 (ix3 0 1 l) * (x1 (ix3 0 r l) * x2 (ix3 0 r l))) (fun r => w 1 * (B r * C r))
      (fun r => by rw [h1, h2, h3 1 (by decide)]; rfl),
    rot_down 2 (by norm_num) s (fun r => x3 (ix3 0 0 l) * (x1 (ix3 0 r l) * x2 (ix3 0 r l))) (fun r => w 0 * (B r * C r))
      (fun r => by rw [h1, h2, h3 0 (by decide)]; rfl), h4, h1, h2, h3 2 (by decide), down_mul, down_mul, add_right_comm, mul_comm _ (B _ * C _)]
  rfl

/-- The gradient of the convolution's input, as the body adds it up. -/
theorem dp_at (s : Fin 4096) (g : ℕ → EReal) (hg : ∀ s, g s = A s * E s) :
    w 2 * (E s.val * A s.val) + up 4096 1 (fun r => w 1 * (E r * A r)) s.val + up 4096 2 (fun r => w 0 * (E r * A r)) s.val =
      up 4096 1 (fun r => g r * w 1) s.val + up 4096 2 (fun r => g r * w 0) s.val + g s.val * w 2 := by
  have e : ∀ k r, w k * (E r * A r) = g r * w k := fun k r => by rw [hg, mul_comm (E r), mul_comm]
  simp only [e]
  rw [add_assoc, add_comm]

include h0 h2 h3 h4 in
theorem pay12_at (s : Fin 4096) (g : ℕ → EReal) (hg : ∀ s, g s = A s * E s) :
    k0_pay12 (k0_pay3 x2) (k0_pay7 x3) (k0_pay8 x4) x0 (ix3 0 s l) =
      (up 4096 1 (fun r => g r * w 1) s.val + up 4096 2 (fun r => g r * w 0) s.val + g s.val * w 2) * C s.val := by
  unfold_payloads
  pointwise
  rw [rot_up 1 (by norm_num) s (fun r => x3 (ix3 0 1 l) * (x4 (ix3 0 r l) * x0 (ix3 0 r l))) (fun r => w 1 * (E r * A r))
      (fun r => by rw [h0, h4, h3 1 (by decide)]; rfl),
    rot_up 2 (by norm_num) s (fun r => x3 (ix3 0 0 l) * (x4 (ix3 0 r l) * x0 (ix3 0 r l))) (fun r => w 0 * (E r * A r))
      (fun r => by rw [h0, h4, h3 0 (by decide)]; rfl), h4, h0, h2, h3 2 (by decide)]
  exact congrArg (· * C s.val) (dp_at A w E s g hg)

include h0 h1 h3 h4 in
theorem pay13_at (s : Fin 4096) (g : ℕ → EReal) (hg : ∀ s, g s = A s * E s) :
    k0_pay13 (k0_pay2 x1) (k0_pay7 x3) (k0_pay8 x4) x0 (ix3 0 s l) =
      B s.val * (up 4096 1 (fun r => g r * w 1) s.val + up 4096 2 (fun r => g r * w 0) s.val + g s.val * w 2) := by
  unfold_payloads
  pointwise
  rw [rot_up 1 (by norm_num) s (fun r => x3 (ix3 0 1 l) * (x4 (ix3 0 r l) * x0 (ix3 0 r l))) (fun r => w 1 * (E r * A r))
      (fun r => by rw [h0, h4, h3 1 (by decide)]; rfl),
    rot_up 2 (by norm_num) s (fun r => x3 (ix3 0 0 l) * (x4 (ix3 0 r l) * x0 (ix3 0 r l))) (fun r => w 0 * (E r * A r))
      (fun r => by rw [h0, h4, h3 0 (by decide)]; rfl), h4, h0, h1, h3 2 (by decide), mul_comm _ (B s.val)]
  exact congrArg (B s.val * ·) (dp_at A w E s g hg)

include h0 h1 h2 h4 in
theorem pay1_at (k : Fin 8) : k0_pay1 (k0_pay4 x1 x2) (k0_pay10 (k0_pay8 x4) x0) (k0_pay14 (k0_pay6 x1 x2) (k0_pay8 x4) x0)
    (k0_pay15 (k0_pay5 x1 x2) (k0_pay8 x4) x0) (ix3 0 k l) =
      if k.val < 3 then ∑ s : Fin 4096, down (2 - k.val) (fun r => B r * C r) s.val * (A s.val * E s.val) else 0 := by
  have e : ∀ (j : ℕ) (hj : j < 4096) (s : Fin 4096) (h : (s.val + 4096 - j) % 4096 < 4096),
      Scalar.select (IntOp.cmpi .sge (BitVec.ofNat 32 s.val) (BitVec.ofNat 32 j))
        (x4 (ix3 0 s l) * x0 (ix3 0 s l) * (x1 (ix3 0 ⟨(s.val + 4096 - j) % 4096, h⟩ l) * x2 (ix3 0 ⟨(s.val + 4096 - j) % 4096, h⟩ l))) 0 =
      down j (fun r => B r * C r) s.val * (A s.val * E s.val) := fun j hj s h => by
    rw [rot_down j hj s (fun r => x4 (ix3 0 s l) * x0 (ix3 0 s l) * (x1 (ix3 0 r l) * x2 (ix3 0 r l)))
      (fun r => E s.val * A s.val * (B r * C r)) (fun r => by rw [h4, h0, h1, h2]), down_mul, mul_comm (E s.val)]
  have e0 : ∀ s : Fin 4096, x4 (ix3 0 s l) * x0 (ix3 0 s l) * (x1 (ix3 0 s l) * x2 (ix3 0 s l)) =
      down 0 (fun r => B r * C r) s.val * (A s.val * E s.val) := fun s => by
    rw [h4, h0, h1, h2, mul_comm, mul_comm (E _)]; rfl
  unfold_payloads
  pointwise
  simp only [e 1 (by norm_num), e 2 (by norm_num), e0]
  match k with
  | ⟨0, _⟩ => rfl
  | ⟨1, _⟩ => rfl
  | ⟨2, _⟩ => rfl
  | ⟨n + 3, h⟩ => rw [dif_neg (by simp), dif_neg (by simp), dif_neg (by simp), if_neg (by simp)]

end Body

/-! ## The output arrays -/

theorem w5 (c : Dev nD) : (dats m 0 c).arrAt 5 cfg0.N =
    (fun i => dGate (U m c) (W m c) (D m c) (i 1).val ((i 0).val * 256 + (i 2).val) : S3x4096x256.Idx → EReal) := by
  refine (dats m 0 c).arrAt_eq_of_covers 5 _ (by decide +kernel) fun t hf y => ?_
  blk_simp
  rw [after0_5]
  frame_out
  obtain ⟨s, l, rfl⟩ := eq_ix3_unit y
  refine (pay9_at _ _ _ _ l (fun s => U m c s (768 + col t l)) (fun s => U m c s (1536 + col t l)) (fun k => W m c k (col t l)) (fun s => D m c s (col t l)) (fun s => iblk1 m c t s l) (fun s => iblk2 m c t s l) (fun k hk => iblk3 m c t k hk l) (fun s => iblk4 m c t s l) s).trans ?_
  have e1 : win0_5.index t 1 * 4096 + s.val = s.val := by rw [(idx t).2.2.2.2.2.1]; simp
  have e2 : win0_5.index t 0 * 256 + (win0_5.index t 2 * 128 + l.val) = col t l := by rw [(idx t).2.2.2.2.2.1]; rfl
  show _ = dGate (U m c) (W m c) (D m c) (win0_5.index t 1 * 4096 + s.val) (win0_5.index t 0 * 256 + (win0_5.index t 2 * 128 + l.val))
  rw [e1, e2]
  rfl

theorem w6 (c : Dev nD) : (dats m 0 c).arrAt 6 cfg0.N =
    (fun i => dP (U m c) (W m c) (D m c) (i 1).val ((i 0).val * 256 + (i 2).val) * U m c (i 1).val (1536 + ((i 0).val * 256 + (i 2).val)) : S3x4096x256.Idx → EReal) := by
  refine (dats m 0 c).arrAt_eq_of_covers 6 _ (by decide +kernel) fun t hf y => ?_
  blk_simp
  rw [after0_6]
  unfold_out out0_6
  frame_out
  obtain ⟨s, l, rfl⟩ := eq_ix3_unit y
  refine (pay12_at _ _ _ _ l (fun s => U m c s (col t l)) (fun s => U m c s (1536 + col t l)) (fun k => W m c k (col t l)) (fun s => D m c s (col t l)) (fun s => iblk0 m c t s l) (fun s => iblk2 m c t s l) (fun k hk => iblk3 m c t k hk l) (fun s => iblk4 m c t s l) s (fun s => G (U m c) (D m c) s (col t l)) (fun _ => rfl)).trans ?_
  have e1 : win0_6.index t 1 * 4096 + s.val = s.val := by rw [(idx t).2.2.2.2.2.2.1]; simp
  have e2 : win0_6.index t 0 * 256 + (win0_6.index t 2 * 128 + l.val) = col t l := by rw [(idx t).2.2.2.2.2.2.1]; rfl
  show _ = dP (U m c) (W m c) (D m c) (win0_6.index t 1 * 4096 + s.val) (win0_6.index t 0 * 256 + (win0_6.index t 2 * 128 + l.val)) * U m c (win0_6.index t 1 * 4096 + s.val) (1536 + (win0_6.index t 0 * 256 + (win0_6.index t 2 * 128 + l.val)))
  rw [e1, e2]
  rfl

theorem w7 (c : Dev nD) : (dats m 0 c).arrAt 7 cfg0.N =
    (fun i => U m c (i 1).val (768 + ((i 0).val * 256 + (i 2).val)) * dP (U m c) (W m c) (D m c) (i 1).val ((i 0).val * 256 + (i 2).val) : S3x4096x256.Idx → EReal) := by
  refine (dats m 0 c).arrAt_eq_of_covers 7 _ (by decide +kernel) fun t hf y => ?_
  blk_simp
  rw [after0_7]
  unfold_out out0_7
  frame_out
  obtain ⟨s, l, rfl⟩ := eq_ix3_unit y
  refine (pay13_at _ _ _ _ l (fun s => U m c s (col t l)) (fun s => U m c s (768 + col t l)) (fun k => W m c k (col t l)) (fun s => D m c s (col t l)) (fun s => iblk0 m c t s l) (fun s => iblk1 m c t s l) (fun k hk => iblk3 m c t k hk l) (fun s => iblk4 m c t s l) s (fun s => G (U m c) (D m c) s (col t l)) (fun _ => rfl)).trans ?_
  have e1 : win0_7.index t 1 * 4096 + s.val = s.val := by rw [(idx t).2.2.2.2.2.2.2.1]; simp
  have e2 : win0_7.index t 0 * 256 + (win0_7.index t 2 * 128 + l.val) = col t l := by rw [(idx t).2.2.2.2.2.2.2.1]; rfl
  show _ = U m c (win0_7.index t 1 * 4096 + s.val) (768 + (win0_7.index t 0 * 256 + (win0_7.index t 2 * 128 + l.val))) * dP (U m c) (W m c) (D m c) (win0_7.index t 1 * 4096 + s.val) (win0_7.index t 0 * 256 + (win0_7.index t 2 * 128 + l.val))
  rw [e1, e2]
  rfl

theorem w8 (c : Dev nD) : (dats m 0 c).arrAt 8 cfg0.N =
    (fun i => (if (i 1).val < 3 then dTap (U m c) (D m c) (i 1).val ((i 0).val * 256 + (i 2).val) else 0) : S3x8x256.Idx → EReal) := by
  refine (dats m 0 c).arrAt_eq_of_covers 8 _ (by decide +kernel) fun t hf y => ?_
  blk_simp
  rw [after0_8]
  unfold_out out0_8
  frame_out
  obtain ⟨s, l, rfl⟩ := eq_ix3_unit y
  refine (pay1_at _ _ _ _ l (fun s => U m c s (col t l)) (fun s => U m c s (768 + col t l)) (fun s => U m c s (1536 + col t l)) (fun s => D m c s (col t l)) (fun s => iblk0 m c t s l) (fun s => iblk1 m c t s l) (fun s => iblk2 m c t s l) (fun s => iblk4 m c t s l) s).trans ?_
  have e1 : win0_8.index t 1 * 8 + s.val = s.val := by rw [(idx t).2.2.2.2.2.2.2.2]; simp
  have e2 : win0_8.index t 0 * 256 + (win0_8.index t 2 * 128 + l.val) = col t l := by rw [(idx t).2.2.2.2.2.2.2.2]; rfl
  show _ = (if (win0_8.index t 1 * 8 + s.val) < 3 then dTap (U m c) (D m c) (win0_8.index t 1 * 8 + s.val) (win0_8.index t 0 * 256 + (win0_8.index t 2 * 128 + l.val)) else 0)
  rw [e1, e2]
  rfl

end Cert.ConvValue
end
-- ==== Proof.ConvClaim.lean ====
/-
  The convolution pair: over the extended reals the backward kernel's four arrays are those of the reference.
-/
module

public import proofs.«01_k».proof.Defs
public import proofs.«01_k».proof.Proof.ConvValue

@[expose] public section

noncomputable section

namespace Cert.ConvClaim

open Idealize.ShloMosaic Idealize.ShloMosaic.TcCoe Idealize.SL.Sem
open Cert.Common Cert.ConvRef

theorem algebraic : Cert.algebraic_KernelIdeal_ReferenceIdeal := by
  pair_intro
  · run_from Cert.KernelIdeal.Value.run_blocks m g
  · run_from Cert.ReferenceIdeal.Value.run m' g'
    · refine (Cert.ReferenceIdeal.Read.val_main_v72_eq m' c).trans ?_
      rw [(hagree c).1, (hagree c).2.1, (hagree c).2.2]
      refine Eq.trans (funext fun i => ?_) (Cert.ConvValue.w5 m c).symm
      obtain ⟨a, b, d, rfl⟩ : ∃ a b d, i = ix3 a b d := ⟨_, _, _, eq_ix3 i⟩
      exact v72_at _ _ _ a b d
    · refine (Cert.ReferenceIdeal.Read.val_main_v73_eq m' c).trans ?_
      rw [(hagree c).1, (hagree c).2.1, (hagree c).2.2]
      refine Eq.trans (funext fun i => ?_) (Cert.ConvValue.w6 m c).symm
      obtain ⟨a, b, d, rfl⟩ : ∃ a b d, i = ix3 a b d := ⟨_, _, _, eq_ix3 i⟩
      exact v73_at _ _ _ a b d
    · refine (Cert.ReferenceIdeal.Read.val_main_v74_eq m' c).trans ?_
      rw [(hagree c).1, (hagree c).2.1, (hagree c).2.2]
      refine Eq.trans (funext fun i => ?_) (Cert.ConvValue.w7 m c).symm
      obtain ⟨a, b, d, rfl⟩ : ∃ a b d, i = ix3 a b d := ⟨_, _, _, eq_ix3 i⟩
      exact v74_at _ _ _ a b d
    · refine (Cert.ReferenceIdeal.Read.val_main_v77_eq m' c).trans ?_
      rw [(hagree c).1, (hagree c).2.2]
      refine Eq.trans (funext fun i => ?_) (Cert.ConvValue.w8 m c).symm
      obtain ⟨a, b, d, rfl⟩ : ∃ a b d, i = ix3 a b d := ⟨_, _, _, eq_ix3 i⟩
      exact v77_at _ _ a b d

end Cert.ConvClaim
end
-- ==== Proof.Lift.lean ====
/-
  Finite extended reals: the operations of the idealized programs on coerced reals are the operations of the reals. A
  value proof under a finiteness precondition moves every coercion outwards with these and is then an equation over ℝ.
-/
module

public import proofs.«01_k».proof.Proof.Common

@[expose] public section

noncomputable section

namespace Cert.Lift

open Idealize.ShloMosaic
open scoped BigOperators

/-- A finite sum of coerced reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_mul (a b : ℝ) : (a : EReal) * b = ((a * b : ℝ) : EReal) := (EReal.coe_mul a b).symm
theorem coe_add (a b : ℝ) : (a : EReal) + b = ((a + b : ℝ) : EReal) := (EReal.coe_add a b).symm
theorem coe_sub (a b : ℝ) : (a : EReal) - b = ((a - b : ℝ) : EReal) := (EReal.coe_sub a b).symm
theorem coe_neg (a : ℝ) : -(a : EReal) = ((-a : ℝ) : EReal) := (EReal.coe_neg a).symm

/-- A quotient by a real that is not zero. -/
theorem div_coe (a b : ℝ) (hb : b ≠ 0) : Ideal.div (a : EReal) b = ((a / b : ℝ) : EReal) := by
  unfold Ideal.div
  rw [if_neg (by simpa using hb), div_eq_mul_inv, EReal.coe_mul, EReal.coe_inv]

/-- The exponential of a real. -/
theorem div_one_coe (b : ℝ) (hb : b ≠ 0) : Ideal.div 1 (b : EReal) = ((1 / b : ℝ) : EReal) := div_coe 1 b hb

theorem exp_coe (a : ℝ) : Ideal.exp (a : EReal) = ((Real.exp a : ℝ) : EReal) := by
  rfl

/-- The maximum of coerced reals, started from `-∞`. -/
theorem fold_max_coe {n : ℕ} (f : Fin (n + 1) → ℝ) :
    Finset.fold max (⊥ : EReal) (fun x => (f x : EReal)) Finset.univ = ((Finset.univ.sup' Finset.univ_nonempty f : ℝ) : EReal) := by
  rw [show Finset.fold max (⊥ : EReal) (fun x => (f x : EReal)) Finset.univ = Finset.univ.sup (fun x => (f x : EReal)) from rfl]
  apply le_antisymm
  · exact Finset.sup_le fun i hi => EReal.coe_le_coe_iff.2 (Finset.le_sup' f hi)
  · obtain ⟨i, hi, h⟩ := Finset.exists_mem_eq_sup' (Finset.univ_nonempty (α := Fin (n + 1))) f
    rw [h]
    exact Finset.le_sup (f := fun x => (f x : EReal)) hi

/-- A select on a decided bit. -/
theorem select_ite {α : Type} (p : Prop) [Decidable p] (x y : α) :
    Scalar.select (if p then 1#1 else 0#1) x y = if p then x else y := by
  unfold Scalar.select; split_ifs <;> first | rfl | (rename_i h; exact absurd h (by decide)) | contradiction

/-- A coerced real or zero. -/
theorem coe_ite (p : Prop) [Decidable p] (x : ℝ) : (if p then (x : EReal) else 0) = ((if p then x else 0 : ℝ) : EReal) := by
  split_ifs <;> simp

theorem ofBits_neg_inf : Ideal.ofBits FTy.f32 4286578688#32 = (⊥ : EReal) := by
  simp [Ideal.ofBits, Ideal.ieee]

theorem ofBits_eighth : Ideal.ofBits FTy.f32 1040187392#32 = ((1 / 8 : ℝ) : EReal) := by
  simp [Ideal.ofBits, Ideal.ieee, -EReal.coe_mul]; norm_num

theorem ofBits_inf : Ideal.ofBits FTy.f32 2139095040#32 = (⊤ : EReal) := by
  simp [Ideal.ofBits, Ideal.ieee]

/-- An entry whose magnitude compares below `+∞` is a real. -/
theorem finite_of_bit (x : EReal) (h : Ideal.cmp .olt (max x (-x)) (Ideal.ofBits FTy.f32 2139095040#32) = 1#1) : ∃ r : ℝ, x = r := by
  rw [ofBits_inf] at h
  induction x with
  | bot => simp [Ideal.cmp] at h
  | top => simp [Ideal.cmp] at h
  | coe r => exact ⟨r, rfl⟩

/-- An array whose finiteness test is all ones holds coerced reals. -/
theorem finite_of_test {s : Shape} {x y : s.Idx → Ideal .f32} (hy : ∀ i, y i = Ideal.ofBits FTy.f32 2139095040#32)
    (h : cmpf .olt (Host.absf x) y = fun _ => 1#1) : ∃ r : s.Idx → ℝ, x = fun i => (r i : EReal) := by
  have hx : ∀ i, ∃ r : ℝ, x i = r := fun i => finite_of_bit (x i) (by
    have := congrFun h i
    rw [← hy i]; exact this)
  choose r hr using hx
  exact ⟨r, funext hr⟩

/-- A real rank-three array at natural-number coordinates, zero outside. -/
def r3 {l n k : ℕ} (X : (⟨3, ![l, n, k]⟩ : Shape).Idx → ℝ) (h i j : ℕ) : ℝ :=
  if p : h < l ∧ i < n ∧ j < k then X (ix3 ⟨h, p.1⟩ ⟨i, p.2.1⟩ ⟨j, p.2.2⟩) else 0

theorem r3_ix {l n k : ℕ} (X : (⟨3, ![l, n, k]⟩ : Shape).Idx → ℝ) (h : Fin l) (i : Fin n) (j : Fin k) :
    X (ix3 h i j) = r3 X h.val i.val j.val := by
  unfold r3; rw [dif_pos ⟨h.isLt, i.isLt, j.isLt⟩]

theorem at3_coe {l n k : ℕ} (X : (⟨3, ![l, n, k]⟩ : Shape).Idx → ℝ) (h i j : ℕ) :
    Common.at3 (fun i => (X i : EReal)) h i j = (r3 X h i j : EReal) := by
  unfold Common.at3 r3; split_ifs <;> rfl

/-- A sum over blocks of rows is the sum over the rows. -/
theorem sum_blocks {M : Type} [AddCommMonoid M] (a b : ℕ) (g : ℕ → M) :
    ∑ k ∈ Finset.range a, ∑ s : Fin b, g (k * b + s.val) = ∑ s : Fin (a * b), g s.val := by
  rw [Fin.sum_univ_eq_sum_range (fun i => g i)]
  have e : ∀ k, ∑ s : Fin b, g (k * b + s.val) = ∑ s ∈ Finset.range b, g (k * b + s) := fun k =>
    Fin.sum_univ_eq_sum_range (fun i => g (k * b + i)) b
  simp only [e]
  induction a with
  | zero => simp
  | succ a ih => rw [Finset.sum_range_succ, ih, Nat.succ_mul, Finset.sum_range_add]

end Cert.Lift

end
-- ==== Proof.Attn.lean ====
/-
  The backward pass of the memory cross-attention over the reals: four heads of 64 lanes each, the weights of a row a
  softmax over the 256 memory entries. Head `h` owns the lanes `x` with `x / 64 = h`.
-/
module

public import proofs.«01_k».proof.Proof.Lift

@[expose] public section

noncomputable section

namespace Cert.Attn

open Idealize.ShloMosaic
open scoped BigOperators

/-- The 256 columns of an array from column `off` on, at a natural-number row. -/
def cols {a b c : ℕ} (X : (⟨3, ![a, b, c]⟩ : Shape).Idx → ℝ) (off s : ℕ) (l : Fin 256) : ℝ := Lift.r3 X 0 s (off + l.val)

theorem cols_ix {b c : ℕ} (X : (⟨3, ![1, b, c]⟩ : Shape).Idx → ℝ) (off : ℕ) (s : Fin b) (l : Fin 256) (i : Fin c) (hi : i.val = off + l.val) :
    X (ix3 0 s i) = cols X off s.val l := by
  rw [cols, ← hi]; exact Lift.r3_ix X 0 s i

/-- The largest entry. -/
def top (f : Fin 256 → ℝ) : ℝ := Finset.univ.sup' Finset.univ_nonempty f

/-- A sum over the lanes of head `h`. -/
def hsum (h : ℕ) (f : Fin 256 → ℝ) : ℝ := ∑ x, if x.val / 64 = h then f x else 0

/-- The scaled score of a row against memory entry `n`. -/
def sc (q : Fin 256 → ℝ) (k : Fin 256 → Fin 256 → ℝ) (h : ℕ) (n : Fin 256) : ℝ := hsum h (fun x => q x * k n x) * (1 / 8)

def ex (q : Fin 256 → ℝ) (k : Fin 256 → Fin 256 → ℝ) (h : ℕ) (n : Fin 256) : ℝ := Real.exp (sc q k h n - top (sc q k h))

/-- The softmax weight. -/
def pr (q : Fin 256 → ℝ) (k : Fin 256 → Fin 256 → ℝ) (h : ℕ) (n : Fin 256) : ℝ := ex q k h n / ∑ j, ex q k h j

/-- The cotangent of a softmax weight. -/
def dp (v : Fin 256 → Fin 256 → ℝ) (o : Fin 256 → ℝ) (h : ℕ) (n : Fin 256) : ℝ := hsum h (fun x => o x * v n x)

/-- The cotangent of an unscaled score. -/
def ds (q : Fin 256 → ℝ) (k v : Fin 256 → Fin 256 → ℝ) (o : Fin 256 → ℝ) (h : ℕ) (n : Fin 256) : ℝ :=
  pr q k h n * (dp v o h n - ∑ j, dp v o h j * pr q k h j) * (1 / 8)

/-- The cotangent of the queries of one row. -/
def dq (q : Fin 256 → ℝ) (k v : Fin 256 → Fin 256 → ℝ) (o : Fin 256 → ℝ) (l : Fin 256) : ℝ :=
  ∑ n, ds q k v o (l.val / 64) n * k n l

/-- The part of a set of rows in the cotangent of the keys. -/
def dk {R : ℕ} (q : Fin R → Fin 256 → ℝ) (k v : Fin 256 → Fin 256 → ℝ) (o : Fin R → Fin 256 → ℝ) (n l : Fin 256) : ℝ :=
  ∑ s, ds (q s) k v (o s) (l.val / 64) n * q s l

/-- The part of a set of rows in the cotangent of the values. -/
def dv {R : ℕ} (q : Fin R → Fin 256 → ℝ) (k : Fin 256 → Fin 256 → ℝ) (o : Fin R → Fin 256 → ℝ) (n l : Fin 256) : ℝ :=
  ∑ s, pr (q s) k (l.val / 64) n * o s l

theorem sum_ex_pos (q : Fin 256 → ℝ) (k : Fin 256 → Fin 256 → ℝ) (h : ℕ) : 0 < ∑ j, ex q k h j :=
  Finset.sum_pos (fun j _ => Real.exp_pos _) Finset.univ_nonempty

theorem sum_ex_ne (q : Fin 256 → ℝ) (k : Fin 256 → Fin 256 → ℝ) (h : ℕ) : (∑ j, ex q k h j) ≠ 0 := (sum_ex_pos q k h).ne'

theorem fold_max (f : Fin 256 → ℝ) :
    Finset.fold max (Ideal.ofBits FTy.f32 4286578688#32) (fun x => (f x : EReal)) Finset.univ = (top f : EReal) := by
  rw [Lift.ofBits_neg_inf]; exact Lift.fold_max_coe (n := 255) f

/-- The lane of head `h` at place `d`. -/
def lane (h : Fin 4) (d : Fin 64) : Fin 256 := ⟨h.val * 64 + d.val, by omega⟩

/-- The lanes of a head, in order. -/
theorem hsum_eq (h : Fin 4) (f : Fin 256 → ℝ) : hsum h.val f = ∑ d : Fin 64, f (lane h d) := by
  unfold hsum
  rw [← Finset.sum_filter]
  symm
  refine Finset.sum_bij (fun d _ => lane h d) (fun d _ => ?_) (fun a _ b _ hab => ?_) (fun x hx => ?_) (fun _ _ => rfl)
  · simp only [Finset.mem_filter, Finset.mem_univ, true_and, lane]; omega
  · have := congrArg Fin.val hab; simp only [lane] at this; exact Fin.ext (by omega)
  · simp only [Finset.mem_filter, Finset.mem_univ, true_and] at hx
    exact ⟨⟨x.val - h.val * 64, by omega⟩, Finset.mem_univ _, Fin.ext (by simp only [lane]; omega)⟩

theorem lane_div (h : Fin 4) (d : Fin 64) : (lane h d).val / 64 = h.val := by simp only [lane]; omega

/-- A lane belongs to one head: of four masked terms one is left. -/
theorem four_heads (l : Fin 256) (g : ℕ → ℝ) :
    (if l.val / 64 = 0 then g 0 else 0) + (if l.val / 64 = 1 then g 1 else 0) + (if l.val / 64 = 2 then g 2 else 0)
      + (if l.val / 64 = 3 then g 3 else 0) = g (l.val / 64) := by
  have : l.val / 64 = 0 ∨ l.val / 64 = 1 ∨ l.val / 64 = 2 ∨ l.val / 64 = 3 := by omega
  rcases this with h | h | h | h <;> rw [h] <;> simp

/-- The same with the mask inside each head's sum. -/
theorem four_sums {R : ℕ} (l : Fin 256) (g : ℕ → Fin R → ℝ) :
    (∑ i, if l.val / 64 = 0 then g 0 i else 0) + (∑ i, if l.val / 64 = 1 then g 1 i else 0) + (∑ i, if l.val / 64 = 2 then g 2 i else 0)
      + (∑ i, if l.val / 64 = 3 then g 3 i else 0) = ∑ i, g (l.val / 64) i := by
  rw [← four_heads l fun h => ∑ i, g h i]
  have e : ∀ (p : Prop) [Decidable p] (f : Fin R → ℝ), (∑ i, if p then f i else 0) = if p then ∑ i, f i else 0 := by
    intro p _ f; split_ifs <;> simp
  simp only [e]

end Cert.Attn

end
-- ==== Proof.XaPay.lean ====
/-
  The body of the cross-attention's backward call at one row block, over finite arguments: what it adds to the three
  gradients is the real backward pass of `Attn`.
-/
module

public import proofs.«01_k».proof.Proof.Gen.Kernel2Ideal.Value
public import proofs.«01_k».proof.Proof.Attn

@[expose] public section

set_option maxRecDepth 200000

noncomputable section

namespace Cert.XaPay

open Idealize.ShloMosaic Idealize.ShloMosaic.TcCoe Idealize.SL.Sem Idealize.ShloMosaic.Pipeline
open Cert.Kernel2Ideal Cert.Kernel2Ideal.Gen
open Cert.Common Cert.Lift
open scoped BigOperators

/-- A two-sided lane mask is the mask of one head. -/
theorem mask_bit (l : Fin 256) (h a b : ℕ) (ha : a = h * 64) (hb : b = h * 64 + 64) (hh : h < 4) :
    IntOp.andi (IntOp.cmpi .sge (BitVec.ofNat 32 l.val) (BitVec.ofNat 32 a)) (IntOp.cmpi .slt (BitVec.ofNat 32 l.val) (BitVec.ofNat 32 b))
      = if l.val / 64 = h then 1#1 else 0#1 := by
  have e1 : (IntOp.cmpi .sge (BitVec.ofNat 32 l.val) (BitVec.ofNat 32 a) = 1#1) ↔ a ≤ l.val :=
    WordCmp.cmpi_sge_ofNat_eq_one_iff (w := 32) (by have := l.isLt; norm_num; omega) (by norm_num; omega)
  have e2 : (IntOp.cmpi .slt (BitVec.ofNat 32 l.val) (BitVec.ofNat 32 b) = 1#1) ↔ l.val < b :=
    WordCmp.cmpi_slt_ofNat_eq_one_iff (w := 32) (by have := l.isLt; norm_num; omega) (by norm_num; omega)
  have bit : ∀ x : BitVec 1, x = 1#1 ∨ x = 0#1 := by decide
  rcases bit (IntOp.cmpi .sge (BitVec.ofNat 32 l.val) (BitVec.ofNat 32 a)) with h1 | h1 <;>
    rcases bit (IntOp.cmpi .slt (BitVec.ofNat 32 l.val) (BitVec.ofNat 32 b)) with h2 | h2 <;>
    rw [h1, h2] <;> rw [h1] at e1 <;> rw [h2] at e2 <;> simp at e1 e2 <;> split_ifs <;> first | rfl | (exfalso; omega)

theorem m0 (l : Fin 256) : k0_pay13 (ix2 0 l) = if l.val / 64 = 0 then 1#1 else 0#1 := by
  unfold_payloads; pointwise; exact mask_bit l 0 0 64 rfl rfl (by omega)
theorem m1 (l : Fin 256) : k0_pay14 (ix2 0 l) = if l.val / 64 = 1 then 1#1 else 0#1 := by
  unfold_payloads; pointwise; exact mask_bit l 1 64 128 rfl rfl (by omega)
theorem m2 (l : Fin 256) : k0_pay15 (ix2 0 l) = if l.val / 64 = 2 then 1#1 else 0#1 := by
  unfold_payloads; pointwise; exact mask_bit l 2 128 192 rfl rfl (by omega)
theorem m3 (l : Fin 256) : k0_pay17 (iota Kind.tc S1x256 32 [1] iota_S1x256_d1_w32) k0_pay16 256#32 (ix2 0 l)
    = if l.val / 64 = 3 then 1#1 else 0#1 := by
  unfold_payloads; pointwise; exact mask_bit l 3 192 256 rfl rfl (by omega)

section Head
variable {a d : FVec Ideal S1024x256 .f32} {k v : FVec Ideal S256x256 .f32} {b : FVec Ideal S256x256 .bf16} {w : IVec S1x256 1} {h : ℕ}
  {Q O : Fin 1024 → Fin 256 → ℝ} {K V : Fin 256 → Fin 256 → ℝ}
  (hq : ∀ s x, a (ix2 s x) = (Q s x : EReal)) (ho : ∀ s x, d (ix2 s x) = (O s x : EReal))
  (hv : ∀ n x, v (ix2 n x) = (V n x : EReal)) (hb : ∀ n x, b (ix2 n x) = (K n x : EReal))
  (hw : ∀ x : Fin 256, w (ix2 0 x) = if x.val / 64 = h then 1#1 else 0#1)

include hq hb hw in
/-- The softmax weights of one head. -/
theorem p_at (s : Fin 1024) (n : Fin 256) : k0_pay19 a b w (ix2 s n) = (Attn.pr (Q s) K h n : EReal) := by
  unfold_payloads
  pointwise
  simp only [hq, hb, hw, coe_mul, select_ite, coe_ite, coe_sum, ofBits_eighth, coe_sub, exp_coe]
  have hsc : ∀ x, (∑ i : Fin 256, if i.val / 64 = h then Q s i * K x i else 0) * (1 / 8) = Attn.sc (Q s) K h x := fun _ => rfl
  have hex : ∀ x, Real.exp (Attn.sc (Q s) K h x - Attn.top (Attn.sc (Q s) K h)) = Attn.ex (Q s) K h x := fun _ => rfl
  simp only [hsc, Attn.fold_max (Attn.sc (Q s) K h), coe_sub, exp_coe, hex, coe_sum, div_coe _ _ (Attn.sum_ex_ne (Q s) K h)]
  rfl

include hq ho hv hb hw in
/-- The score cotangents of one head. -/
theorem ds_at (s : Fin 1024) (n : Fin 256) : k0_pay21 a v b d w (ix2 s n) = (Attn.ds (Q s) K V (O s) h n : EReal) := by
  unfold_payloads
  pointwise
  simp only [hq, hb, hw, ho, hv, coe_mul, select_ite, coe_ite, coe_sum, ofBits_eighth, coe_sub, exp_coe]
  have hsc : ∀ x, (∑ i : Fin 256, if i.val / 64 = h then Q s i * K x i else 0) * (1 / 8) = Attn.sc (Q s) K h x := fun _ => rfl
  have hex : ∀ x, Real.exp (Attn.sc (Q s) K h x - Attn.top (Attn.sc (Q s) K h)) = Attn.ex (Q s) K h x := fun _ => rfl
  simp only [hsc, Attn.fold_max (Attn.sc (Q s) K h), coe_sub, exp_coe, hex, coe_sum, div_coe _ _ (Attn.sum_ex_ne (Q s) K h), coe_mul]
  have hh : ∀ (i : Fin 256) (x : ℝ), (if i.val / 64 = h then (if i.val / 64 = h then x else 0) else 0) = if i.val / 64 = h then x else 0 := by
    intro i x; split_ifs <;> rfl
  simp only [hh]
  rfl

end Head

/-! ## The three gradients of a row block -/

theorem q5_at (x : Vec Ideal S1x1024x256 .f32) (s : Fin 1024) (l : Fin 256) : k0_pay5 x (ix2 s l) = x (ix3 0 s l) := by
  unfold_payloads; pointwise
theorem q5_at' (x : Vec Ideal S1x1024x256 .f32) (s : Fin 1024) (l : Fin 256) : k0_pay9 x (ix2 s l) = x (ix3 0 s l) := q5_at x s l
theorem k6_at (x : Vec Ideal S1x256x256 .f32) (s l : Fin 256) : k0_pay6 x (ix2 s l) = x (ix3 0 s l) := by
  unfold_payloads; pointwise
theorem k8_at (x : Vec Ideal S1x256x256 .f32) (s l : Fin 256) : k0_pay8 x (ix2 s l) = x (ix3 0 s l) := by
  unfold_payloads; pointwise

/-- What the body stores for the queries of a block: `x` the queries, `d` the cotangent, `k` and `v` the memory. -/
abbrev Fq (x d : Vec Ideal S1x1024x256 .f32) (k v : Vec Ideal S1x256x256 .f32) : FVec Ideal S1x1024x256 .bf16 :=
  k0_pay1 (k0_pay6 k) (k0_pay17 (iota Kind.tc S1x256 32 [1] iota_S1x256_d1_w32) k0_pay16 256#32)
    (k0_pay39 (k0_pay6 k)
      (k0_pay30 (k0_pay22 (k0_pay5 x) (k0_pay6 k) (k0_pay7 v) (k0_pay8 k) (k0_pay9 d) k0_pay10 k0_pay13)
        (k0_pay28 (k0_pay5 x) (k0_pay7 v) (k0_pay8 k) (k0_pay9 d) k0_pay14) (k0_pay29 (k0_pay6 k) k0_pay14) (constant S1024x256 FTy.f32 0#32))
      (k0_pay36 (k0_pay5 x) (k0_pay7 v) (k0_pay8 k) (k0_pay9 d) k0_pay15) (k0_pay37 k0_pay15) k0_pay38)
    (k0_pay45 (k0_pay5 x) (k0_pay7 v) (k0_pay8 k) (k0_pay9 d) (k0_pay17 (iota Kind.tc S1x256 32 [1] iota_S1x256_d1_w32) k0_pay16 256#32))
    (FloatOps.ofBits FTy.f32 0#32)

/-- What the body stores for the keys, `r` what it found there. -/
abbrev Fk (x d : Vec Ideal S1x1024x256 .f32) (k v r : Vec Ideal S1x256x256 .f32) : FVec Ideal S1x256x256 .f32 :=
  k0_pay2 (k0_pay40
      (k0_pay31 (k0_pay23 k0_pay11 (k0_pay18 (k0_pay5 x) k0_pay13) (k0_pay21 (k0_pay5 x) (k0_pay7 v) (k0_pay8 k) (k0_pay9 d) k0_pay13)
          (constant S256x256 FTy.f32 0#32))
        (k0_pay25 (k0_pay5 x) k0_pay14) (k0_pay28 (k0_pay5 x) (k0_pay7 v) (k0_pay8 k) (k0_pay9 d) k0_pay14))
      (k0_pay33 (k0_pay5 x) k0_pay15) (k0_pay36 (k0_pay5 x) (k0_pay7 v) (k0_pay8 k) (k0_pay9 d) k0_pay15))
    (k0_pay42 (k0_pay5 x) (k0_pay17 (iota Kind.tc S1x256 32 [1] iota_S1x256_d1_w32) k0_pay16 256#32))
    (k0_pay45 (k0_pay5 x) (k0_pay7 v) (k0_pay8 k) (k0_pay9 d) (k0_pay17 (iota Kind.tc S1x256 32 [1] iota_S1x256_d1_w32) k0_pay16 256#32)) r

/-- What the body stores for the values, `r` what it found there. -/
abbrev Fv (x d : Vec Ideal S1x1024x256 .f32) (k r : Vec Ideal S1x256x256 .f32) : FVec Ideal S1x256x256 .f32 :=
  k0_pay3 (k0_pay41
      (k0_pay32 (k0_pay24 k0_pay12 (k0_pay19 (k0_pay5 x) (k0_pay8 k) k0_pay13) (k0_pay20 (k0_pay9 d) k0_pay13))
        (k0_pay26 (k0_pay5 x) (k0_pay8 k) k0_pay14) (k0_pay27 (k0_pay9 d) k0_pay14))
      (k0_pay34 (k0_pay5 x) (k0_pay8 k) k0_pay15) (k0_pay35 (k0_pay9 d) k0_pay15))
    (k0_pay43 (k0_pay5 x) (k0_pay8 k) (k0_pay17 (iota Kind.tc S1x256 32 [1] iota_S1x256_d1_w32) k0_pay16 256#32))
    (k0_pay44 (k0_pay9 d) (k0_pay17 (iota Kind.tc S1x256 32 [1] iota_S1x256_d1_w32) k0_pay16 256#32)) r

theorem p26 : @k0_pay26 Ideal _ = @k0_pay19 Ideal _ := rfl
theorem p34 : @k0_pay34 Ideal _ = @k0_pay19 Ideal _ := rfl
theorem p43 : @k0_pay43 Ideal _ = @k0_pay19 Ideal _ := rfl
theorem p28 : @k0_pay28 Ideal _ = @k0_pay21 Ideal _ := rfl
theorem p36 : @k0_pay36 Ideal _ = @k0_pay21 Ideal _ := rfl
theorem p45 : @k0_pay45 Ideal _ = @k0_pay21 Ideal _ := rfl

variable {x d : Vec Ideal S1x1024x256 .f32} {k v : Vec Ideal S1x256x256 .f32} {Q O : Fin 1024 → Fin 256 → ℝ} {K V : Fin 256 → Fin 256 → ℝ}
  (hx : ∀ s l, x (ix3 0 s l) = (Q s l : EReal)) (hd : ∀ s l, d (ix3 0 s l) = (O s l : EReal))
  (hk : ∀ n l, k (ix3 0 n l) = (K n l : EReal)) (hv : ∀ n l, v (ix3 0 n l) = (V n l : EReal))

include hx hd hk hv

theorem Fq_at (s : Fin 1024) (l : Fin 256) : Fq x d k v (ix3 0 s l) = (Attn.dq (Q s) K V (O s) l : EReal) := by
  have D := fun (w : IVec S1x256 1) (h : ℕ) hw => ds_at (h := h) (w := w) (a := k0_pay5 x) (d := k0_pay9 d) (v := k0_pay7 v) (b := k0_pay8 k)
    (fun s l => (q5_at x s l).trans (hx s l)) (fun s l => (q5_at d s l).trans (hd s l)) (fun s l => (k6_at v s l).trans (hv s l))
    (fun s l => (k8_at k s l).trans (hk s l)) hw
  unfold Fq k0_pay1 k0_pay39 k0_pay30 k0_pay22 k0_pay37 k0_pay38 k0_pay29 k0_pay10
  rw [p28, p36, p45]
  have h3 := m3
  revert h3 D
  generalize k0_pay17 (iota Kind.tc S1x256 32 [1] iota_S1x256_d1_w32) k0_pay16 256#32 = w3
  intro D h3
  pointwise
  simp only [D _ 0 m0, D _ 1 m1, D _ 2 m2, D _ 3 h3, m0, m1, m2, h3, k6_at, hk, select_ite, coe_ite, coe_mul, coe_sum, coe_add]
  exact congrArg _ (Attn.four_sums l fun h i => Attn.ds (Q s) K V (O s) h i * K i l)

theorem Fk_at (r : Vec Ideal S1x256x256 .f32) (n l : Fin 256) : Fk x d k v r (ix3 0 n l) = r (ix3 0 n l) + (Attn.dk Q K V O n l : EReal) := by
  have D := fun (w : IVec S1x256 1) (h : ℕ) hw => ds_at (h := h) (w := w) (a := k0_pay5 x) (d := k0_pay9 d) (v := k0_pay7 v) (b := k0_pay8 k)
    (fun s l => (q5_at x s l).trans (hx s l)) (fun s l => (q5_at d s l).trans (hd s l)) (fun s l => (k6_at v s l).trans (hv s l))
    (fun s l => (k8_at k s l).trans (hk s l)) hw
  unfold Fk k0_pay2 k0_pay40 k0_pay31 k0_pay23 k0_pay11 k0_pay18 k0_pay25 k0_pay33 k0_pay42
  rw [p28, p36, p45]
  have h3 := m3
  revert h3 D
  generalize k0_pay17 (iota Kind.tc S1x256 32 [1] iota_S1x256_d1_w32) k0_pay16 256#32 = w3
  intro D h3
  pointwise
  simp only [D _ 0 m0, D _ 1 m1, D _ 2 m2, D _ 3 h3, m0, m1, m2, h3, q5_at, hx, select_ite, coe_ite, coe_mul, coe_sum, coe_add]
  exact congrArg (r (ix3 0 n l) + ·) (congrArg _ (Attn.four_sums l fun h i => Attn.ds (Q i) K V (O i) h n * Q i l))

omit hv in
theorem Fv_at (r : Vec Ideal S1x256x256 .f32) (n l : Fin 256) : Fv x d k r (ix3 0 n l) = r (ix3 0 n l) + (Attn.dv Q K O n l : EReal) := by
  have P := fun (w : IVec S1x256 1) (h : ℕ) hw => p_at (h := h) (w := w) (a := k0_pay5 x) (b := k0_pay8 k)
    (fun s l => (q5_at x s l).trans (hx s l)) (fun s l => (k8_at k s l).trans (hk s l)) hw
  unfold Fv k0_pay3 k0_pay41 k0_pay32 k0_pay24 k0_pay12 k0_pay20 k0_pay27 k0_pay35 k0_pay44
  rw [p26, p34, p43]
  have h3 := m3
  revert h3 P
  generalize k0_pay17 (iota Kind.tc S1x256 32 [1] iota_S1x256_d1_w32) k0_pay16 256#32 = w3
  intro P h3
  pointwise
  simp only [P _ 0 m0, P _ 1 m1, P _ 2 m2, P _ 3 h3, m0, m1, m2, h3, q5_at', hd, select_ite, coe_ite, coe_mul, coe_sum, coe_add]
  exact congrArg (r (ix3 0 n l) + ·) (congrArg _ (Attn.four_sums l fun h i => Attn.pr (Q i) K h n * O i l))

end Cert.XaPay
-- ==== Proof.XaValue.lean ====
/-
  What the cross-attention's backward call leaves in its two output arrays, over finite arguments.
-/
module

public import proofs.«01_k».proof.Proof.XaPay

@[expose] public section

set_option maxRecDepth 200000

noncomputable section

namespace Cert.XaValue

open Idealize.ShloMosaic Idealize.ShloMosaic.TcCoe Idealize.SL.Sem Idealize.ShloMosaic.Pipeline
open Cert.Kernel2Ideal Cert.Kernel2Ideal.Gen
open Cert.Common Cert.Lift Cert.XaPay
open scoped BigOperators

variable (m : (ℓ : Loc nD τ sig) → Buf (Elt Ideal) ℓ)

theorem V_u (c : Dev nD) (g : Fin 10) (s : Fin 4096) (l : Fin 256) :
    V m c main_v2 (ix3 g s l) = m ((c : Thread nD τ).loc main_arg0) (ix3 (0 : Fin 1) s (⟨g.val * 256 + l.val, by omega⟩ : Fin 2560)) := by
  unfold V
  simp only [List.flatten_cons, List.flatten_nil, List.append_nil, hostOps0, List.cons_append, List.nil_append]
  after_results
  pointwise
  blk_ext

theorem V_kv (c : Dev nD) (g : Fin 2) (s : Fin 256) (l : Fin 256) :
    V m c main_v5 (ix3 g s l) = m ((c : Thread nD τ).loc main_arg1) (ix3 (0 : Fin 1) s (⟨g.val * 256 + l.val, by omega⟩ : Fin 512)) := by
  unfold V
  simp only [List.flatten_cons, List.flatten_nil, List.append_nil, hostOps0, List.cons_append, List.nil_append]
  after_results
  pointwise
  blk_ext

theorem V_d (c : Dev nD) (g : Fin 4) (s : Fin 4096) (l : Fin 256) :
    V m c main_v8 (ix3 g s l) = m ((c : Thread nD τ).loc main_arg2) (ix3 (0 : Fin 1) s (⟨g.val * 256 + l.val, by omega⟩ : Fin 1024)) := by
  unfold V
  simp only [List.flatten_cons, List.flatten_nil, List.append_nil, hostOps0, List.cons_append, List.nil_append]
  after_results
  pointwise
  blk_ext

theorem idx : ∀ t : Fin cfg0.N,
    win0_0.index t = ![9, t.val, 0] ∧ win0_1.index t = ![0, 0, 0] ∧ win0_2.index t = ![3, t.val, 0] ∧ win0_3.index t = ![0, t.val, 0] :=
  (by decide +kernel : ∀ t : Fin grid0.N, _)

theorem iblk0 (c : Dev nD) (t : Fin cfg0.N) (s : Fin 1024) (l : Fin 256) :
    iblk m c 0 t (ix3 (0 : Fin 1) s l) = at3 (m ((c : Thread nD τ).loc main_arg0)) 0 (t.val * 1024 + s.val) (2304 + l.val) := by
  have h0 : t.val < 4 := t.isLt
  refine Eq.trans ?_ ((V_u m c 9 ⟨t.val * 1024 + s.val, by omega⟩ l).trans (at3_ix (m ((c : Thread nD τ).loc main_arg0)) _ _ _))
  blk_ext [iblk, (idx t).1]

theorem iblk1 (c : Dev nD) (t : Fin cfg0.N) (g : Fin 2) (s : Fin 256) (l : Fin 256) :
    iblk m c 1 t (ix3 g s l) = at3 (m ((c : Thread nD τ).loc main_arg1)) 0 s.val (g.val * 256 + l.val) := by
  refine Eq.trans ?_ ((V_kv m c g s l).trans (at3_ix (m ((c : Thread nD τ).loc main_arg1)) _ _ _))
  blk_ext [iblk, (idx t).2.1]

theorem iblk2 (c : Dev nD) (t : Fin cfg0.N) (s : Fin 1024) (l : Fin 256) :
    iblk m c 2 t (ix3 (0 : Fin 1) s l) = at3 (m ((c : Thread nD τ).loc main_arg2)) 0 (t.val * 1024 + s.val) (768 + l.val) := by
  have h0 : t.val < 4 := t.isLt
  refine Eq.trans ?_ ((V_d m c 3 ⟨t.val * 1024 + s.val, by omega⟩ l).trans (at3_ix (m ((c : Thread nD τ).loc main_arg2)) _ _ _))
  blk_ext [iblk, (idx t).2.2.1]

theorem emb0 (n l : Fin 256) : (ix3 0 n l : S2x256x256.Idx) = (Rect.unit (s := S2x256x256) ![0, 0, 0] ![1, 256, 256] inb_S2x256x256_S1x256x256_0_0_0).emb (ix3 0 n l) := by
  blk_ext
theorem emb1 (n l : Fin 256) : (ix3 1 n l : S2x256x256.Idx) = (Rect.unit (s := S2x256x256) ![1, 0, 0] ![1, 256, 256] inb_S2x256x256_S1x256x256_1_0_0).emb (ix3 0 n l) := by
  blk_ext

theorem off1 (n l : Fin 256) : (ix3 0 n l : S2x256x256.Idx) ∉ (Rect.unit (s := S2x256x256) ![1, 0, 0] ![1, 256, 256] inb_S2x256x256_S1x256x256_1_0_0).set := by
  intro h
  have := (Rect.mem_set_unit.mp h 0).1
  exact absurd this (by show ¬ (1 ≤ 0); omega)
theorem off0 (n l : Fin 256) : (ix3 1 n l : S2x256x256.Idx) ∉ (Rect.unit (s := S2x256x256) ![0, 0, 0] ![1, 256, 256] inb_S2x256x256_S1x256x256_0_0_0).set := by
  intro h
  have := (Rect.mem_set_unit.mp h 0).2
  exact absurd this (by show ¬ (1 < 0 + 1); omega)

theorem zero_at (y : S2x256x256.Idx) : View.canon (Val := Elt Ideal) (e := .f32) [⟨Rect.unit ![0, 0, 0] ![2, 256, 256] inb_S2x256x256_S2x256x256_0_0_0, k0_pay4 (F := Ideal)⟩] y = (0 : EReal) := by
  have e : y = (Rect.unit (s := S2x256x256) ![0, 0, 0] ![2, 256, 256] inb_S2x256x256_S2x256x256_0_0_0).emb y := by
    obtain ⟨a, b, d, rfl⟩ : ∃ a b d, y = ix3 a b d := ⟨_, _, _, eq_ix3 y⟩
    blk_ext
  rw [e]
  refine (View.canon_cons_emb _ _ _ _).trans ?_
  obtain ⟨a, b, d, rfl⟩ : ∃ a b d, y = ix3 a b d := ⟨_, _, _, eq_ix3 y⟩
  unfold_payloads; pointwise

theorem ld0 (y : Vec Ideal S2x256x256 .f32) (n l : Fin 256) :
    View.ld y (Rect.unit ![0, 0, 0] ![1, 256, 256] inb_S2x256x256_S1x256x256_0_0_0) (ix3 0 n l) = y (ix3 0 n l) := by
  exact congrArg y (emb0 n l).symm

theorem ld1 (y : Vec Ideal S2x256x256 .f32) (n l : Fin 256) :
    View.ld y (Rect.unit ![1, 0, 0] ![1, 256, 256] inb_S2x256x256_S1x256x256_1_0_0) (ix3 0 n l) = y (ix3 1 n l) := by
  exact congrArg y (emb1 n l).symm

/-- The queries, the keys, the values and the cotangent of the attended memory. -/
abbrev q (U : S1x4096x2560.Idx → ℝ) : ℕ → Fin 256 → ℝ := Attn.cols U 2304
abbrev k (M : S1x256x512.Idx → ℝ) (n : Fin 256) : Fin 256 → ℝ := Attn.cols M 0 n.val
abbrev v (M : S1x256x512.Idx → ℝ) (n : Fin 256) : Fin 256 → ℝ := Attn.cols M 256 n.val
abbrev o (C : S1x4096x1024.Idx → ℝ) : ℕ → Fin 256 → ℝ := Attn.cols C 768

section Finite
variable {U : S1x4096x2560.Idx → ℝ} {M : S1x256x512.Idx → ℝ} {C : S1x4096x1024.Idx → ℝ} {c : Dev nD}
  (hU : m ((c : Thread nD τ).loc main_arg0) = fun i => (U i : EReal)) (hM : m ((c : Thread nD τ).loc main_arg1) = fun i => (M i : EReal))
  (hC : m ((c : Thread nD τ).loc main_arg2) = fun i => (C i : EReal))

include hU in
theorem b0 (t : Fin cfg0.N) (s : Fin 1024) (l : Fin 256) : iblk m c 0 t (ix3 0 s l) = (q U (t.val * 1024 + s.val) l : EReal) := by
  rw [iblk0, hU]; exact at3_coe U 0 _ _
include hM in
theorem b1k (t : Fin cfg0.N) (n l : Fin 256) :
    View.ld (iblk m c 1 t) (Rect.unit ![0, 0, 0] ![1, 256, 256] inb_S2x256x256_S1x256x256_0_0_0) (ix3 0 n l) = (k M n l : EReal) := by
  refine (ld0 _ n l).trans ?_
  rw [iblk1, hM]; exact at3_coe M 0 _ _
include hM in
theorem b1v (t : Fin cfg0.N) (n l : Fin 256) :
    View.ld (iblk m c 1 t) (Rect.unit ![1, 0, 0] ![1, 256, 256] inb_S2x256x256_S1x256x256_1_0_0) (ix3 0 n l) = (v M n l : EReal) := by
  refine (ld1 _ n l).trans ?_
  rw [iblk1, hM]; exact at3_coe M 0 _ _
include hC in
theorem b2 (t : Fin cfg0.N) (s : Fin 1024) (l : Fin 256) : iblk m c 2 t (ix3 0 s l) = (o C (t.val * 1024 + s.val) l : EReal) := by
  rw [iblk2, hC]; exact at3_coe C 0 _ _

include hU hM hC

theorem out3 (t : Fin cfg0.N) (s : Fin 1024) (l : Fin 256) : (outsAt0 m c t.val t.isLt).1 (ix3 0 s l) =
    (Attn.dq (q U (t.val * 1024 + s.val)) (k M) (v M) (o C (t.val * 1024 + s.val)) l : EReal) := by
  by_cases h0 : t.val % 4 = 0
  · rw [Gen.outsAt0_A m c t h0]
    frame_out
    exact Fq_at (b0 m hU t) (b2 m hC t) (b1k m hM t) (b1v m hM t) s l
  · rw [Gen.outsAt0_B m c t h0]
    frame_out
    exact Fq_at (b0 m hU t) (b2 m hC t) (b1k m hM t) (b1v m hM t) s l

theorem out4k_B (t : Fin cfg0.N) (h0 : ¬ t.val % 4 = 0) (n l : Fin 256) : (outsAt0 m c t.val t.isLt).2 (ix3 0 n l) =
    (outsAt0 m c (t.val - 1) (Nat.lt_of_le_of_lt (Nat.sub_le _ _) t.isLt)).2 (ix3 0 n l)
      + (Attn.dk (fun s : Fin 1024 => q U (t.val * 1024 + s.val)) (k M) (v M) (fun s => o C (t.val * 1024 + s.val)) n l : EReal) := by
  rw [Gen.outsAt0_B m c t h0]
  frame_out
  rw [View.canon_cons_of_not_mem]
  · rw [emb0]
    refine (View.canon_cons_emb _ _ _ _).trans ?_
    refine (Fk_at (b0 m hU t) (b2 m hC t) (b1k m hM t) (b1v m hM t) _ n l).trans ?_
    rw [ld0, ← emb0]
  · exact off1 n l

theorem out4v_B (t : Fin cfg0.N) (h0 : ¬ t.val % 4 = 0) (n l : Fin 256) : (outsAt0 m c t.val t.isLt).2 (ix3 1 n l) =
    (outsAt0 m c (t.val - 1) (Nat.lt_of_le_of_lt (Nat.sub_le _ _) t.isLt)).2 (ix3 1 n l)
      + (Attn.dv (fun s : Fin 1024 => q U (t.val * 1024 + s.val)) (k M) (fun s => o C (t.val * 1024 + s.val)) n l : EReal) := by
  rw [Gen.outsAt0_B m c t h0]
  frame_out
  rw [emb1]
  refine (View.canon_cons_emb _ _ _ _).trans ?_
  refine (Fv_at (b0 m hU t) (b2 m hC t) (b1k m hM t) _ n l).trans ?_
  rw [ld1, ← emb1]

theorem out4k_A (t : Fin cfg0.N) (h0 : t.val % 4 = 0) (n l : Fin 256) : (outsAt0 m c t.val t.isLt).2 (ix3 0 n l) =
    0 + (Attn.dk (fun s : Fin 1024 => q U (t.val * 1024 + s.val)) (k M) (v M) (fun s => o C (t.val * 1024 + s.val)) n l : EReal) := by
  rw [Gen.outsAt0_A m c t h0]
  frame_out
  rw [View.canon_cons_of_not_mem]
  · rw [emb0]
    refine (View.canon_cons_emb _ _ _ _).trans ?_
    refine (Fk_at (b0 m hU t) (b2 m hC t) (b1k m hM t) (b1v m hM t) _ n l).trans ?_
    refine congrArg (· + _) ?_
    rw [View.readCov_eq_canon']
    exact zero_at _
  · exact off1 n l

theorem out4v_A (t : Fin cfg0.N) (h0 : t.val % 4 = 0) (n l : Fin 256) : (outsAt0 m c t.val t.isLt).2 (ix3 1 n l) =
    0 + (Attn.dv (fun s : Fin 1024 => q U (t.val * 1024 + s.val)) (k M) (fun s => o C (t.val * 1024 + s.val)) n l : EReal) := by
  rw [Gen.outsAt0_A m c t h0]
  frame_out
  rw [emb1]
  refine (View.canon_cons_emb _ _ _ _).trans ?_
  refine (Fv_at (b0 m hU t) (b2 m hC t) (b1k m hM t) _ n l).trans ?_
  refine congrArg (· + _) ?_
  rw [View.readCov_eq_canon']
  refine (View.canon_cons_of_not_mem _ _ ?_).trans (zero_at _)
  exact fun h => off0 n l (emb1 n l ▸ h)

omit hU hM hC in
/-- The array of the queries' gradient, a function of a natural-number row and a lane. -/
theorem w3_of (G : ℕ → Fin 256 → EReal) (hG : ∀ (t : Fin cfg0.N) (s : Fin 1024) (l : Fin 256), (outsAt0 m c t.val t.isLt).1 (ix3 0 s l) = G (t.val * 1024 + s.val) l) :
    (dats m 0 c).arrAt 3 cfg0.N = (fun i => G (i 1).val (i 2) : S1x4096x256.Idx → EReal) := by
  refine (dats m 0 c).arrAt_eq_of_covers 3 _ (by decide +kernel) fun t hf y => ?_
  blk_simp
  rw [after0_3]
  obtain ⟨s, l, rfl⟩ := eq_ix3_unit y
  refine (hG t s l).trans ?_
  have h0 : t.val < 4 := t.isLt
  have e : (ix3 0 ⟨t.val * 1024 + s.val, by omega⟩ l : S1x4096x256.Idx) = ((cfg0.win 3).blk t).view.emb (ix3 0 s l) := by
    blk_ext [(idx t).2.2.2]
  refine congrArg₂ G ?_ (congrFun e 2)
  show _ = win0_3.index t 1 * 1024 + s.val
  rw [(idx t).2.2.2]
  rfl

theorem w3 : (dats m 0 c).arrAt 3 cfg0.N =
    (fun i => (Attn.dq (q U (i 1).val) (k M) (v M) (o C (i 1).val) (i 2) : EReal) : S1x4096x256.Idx → EReal) :=
  w3_of m (fun s l => (Attn.dq (q U s) (k M) (v M) (o C s) l : EReal)) fun t s l => out3 m hU hM hC t s l

theorem last4k (n l : Fin 256) : (outsAt0 m c 3 (by decide)).2 (ix3 0 n l) =
    (Attn.dk (fun s : Fin 4096 => q U s.val) (k M) (v M) (fun s => o C s.val) n l : EReal) := by
  refine (Pipeline.eq_sum_of_reset_step_single (N := cfg0.N) (fun t ht => (outsAt0 m c t ht).2 (ix3 0 n l) : (t : ℕ) → t < cfg0.N → EReal) 4 0
    (fun t => ((Attn.dk (fun s : Fin 1024 => q U (t * 1024 + s.val)) (k M) (v M) (fun s => o C (t * 1024 + s.val)) n l : ℝ) : EReal))
    (fun t h0 => out4k_A m hU hM hC t h0 n l) (fun t h0 => out4k_B m hU hM hC t h0 n l) (by decide) ⟨3, by decide⟩).trans ?_
  rw [coe_sum, zero_add]
  exact congrArg _ (sum_blocks 4 1024 fun s => Attn.ds (q U s) (k M) (v M) (o C s) (l.val / 64) n * q U s l)

theorem last4v (n l : Fin 256) : (outsAt0 m c 3 (by decide)).2 (ix3 1 n l) =
    (Attn.dv (fun s : Fin 4096 => q U s.val) (k M) (fun s => o C s.val) n l : EReal) := by
  refine (Pipeline.eq_sum_of_reset_step_single (N := cfg0.N) (fun t ht => (outsAt0 m c t ht).2 (ix3 1 n l) : (t : ℕ) → t < cfg0.N → EReal) 4 0
    (fun t => ((Attn.dv (fun s : Fin 1024 => q U (t * 1024 + s.val)) (k M) (fun s => o C (t * 1024 + s.val)) n l : ℝ) : EReal))
    (fun t h0 => out4v_A m hU hM hC t h0 n l) (fun t h0 => out4v_B m hU hM hC t h0 n l) (by decide) ⟨3, by decide⟩).trans ?_
  rw [coe_sum, zero_add]
  exact congrArg _ (sum_blocks 4 1024 fun s => Attn.pr (q U s) (k M) (l.val / 64) n * o C s l)

/-- The array of the keys' and values' gradients. -/
theorem w4 : (dats m 0 c).arrAt 4 cfg0.N = (fun i =>
    (if (i 0).val = 0 then (Attn.dk (fun s : Fin 4096 => q U s.val) (k M) (v M) (fun s => o C s.val) (i 1) (i 2) : EReal)
      else (Attn.dv (fun s : Fin 4096 => q U s.val) (k M) (fun s => o C s.val) (i 1) (i 2) : EReal)) : S2x256x256.Idx → EReal) := by
  refine (dats m 0 c).arrAt_eq_of_after_last 4 ⟨3, by decide⟩ (by decide +kernel) _ fun j => ?_
  obtain ⟨a, n, l, rfl⟩ : ∃ a n l, j = ix3 a n l := ⟨_, _, _, eq_ix3 j⟩
  refine (congrFun (after0_4 m c ⟨3, by decide⟩) _).trans ?_
  match a with
  | ⟨0, _⟩ => exact last4k m hU hM hC n l
  | ⟨1, _⟩ => exact last4v m hU hM hC n l

end Finite
end Cert.XaValue
-- ==== Proof.XaRef.lean ====
/-
  The reference of the cross-attention's backward pass over finite arguments, one stage after the other.
-/
module

public import proofs.«01_k».proof.Proof.Gen.Reference2Ideal.Read
public import proofs.«01_k».proof.Proof.Attn

@[expose] public section

set_option maxRecDepth 200000

noncomputable section

namespace Cert.XaRef

open Idealize.ShloMosaic Idealize.ShloMosaic.TcCoe Idealize.ShloMosaic.Pipeline
open Cert.Reference2Ideal Cert.Reference2Ideal.Read
open Cert.Common Cert.Lift Cert.Attn
open scoped BigOperators

variable (U : S1x4096x2560.Idx → ℝ) (M : S1x256x512.Idx → ℝ) (C : S1x4096x1024.Idx → ℝ)

/-- Finite arrays as the program's arguments. -/
abbrev x0 : (⟨S1x4096x2560, .f32⟩ : BufTy).Contents (Elt Ideal) := fun i => (U i : EReal)
abbrev x1 : (⟨S1x256x512, .f32⟩ : BufTy).Contents (Elt Ideal) := fun i => (M i : EReal)
abbrev x2 : (⟨S1x4096x1024, .f32⟩ : BufTy).Contents (Elt Ideal) := fun i => (C i : EReal)

abbrev q : ℕ → Fin 256 → ℝ := cols U 2304
abbrev k (n : Fin 256) : Fin 256 → ℝ := cols M 0 n.val
abbrev v (n : Fin 256) : Fin 256 → ℝ := cols M 256 n.val
abbrev o : ℕ → Fin 256 → ℝ := cols C 768

theorem v8_at (h : Fin 4) (s : Fin 4096) (n : Fin 256) :
    val_main_v8 (F := Ideal) (x0 U) (x1 M) (ix4 0 h s n) = ((sc (q U s.val) (k M) h.val n : ℝ) : EReal) := by
  unfold val_main_v8 val_main_v6 val_main_v7 val_main_cst val_main_v1 val_main_v0 val_main_v4 val_main_v2
  pointwise
  rw [sc, hsum_eq, ← coe_mul, ← coe_sum, ofBits_eighth]
  refine congrArg (· * _) (Finset.sum_congr rfl fun x _ => ?_)
  rw [← coe_mul]
  exact congrArg₂ (fun a b : ℝ => (a : EReal) * (b : EReal)) (cols_ix U 2304 s (lane h x) _ rfl) (cols_ix M 0 n (lane h x) _ (Nat.zero_add _).symm)

theorem v43_at (h : Fin 4) (s : Fin 4096) (n : Fin 256) :
    val_main_v43 (F := Ideal) (x1 M) (x2 C) (ix4 0 h s n) = ((dp (v M) (o C s.val) h.val n : ℝ) : EReal) := by
  unfold val_main_v43 val_main_v42 val_main_v41 val_main_v40 val_main_v5 val_main_v3
  pointwise
  rw [dp, hsum_eq, ← coe_sum]
  refine Finset.sum_congr rfl fun x _ => ?_
  rw [← coe_mul]
  exact congrArg₂ (fun a b : ℝ => (a : EReal) * (b : EReal)) (cols_ix C 768 s (lane h x) _ rfl) (cols_ix M 256 n (lane h x) _ rfl)

theorem v9_at (h : Fin 4) (s : Fin 4096) :
    val_main_v9 (F := Ideal) (x0 U) (x1 M) (ix3 0 h s) = ((top (sc (q U s.val) (k M) h.val) : ℝ) : EReal) := by
  have e8 := v8_at U M h s
  unfold val_main_v9
  generalize val_main_v8 (F := Ideal) (x0 U) (x1 M) = y8 at e8 ⊢
  pointwise
  simp only [e8]
  exact fold_max _

theorem v16_at (h : Fin 4) (s : Fin 4096) :
    val_main_v16 (F := Ideal) (x0 U) (x1 M) (ix3 0 h s) = ((top (sc (q U s.val) (k M) h.val) : ℝ) : EReal) := by
  rw [val_main_v16_apply, v9_at]
  show max (Ideal.ofBits FTy.f32 4286578688#32) _ = _
  rw [ofBits_neg_inf]
  exact max_eq_right bot_le

theorem v29_at (h : Fin 4) (s : Fin 4096) (n : Fin 256) :
    val_main_v29 (F := Ideal) (x0 U) (x1 M) (ix4 0 h s n) = ((ex (q U s.val) (k M) h.val n : ℝ) : EReal) := by
  have e : idx_main_v26 (idx_main_v27 (ix4 0 h s n)) = ix3 0 h s := by blk_ext
  rw [val_main_v29_apply, val_main_v28_apply, val_main_v27_apply, val_main_v26_apply, e, v8_at, v16_at]
  exact (congrArg Ideal.exp (coe_sub _ _)).trans (exp_coe _)

theorem v30_at (h : Fin 4) (s : Fin 4096) :
    val_main_v30 (F := Ideal) (x0 U) (x1 M) (ix3 0 h s) = ((∑ j, ex (q U s.val) (k M) h.val j : ℝ) : EReal) := by
  have e := v29_at U M h s
  unfold val_main_v30 val_main_cst_8
  generalize val_main_v29 (F := Ideal) (x0 U) (x1 M) = y at e ⊢
  pointwise
  simp only [e, coe_sum]

theorem v33_at (h : Fin 4) (s : Fin 4096) (n : Fin 256) :
    val_main_v33 (F := Ideal) (x0 U) (x1 M) (ix4 0 h s n) = ((pr (q U s.val) (k M) h.val n : ℝ) : EReal) := by
  have e : idx_main_v31 (idx_main_v32 (ix4 0 h s n)) = ix3 0 h s := by blk_ext
  rw [val_main_v33_apply, val_main_v32_apply, val_main_v31_apply, e, v29_at, v30_at]
  exact div_coe _ _ (sum_ex_ne _ _ _)

theorem v54_at (h : Fin 4) (s : Fin 4096) :
    val_main_v54 (F := Ideal) (x0 U) (x1 M) (x2 C) (ix2 h s) = ((-∑ j, dp (v M) (o C s.val) h.val j *
      (1 / ((∑ j, ex (q U s.val) (k M) h.val j) * ∑ j, ex (q U s.val) (k M) h.val j)) * ex (q U s.val) (k M) h.val j : ℝ) : EReal) := by
  have hz := mul_ne_zero (sum_ex_ne (q U s.val) (k M) h.val) (sum_ex_ne (q U s.val) (k M) h.val)
  have e29 := v29_at U M h s
  have e30 := v30_at U M h s
  have e43 := v43_at M C h s
  refine (hostReduceAdd_outer_units _ _ _ h s).trans ?_
  unfold val_main_v51 val_main_v50 val_main_v49 val_main_v48 val_main_v47 val_main_v46 val_main_v36 val_main_v35 val_main_v34 val_main_v31
  unfold val_main_cst_9 val_main_cst_10 val_main_cst_11
  generalize val_main_v29 (F := Ideal) (x0 U) (x1 M) = y29 at e29 ⊢
  generalize val_main_v30 (F := Ideal) (x0 U) (x1 M) = y30 at e30 ⊢
  generalize val_main_v43 (F := Ideal) (x1 M) (x2 C) = y43 at e43 ⊢
  pointwise
  simp only [e29, e30, e43, coe_mul, div_one_coe _ hz, coe_sum, coe_neg]

/-- The gradient of a quotient by the sum, brought to the softmax form. -/
theorem ds_eq (q : Fin 256 → ℝ) (k v : Fin 256 → Fin 256 → ℝ) (o : Fin 256 → ℝ) (h : ℕ) (n : Fin 256) :
    (dp v o h n / (∑ j, ex q k h j) + -∑ j, dp v o h j * (1 / ((∑ j, ex q k h j) * ∑ j, ex q k h j)) * ex q k h j) * ex q k h n * (1 / 8)
      = ds q k v o h n := by
  have hz := sum_ex_ne q k h
  have e : ∑ j, dp v o h j * (1 / ((∑ j, ex q k h j) * ∑ j, ex q k h j)) * ex q k h j = (∑ j, dp v o h j * pr q k h j) / ∑ j, ex q k h j := by
    rw [Finset.sum_div]
    refine Finset.sum_congr rfl fun j _ => ?_
    rw [pr]; field_simp
  rw [e, ds, pr]
  field_simp
  ring

theorem v60_at (h : Fin 4) (s : Fin 4096) (n : Fin 256) :
    val_main_v60 (F := Ideal) (x0 U) (x1 M) (x2 C) (ix4 0 h s n) = ((ds (q U s.val) (k M) (v M) (o C s.val) h.val n : ℝ) : EReal) := by
  have e1 : idx_main_v31 (idx_main_v52 (ix4 0 h s n)) = ix3 0 h s := by blk_ext
  have e2 : idx_main_v55 (idx_main_v56 (ix4 0 h s n)) = ix2 h s := by blk_ext
  rw [val_main_v60_apply, val_main_v58_apply, val_main_v57_apply, val_main_v53_apply, val_main_v52_apply, val_main_v31_apply,
    val_main_v56_apply, val_main_v55_apply, e1, e2, v29_at, v30_at, v43_at, v54_at]
  show (Ideal.div _ _ + _) * _ * Ideal.ofBits FTy.f32 1040187392#32 = _
  rw [div_coe _ _ (sum_ex_ne _ _ _), ofBits_eighth, coe_add, coe_mul, coe_mul]
  exact congrArg _ (ds_eq _ _ _ _ _ _)

theorem v69_at (s : Fin 4096) (l : Fin 256) :
    val_main_v69 (F := Ideal) (x0 U) (x1 M) (x2 C) (ix3 0 s l) = ((dq (q U s.val) (k M) (v M) (o C s.val) l : ℝ) : EReal) := by
  have e := fun x => v60_at U M C ⟨l.val / 64, by omega⟩ s x
  unfold val_main_v69 val_main_v68 val_main_v64 val_main_v63 val_main_v4 val_main_v2
  generalize val_main_v60 (F := Ideal) (x0 U) (x1 M) (x2 C) = y at e ⊢
  pointwise
  simp only [e]
  rw [dq, ← coe_sum]
  refine Finset.sum_congr rfl fun x _ => Eq.trans (congrArg (_ * ·) ?_) (coe_mul _ _)
  exact congrArg (fun a : ℝ => (a : EReal)) (cols_ix M 0 x l _ (Nat.zero_add _).symm)

theorem v72_dk (n l : Fin 256) :
    val_main_v72 (F := Ideal) (x0 U) (x1 M) (x2 C) (ix3 0 n l) =
      ((dk (fun s : Fin 4096 => q U s.val) (k M) (v M) (fun s => o C s.val) n l : ℝ) : EReal) := by
  have e := fun s => v60_at U M C ⟨l.val / 64, by omega⟩ s n
  unfold val_main_v72 val_main_v71 val_main_v70 val_main_v67 val_main_v66 val_main_v62 val_main_v61 val_main_v1 val_main_v0
  generalize val_main_v60 (F := Ideal) (x0 U) (x1 M) (x2 C) = y at e ⊢
  pointwise
  simp only [e]
  rw [dk, ← coe_sum]
  exact Finset.sum_congr rfl fun x _ => Eq.trans (congrArg (fun a : ℝ => _ * (a : EReal)) (cols_ix U 2304 x l _ rfl)) (coe_mul _ _)

theorem v72_dv (n l : Fin 256) :
    val_main_v72 (F := Ideal) (x0 U) (x1 M) (x2 C) (ix3 1 n l) =
      ((dv (fun s : Fin 4096 => q U s.val) (k M) (fun s => o C s.val) n l : ℝ) : EReal) := by
  have e := fun s => v33_at U M ⟨l.val / 64, by omega⟩ s n
  unfold val_main_v72 val_main_v71 val_main_v70 val_main_v67 val_main_v65 val_main_v45 val_main_v44 val_main_v42 val_main_v41 val_main_v40
  generalize val_main_v33 (F := Ideal) (x0 U) (x1 M) = y at e ⊢
  pointwise
  simp only [e]
  rw [dv, ← coe_sum]
  exact Finset.sum_congr rfl fun x _ => Eq.trans (congrArg (fun a : ℝ => (a : EReal) * _) (cols_ix C 768 x l _ rfl)) ((coe_mul _ _).trans (congrArg _ (mul_comm _ _)))

end Cert.XaRef
end
-- ==== Proof.XaClaim.lean ====
/-
  The cross-attention pair: for finite arguments the backward kernel's two arrays are those of the reference.
-/
module

public import proofs.«01_k».proof.Defs
public import proofs.«01_k».proof.Proof.XaValue
public import proofs.«01_k».proof.Proof.XaRef

@[expose] public section

noncomputable section

namespace Cert.XaClaim

open Idealize.ShloMosaic Idealize.ShloMosaic.TcCoe Idealize.SL.Sem
open Cert.Common Cert.Lift Cert.XaRef

theorem pre_facts : Cert.Pre_finite2.Facts := ⟨by decide, by decide, by decide⟩

attribute [local instance] pre_facts

/-- Finite argument arrays are real arrays. -/
theorem args {m : (ℓ : Loc Cert.Kernel2Ideal.nD Cert.Kernel2Ideal.τ Cert.Kernel2Ideal.sig) → Buf (Elt Ideal) ℓ}
    (h : Cert.Pre_Kernel2Ideal_finite2 m) (c : Dev Cert.Kernel2Ideal.nD) :
    ∃ (U : Cert.Kernel2Ideal.S1x4096x2560.Idx → ℝ) (M : Cert.Kernel2Ideal.S1x256x512.Idx → ℝ) (C : Cert.Kernel2Ideal.S1x4096x1024.Idx → ℝ),
      (m ((c.tc : Thread Cert.Kernel2Ideal.nD Cert.Kernel2Ideal.τ).loc Cert.Kernel2Ideal.main_arg0) = fun i => (U i : EReal))
        ∧ (m ((c.tc : Thread Cert.Kernel2Ideal.nD Cert.Kernel2Ideal.τ).loc Cert.Kernel2Ideal.main_arg1) = fun i => (M i : EReal))
        ∧ (m ((c.tc : Thread Cert.Kernel2Ideal.nD Cert.Kernel2Ideal.τ).loc Cert.Kernel2Ideal.main_arg2) = fun i => (C i : EReal)) := by
  obtain ⟨h0, h1, h2⟩ := h c
  obtain ⟨U, hU⟩ := finite_of_test (fun _ => rfl) h0
  obtain ⟨M, hM⟩ := finite_of_test (fun _ => rfl) h1
  obtain ⟨C, hC⟩ := finite_of_test (fun _ => rfl) h2
  exact ⟨U, M, C, hU, hM, hC⟩

theorem algebraic : Cert.algebraic_Kernel2Ideal_Reference2Ideal_pre_finite2 := by
  pair_intro
  · run_from Cert.Kernel2Ideal.Value.run_blocks m g
  · run_from Cert.Reference2Ideal.Value.run m' g'
    · obtain ⟨U, M, C, hU, hM, hC⟩ := args hpre c
      refine (Cert.Reference2Ideal.Read.val_main_v69_eq m' c).trans ?_
      rw [(hagree c).1, (hagree c).2.1, (hagree c).2.2]
      refine Eq.trans (funext fun i => ?_) (Cert.XaValue.w3 m hU hM hC).symm
      rw [hU, hM, hC]
      obtain ⟨s, l, rfl⟩ := eq_ix3_unit i
      exact v69_at U M C s l
    · obtain ⟨U, M, C, hU, hM, hC⟩ := args hpre c
      refine (Cert.Reference2Ideal.Read.val_main_v72_eq m' c).trans ?_
      rw [(hagree c).1, (hagree c).2.1, (hagree c).2.2]
      refine Eq.trans (funext fun i => ?_) (Cert.XaValue.w4 m hU hM hC).symm
      rw [hU, hM, hC]
      obtain ⟨a, n, l, rfl⟩ : ∃ a n l, i = ix3 a n l := ⟨_, _, _, eq_ix3 i⟩
      match a with
      | 0 => exact v72_dk U M C n l
      | 1 => exact v72_dv U M C n l

end Cert.XaClaim
end
-- ==== Proof.XbValue.lean ====
/-
  What the cross-attention's backward call of the matrix-LSTM layer leaves in its two output arrays, over finite
  arguments: its body has the terms of the first layer's call (`XaPay`), and copies the gate's groups.
-/
module

public import proofs.«01_k».proof.Proof.XaValue
public import proofs.«01_k».proof.Proof.Gen.Kernel3Ideal.Value

@[expose] public section

set_option maxRecDepth 200000

noncomputable section

namespace Cert.XbValue

open Idealize.ShloMosaic Idealize.ShloMosaic.TcCoe Idealize.SL.Sem Idealize.ShloMosaic.Pipeline
open Cert.Kernel3Ideal Cert.Kernel3Ideal.Gen
open Cert.Common Cert.Lift Cert.XaPay
open Cert.XaValue (emb0 emb1 off0 off1 zero_at ld0 ld1 k v o)
open scoped BigOperators

variable (m : (ℓ : Loc nD τ sig) → Buf (Elt Ideal) ℓ)

theorem V_u (c : Dev nD) (s : Fin 4096) (l : Fin 256) :
    V m c main_v22 (ix3 16 s l) = m ((c : Thread nD τ).loc main_arg0) (ix3 (0 : Fin 1) s (⟨3080 + l.val, by omega⟩ : Fin 3336)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  after_results
  pointwise
  simp only [↓ StableHlo.readResult]
  pointwise

theorem V_kv (c : Dev nD) (g : Fin 2) (s : Fin 256) (l : Fin 256) :
    V m c main_v25 (ix3 g s l) = m ((c : Thread nD τ).loc main_arg1) (ix3 (0 : Fin 1) s (⟨g.val * 256 + l.val, by omega⟩ : Fin 512)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  after_results
  pointwise
  blk_ext

theorem V_d (c : Dev nD) (s : Fin 4096) (l : Fin 256) :
    V m c main_v34 (ix3 4 s l) = m ((c : Thread nD τ).loc main_arg2) (ix3 (0 : Fin 1) s (⟨768 + l.val, by omega⟩ : Fin 1024)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  after_results
  pointwise

theorem V_du (c : Dev nD) : V m c main_v35_0 = m ((c : Thread nD τ).loc main_arg3) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  after_results
  rfl

theorem V_dg (c : Dev nD) : V m c main_arg4 = m ((c : Thread nD τ).loc main_arg4) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  after_results

theorem idx : ∀ t : Fin cfg0.N,
    win0_0.index t = ![16, t.val, 0] ∧ win0_1.index t = ![0, 0, 0] ∧ win0_2.index t = ![4, t.val, 0] ∧ win0_3.index t = ![0, t.val, 0]
      ∧ win0_4.index t = ![8, t.val, 0] :=
  (by decide +kernel : ∀ t : Fin grid0.N, _)

theorem iblk0 (c : Dev nD) (t : Fin cfg0.N) (s : Fin 1024) (l : Fin 256) :
    iblk m c 0 t (ix3 (0 : Fin 1) s l) = at3 (m ((c : Thread nD τ).loc main_arg0)) 0 (t.val * 1024 + s.val) (3080 + l.val) := by
  have h0 : t.val < 4 := t.isLt
  refine Eq.trans ?_ ((V_u m c ⟨t.val * 1024 + s.val, by omega⟩ l).trans (at3_ix (m ((c : Thread nD τ).loc main_arg0)) _ _ _))
  blk_ext [iblk, (idx t).1]

theorem iblk1 (c : Dev nD) (t : Fin cfg0.N) (g : Fin 2) (s : Fin 256) (l : Fin 256) :
    iblk m c 1 t (ix3 g s l) = at3 (m ((c : Thread nD τ).loc main_arg1)) 0 s.val (g.val * 256 + l.val) := by
  refine Eq.trans ?_ ((V_kv m c g s l).trans (at3_ix (m ((c : Thread nD τ).loc main_arg1)) _ _ _))
  blk_ext [iblk, (idx t).2.1]

theorem iblk2 (c : Dev nD) (t : Fin cfg0.N) (s : Fin 1024) (l : Fin 256) :
    iblk m c 2 t (ix3 (0 : Fin 1) s l) = at3 (m ((c : Thread nD τ).loc main_arg2)) 0 (t.val * 1024 + s.val) (768 + l.val) := by
  have h0 : t.val < 4 := t.isLt
  refine Eq.trans ?_ ((V_d m c ⟨t.val * 1024 + s.val, by omega⟩ l).trans (at3_ix (m ((c : Thread nD τ).loc main_arg2)) _ _ _))
  blk_ext [iblk, (idx t).2.2.1]

theorem iblk3 (c : Dev nD) (t : Fin cfg0.N) (s : Fin 1024) (l : Fin 256) :
    iblk m c 3 t (ix3 (0 : Fin 1) s l) = at3 (m ((c : Thread nD τ).loc main_arg4)) 0 (t.val * 1024 + s.val) l.val := by
  have h0 : t.val < 4 := t.isLt
  refine Eq.trans ?_ ((congrFun (V_dg m c) (ix3 0 ⟨t.val * 1024 + s.val, by omega⟩ l)).trans (at3_ix (m ((c : Thread nD τ).loc main_arg4)) _ _ _))
  blk_ext [iblk, (idx t).2.2.2.1]

abbrev q (U : S1x4096x3336.Idx → ℝ) : ℕ → Fin 256 → ℝ := Attn.cols U 3080

theorem off4 (s : Fin 1024) (l : Fin 256) :
    (ix3 0 s l : S2x1024x256.Idx) ∉ (Rect.unit (s := S2x1024x256) ![1, 0, 0] ![1, 1024, 256] inb_S2x1024x256_S1x1024x256_1_0_0).set := by
  intro h
  have := (Rect.mem_set_unit.mp h 0).1
  exact absurd this (by show ¬ (1 ≤ 0); omega)

/-- The buffer of the column gradients: its last two groups are written, the others keep what they held. -/
theorem w4_of (c : Dev nD) (G : ℕ → ℕ → Fin 256 → EReal) (hG : ∀ (t : Fin cfg0.N) (a : Fin 2) (s : Fin 1024) (l : Fin 256),
      (outsAt0 m c t.val t.isLt).1 (ix3 a s l) = G (16 + a.val) (t.val * 1024 + s.val) l) :
    (dats m 0 c).arrAt 4 cfg0.N = (fun i => if 8 ≤ (i 0).val / 2 then G (i 0).val (i 1).val (i 2) else V m c main_v35_0 i : S18x4096x256.Idx → EReal) := by
  refine (dats m 0 c).arrAt_eq_of_coversWhere 4 (fun i => G (i 0).val (i 1).val (i 2) : S18x4096x256.Idx → EReal) (fun β => 8 ≤ β (0 : Fin _)) (by decide +kernel) (fun t hf y => ?_) (fun j => Iff.rfl)
  blk_simp
  rw [after0_4]
  obtain ⟨a, s, l, rfl⟩ : ∃ a s l, y = ix3 a s l := ⟨_, _, _, eq_ix3 y⟩
  refine (hG t a s l).trans ?_
  have h0 : t.val < 4 := t.isLt
  have e : (ix3 ⟨16 + a.val, by omega⟩ ⟨t.val * 1024 + s.val, by omega⟩ l : S18x4096x256.Idx) = ((cfg0.win 4).blk t).view.emb (ix3 a s l) := by
    blk_ext [(idx t).2.2.2.2]
  have h1 : win0_4.index t 0 = 8 := by rw [(idx t).2.2.2.2]; rfl
  have h2 : win0_4.index t 1 = t.val := by rw [(idx t).2.2.2.2]; rfl
  show G (16 + a.val) (t.val * 1024 + s.val) l = G (win0_4.index t 0 * 2 + a.val) (win0_4.index t 1 * 1024 + s.val) _
  rw [h1, h2]
  exact congrArg (G _ _) (congrFun e 2)

section Finite
variable {U : S1x4096x3336.Idx → ℝ} {M : S1x256x512.Idx → ℝ} {C : S1x4096x1024.Idx → ℝ} {c : Dev nD}
  (hU : m ((c : Thread nD τ).loc main_arg0) = fun i => (U i : EReal)) (hM : m ((c : Thread nD τ).loc main_arg1) = fun i => (M i : EReal))
  (hC : m ((c : Thread nD τ).loc main_arg2) = fun i => (C i : EReal))

include hU in
theorem b0 (t : Fin cfg0.N) (s : Fin 1024) (l : Fin 256) : iblk m c 0 t (ix3 0 s l) = (q U (t.val * 1024 + s.val) l : EReal) := by
  rw [iblk0, hU]; exact at3_coe U 0 _ _
include hM in
theorem b1k (t : Fin cfg0.N) (n l : Fin 256) :
    View.ld (iblk m c 1 t) (Rect.unit ![0, 0, 0] ![1, 256, 256] inb_S2x256x256_S1x256x256_0_0_0) (ix3 0 n l) = (k M n l : EReal) := by
  refine (ld0 _ n l).trans ?_
  rw [iblk1, hM]; exact at3_coe M 0 _ _
include hM in
theorem b1v (t : Fin cfg0.N) (n l : Fin 256) :
    View.ld (iblk m c 1 t) (Rect.unit ![1, 0, 0] ![1, 256, 256] inb_S2x256x256_S1x256x256_1_0_0) (ix3 0 n l) = (v M n l : EReal) := by
  refine (ld1 _ n l).trans ?_
  rw [iblk1, hM]; exact at3_coe M 0 _ _
include hC in
theorem b2 (t : Fin cfg0.N) (s : Fin 1024) (l : Fin 256) : iblk m c 2 t (ix3 0 s l) = (o C (t.val * 1024 + s.val) l : EReal) := by
  rw [iblk2, hC]; exact at3_coe C 0 _ _

include hU hM hC

omit hU hM hC in
theorem at0 (P Q : FVec Ideal S1x1024x256 .bf16) (s : Fin 1024) (l : Fin 256) :
    View.canon (Val := Elt Ideal) (e := .bf16) [⟨Rect.unit ![1, 0, 0] ![1, 1024, 256] inb_S2x1024x256_S1x1024x256_1_0_0, P⟩,
      ⟨Rect.unit ![0, 0, 0] ![1, 1024, 256] inb_S2x1024x256_S1x1024x256_0_0_0, Q⟩] (ix3 0 s l) = Q (ix3 0 s l) := by
  have e : (ix3 0 s l : S2x1024x256.Idx) = (Rect.unit (s := S2x1024x256) ![0, 0, 0] ![1, 1024, 256] inb_S2x1024x256_S1x1024x256_0_0_0).emb (ix3 0 s l) := by
    blk_ext
  rw [View.canon_cons_of_not_mem, e]
  · exact View.canon_cons_emb _ _ _ _
  · exact off4 s l

omit hU hM hC in
theorem at1 (P Q : FVec Ideal S1x1024x256 .bf16) (s : Fin 1024) (l : Fin 256) :
    View.canon (Val := Elt Ideal) (e := .bf16) [⟨Rect.unit ![1, 0, 0] ![1, 1024, 256] inb_S2x1024x256_S1x1024x256_1_0_0, P⟩,
      ⟨Rect.unit ![0, 0, 0] ![1, 1024, 256] inb_S2x1024x256_S1x1024x256_0_0_0, Q⟩] (ix3 1 s l) = P (ix3 0 s l) := by
  have e : (ix3 1 s l : S2x1024x256.Idx) = (Rect.unit (s := S2x1024x256) ![1, 0, 0] ![1, 1024, 256] inb_S2x1024x256_S1x1024x256_1_0_0).emb (ix3 0 s l) := by
    blk_ext
  rw [e]
  exact View.canon_cons_emb _ _ _ _

theorem out4q (t : Fin cfg0.N) (s : Fin 1024) (l : Fin 256) : (outsAt0 m c t.val t.isLt).1 (ix3 0 s l) =
    (Attn.dq (q U (t.val * 1024 + s.val)) (k M) (v M) (o C (t.val * 1024 + s.val)) l : EReal) := by
  by_cases h0 : t.val % 4 = 0
  · rw [Gen.outsAt0_A m c t h0]
    frame_out
    exact (at0 _ _ s l).trans (Fq_at (b0 m hU t) (b2 m hC t) (b1k m hM t) (b1v m hM t) s l)
  · rw [Gen.outsAt0_B m c t h0]
    frame_out
    exact (at0 _ _ s l).trans (Fq_at (b0 m hU t) (b2 m hC t) (b1k m hM t) (b1v m hM t) s l)

omit hU hM hC in
theorem out4g (t : Fin cfg0.N) (s : Fin 1024) (l : Fin 256) : (outsAt0 m c t.val t.isLt).1 (ix3 1 s l) =
    at3 (m ((c : Thread nD τ).loc main_arg4)) 0 (t.val * 1024 + s.val) l.val := by
  refine Eq.trans ?_ (iblk3 m c t s l)
  by_cases h0 : t.val % 4 = 0
  · rw [Gen.outsAt0_A m c t h0]
    frame_out
    refine (at1 _ _ s l).trans ?_
    unfold_payloads; pointwise
  · rw [Gen.outsAt0_B m c t h0]
    frame_out
    refine (at1 _ _ s l).trans ?_
    unfold_payloads; pointwise

theorem out5k_B (t : Fin cfg0.N) (h0 : ¬ t.val % 4 = 0) (n l : Fin 256) : (outsAt0 m c t.val t.isLt).2 (ix3 0 n l) =
    (outsAt0 m c (t.val - 1) (Nat.lt_of_le_of_lt (Nat.sub_le _ _) t.isLt)).2 (ix3 0 n l)
      + (Attn.dk (fun s : Fin 1024 => q U (t.val * 1024 + s.val)) (k M) (v M) (fun s => o C (t.val * 1024 + s.val)) n l : EReal) := by
  rw [Gen.outsAt0_B m c t h0]
  frame_out
  rw [View.canon_cons_of_not_mem]
  · rw [emb0]
    refine (View.canon_cons_emb _ _ _ _).trans ?_
    refine (Fk_at (b0 m hU t) (b2 m hC t) (b1k m hM t) (b1v m hM t) _ n l).trans ?_
    rw [ld0, ← emb0]
  · exact off1 n l

theorem out5v_B (t : Fin cfg0.N) (h0 : ¬ t.val % 4 = 0) (n l : Fin 256) : (outsAt0 m c t.val t.isLt).2 (ix3 1 n l) =
    (outsAt0 m c (t.val - 1) (Nat.lt_of_le_of_lt (Nat.sub_le _ _) t.isLt)).2 (ix3 1 n l)
      + (Attn.dv (fun s : Fin 1024 => q U (t.val * 1024 + s.val)) (k M) (fun s => o C (t.val * 1024 + s.val)) n l : EReal) := by
  rw [Gen.outsAt0_B m c t h0]
  frame_out
  rw [emb1]
  refine (View.canon_cons_emb _ _ _ _).trans ?_
  refine (Fv_at (b0 m hU t) (b2 m hC t) (b1k m hM t) _ n l).trans ?_
  rw [ld1, ← emb1]

theorem out5k_A (t : Fin cfg0.N) (h0 : t.val % 4 = 0) (n l : Fin 256) : (outsAt0 m c t.val t.isLt).2 (ix3 0 n l) =
    0 + (Attn.dk (fun s : Fin 1024 => q U (t.val * 1024 + s.val)) (k M) (v M) (fun s => o C (t.val * 1024 + s.val)) n l : EReal) := by
  rw [Gen.outsAt0_A m c t h0]
  frame_out
  rw [View.canon_cons_of_not_mem]
  · rw [emb0]
    refine (View.canon_cons_emb _ _ _ _).trans ?_
    refine (Fk_at (b0 m hU t) (b2 m hC t) (b1k m hM t) (b1v m hM t) _ n l).trans ?_
    refine congrArg (· + _) ?_
    rw [View.readCov_eq_canon']
    exact zero_at _
  · exact off1 n l

theorem out5v_A (t : Fin cfg0.N) (h0 : t.val % 4 = 0) (n l : Fin 256) : (outsAt0 m c t.val t.isLt).2 (ix3 1 n l) =
    0 + (Attn.dv (fun s : Fin 1024 => q U (t.val * 1024 + s.val)) (k M) (fun s => o C (t.val * 1024 + s.val)) n l : EReal) := by
  rw [Gen.outsAt0_A m c t h0]
  frame_out
  rw [emb1]
  refine (View.canon_cons_emb _ _ _ _).trans ?_
  refine (Fv_at (b0 m hU t) (b2 m hC t) (b1k m hM t) _ n l).trans ?_
  refine congrArg (· + _) ?_
  rw [View.readCov_eq_canon']
  refine (View.canon_cons_of_not_mem _ _ ?_).trans (zero_at _)
  exact fun h => off0 n l (emb1 n l ▸ h)

theorem last5k (n l : Fin 256) : (outsAt0 m c 3 (by decide)).2 (ix3 0 n l) =
    (Attn.dk (fun s : Fin 4096 => q U s.val) (k M) (v M) (fun s => o C s.val) n l : EReal) := by
  refine (Pipeline.eq_sum_of_reset_step_single (N := cfg0.N) (fun t ht => (outsAt0 m c t ht).2 (ix3 0 n l) : (t : ℕ) → t < cfg0.N → EReal) 4 0
    (fun t => ((Attn.dk (fun s : Fin 1024 => q U (t * 1024 + s.val)) (k M) (v M) (fun s => o C (t * 1024 + s.val)) n l : ℝ) : EReal))
    (fun t h0 => out5k_A m hU hM hC t h0 n l) (fun t h0 => out5k_B m hU hM hC t h0 n l) (by decide) ⟨3, by decide⟩).trans ?_
  rw [coe_sum, zero_add]
  exact congrArg _ (sum_blocks 4 1024 fun s => Attn.ds (q U s) (k M) (v M) (o C s) (l.val / 64) n * q U s l)

theorem last5v (n l : Fin 256) : (outsAt0 m c 3 (by decide)).2 (ix3 1 n l) =
    (Attn.dv (fun s : Fin 4096 => q U s.val) (k M) (fun s => o C s.val) n l : EReal) := by
  refine (Pipeline.eq_sum_of_reset_step_single (N := cfg0.N) (fun t ht => (outsAt0 m c t ht).2 (ix3 1 n l) : (t : ℕ) → t < cfg0.N → EReal) 4 0
    (fun t => ((Attn.dv (fun s : Fin 1024 => q U (t * 1024 + s.val)) (k M) (fun s => o C (t * 1024 + s.val)) n l : ℝ) : EReal))
    (fun t h0 => out5v_A m hU hM hC t h0 n l) (fun t h0 => out5v_B m hU hM hC t h0 n l) (by decide) ⟨3, by decide⟩).trans ?_
  rw [coe_sum, zero_add]
  exact congrArg _ (sum_blocks 4 1024 fun s => Attn.pr (q U s) (k M) (l.val / 64) n * o C s l)

/-- The array of the keys' and values' gradients. -/
theorem w5 : (dats m 0 c).arrAt 5 cfg0.N = (fun i =>
    (if (i 0).val = 0 then (Attn.dk (fun s : Fin 4096 => q U s.val) (k M) (v M) (fun s => o C s.val) (i 1) (i 2) : EReal)
      else (Attn.dv (fun s : Fin 4096 => q U s.val) (k M) (fun s => o C s.val) (i 1) (i 2) : EReal)) : S2x256x256.Idx → EReal) := by
  refine (dats m 0 c).arrAt_eq_of_after_last 5 ⟨3, by decide⟩ (by decide +kernel) _ fun j => ?_
  obtain ⟨a, n, l, rfl⟩ : ∃ a n l, j = ix3 a n l := ⟨_, _, _, eq_ix3 j⟩
  refine (congrFun (after0_5 m c ⟨3, by decide⟩) _).trans ?_
  match a with
  | ⟨0, _⟩ => exact last5k m hU hM hC n l
  | ⟨1, _⟩ => exact last5v m hU hM hC n l

/-- The buffer of the column gradients: the queries' group, the gate's, and what it held. -/
theorem w4 : (dats m 0 c).arrAt 4 cfg0.N = (fun i => if 8 ≤ (i 0).val / 2 then
      (if (i 0).val = 16 then (Attn.dq (q U (i 1).val) (k M) (v M) (o C (i 1).val) (i 2) : EReal)
        else at3 (m ((c : Thread nD τ).loc main_arg4)) 0 (i 1).val (i 2).val)
      else m ((c : Thread nD τ).loc main_arg3) i : S18x4096x256.Idx → EReal) := by
  rw [← V_du m c]
  exact w4_of m c (fun g s l => if g = 16 then (Attn.dq (q U s) (k M) (v M) (o C s) l : EReal)
    else at3 (m ((c : Thread nD τ).loc main_arg4)) 0 s l.val) fun t a s l => by
      match a with
      | 0 => exact out4q m hU hM hC t s l
      | 1 => exact out4g m t s l

end Finite
end Cert.XbValue
end
-- ==== Proof.XbRef.lean ====
/-
  The reference of the matrix-LSTM layer's cross-attention: it is the first layer's reference (`XaRef`) on the columns
  where this layer keeps its queries.
-/
module

public import proofs.«01_k».proof.Proof.Gen.Reference3Ideal.Read
public import proofs.«01_k».proof.Proof.XaRef

@[expose] public section

set_option maxRecDepth 200000

noncomputable section

namespace Cert.XbRef

open Idealize.ShloMosaic Idealize.ShloMosaic.TcCoe Idealize.ShloMosaic.Pipeline
open Cert.Reference3Ideal Cert.Reference3Ideal.Read
open Cert.Common Cert.Lift Cert.Attn
open scoped BigOperators

/-- The columns of the queries moved to where the first layer has them. -/
def moved {V : Type} (x : S1x4096x3336.Idx → V) : Reference2Ideal.S1x4096x2560.Idx → V :=
  fun i => x (ix3 0 (⟨(i 1).val, (i 1).isLt⟩ : Fin 4096) (⟨(i 2).val + 776, by have := (i 2).isLt; change _ < 2560 at this; omega⟩ : Fin 3336))

variable (x0 : (⟨S1x4096x3336, .f32⟩ : BufTy).Contents (Elt Ideal)) (x1 : (⟨S1x256x512, .f32⟩ : BufTy).Contents (Elt Ideal))
  (x2 : (⟨S1x4096x1024, .f32⟩ : BufTy).Contents (Elt Ideal))

theorem v0_eq : val_main_v0 x0 = Reference2Ideal.Read.val_main_v0 (F := Ideal) (moved x0) := by
  funext i
  obtain ⟨s, l, rfl⟩ := eq_ix3_unit i
  unfold val_main_v0 Reference2Ideal.Read.val_main_v0 moved
  pointwise
  refine congrArg x0 ?_
  blk_ext

theorem v1_eq : val_main_v1 x0 = Reference2Ideal.Read.val_main_v1 (F := Ideal) (moved x0) := by
  unfold val_main_v1; rw [v0_eq]; rfl
theorem v8_eq : val_main_v8 x0 x1 = Reference2Ideal.Read.val_main_v8 (F := Ideal) (moved x0) x1 := by
  unfold val_main_v8 val_main_v6; rw [v1_eq]; rfl
theorem v29_eq : val_main_v29 x0 x1 = Reference2Ideal.Read.val_main_v29 (F := Ideal) (moved x0) x1 := by
  unfold val_main_v29 val_main_v28 val_main_v27 val_main_v26 val_main_v16 val_main_v9; rw [v8_eq]; rfl
theorem v31_eq : val_main_v31 x0 x1 = Reference2Ideal.Read.val_main_v31 (F := Ideal) (moved x0) x1 := by
  unfold val_main_v31 val_main_v30; rw [v29_eq]; rfl
theorem v33_eq : val_main_v33 x0 x1 = Reference2Ideal.Read.val_main_v33 (F := Ideal) (moved x0) x1 := by
  unfold val_main_v33 val_main_v32; rw [v29_eq, v31_eq]; rfl
theorem v56_eq : val_main_v56 x0 x1 x2 = Reference2Ideal.Read.val_main_v56 (F := Ideal) (moved x0) x1 x2 := by
  unfold val_main_v56 val_main_v55 val_main_v54 val_main_v51 val_main_v50 val_main_v49 val_main_v48 val_main_v47 val_main_v46 val_main_v36 val_main_v34
  rw [v29_eq, v31_eq]; rfl
theorem v60_eq : val_main_v60 x0 x1 x2 = Reference2Ideal.Read.val_main_v60 (F := Ideal) (moved x0) x1 x2 := by
  unfold val_main_v60 val_main_v58 val_main_v57 val_main_v53 val_main_v52
  rw [v29_eq, v31_eq, v56_eq]; rfl
theorem v70_eq : val_main_v70 x0 x1 x2 = Reference2Ideal.Read.val_main_v69 (F := Ideal) (moved x0) x1 x2 := by
  unfold val_main_v70 val_main_v68 val_main_v64 val_main_v63
  rw [v60_eq]; rfl
theorem v74_eq : val_main_v74 x0 x1 x2 = Reference2Ideal.Read.val_main_v72 (F := Ideal) (moved x0) x1 x2 := by
  unfold val_main_v74 val_main_v73 val_main_v72 val_main_v67 val_main_v66 val_main_v65 val_main_v62 val_main_v61 val_main_v45 val_main_v44
  rw [v60_eq, v33_eq, v1_eq]; rfl

theorem cols_moved (U : S1x4096x3336.Idx → ℝ) (s : Fin 4096) (l : Fin 256) : cols (moved U) 2304 s.val l = cols U 3080 s.val l := by
  rw [← cols_ix (moved U) 2304 s l ⟨2304 + l.val, by omega⟩ rfl, ← cols_ix U 3080 s l ⟨3080 + l.val, by omega⟩ rfl]
  refine congrArg U ?_
  blk_ext

theorem cols_fun (U : S1x4096x3336.Idx → ℝ) (s : Fin 4096) : cols (moved U) 2304 s.val = cols U 3080 s.val :=
  funext fun l => cols_moved U s l

variable (U : S1x4096x3336.Idx → ℝ) (M : S1x256x512.Idx → ℝ) (C : S1x4096x1024.Idx → ℝ)
  (d : (⟨S18x4096x256, .bf16⟩ : BufTy).Contents (Elt Ideal)) (g : (⟨S1x4096x256, .bf16⟩ : BufTy).Contents (Elt Ideal))

theorem rows_moved : (fun s : Fin 4096 => cols (moved U) 2304 s.val) = fun s => cols U 3080 s.val :=
  funext fun s => funext fun l => cols_moved U s l

theorem v71_at (a : Fin 18) (s : Fin 4096) (l : Fin 256) :
    val_main_v71 (F := Ideal) (fun i => (U i : EReal)) (XaRef.x1 M) (XaRef.x2 C) d g (ix3 a s l) =
      if 8 ≤ a.val / 2 then (if a.val = 16 then ((dq (cols U 3080 s.val) (XaRef.k M) (XaRef.v M) (XaRef.o C s.val) l : ℝ) : EReal)
        else at3 g 0 s.val l.val) else d (ix3 a s l) := by
  have e : val_main_v70 (F := Ideal) (fun i => (U i : EReal)) (XaRef.x1 M) (XaRef.x2 C) (ix3 0 s l) =
      ((dq (cols U 3080 s.val) (XaRef.k M) (XaRef.v M) (XaRef.o C s.val) l : ℝ) : EReal) := by
    rw [v70_eq]
    refine (XaRef.v69_at (moved U) M C s l).trans ?_
    rw [XaRef.q, cols_fun]
  unfold val_main_v71 val_main_v69
  generalize val_main_v70 (F := Ideal) (fun i => (U i : EReal)) (XaRef.x1 M) (XaRef.x2 C) = y at e ⊢
  pointwise
  by_cases h : a.val < 16
  · exact (dif_pos h).trans (if_neg (by omega)).symm
  · refine (dif_neg h).trans (Eq.trans ?_ (if_pos (by omega)).symm)
    by_cases h' : a.val = 16
    · refine (dif_pos (by omega)).trans (Eq.trans ?_ (if_pos h').symm)
      exact (congrArg (fun b => y (ix3 b s l)) (Subsingleton.elim _ _)).trans e
    · refine (dif_neg (by omega)).trans (Eq.trans ?_ (if_neg h').symm)
      exact (congrArg (fun b => g (ix3 b s l)) (Subsingleton.elim _ 0)).trans (at3_ix g 0 s l)

theorem v74_dk (n l : Fin 256) :
    val_main_v74 (F := Ideal) (fun i => (U i : EReal)) (XaRef.x1 M) (XaRef.x2 C) (ix3 0 n l) =
      ((dk (fun s : Fin 4096 => cols U 3080 s.val) (XaRef.k M) (XaRef.v M) (fun s => XaRef.o C s.val) n l : ℝ) : EReal) := by
  rw [v74_eq]
  refine (XaRef.v72_dk (moved U) M C n l).trans ?_
  rw [XaRef.q, rows_moved]

theorem v74_dv (n l : Fin 256) :
    val_main_v74 (F := Ideal) (fun i => (U i : EReal)) (XaRef.x1 M) (XaRef.x2 C) (ix3 1 n l) =
      ((dv (fun s : Fin 4096 => cols U 3080 s.val) (XaRef.k M) (fun s => XaRef.o C s.val) n l : ℝ) : EReal) := by
  rw [v74_eq]
  refine (XaRef.v72_dv (moved U) M C n l).trans ?_
  rw [XaRef.q, rows_moved]

end Cert.XbRef
end
-- ==== Proof.XbClaim.lean ====
/-
  The second cross-attention pair: for finite arguments the backward kernel's two arrays are those of the reference.
-/
module

public import proofs.«01_k».proof.Defs
public import proofs.«01_k».proof.Proof.XbValue
public import proofs.«01_k».proof.Proof.XbRef

@[expose] public section

noncomputable section

namespace Cert.XbClaim

open Idealize.ShloMosaic Idealize.ShloMosaic.TcCoe Idealize.SL.Sem
open Cert.Common Cert.Lift Cert.XbRef

theorem pre_facts : Cert.Pre_finite3.Facts := ⟨by decide, by decide, by decide⟩

attribute [local instance] pre_facts

/-- Finite argument arrays are real arrays. -/
theorem args {m : (ℓ : Loc Cert.Kernel3Ideal.nD Cert.Kernel3Ideal.τ Cert.Kernel3Ideal.sig) → Buf (Elt Ideal) ℓ}
    (h : Cert.Pre_Kernel3Ideal_finite3 m) (c : Dev Cert.Kernel3Ideal.nD) :
    ∃ (U : Cert.Kernel3Ideal.S1x4096x3336.Idx → ℝ) (M : Cert.Kernel3Ideal.S1x256x512.Idx → ℝ) (C : Cert.Kernel3Ideal.S1x4096x1024.Idx → ℝ),
      (m ((c.tc : Thread Cert.Kernel3Ideal.nD Cert.Kernel3Ideal.τ).loc Cert.Kernel3Ideal.main_arg0) = fun i => (U i : EReal))
        ∧ (m ((c.tc : Thread Cert.Kernel3Ideal.nD Cert.Kernel3Ideal.τ).loc Cert.Kernel3Ideal.main_arg1) = fun i => (M i : EReal))
        ∧ (m ((c.tc : Thread Cert.Kernel3Ideal.nD Cert.Kernel3Ideal.τ).loc Cert.Kernel3Ideal.main_arg2) = fun i => (C i : EReal)) := by
  obtain ⟨h0, h1, h2⟩ := h c
  obtain ⟨U, hU⟩ := finite_of_test (fun _ => rfl) h0
  obtain ⟨M, hM⟩ := finite_of_test (fun _ => rfl) h1
  obtain ⟨C, hC⟩ := finite_of_test (fun _ => rfl) h2
  exact ⟨U, M, C, hU, hM, hC⟩

theorem algebraic : Cert.algebraic_Kernel3Ideal_Reference3Ideal_pre_finite3 := by
  pair_intro
  · run_from Cert.Kernel3Ideal.Value.run_blocks m g
  · run_from Cert.Reference3Ideal.Value.run m' g'
    · obtain ⟨U, M, C, hU, hM, hC⟩ := args hpre c
      refine (Cert.Reference3Ideal.Read.val_main_v71_eq m' c).trans ?_
      rw [(hagree c).1, (hagree c).2.1, (hagree c).2.2.1, (hagree c).2.2.2.1, (hagree c).2.2.2.2]
      refine Eq.trans (funext fun i => ?_) (Cert.XbValue.w4 m hU hM hC).symm
      rw [hU, hM, hC]
      obtain ⟨a, s, l, rfl⟩ : ∃ a s l, i = ix3 a s l := ⟨_, _, _, eq_ix3 i⟩
      exact v71_at U M C _ _ a s l
    · obtain ⟨U, M, C, hU, hM, hC⟩ := args hpre c
      refine (Cert.Reference3Ideal.Read.val_main_v74_eq m' c).trans ?_
      rw [(hagree c).1, (hagree c).2.1, (hagree c).2.2.1]
      refine Eq.trans (funext fun i => ?_) (Cert.XbValue.w5 m hU hM hC).symm
      rw [hU, hM, hC]
      obtain ⟨a, n, l, rfl⟩ : ∃ a n l, i = ix3 a n l := ⟨_, _, _, eq_ix3 i⟩
      match a with
      | 0 => exact v74_dk U M C n l
      | 1 => exact v74_dv U M C n l

end Cert.XbClaim
end
-- ==== Proof.LossValue.lean ====
/-
  What the loss's backward call leaves in its two output arrays.
-/
module

public import proofs.«01_k».proof.Proof.Gen.Kernel4Ideal.Value
public import proofs.«01_k».proof.Proof.Common
public import proofs.«01_k».proof.Proof.Lift

@[expose] public section

set_option maxRecDepth 200000

noncomputable section

namespace Cert.LossValue

open Idealize.ShloMosaic Idealize.ShloMosaic.TcCoe Idealize.SL.Sem Idealize.ShloMosaic.Pipeline
open Cert.Kernel4Ideal Cert.Kernel4Ideal.Gen
open Cert.Common Cert.Lift
open scoped BigOperators

/-- One entry of the error. -/
def err (X T : S1x4096x1024.Idx → EReal) (s : ℕ) (l : Fin 1024) : EReal := at3 X 0 s l.val - at3 T 0 s l.val

/-- One row's mean squared error. -/
def mse (X T : S1x4096x1024.Idx → EReal) (s : ℕ) : EReal :=
  Ideal.div (∑ l : Fin 1024, err X T s l * err X T s l) (Ideal.ofBits .f32 1149239296#32)

theorem ofBits_half : Ideal.ofBits FTy.f32 1056964608#32 = ((1 / 2 : ℝ) : EReal) := by
  simp [Ideal.ofBits, Ideal.ieee, -EReal.coe_mul]; norm_num

/-- Half of a sum is the sum of the halves, over all the extended reals. -/
theorem half_add (a b : EReal) : ((1 / 2 : ℝ) : EReal) * (a + b) = ((1 / 2 : ℝ) : EReal) * a + ((1 / 2 : ℝ) : EReal) * b :=
  EReal.left_distrib_of_nonneg_of_ne_top (by exact_mod_cast (by norm_num : (0 : ℝ) ≤ 1 / 2)) (EReal.coe_ne_top _) a b

theorem half_sum {ι : Type} (s : Finset ι) (f : ι → EReal) :
    ((1 / 2 : ℝ) : EReal) * ∑ i ∈ s, f i = ∑ i ∈ s, ((1 / 2 : ℝ) : EReal) * f i := by
  classical
  induction s using Finset.induction_on with
  | empty => simp
  | insert a s ha ih => rw [Finset.sum_insert ha, Finset.sum_insert ha, half_add, ih]

variable (m : (ℓ : Loc nD τ sig) → Buf (Elt Ideal) ℓ)

theorem V_x (c : Dev nD) (s : Fin 4096) (l : Fin 1024) :
    V m c main_v0 (ix2 s l) = m ((c : Thread nD τ).loc main_arg0) (ix3 (0 : Fin 1) s l) := by
  unfold V
  simp only [List.flatten_cons, List.flatten_nil, List.append_nil, hostOps0, List.cons_append, List.nil_append]
  after_results
  pointwise

theorem V_t (c : Dev nD) (s : Fin 4096) (l : Fin 1024) :
    V m c main_v1 (ix2 s l) = m ((c : Thread nD τ).loc main_arg1) (ix3 (0 : Fin 1) s l) := by
  unfold V
  simp only [List.flatten_cons, List.flatten_nil, List.append_nil, hostOps0, List.cons_append, List.nil_append]
  after_results
  pointwise

theorem idx : ∀ t : Fin cfg0.N,
    win0_0.index t = ![t.val, 0] ∧ win0_1.index t = ![t.val, 0] ∧ win0_3.index t = ![t.val, 0] :=
  (by decide +kernel : ∀ t : Fin grid0.N, _)

theorem iblk0 (c : Dev nD) (t : Fin cfg0.N) (s l : Fin 1024) :
    iblk m c 0 t (ix2 s l) = at3 (m ((c : Thread nD τ).loc main_arg0)) 0 (t.val * 1024 + s.val) l.val := by
  have h0 : t.val < 4 := t.isLt
  refine Eq.trans ?_ ((V_x m c ⟨t.val * 1024 + s.val, by omega⟩ l).trans (at3_ix (m ((c : Thread nD τ).loc main_arg0)) _ _ _))
  blk_ext [iblk, (idx t).1]

theorem iblk1 (c : Dev nD) (t : Fin cfg0.N) (s l : Fin 1024) :
    iblk m c 1 t (ix2 s l) = at3 (m ((c : Thread nD τ).loc main_arg1)) 0 (t.val * 1024 + s.val) l.val := by
  have h0 : t.val < 4 := t.isLt
  refine Eq.trans ?_ ((V_t m c ⟨t.val * 1024 + s.val, by omega⟩ l).trans (at3_ix (m ((c : Thread nD τ).loc main_arg1)) _ _ _))
  blk_ext [iblk, (idx t).2.1]

section Block
variable {x t : Vec Ideal S1024x1024 .f32} {X T : S1x4096x1024.Idx → EReal} {o : ℕ}
  (hx : ∀ s l : Fin 1024, x (ix2 s l) = at3 X 0 (o + s.val) l.val) (ht : ∀ s l : Fin 1024, t (ix2 s l) = at3 T 0 (o + s.val) l.val)
include hx ht

theorem grad_at (s l : Fin 1024) : k0_pay3 x t (ix2 s l) = err X T (o + s.val) l * Ideal.ofBits .f32 981467136#32 := by
  unfold_payloads
  pointwise
  rw [hx, ht]; rfl

theorem loss_at (a : Vec Ideal S1x1 .f32) : k0_pay4 x t a (ix2 0 0) =
    a (ix2 0 0) + ∑ s : Fin 1024, ((1 / 2 : ℝ) : EReal) * mse X T (o + s.val) := by
  unfold_payloads
  pointwise
  simp only [hx, ht]
  rw [← half_sum, ofBits_half]
  simp only [mse, err]
end Block

variable (c : Dev nD)

theorem out3 (t : Fin cfg0.N) (s l : Fin 1024) : (outsAt0 m c t.val t.isLt).2 (ix2 s l) =
    err (m ((c : Thread nD τ).loc main_arg0)) (m ((c : Thread nD τ).loc main_arg1)) (t.val * 1024 + s.val) l * Ideal.ofBits .f32 981467136#32 := by
  by_cases h0 : t.val % 4 = 0
  · rw [Gen.outsAt0_A m c t h0]
    frame_out
    exact grad_at (iblk0 m c t) (iblk1 m c t) s l
  · rw [Gen.outsAt0_B m c t h0]
    frame_out
    exact grad_at (iblk0 m c t) (iblk1 m c t) s l

theorem out2_A (t : Fin cfg0.N) (h0 : t.val % 4 = 0) : (outsAt0 m c t.val t.isLt).1 (ix2 0 0) =
    0 + ∑ s : Fin 1024, ((1 / 2 : ℝ) : EReal) * mse (m ((c : Thread nD τ).loc main_arg0)) (m ((c : Thread nD τ).loc main_arg1)) (t.val * 1024 + s.val) := by
  rw [Gen.outsAt0_A m c t h0]
  frame_out
  refine (loss_at (iblk0 m c t) (iblk1 m c t) _).trans ?_
  refine congrArg (· + _) ?_
  unfold_payloads; pointwise

theorem out2_B (t : Fin cfg0.N) (h0 : ¬ t.val % 4 = 0) : (outsAt0 m c t.val t.isLt).1 (ix2 0 0) =
    (outsAt0 m c (t.val - 1) (Nat.lt_of_le_of_lt (Nat.sub_le _ _) t.isLt)).1 (ix2 0 0)
      + ∑ s : Fin 1024, ((1 / 2 : ℝ) : EReal) * mse (m ((c : Thread nD τ).loc main_arg0)) (m ((c : Thread nD τ).loc main_arg1)) (t.val * 1024 + s.val) := by
  rw [Gen.outsAt0_B m c t h0]
  frame_out
  exact loss_at (iblk0 m c t) (iblk1 m c t) _

theorem last2 : (outsAt0 m c 3 (by decide)).1 (ix2 0 0) =
    ((1 / 2 : ℝ) : EReal) * ∑ s : Fin 4096, mse (m ((c : Thread nD τ).loc main_arg0)) (m ((c : Thread nD τ).loc main_arg1)) s.val := by
  refine (Pipeline.eq_sum_of_reset_step_single (N := cfg0.N) (fun t ht => (outsAt0 m c t ht).1 (ix2 0 0) : (t : ℕ) → t < cfg0.N → EReal) 4 0
    (fun t => ∑ s : Fin 1024, ((1 / 2 : ℝ) : EReal) * mse (m ((c : Thread nD τ).loc main_arg0)) (m ((c : Thread nD τ).loc main_arg1)) (t * 1024 + s.val))
    (fun t h0 => out2_A m c t h0) (fun t h0 => out2_B m c t h0) (by decide) ⟨3, by decide⟩).trans ?_
  rw [zero_add, half_sum]
  exact sum_blocks 4 1024 fun s => ((1 / 2 : ℝ) : EReal) * mse (m ((c : Thread nD τ).loc main_arg0)) (m ((c : Thread nD τ).loc main_arg1)) s

/-- The loss. -/
theorem w2 : (dats m 0 c).arrAt 2 cfg0.N = (fun _ => ((1 / 2 : ℝ) : EReal) *
    ∑ s : Fin 4096, mse (m ((c : Thread nD τ).loc main_arg0)) (m ((c : Thread nD τ).loc main_arg1)) s.val : S1x1.Idx → EReal) := by
  refine (dats m 0 c).arrAt_eq_of_after_last 2 ⟨3, by decide⟩ (by decide +kernel) _ fun j => ?_
  obtain rfl : j = ix2 0 0 := by
    obtain ⟨a, b, rfl⟩ : ∃ a b, j = ix2 a b := ⟨_, _, eq_ix2 j⟩
    exact congrArg₂ ix2 (Subsingleton.elim _ _) (Subsingleton.elim _ _)
  exact (congrFun (after0_2 m c ⟨3, by decide⟩) _).trans (last2 m c)

theorem w3_of (G : ℕ → Fin 1024 → EReal) (hG : ∀ (t : Fin cfg0.N) (s l : Fin 1024), (outsAt0 m c t.val t.isLt).2 (ix2 s l) = G (t.val * 1024 + s.val) l) :
    (dats m 0 c).arrAt 3 cfg0.N = (fun i => G (i 0).val (i 1) : S4096x1024.Idx → EReal) := by
  refine (dats m 0 c).arrAt_eq_of_covers 3 _ (by decide +kernel) fun t hf y => ?_
  blk_simp
  rw [after0_3]
  obtain ⟨s, l, rfl⟩ : ∃ s l, y = ix2 s l := ⟨_, _, eq_ix2 y⟩
  refine (hG t s l).trans ?_
  have h0 : t.val < 4 := t.isLt
  have e : (ix2 ⟨t.val * 1024 + s.val, by omega⟩ l : S4096x1024.Idx) = ((cfg0.win 3).blk t).view.emb (ix2 s l) := by
    blk_ext [(idx t).2.2]
  refine congrArg₂ G ?_ (congrFun e 1)
  show _ = win0_3.index t 0 * 1024 + s.val
  rw [(idx t).2.2]
  rfl

/-- The error's gradient. -/
theorem w3 : (dats m 0 c).arrAt 3 cfg0.N = (fun i =>
    err (m ((c : Thread nD τ).loc main_arg0)) (m ((c : Thread nD τ).loc main_arg1)) (i 0).val (i 1) * Ideal.ofBits .f32 981467136#32 : S4096x1024.Idx → EReal) :=
  w3_of m c (fun s l => err (m ((c : Thread nD τ).loc main_arg0)) (m ((c : Thread nD τ).loc main_arg1)) s l * Ideal.ofBits .f32 981467136#32) fun t s l => out3 m c t s l

end Cert.LossValue
end
-- ==== Proof.LossClaim.lean ====
/-
  The loss pair: the backward kernel's loss and gradient are those of the reference, at all arguments.
-/
module

public import proofs.«01_k».proof.Defs
public import proofs.«01_k».proof.Proof.LossValue
public import proofs.«01_k».proof.Proof.Gen.Reference4Ideal.Read

@[expose] public section

noncomputable section

namespace Cert.LossClaim

open Idealize.ShloMosaic Idealize.ShloMosaic.TcCoe Idealize.SL.Sem
open Cert.Common Cert.Lift Cert.LossValue
open Cert.Reference4Ideal Cert.Reference4Ideal.Read
open scoped BigOperators

variable (X T : S1x4096x1024.Idx → EReal)

theorem v6_at (s : Fin 4096) : val_main_v6 (F := Ideal) X T (ix2 0 s) = mse X T s.val := by
  unfold val_main_v6 val_main_v5 val_main_v4 val_main_v1 val_main_v0 val_main_cst_0 val_main_cst_1
  pointwise
  simp only [at3_ix, mse, err]
  rfl

theorem v9_at : val_main_v9 (F := Ideal) X T (ix2 0 0) = ((1 / 2 : ℝ) : EReal) * ∑ s : Fin 4096, mse X T s.val := by
  have e : ∀ i, val_main_v7 (F := Ideal) X T i = ∑ s : Fin 4096, mse X T s.val := fun i => by
    rw [val_main_v7_apply, val_main_cst_2_apply, sum_row]
    simp only [v6_at]
    exact (congrArg (· + _) (by simp [FloatOps.ofBits])).trans (zero_add _)
  unfold val_main_v9 val_main_v8 val_main_cst_3
  generalize val_main_v7 (F := Ideal) X T = y at e ⊢
  pointwise
  rw [e, ofBits_half]

theorem ofBits_1024 : Ideal.ofBits FTy.f32 1149239296#32 = ((1024 : ℝ) : EReal) := by
  simp [Ideal.ofBits, Ideal.ieee, -EReal.coe_mul]; norm_num
theorem ofBits_two : Ideal.ofBits FTy.f32 1073741824#32 = ((2 : ℝ) : EReal) := by
  simp [Ideal.ofBits, Ideal.ieee, -EReal.coe_mul]; norm_num
theorem ofBits_inv_1024 : Ideal.ofBits FTy.f32 981467136#32 = ((1 / 1024 : ℝ) : EReal) := by
  simp [Ideal.ofBits, Ideal.ieee, -EReal.coe_mul]; norm_num

theorem v16_at (s : Fin 4096) (l : Fin 1024) : val_main_v16 (F := Ideal) X T (ix2 s l) = err X T s.val l * Ideal.ofBits .f32 981467136#32 := by
  unfold val_main_v16 val_main_v15 val_main_v14 val_main_v13 val_main_v12 val_main_v11 val_main_v10 val_main_v3 val_main_v2 val_main_v0 val_main_cst_4 val_main_cst_5 val_main_cst_6 val_main_cst
  pointwise
  rw [ofBits_half, ofBits_1024, ofBits_two, ofBits_inv_1024, div_coe _ _ (by norm_num), ← mul_assoc, coe_mul, mul_comm, at3_ix X, at3_ix T]
  norm_num
  rfl

theorem algebraic : Cert.algebraic_Kernel4Ideal_Reference4Ideal := by
  pair_intro
  · run_from Cert.Kernel4Ideal.Value.run_blocks m g
  · run_from Cert.Reference4Ideal.Value.run m' g'
    · refine Eq.trans (funext fun i => ?_) (w2 m c).symm
      obtain rfl : i = ix2 0 0 := by
        obtain ⟨a, b, rfl⟩ : ∃ a b, i = ix2 a b := ⟨_, _, eq_ix2 i⟩
        exact congrArg₂ ix2 (Subsingleton.elim _ _) (Subsingleton.elim _ _)
      exact v9_at _ _
    · refine Eq.trans (funext fun i => ?_) (w3 m c).symm
      obtain ⟨s, l, rfl⟩ : ∃ s l, i = ix2 s l := ⟨_, _, eq_ix2 i⟩
      exact v16_at _ _ s l

end Cert.LossClaim
end
-- ==== Proof.QkHost.lean ====
/-
  The arrays on which the queries' and keys' convolution is called backwards: columns in groups of one head.
-/
module

public import proofs.«01_k».proof.Proof.Gen.Kernel5Ideal.Value
public import proofs.«01_k».proof.Proof.Common

@[expose] public section

set_option maxRecDepth 200000

noncomputable section

namespace Cert.QkValue

open Idealize.ShloMosaic Idealize.ShloMosaic.TcCoe Idealize.SL.Sem Idealize.ShloMosaic.Pipeline
open Cert.Kernel5Ideal Cert.Kernel5Ideal.Gen
open Cert.Common

variable (m : (ℓ : Loc nD τ sig) → Buf (Elt Ideal) ℓ)

theorem V_du (c : Dev nD) : V m c main_v39_0 = m ((c : Thread nD τ).loc main_arg3) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_results
  rfl

theorem sitofp_zero : FloatOps.sitofp (F := Ideal) FTy.f32 0#32 = (0 : EReal) := by
  simp [FloatOps.sitofp]

theorem V_w (c : Dev nD) (g : Fin 8) (s : Fin 8) (h : s.val < 4) (l : Fin 256) :
    V m c main_v26 (ix3 g s l) = if l.val < 192 then at2 (m ((c : Thread nD τ).loc main_arg1)) s.val (g.val * 192 + l.val) else 0 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_results
  simp only [StableHlo.TRef.toBuf, StableHlo.TRef.ofBuf, cast_eq]
  pointwise
  simp only [sitofp_zero, at2_ix]
  rw [dif_pos h]
  by_cases hl : l.val < 192
  · rw [dif_pos ⟨h, hl⟩, if_pos hl]
  · rw [dif_neg (fun h => hl h.2), if_neg hl]

theorem V_d (c : Dev nD) (g : Fin 8) (s : Fin 4096) (l : Fin 256) :
    V m c main_v38 (ix3 g s l) = if l.val < 192 then at3 (m ((c : Thread nD τ).loc main_arg2)) 0 s.val (g.val * 192 + l.val) else 0 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_results
  simp only [StableHlo.TRef.toBuf, StableHlo.TRef.ofBuf, cast_eq]
  pointwise
  simp only [sitofp_zero, at3_ix]
  by_cases hl : l.val < 192
  · rw [if_pos hl]
    by_cases hg : g.val < 4
    · rw [dif_pos hg, dif_pos ⟨hg, hl⟩]; rfl
    · rw [dif_neg hg, dif_pos (⟨by omega, hl⟩ : g.val - 4 < 4 ∧ l.val < 192), show 768 + ((g.val - 4) * 192 + l.val) = g.val * 192 + l.val by omega]; rfl
  · rw [if_neg hl]
    by_cases hg : g.val < 4
    · rw [dif_pos hg, dif_neg (fun h => hl h.2)]
    · rw [dif_neg hg, dif_neg (fun h => hl h.2)]

theorem V_u (c : Dev nD) (g : Fin 18) (hg : g.val < 8) (s : Fin 4096) (l : Fin 256) :
    V m c main_v22 (ix3 g s l) = if l.val < 192 then at3 (m ((c : Thread nD τ).loc main_arg0)) 0 s.val (g.val * 192 + l.val) else 0 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_results
  simp only [StableHlo.TRef.toBuf, StableHlo.TRef.ofBuf, cast_eq]
  pointwise
  simp only [↓ StableHlo.readResult]
  pointwise
  simp only [↓ StableHlo.readResult, StableHlo.TRef.toBuf, StableHlo.TRef.ofBuf, cast_eq]
  by_cases h4 : g.val < 4
  · refine (dif_pos h4).trans ?_
    pointwise
    simp only [sitofp_zero, at3_ix]
    by_cases hl : l.val < 192
    · rw [dif_pos ⟨h4, hl⟩, if_pos hl]; rfl
    · rw [dif_neg (fun h => hl h.2), if_neg hl]
  · refine (dif_neg h4).trans ((dif_pos (show g.val - 4 < 4 by omega)).trans ?_)
    pointwise
    simp only [sitofp_zero, at3_ix]
    by_cases hl : l.val < 192
    · rw [dif_pos (⟨by omega, hl⟩ : g.val - 4 < 4 ∧ l.val < 192), if_pos hl, show 768 + ((g.val - 4) * 192 + l.val) = g.val * 192 + l.val by omega]; rfl
    · rw [dif_neg (fun h => hl h.2), if_neg hl]

end Cert.QkValue
end
-- ==== Proof.QkRef.lean ====
/-
  What the reference of the queries' and keys' convolution computes, one column at a time.
-/
module

public import proofs.«01_k».proof.Proof.Common
public import proofs.«01_k».proof.Proof.Gen.Reference5Ideal.Read

@[expose] public section

set_option maxRecDepth 65536

noncomputable section

namespace Cert.QkRef

open Idealize.ShloMosaic Idealize.ShloMosaic.TcCoe Idealize.SL Idealize.SL.Sem
open Cert.Reference5Ideal Cert.Reference5Ideal.Gen Cert.Reference5Ideal.Read Cert.Common
open scoped BigOperators

/-! ## The gradient of one column

`f` is the column of the projected input, `w` its four taps, `d` the column of the cotangent. -/

section Spec
variable (f w d : ℕ → EReal)

/-- The convolution's output. -/
def pre (s : ℕ) : EReal := f s * w 3 + down 3 f s * w 0 + down 2 f s * w 1 + down 1 f s * w 2
/-- The logistic function of the convolution's output. -/
def sg (s : ℕ) : EReal := Ideal.div 1 (1 + Ideal.exp (-pre f w s))
/-- The cotangent of the convolution's output. -/
def dPre (s : ℕ) : EReal := d s * sg f w s + pre f w s * d s * (sg f w s * (1 - sg f w s))
/-- The gradient of the input, from the cotangent `e` of the convolution's output. -/
def dIn (e : ℕ → EReal) (s : ℕ) : EReal :=
  up 4096 1 (fun r => e r * w 2) s + up 4096 2 (fun r => e r * w 1) s + up 4096 3 (fun r => e r * w 0) s + e s * w 3
/-- The gradient of tap `k`. -/
def dTap (e : ℕ → EReal) (k : ℕ) : EReal := ∑ s : Fin 4096, down (3 - k) f s.val * e s.val

end Spec

variable (x0 : S1x4096x3336.Idx → EReal) (x1 : S4x1536.Idx → EReal) (x2 : S1x4096x1536.Idx → EReal) (x3 : S18x4096x256.Idx → EReal)

/-- A column of the projected input, of the taps and of the cotangent. -/
abbrev cU (j : ℕ) : ℕ → EReal := fun s => at3 x0 0 s j
abbrev cW (j : ℕ) : ℕ → EReal := fun k => at2 x1 k j
abbrev cD (j : ℕ) : ℕ → EReal := fun s => at3 x2 0 s j
abbrev cE (j : ℕ) : ℕ → EReal := dPre (cU x0 j) (cW x1 j) (cD x2 j)

theorem v2_at (s : Fin 4099) (j : Fin 1536) : val_main_v2 (F := Ideal) x0 (ix3 0 s j) = down 3 (cU x0 j.val) s.val := by
  unfold val_main_v2 val_main_v1 val_main_v0 val_main_cst
  pointwise
  unfold down
  by_cases h : s.val < 3
  · rw [dif_pos h, if_neg (by omega)]
  · exact (dif_neg h).trans ((at3_ix x0 _ _ _).trans (if_pos (by omega)).symm)

/-- A shifted slice of the padded column is the column moved down. -/
theorem down_down (k s : ℕ) (f : ℕ → EReal) (hk : k ≤ 3) : down 3 f (k + s) = down (3 - k) f s := by
  unfold down
  by_cases h : 3 ≤ k + s
  · rw [if_pos h, if_pos (by omega)]; congr 1; omega
  · rw [if_neg h, if_neg (by omega)]

theorem down_zero (f : ℕ → EReal) (s : ℕ) : down 0 f s = f s := rfl

theorem v4_at (s : Fin 4096) (j : Fin 1536) : val_main_v4 (F := Ideal) x0 (ix3 0 s j) = cU x0 j.val s.val := by
  unfold val_main_v4
  pointwise
  simp only [v2_at, down_down 3 _ _ le_rfl]
  rfl

theorem v10_at (s : Fin 4096) (j : Fin 1536) : val_main_v10 (F := Ideal) x0 (ix3 0 s j) = down 3 (cU x0 j.val) s.val := by
  unfold val_main_v10
  pointwise
  simp only [v2_at]

theorem v17_at (s : Fin 4096) (j : Fin 1536) : val_main_v17 (F := Ideal) x0 (ix3 0 s j) = down 2 (cU x0 j.val) s.val := by
  unfold val_main_v17
  pointwise
  simp only [v2_at, down_down 1 _ _ (by norm_num : 1 ≤ 3)]

theorem v24_at (s : Fin 4096) (j : Fin 1536) : val_main_v24 (F := Ideal) x0 (ix3 0 s j) = down 1 (cU x0 j.val) s.val := by
  unfold val_main_v24
  pointwise
  simp only [v2_at, down_down 2 _ _ (by norm_num : 2 ≤ 3)]

theorem v30_at (s : Fin 4096) (j : Fin 1536) : val_main_v30 (F := Ideal) x0 x1 (ix3 0 s j) = pre (cU x0 j.val) (cW x1 j.val) s.val := by
  unfold val_main_v30 val_main_v23 val_main_v16 val_main_v9 val_main_v15 val_main_v22 val_main_v29 val_main_v8 val_main_v7 val_main_v6 val_main_v5 val_main_v14 val_main_v13 val_main_v12 val_main_v11 val_main_v21 val_main_v20 val_main_v19 val_main_v18 val_main_v28 val_main_v27 val_main_v26 val_main_v25
  pointwise
  simp only [v4_at, v10_at, v17_at, v24_at, at2_ix x1]
  rfl

theorem v31_2_at (s : Fin 4096) (j : Fin 1536) : val_main_v31_2 (F := Ideal) x0 x1 (ix3 0 s j) = sg (cU x0 j.val) (cW x1 j.val) s.val := by
  have e := v30_at x0 x1 s j
  unfold val_main_v31_2 val_main_call0_v4 val_main_call0_cst_0 val_main_call0_v3 val_main_call0_v2 val_main_call0_cst val_main_call0_v1 val_main_call0_v0
  generalize val_main_v30 (F := Ideal) x0 x1 = y at e ⊢
  pointwise
  simp only [e]
  rfl

theorem v32_at (s : Fin 4096) (j : Fin 1536) : val_main_v32 (F := Ideal) x0 x1 x2 (ix3 0 s j) = cE x0 x1 x2 j.val s.val := by
  have e := v30_at x0 x1 s j
  have e2 := v31_2_at x0 x1 s j
  unfold val_main_v32 val_main_call1_v1 val_main_call1_v2 val_main_call1_v0 val_main_v31_1 val_main_call0_v7 val_main_call0_v6 val_main_call0_cst_1
  generalize val_main_v30 (F := Ideal) x0 x1 = y at e ⊢
  generalize val_main_v31_2 (F := Ideal) x0 x1 = z at e2 ⊢
  pointwise
  simp only [e, e2, at3_ix x2]
  rfl

theorem v76_at (s : Fin 4096) (j : Fin 1536) : val_main_v76 (F := Ideal) x0 x1 x2 (ix3 0 s j) = dIn (cW x1 j.val) (cE x0 x1 x2 j.val) s.val := by
  unfold val_main_v76 val_main_v74 val_main_v63 val_main_v52 val_main_v41 val_main_v51 val_main_v62 val_main_v73 val_main_v37 val_main_v46 val_main_v57 val_main_v68 val_main_v36 val_main_v45 val_main_v56 val_main_v67 val_main_v7 val_main_v6 val_main_v5 val_main_v13 val_main_v12 val_main_v11 val_main_v20 val_main_v19 val_main_v18 val_main_v27 val_main_v26 val_main_v25 val_main_cst_4 val_main_cst_8 val_main_cst_12 val_main_cst_16
  pointwise
  simp only [v32_at, at2_ix x1, dite_eq_ite]
  unfold dIn up
  refine congrArg₂ (· + ·) (congrArg₂ (· + ·) (congrArg₂ (· + ·) ?_ ?_) ?_) rfl
  · by_cases h : s.val + 1 < 4096
    · rw [if_pos (by omega), if_pos h, show 3 + s.val - 2 = s.val + 1 by omega]; rfl
    · rw [if_neg (by omega), if_neg h]
  · by_cases h : s.val + 2 < 4096
    · rw [if_pos (by omega), if_pos h, show 3 + s.val - 1 = s.val + 2 by omega]; rfl
    · rw [if_neg (by omega), if_neg h]
  · by_cases h : s.val + 3 < 4096
    · rw [if_pos (by omega), if_pos h, show 3 + s.val = s.val + 3 by omega]; rfl
    · rw [if_neg (by omega), if_neg h]

theorem v38_at (j : Fin 1536) : val_main_v38 (F := Ideal) x0 x1 x2 (ix1 j) = dTap (cU x0 j.val) (cE x0 x1 x2 j.val) 2 := by
  unfold val_main_v38 val_main_v35 val_main_cst_2
  simp only [Host.reduceAdd, Ideal.hostReduceAdd_def]
  rw [hostReduceAdd_unit_axes]
  unfold val_main_v34 val_main_v33 val_main_cst_1
  pointwise
  simp only [v24_at, v32_at]
  rfl

theorem v47_at (j : Fin 1536) : val_main_v47 (F := Ideal) x0 x1 x2 (ix1 j) = dTap (cU x0 j.val) (cE x0 x1 x2 j.val) 1 := by
  unfold val_main_v47 val_main_v44 val_main_cst_6
  simp only [Host.reduceAdd, Ideal.hostReduceAdd_def]
  rw [hostReduceAdd_unit_axes]
  unfold val_main_v43 val_main_v42 val_main_cst_5
  pointwise
  simp only [v17_at, v32_at]
  rfl

theorem v58_at (j : Fin 1536) : val_main_v58 (F := Ideal) x0 x1 x2 (ix1 j) = dTap (cU x0 j.val) (cE x0 x1 x2 j.val) 0 := by
  unfold val_main_v58 val_main_v55 val_main_cst_10
  simp only [Host.reduceAdd, Ideal.hostReduceAdd_def]
  rw [hostReduceAdd_unit_axes]
  unfold val_main_v54 val_main_v53 val_main_cst_9
  pointwise
  simp only [v10_at, v32_at]
  rfl

theorem v69_at (j : Fin 1536) : val_main_v69 (F := Ideal) x0 x1 x2 (ix1 j) = dTap (cU x0 j.val) (cE x0 x1 x2 j.val) 3 := by
  unfold val_main_v69 val_main_v66 val_main_cst_14
  simp only [Host.reduceAdd, Ideal.hostReduceAdd_def]
  rw [hostReduceAdd_unit_axes]
  unfold val_main_v65 val_main_v64 val_main_cst_13
  pointwise
  simp only [v4_at, v32_at]
  rfl

theorem sitofp_zero : FloatOps.sitofp (F := Ideal) FTy.f32 0#32 = (0 : EReal) := by
  simp [FloatOps.sitofp]

theorem v72_at (s : Fin 4) (j : Fin 1536) : val_main_v72 (F := Ideal) x0 x1 x2 (ix2 s j) = dTap (cU x0 j.val) (cE x0 x1 x2 j.val) s.val := by
  unfold val_main_v72 val_main_v61 val_main_v50 val_main_v40 val_main_v49 val_main_v60 val_main_v71 val_main_v39 val_main_v48 val_main_v59 val_main_v70 val_main_cst_3 val_main_cst_7 val_main_cst_11 val_main_cst_15
  pointwise
  simp only [v38_at, v47_at, v58_at, v69_at]
  match s with
  | ⟨0, _⟩ => simp
  | ⟨1, _⟩ => simp
  | ⟨2, _⟩ => simp
  | ⟨3, _⟩ => simp

/-- The gradient of the taps, in groups of one head. -/
theorem v86_at (g : Fin 8) (s : Fin 8) (l : Fin 256) : val_main_v86 (F := Ideal) x0 x1 x2 (ix3 g s l) =
    if s.val < 4 then (if l.val < 192 then dTap (cU x0 (g.val * 192 + l.val)) (cE x0 x1 x2 (g.val * 192 + l.val)) s.val else 0) else 0 := by
  unfold val_main_v86 val_main_v85 val_main_v84 val_main_call3_v0 val_main_c_17
  pointwise
  simp only [v72_at]
  rw [sitofp_zero]
  by_cases hs : s.val < 4
  · rw [if_pos hs]
    by_cases hl : l.val < 192
    · rw [dif_pos ⟨hs, hl⟩, if_pos hl]
    · rw [dif_neg (fun h => hl h.2), if_neg hl]
  · rw [if_neg hs, dif_neg (fun h => hs h.1)]

/-- The gradient of the input, in groups of one head; the other groups are the array passed in. -/
theorem v83_at (g : Fin 18) (s : Fin 4096) (l : Fin 256) : val_main_v83 (F := Ideal) x0 x1 x2 x3 (ix3 g s l) =
    if g.val < 8 then (if l.val < 192 then dIn (cW x1 (g.val * 192 + l.val)) (cE x0 x1 x2 (g.val * 192 + l.val)) s.val else 0) else x3 (ix3 g s l) := by
  unfold val_main_v83 val_main_v82 val_main_v81 val_main_v80 val_main_v79 val_main_v78 val_main_v77 val_main_call2_v0 val_main_c
  pointwise
  simp only [v76_at]
  rw [sitofp_zero]
  by_cases hg : g.val < 8
  · rw [dif_pos hg, if_pos hg]
    by_cases hl : l.val < 192
    · rw [dif_pos ⟨hg, hl⟩, if_pos hl]
    · rw [dif_neg (fun h => hl h.2), if_neg hl]
  · refine (dif_neg hg).trans (Eq.trans ?_ (if_neg hg).symm)
    exact congrArg (fun b => x3 (ix3 b s l)) (Fin.ext (by show 8 + (g.val - 8) = g.val; omega))

end Cert.QkRef
end
-- ==== Proof.QkValue.lean ====
/-
  What the backward kernel of the queries' and keys' convolution leaves in its two output arrays, at each index.
-/
module

public import proofs.«01_k».proof.Proof.QkHost
public import proofs.«01_k».proof.Proof.QkRef
public import proofs.«01_k».proof.Proof.ConvValue
public import proofs.«01_k».proof.Proof.Lift

@[expose] public section

set_option maxRecDepth 200000

noncomputable section

namespace Cert.QkValue

open Idealize.ShloMosaic Idealize.ShloMosaic.TcCoe Idealize.SL.Sem Idealize.ShloMosaic.Pipeline
open Cert.Kernel5Ideal Cert.Kernel5Ideal.Gen
open Cert.Common Cert.QkRef Cert.Lift
open Cert.ConvValue (rot_down rot_up down_mul)
open scoped BigOperators

/-! ## The two forms of the cotangent of the convolution's output -/

/-- With a real convolution output and a real cotangent, the product form of the derivative is the sum form. -/
theorem dPre_eq (p d : EReal) (hp : ∃ r : ℝ, p = r) (hd : ∃ r : ℝ, d = r) :
    d * (Ideal.div 1 (1 + Ideal.exp (0 - p)) * (1 + p * (1 - Ideal.div 1 (1 + Ideal.exp (0 - p))))) =
      d * Ideal.div 1 (1 + Ideal.exp (-p)) + p * d * (Ideal.div 1 (1 + Ideal.exp (-p)) * (1 - Ideal.div 1 (1 + Ideal.exp (-p)))) := by
  obtain ⟨p, rfl⟩ := hp
  obtain ⟨d, rfl⟩ := hd
  have h : (1 + Real.exp (-p)) ≠ 0 := by positivity
  rw [zero_sub, coe_neg, exp_coe, ← EReal.coe_one, coe_add, div_coe _ _ h]
  simp only [coe_sub, coe_mul, coe_add]
  congr 1
  ring

section Body
variable (x0 : Vec Ideal S1x4096x128 .f32) (x1 : Vec Ideal S1x8x128 .f32) (x2 : Vec Ideal S1x4096x128 .bf16)
variable (l : Fin 128) (A w E : ℕ → EReal) (h0 : ∀ s : Fin 4096, x0 (ix3 0 s l) = A s.val)
  (h1 : ∀ k : Fin 8, k.val < 4 → x1 (ix3 0 k l) = w k.val) (h2 : ∀ s : Fin 4096, x2 (ix3 0 s l) = E s.val)

include h0 in
theorem pay5_at (s : Fin 4096) : k0_pay5 x0 (ix2 s l) = down 1 A s.val := by
  unfold_payloads
  pointwise
  exact rot_down 1 (by norm_num) s (fun r => x0 (ix3 0 r l)) A h0 _

include h0 in
theorem pay6_at (s : Fin 4096) : k0_pay6 x0 (ix2 s l) = down 2 A s.val := by
  unfold_payloads
  pointwise
  exact rot_down 2 (by norm_num) s (fun r => x0 (ix3 0 r l)) A h0 _

include h0 in
theorem pay7_at (s : Fin 4096) : k0_pay7 x0 (ix2 s l) = down 3 A s.val := by
  unfold_payloads
  pointwise
  exact rot_down 3 (by norm_num) s (fun r => x0 (ix3 0 r l)) A h0 _

include h0 h1 in
theorem pay8_at (s : Fin 4096) : k0_pay8 x0 x1 (ix2 s l) = pre A w s.val := by
  have e5 := pay5_at x0 l A h0 s
  have e6 := pay6_at x0 l A h0 s
  have e7 := pay7_at x0 l A h0 s
  unfold k0_pay8 k0_pay3 k0_pay4
  generalize k0_pay5 (F := Ideal) x0 = y5 at e5 ⊢
  generalize k0_pay6 (F := Ideal) x0 = y6 at e6 ⊢
  generalize k0_pay7 (F := Ideal) x0 = y7 at e7 ⊢
  pointwise
  rw [e5, e6, e7, h0, h1 0 (by decide), h1 1 (by decide), h1 2 (by decide), h1 3 (by decide)]
  unfold pre
  simp only [mul_comm _ (w _)]
  show w 3 * A s.val + w 2 * down 1 A s.val + w 1 * down 2 A s.val + w 0 * down 3 A s.val = _
  abel

include h0 h1 h2 in
theorem pay11_at (hA : ∀ s : ℕ, ∃ r : ℝ, pre A w s = r) (hE : ∀ s : ℕ, ∃ r : ℝ, E s = r) (s : Fin 4096) :
    k0_pay11 (k0_pay8 x0 x1) (k0_pay9 x0 x1) k0_pay10 x2 (ix2 s l) = dPre A w E s.val := by
  have e := pay8_at x0 x1 l A w h0 h1 s
  unfold k0_pay11 k0_pay9 k0_pay10
  generalize k0_pay8 (F := Ideal) x0 x1 = y at e ⊢
  pointwise
  rw [e, h2]
  exact dPre_eq _ _ (hA _) (hE _)

include h0 h1 h2 in
theorem pay1_at (hA : ∀ s : ℕ, ∃ r : ℝ, pre A w s = r) (hE : ∀ s : ℕ, ∃ r : ℝ, E s = r) (s : Fin 4096) :
    k0_pay1 (k0_pay12 (k0_pay4 x1) (k0_pay8 x0 x1) (k0_pay9 x0 x1) k0_pay10 x2) (k0_pay13 (k0_pay4 x1) (k0_pay8 x0 x1) (k0_pay9 x0 x1) k0_pay10 x2)
      (ix3 0 s l) = dIn w (dPre A w E) s.val := by
  have e := pay11_at x0 x1 x2 l A w E h0 h1 h2 hA hE
  unfold k0_pay1 k0_pay12 k0_pay13 k0_pay4
  generalize k0_pay11 (F := Ideal) (k0_pay8 x0 x1) (k0_pay9 x0 x1) k0_pay10 x2 = y at e ⊢
  pointwise
  rw [rot_up 1 (by norm_num) s (fun r => x1 (ix3 0 2 l) * y (ix2 r l)) (fun r => dPre A w E r * w 2) (fun r => by rw [h1 2 (by decide), e]; exact mul_comm _ _),
    rot_up 2 (by norm_num) s (fun r => x1 (ix3 0 1 l) * y (ix2 r l)) (fun r => dPre A w E r * w 1) (fun r => by rw [h1 1 (by decide), e]; exact mul_comm _ _),
    rot_up 3 (by norm_num) s (fun r => x1 (ix3 0 0 l) * y (ix2 r l)) (fun r => dPre A w E r * w 0) (fun r => by rw [h1 0 (by decide), e]; exact mul_comm _ _),
    e, h1 3 (by decide), mul_comm (w _)]
  unfold dIn
  show dPre A w E s.val * w 3 + _ + _ + _ = _
  abel

include h0 h1 h2 in
theorem pay2_at (hA : ∀ s : ℕ, ∃ r : ℝ, pre A w s = r) (hE : ∀ s : ℕ, ∃ r : ℝ, E s = r) (k : Fin 8) :
    k0_pay2 (k0_pay3 x0) (k0_pay5 x0) (k0_pay6 x0) (k0_pay7 x0) (k0_pay11 (k0_pay8 x0 x1) (k0_pay9 x0 x1) k0_pay10 x2) (ix3 0 k l) =
      if k.val < 4 then dTap A (dPre A w E) k.val else 0 := by
  have e := pay11_at x0 x1 x2 l A w E h0 h1 h2 hA hE
  have e5 := pay5_at x0 l A h0
  have e6 := pay6_at x0 l A h0
  have e7 := pay7_at x0 l A h0
  unfold k0_pay2 k0_pay3
  generalize k0_pay11 (F := Ideal) (k0_pay8 x0 x1) (k0_pay9 x0 x1) k0_pay10 x2 = y at e ⊢
  generalize k0_pay5 (F := Ideal) x0 = y5 at e5 ⊢
  generalize k0_pay6 (F := Ideal) x0 = y6 at e6 ⊢
  generalize k0_pay7 (F := Ideal) x0 = y7 at e7 ⊢
  pointwise
  simp only [e, e5, e6, e7, h0]
  simp only [mul_comm (dPre A w E _)]
  match k with
  | ⟨0, _⟩ => rfl
  | ⟨1, _⟩ => rfl
  | ⟨2, _⟩ => rfl
  | ⟨3, _⟩ => rfl
  | ⟨n + 4, h⟩ => rw [dif_neg (by simp), dif_neg (by simp), dif_neg (by simp), dif_neg (by simp), if_neg (by simp)]

end Body

/-- The padded lanes hold zeros, and so do their gradients. -/
theorem dPre_zero (s : ℕ) : dPre (fun _ => 0) (fun _ => 0) (fun _ => 0) s = 0 := by
  have hd : ∀ k s, down k (fun _ => 0) s = 0 := fun k s => by unfold down; split_ifs <;> rfl
  have : pre (fun _ => 0) (fun _ => 0) s = 0 := by unfold pre; simp [hd]
  unfold dPre
  rw [this]; simp

theorem dIn_zero (e : ℕ → EReal) (s : ℕ) : dIn (fun _ => 0) e s = 0 := by
  unfold dIn up
  simp

theorem dTap_zero (e : ℕ → EReal) (k : ℕ) : dTap (fun _ => 0) e k = 0 := by
  unfold dTap down
  simp

/-- The convolution of real columns is real. -/
theorem pre_real (f w : ℕ → EReal) (hf : ∀ s, ∃ r : ℝ, f s = r) (hw : ∀ s, ∃ r : ℝ, w s = r) (s : ℕ) : ∃ r : ℝ, pre f w s = r := by
  choose a ha using hf
  choose b hb using hw
  have hd : ∀ k s, down k f s = ((if k ≤ s then a (s - k) else 0 : ℝ) : EReal) := fun k s => by
    unfold down; split_ifs <;> simp [ha]
  unfold pre
  rw [hd, hd, hd, ha, hb, hb, hb, hb]
  simp only [coe_mul, coe_add]
  exact ⟨_, rfl⟩

/-! ## The blocks of a grid point -/

variable (m : (ℓ : Loc nD τ sig) → Buf (Elt Ideal) ℓ)

theorem idx : ∀ t : Fin cfg0.N,
    win0_0.index t = ![(grid0.coords t 0).val, 0, (grid0.coords t 1).val] ∧
    win0_1.index t = ![(grid0.coords t 0).val, 0, (grid0.coords t 1).val] ∧
    win0_2.index t = ![(grid0.coords t 0).val, 0, (grid0.coords t 1).val] ∧
    win0_3.index t = ![(grid0.coords t 0).val, 0, (grid0.coords t 1).val] ∧
    win0_4.index t = ![(grid0.coords t 0).val, 0, (grid0.coords t 1).val] :=
  (by decide +kernel : ∀ t : Fin grid0.N, _)

/-- Lane `n` of group `g` of the projected input, of the taps and of the cotangent. -/
def kU (c : Dev nD) (g n s : ℕ) : EReal := if n < 192 then at3 (m ((c : Thread nD τ).loc main_arg0)) 0 s (g * 192 + n) else 0
def kW (c : Dev nD) (g n k : ℕ) : EReal := if n < 192 then at2 (m ((c : Thread nD τ).loc main_arg1)) k (g * 192 + n) else 0
def kD (c : Dev nD) (g n s : ℕ) : EReal := if n < 192 then at3 (m ((c : Thread nD τ).loc main_arg2)) 0 s (g * 192 + n) else 0

/-- The lane of its group that lane `l` of grid point `t` is. -/
def lane (t : Fin cfg0.N) (l : Fin 128) : ℕ := (grid0.coords t 1).val * 128 + l.val

theorem iblk0 (c : Dev nD) (t : Fin cfg0.N) (s : Fin 4096) (l : Fin 128) :
    iblk m c 0 t (ix3 (0 : Fin 1) s l) = kU m c (grid0.coords t 0).val (lane t l) s.val := by
  have h0 : (grid0.coords t 0).val < 8 := (grid0.coords t 0).isLt
  have h1 : (grid0.coords t 1).val < 2 := (grid0.coords t 1).isLt
  refine Eq.trans ?_ (V_u m c ⟨(grid0.coords t 0).val, by omega⟩ h0 s ⟨(grid0.coords t 1).val * 128 + l.val, by omega⟩)
  blk_ext [iblk, (idx t).1]

theorem iblk1 (c : Dev nD) (t : Fin cfg0.N) (k : Fin 8) (hk : k.val < 4) (l : Fin 128) :
    iblk m c 1 t (ix3 (0 : Fin 1) k l) = kW m c (grid0.coords t 0).val (lane t l) k.val := by
  have h0 : (grid0.coords t 0).val < 8 := (grid0.coords t 0).isLt
  have h1 : (grid0.coords t 1).val < 2 := (grid0.coords t 1).isLt
  refine Eq.trans ?_ (V_w m c ⟨(grid0.coords t 0).val, by omega⟩ k hk ⟨(grid0.coords t 1).val * 128 + l.val, by omega⟩)
  blk_ext [iblk, (idx t).2.1]

theorem iblk2 (c : Dev nD) (t : Fin cfg0.N) (s : Fin 4096) (l : Fin 128) :
    iblk m c 2 t (ix3 (0 : Fin 1) s l) = kD m c (grid0.coords t 0).val (lane t l) s.val := by
  have h0 : (grid0.coords t 0).val < 8 := (grid0.coords t 0).isLt
  have h1 : (grid0.coords t 1).val < 2 := (grid0.coords t 1).isLt
  refine Eq.trans ?_ (V_d m c ⟨(grid0.coords t 0).val, by omega⟩ s ⟨(grid0.coords t 1).val * 128 + l.val, by omega⟩)
  blk_ext [iblk, (idx t).2.2.1]

/-! ## The output arrays -/

/-- What the body leaves of the inputs' blocks. -/
theorem outs3 (c : Dev nD) (t : Fin cfg0.N) (y : S1x4096x128.Idx) : (outsAt0 m c t).1 y =
    k0_pay1 (k0_pay12 (k0_pay4 (iblk m c 1 t)) (k0_pay8 (iblk m c 0 t) (iblk m c 1 t)) (k0_pay9 (iblk m c 0 t) (iblk m c 1 t)) k0_pay10 (iblk m c 2 t))
      (k0_pay13 (k0_pay4 (iblk m c 1 t)) (k0_pay8 (iblk m c 0 t) (iblk m c 1 t)) (k0_pay9 (iblk m c 0 t) (iblk m c 1 t)) k0_pay10 (iblk m c 2 t)) y := by
  unfold outsAt0
  frame_out

theorem outs4 (c : Dev nD) (t : Fin cfg0.N) (y : S1x8x128.Idx) : (outsAt0 m c t).2 y =
    k0_pay2 (k0_pay3 (iblk m c 0 t)) (k0_pay5 (iblk m c 0 t)) (k0_pay6 (iblk m c 0 t)) (k0_pay7 (iblk m c 0 t))
      (k0_pay11 (k0_pay8 (iblk m c 0 t) (iblk m c 1 t)) (k0_pay9 (iblk m c 0 t) (iblk m c 1 t)) k0_pay10 (iblk m c 2 t)) y := by
  unfold outsAt0
  frame_out

/-- The gradient's buffer: the first eight groups are written, the others keep what they held. -/
theorem w3_of (c : Dev nD) (G : ℕ → ℕ → ℕ → EReal) (hG : ∀ (t : Fin cfg0.N) (s : Fin 4096) (l : Fin 128),
      (outsAt0 m c t).1 (ix3 0 s l) = G (grid0.coords t 0).val s.val (lane t l)) :
    (dats m 0 c).arrAt 3 cfg0.N = (fun i => if (i 0).val < 8 then G (i 0).val (i 1).val (i 2).val else V m c main_v39_0 i : S18x4096x256.Idx → EReal) := by
  refine (dats m 0 c).arrAt_eq_of_coversWhere 3 (fun i => G (i 0).val (i 1).val (i 2).val : S18x4096x256.Idx → EReal) (fun β => β (0 : Fin _) < 8) (by decide +kernel) (fun t hf y => ?_) (fun j => ?_)
  swap
  · have e : ((j 0).val / 1 < 8) = ((j 0).val < 8) := by rw [Nat.div_one]
    exact Iff.of_eq e.symm
  blk_simp
  rw [after0_3]
  obtain ⟨s, l, rfl⟩ := eq_ix3_unit y
  refine (hG t s l).trans ?_
  have e1 : win0_3.index t 1 * 4096 + s.val = s.val := by rw [(idx t).2.2.2.1]; simp
  have e2 : win0_3.index t 2 * 128 + l.val = lane t l := by rw [(idx t).2.2.2.1]; rfl
  have e0 : win0_3.index t 0 = (grid0.coords t 0).val := by rw [(idx t).2.2.2.1]; rfl
  show _ = G (win0_3.index t 0) (win0_3.index t 1 * 4096 + s.val) (win0_3.index t 2 * 128 + l.val)
  rw [e0, e1, e2]

theorem w4_of (c : Dev nD) (G : ℕ → ℕ → ℕ → EReal) (hG : ∀ (t : Fin cfg0.N) (s : Fin 8) (l : Fin 128),
      (outsAt0 m c t).2 (ix3 0 s l) = G (grid0.coords t 0).val s.val (lane t l)) :
    (dats m 0 c).arrAt 4 cfg0.N = (fun i => G (i 0).val (i 1).val (i 2).val : S8x8x256.Idx → EReal) := by
  refine (dats m 0 c).arrAt_eq_of_covers 4 _ (by decide +kernel) fun t hf y => ?_
  blk_simp
  rw [after0_4]
  obtain ⟨s, l, rfl⟩ := eq_ix3_unit y
  refine (hG t s l).trans ?_
  have e1 : win0_4.index t 1 * 8 + s.val = s.val := by rw [(idx t).2.2.2.2]; simp
  have e2 : win0_4.index t 2 * 128 + l.val = lane t l := by rw [(idx t).2.2.2.2]; rfl
  have e0 : win0_4.index t 0 = (grid0.coords t 0).val := by rw [(idx t).2.2.2.2]; rfl
  show _ = G (win0_4.index t 0) (win0_4.index t 1 * 8 + s.val) (win0_4.index t 2 * 128 + l.val)
  rw [e0, e1, e2]

section Finite
variable {U : S1x4096x3336.Idx → ℝ} {W : S4x1536.Idx → ℝ} {C : S1x4096x1536.Idx → ℝ} {c : Dev nD}
  (hU : m ((c : Thread nD τ).loc main_arg0) = fun i => (U i : EReal)) (hW : m ((c : Thread nD τ).loc main_arg1) = fun i => (W i : EReal))
  (hC : m ((c : Thread nD τ).loc main_arg2) = fun i => (C i : EReal))

include hU hW in
theorem kpre_real (g n s : ℕ) : ∃ r : ℝ, pre (kU m c g n) (kW m c g n) s = r :=
  pre_real _ _ (fun s => by unfold kU; rw [hU, at3_coe, coe_ite]; exact ⟨_, rfl⟩)
    (fun k => by unfold kW at2; rw [hW]; split_ifs <;> first | exact ⟨_, rfl⟩ | exact ⟨0, rfl⟩) s

include hC in
theorem kD_real (g n s : ℕ) : ∃ r : ℝ, kD m c g n s = r := by
  unfold kD; rw [hC, at3_coe, coe_ite]; exact ⟨_, rfl⟩

/-- The cotangent of the convolution's output in lane `n` of group `g`. -/
abbrev kE (c : Dev nD) (g n : ℕ) : ℕ → EReal := dPre (kU m c g n) (kW m c g n) (kD m c g n)

include hU hW hC in
theorem w3 : (dats m 0 c).arrAt 3 cfg0.N =
    (fun i => if (i 0).val < 8 then dIn (kW m c (i 0).val (i 2).val) (kE m c (i 0).val (i 2).val) (i 1).val else V m c main_v39_0 i : S18x4096x256.Idx → EReal) :=
  w3_of m c (fun g s n => dIn (kW m c g n) (kE m c g n) s) fun t s l => (outs3 m c t _).trans
    (pay1_at _ _ _ l (kU m c (grid0.coords t 0).val (lane t l)) (kW m c (grid0.coords t 0).val (lane t l)) (kD m c (grid0.coords t 0).val (lane t l))
      (fun s => iblk0 m c t s l) (fun k hk => iblk1 m c t k hk l) (fun s => iblk2 m c t s l) (kpre_real m hU hW _ _) (kD_real m hC _ _) s)

include hU hW hC in
theorem w4 : (dats m 0 c).arrAt 4 cfg0.N =
    (fun i => if (i 1).val < 4 then dTap (kU m c (i 0).val (i 2).val) (kE m c (i 0).val (i 2).val) (i 1).val else 0 : S8x8x256.Idx → EReal) :=
  w4_of m c (fun g s n => if s < 4 then dTap (kU m c g n) (kE m c g n) s else 0) fun t s l => (outs4 m c t _).trans
    (pay2_at _ _ _ l (kU m c (grid0.coords t 0).val (lane t l)) (kW m c (grid0.coords t 0).val (lane t l)) (kD m c (grid0.coords t 0).val (lane t l))
      (fun s => iblk0 m c t s l) (fun k hk => iblk1 m c t k hk l) (fun s => iblk2 m c t s l) (kpre_real m hU hW _ _) (kD_real m hC _ _) s)

end Finite

end Cert.QkValue
end
-- ==== Proof.QkClaim.lean ====
/-
  The pair of the queries' and keys' convolution: for finite arguments the backward kernel's two arrays are those of the
  reference.
-/
module

public import proofs.«01_k».proof.Defs
public import proofs.«01_k».proof.Proof.QkValue

@[expose] public section

noncomputable section

namespace Cert.QkClaim

open Idealize.ShloMosaic Idealize.ShloMosaic.TcCoe Idealize.SL.Sem
open Cert.Common Cert.Lift Cert.QkRef Cert.QkValue

theorem pre_facts : Cert.Pre_finite5.Facts := ⟨by decide, by decide, by decide⟩

attribute [local instance] pre_facts

/-- Finite argument arrays are real arrays. -/
theorem args {m : (ℓ : Loc Cert.Kernel5Ideal.nD Cert.Kernel5Ideal.τ Cert.Kernel5Ideal.sig) → Buf (Elt Ideal) ℓ}
    (h : Cert.Pre_Kernel5Ideal_finite5 m) (c : Dev Cert.Kernel5Ideal.nD) :
    ∃ (U : Cert.Kernel5Ideal.S1x4096x3336.Idx → ℝ) (W : Cert.Kernel5Ideal.S4x1536.Idx → ℝ) (C : Cert.Kernel5Ideal.S1x4096x1536.Idx → ℝ),
      (m ((c.tc : Thread Cert.Kernel5Ideal.nD Cert.Kernel5Ideal.τ).loc Cert.Kernel5Ideal.main_arg0) = fun i => (U i : EReal))
        ∧ (m ((c.tc : Thread Cert.Kernel5Ideal.nD Cert.Kernel5Ideal.τ).loc Cert.Kernel5Ideal.main_arg1) = fun i => (W i : EReal))
        ∧ (m ((c.tc : Thread Cert.Kernel5Ideal.nD Cert.Kernel5Ideal.τ).loc Cert.Kernel5Ideal.main_arg2) = fun i => (C i : EReal)) := by
  obtain ⟨h0, h1, h2⟩ := h c
  obtain ⟨U, hU⟩ := finite_of_test (fun _ => rfl) h0
  obtain ⟨W, hW⟩ := finite_of_test (fun _ => rfl) h1
  obtain ⟨C, hC⟩ := finite_of_test (fun _ => rfl) h2
  exact ⟨U, W, C, hU, hW, hC⟩

theorem algebraic : Cert.algebraic_Kernel5Ideal_Reference5Ideal_pre_finite5 := by
  pair_intro
  · run_from Cert.Kernel5Ideal.Value.run_blocks m g
  · run_from Cert.Reference5Ideal.Value.run m' g'
    · obtain ⟨U, W, C, hU, hW, hC⟩ := args hpre c
      refine (Cert.Reference5Ideal.Read.val_main_v83_eq m' c).trans ?_
      rw [(hagree c).1, (hagree c).2.1, (hagree c).2.2.1, (hagree c).2.2.2]
      refine Eq.trans (funext fun i => ?_) (w3 m hU hW hC).symm
      rw [V_du]
      obtain ⟨a, s, l, rfl⟩ : ∃ a s l, i = ix3 a s l := ⟨_, _, _, eq_ix3 i⟩
      refine (v83_at _ _ _ _ a s l).trans (if_congr Iff.rfl ?_ rfl)
      show _ = dIn (kW m c a.val l.val) (kE m c a.val l.val) s.val
      by_cases hl : l.val < 192
      · unfold kE kU kW kD
        simp only [if_pos hl]
      · rw [if_neg hl]
        unfold kW
        simp only [if_neg hl]
        exact (dIn_zero _ _).symm
    · obtain ⟨U, W, C, hU, hW, hC⟩ := args hpre c
      refine (Cert.Reference5Ideal.Read.val_main_v86_eq m' c).trans ?_
      rw [(hagree c).1, (hagree c).2.1, (hagree c).2.2.1]
      refine Eq.trans (funext fun i => ?_) (w4 m hU hW hC).symm
      obtain ⟨a, s, l, rfl⟩ : ∃ a s l, i = ix3 a s l := ⟨_, _, _, eq_ix3 i⟩
      refine (v86_at _ _ _ a s l).trans (if_congr Iff.rfl ?_ rfl)
      show _ = dTap (kU m c a.val l.val) (kE m c a.val l.val) s.val
      by_cases hl : l.val < 192
      · unfold kE kU kW kD
        simp only [if_pos hl]
      · rw [if_neg hl]
        unfold kU
        simp only [if_neg hl]
        exact (dTap_zero _ _).symm

end Cert.QkClaim
end
-- ==== Proof.HnHost.lean ====
/-
  The arrays on which the output norm of the memory heads is called backwards: columns in groups of one head.
-/
module

public import proofs.«01_k».proof.Proof.Gen.Kernel6Ideal.Value
public import proofs.«01_k».proof.Proof.Common

@[expose] public section

set_option maxRecDepth 200000

noncomputable section

namespace Cert.HnValue

open Idealize.ShloMosaic Idealize.ShloMosaic.TcCoe Idealize.SL.Sem Idealize.ShloMosaic.Pipeline
open Cert.Kernel6Ideal Cert.Kernel6Ideal.Gen
open Cert.Common

variable (m : (ℓ : Loc nD τ sig) → Buf (Elt Ideal) ℓ)

theorem sitofp_zero : FloatOps.sitofp (F := Ideal) FTy.f32 0#32 = (0 : EReal) := by
  simp [FloatOps.sitofp]

theorem V_h (c : Dev nD) (a : Fin 4) (s : Fin 4096) (l : Fin 256) :
    V m c main_v3 (ix3 a s l) = if h : l.val < 192 then m ((c : Thread nD τ).loc main_arg0) (ix4 (0 : Fin 1) s a ⟨l.val, h⟩) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_results
  simp only [StableHlo.TRef.toBuf, StableHlo.TRef.ofBuf, cast_eq]
  pointwise
  simp only [sitofp_zero]

theorem V_g (c : Dev nD) (a : Fin 4) (l : Fin 256) :
    V m c main_v28 (ix3 a 0 l) = if h : l.val < 192 then m ((c : Thread nD τ).loc main_arg2) (ix2 a ⟨l.val, h⟩) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_results
  simp only [StableHlo.TRef.toBuf, StableHlo.TRef.ofBuf, cast_eq]
  pointwise
  simp only [sitofp_zero]

theorem V_ct (c : Dev nD) (b : Fin 5) (h : b.val < 4) (s : Fin 4096) (l : Fin 256) :
    V m c main_v37 (ix3 b s l) = if l.val < 192 then at3 (m ((c : Thread nD τ).loc main_arg3)) 0 s.val (b.val * 192 + l.val) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_results
  simp only [StableHlo.TRef.toBuf, StableHlo.TRef.ofBuf, cast_eq]
  pointwise
  simp only [sitofp_zero, at3_ix]
  rw [dif_pos h]
  by_cases hl : l.val < 192
  · rw [dif_pos ⟨h, hl⟩, if_pos hl]; rfl
  · rw [dif_neg (fun h => hl h.2), if_neg hl]

theorem V_u (c : Dev nD) (g : Fin 18) (b : Fin 4) (hb : g.val = 12 + b.val) (s : Fin 4096) (l : Fin 256) :
    V m c main_v26 (ix3 g s l) = if l.val < 192 then at3 (m ((c : Thread nD τ).loc main_arg1)) 0 s.val (2304 + (b.val * 192 + l.val)) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_results
  simp only [StableHlo.TRef.toBuf, StableHlo.TRef.ofBuf, cast_eq]
  pointwise
  simp only [↓ StableHlo.readResult]
  pointwise
  simp only [↓ StableHlo.readResult, StableHlo.TRef.toBuf, StableHlo.TRef.ofBuf, cast_eq]
  refine (dif_neg (show ¬ g.val < 4 by omega)).trans ((dif_neg (show ¬ g.val - 4 < 4 by omega)).trans
    ((dif_neg (show ¬ g.val - 4 - 4 < 4 by omega)).trans ((dif_pos (show g.val - 4 - 4 - 4 < 4 by omega)).trans ?_)))
  pointwise
  simp only [sitofp_zero, at3_ix]
  by_cases hl : l.val < 192
  · rw [dif_pos (⟨by omega, hl⟩ : g.val - 4 - 4 - 4 < 4 ∧ l.val < 192), if_pos hl, show g.val - 4 - 4 - 4 = b.val by omega]; rfl
  · rw [dif_neg (fun h => hl h.2), if_neg hl]

end Cert.HnValue
end
-- ==== Proof.Ln.lean ====
/-
  The gradient of a row normalisation over the reals: the form an automatic derivative takes (through the mean, the
  variance and the reciprocal root) is the closed form the kernels compute.
-/
module

public import proofs.«01_k».proof.Proof.Lift

@[expose] public section

noncomputable section

namespace Cert.Ln

open Idealize.ShloMosaic Cert.Lift
open scoped BigOperators

variable {n : ℕ} (N e : ℝ) (z a : Fin n → ℝ)

/-- The row's mean. -/
def mu : ℝ := (∑ i, z i) / N
/-- The centred row. -/
def zc (i : Fin n) : ℝ := z i - mu N z
/-- The row's variance. -/
def var : ℝ := (∑ i, zc N z i * zc N z i) / N
/-- The reciprocal root of the variance plus `e`. -/
def rs : ℝ := (Real.sqrt (var N z + e))⁻¹
/-- The normalised row. -/
def xh (i : Fin n) : ℝ := zc N z i * rs N e z
/-- The gradient of the row, from the cotangent `a` of the normalised row. -/
def dx (i : Fin n) : ℝ := rs N e z * (a i - (∑ j, a j) / N - xh N e z i * ((∑ j, a j * xh N e z j) / N))

/-- What reaches the variance. -/
def dvar : ℝ := (∑ j, zc N z j * a j) * (-(1 / 2) * (rs N e z / (var N z + e)))
/-- What reaches the centred row through the variance. -/
def dsq (i : Fin n) : ℝ := dvar N e z a / N * (2 * zc N z i)
/-- What reaches the mean. -/
def dmu : ℝ := (∑ j, -(a j * rs N e z)) + ∑ j, -(dsq N e z a j)

theorem sum_zc (hN : N = n) (h0 : n ≠ 0) : ∑ i, zc N z i = 0 := by
  have : (n : ℝ) ≠ 0 := by exact_mod_cast h0
  unfold zc mu
  rw [Finset.sum_sub_distrib, Finset.sum_const, Finset.card_univ, Fintype.card_fin, nsmul_eq_mul, hN]
  field_simp
  ring

theorem var_nonneg (hN : 0 ≤ N) : 0 ≤ var N z :=
  div_nonneg (Finset.sum_nonneg fun i _ => mul_self_nonneg _) hN

/-- The automatic derivative is the closed form. -/
theorem dx_eq (hN : N = n) (h0 : n ≠ 0) (he : 0 < e) (i : Fin n) :
    a i * rs N e z + dsq N e z a i + dmu N e z a / N = dx N e z a i := by
  have hN0 : N ≠ 0 := by rw [hN]; exact_mod_cast h0
  have hv : 0 < var N z + e := by
    have := var_nonneg N z (by rw [hN]; positivity)
    linarith
  have hr : rs N e z / (var N z + e) = rs N e z ^ 3 := by
    unfold rs
    have hs : Real.sqrt (var N z + e) ≠ 0 := (Real.sqrt_pos.mpr hv).ne'
    have h2 : var N z + e = Real.sqrt (var N z + e) ^ 2 := (Real.sq_sqrt hv.le).symm
    generalize Real.sqrt (var N z + e) = q at *
    rw [h2]; field_simp
  have h1 : ∑ j, -(a j * rs N e z) = -((∑ j, a j) * rs N e z) := by
    rw [Finset.sum_neg_distrib, Finset.sum_mul]
  have h2 : ∑ j, -(dsq N e z a j) = 0 := by
    unfold dsq
    rw [Finset.sum_neg_distrib, ← Finset.mul_sum, ← Finset.mul_sum, sum_zc N z hN h0]; simp
  have h3 : ∑ j, a j * xh N e z j = (∑ j, zc N z j * a j) * rs N e z := by
    rw [Finset.sum_mul]
    exact Finset.sum_congr rfl fun j _ => by unfold xh; ring
  unfold dmu dx
  rw [h1, h2, h3]
  unfold dsq dvar
  rw [hr]
  unfold xh
  field_simp
  ring

/-! ## The same on coerced reals -/

/-- The reciprocal root of a positive real. -/
theorem rsqrt_coe (x : ℝ) (hx : 0 < x) : Ideal.rsqrt (x : EReal) = (((Real.sqrt x)⁻¹ : ℝ) : EReal) := by
  rw [Ideal.rsqrt_coe, if_neg hx.not_gt, if_neg hx.ne']

/-- The programs' `1e-5`, the rational of its word. -/
def eps : ℝ := 10995116 / 1099511627776
theorem eps_pos : 0 < eps := by unfold eps; norm_num

theorem ofBits_eps : Ideal.ofBits FTy.f32 925353388#32 = (eps : EReal) := by
  simp [Ideal.ofBits, Ideal.ieee, -EReal.coe_mul, eps]; norm_num
theorem ofBits_zero : Ideal.ofBits FTy.f32 0#32 = 0 := by
  simp [Ideal.ofBits, Ideal.ieee]
theorem ofBits_two : Ideal.ofBits FTy.f32 1073741824#32 = ((2 : ℝ) : EReal) := by
  simp [Ideal.ofBits, Ideal.ieee, -EReal.coe_mul]; norm_num
theorem ofBits_neg_half : Ideal.ofBits FTy.f32 3204448256#32 = ((-(1 / 2) : ℝ) : EReal) := by
  simp [Ideal.ofBits, Ideal.ieee, -EReal.coe_mul]; norm_num
theorem ofBits_1024 : Ideal.ofBits FTy.f32 1149239296#32 = ((1024 : ℝ) : EReal) := by
  simp [Ideal.ofBits, Ideal.ieee, -EReal.coe_mul]; norm_num
theorem ofBits_192 : Ideal.ofBits FTy.f32 1128267776#32 = ((192 : ℝ) : EReal) := by
  simp [Ideal.ofBits, Ideal.ieee, -EReal.coe_mul]; norm_num

/-- A row's variance plus `eps` is positive. -/
theorem var_pos (hN : 0 ≤ N) : 0 < var N z + eps := add_pos_of_nonneg_of_pos (var_nonneg N z hN) eps_pos

/-- The reciprocal root of a row's variance plus `eps`. -/
theorem rsqrt_var (hN : 0 ≤ N) : Ideal.rsqrt ((var N z + eps : ℝ) : EReal) = (rs N eps z : EReal) :=
  rsqrt_coe _ (var_pos N z hN)

/-- The lanes of a row padded with zeros contribute nothing to its sum. -/
theorem sum_pad (k : ℕ) (h : n ≤ k) (f : ℕ → ℝ) : ∑ l : Fin k, (if l.val < n then f l.val else 0) = ∑ l : Fin n, f l.val := by
  rw [Fin.sum_univ_eq_sum_range (fun i => if i < n then f i else 0), Fin.sum_univ_eq_sum_range f, ← Finset.sum_filter]
  congr 1
  ext i
  simp only [Finset.mem_filter, Finset.mem_range]
  omega

/-- The sum of a `1 × a × 1` array over its two unit axes is its entry. -/
theorem hostReduceAdd_outer_units1 {a : ℕ} (h : (⟨3, ![1, a, 1]⟩ : Shape).ReducesTo [0, 2] ⟨1, ![a]⟩)
    (x : (⟨3, ![1, a, 1]⟩ : Shape).Idx → EReal) (init : EReal) (i : Fin a) :
    Ideal.hostReduceAdd h x init (ix1 i) = init + x (ix3 0 i 0) := by
  rw [Common.hostReduceAdd_of_family h x init (ix1 i) (fun _ : Unit => ix3 0 i 0) (fun _ _ _ => rfl) (fun _ => ?_) (fun y hy => ⟨(), ?_⟩)]
  · simp
  · funext p
    have hp : p = 0 := Subsingleton.elim _ _
    subst hp
    exact Fin.ext (Shape.ReducesTo.drop_apply_val h _ 0)
  · have h0 : (h.drop y 0 : Nat) = y 1 := Shape.ReducesTo.drop_apply_val h y 0
    rw [hy] at h0
    funext p
    match p with
    | ⟨0, _⟩ => exact Fin.ext (by have := (y 0).isLt; change _ < 1 at this; show 0 = (y 0).val; omega)
    | ⟨1, _⟩ => exact Fin.ext h0
    | ⟨2, _⟩ => exact Fin.ext (by have := (y 2).isLt; change _ < 1 at this; show 0 = (y 2).val; omega)

end Cert.Ln
end
-- ==== Proof.Hn.lean ====
/-
  The gradient of the output norm of the memory heads over the reals: what both programs are shown to compute.
-/
module

public import proofs.«01_k».proof.Proof.Ln

@[expose] public section

noncomputable section

namespace Cert.Hn

open Idealize.ShloMosaic Cert.Common Cert.Lift
open Cert.Ln (eps)
open scoped BigOperators

/-- The logistic function. -/
def lg (x : ℝ) : ℝ := 1 / (1 + Real.exp (-x))

theorem one_add_exp_pos (x : ℝ) : 0 < 1 + Real.exp (-x) := by positivity

/-- The logistic function as both programs compute it. -/
theorem lg_coe (x : ℝ) : Ideal.div 1 (1 + Ideal.exp (-(x : EReal))) = (lg x : EReal) := by
  rw [coe_neg, exp_coe, show (1 : EReal) = ((1 : ℝ) : EReal) from rfl, coe_add, div_coe _ _ (one_add_exp_pos x).ne']
  rfl

theorem one_sub_coe (x : ℝ) : (1 : EReal) - x = ((1 - x : ℝ) : EReal) := coe_sub 1 x

variable (H : (⟨4, ![1, 4096, 4, 192]⟩ : Shape).Idx → ℝ) (U : (⟨3, ![1, 4096, 3336]⟩ : Shape).Idx → ℝ)
  (G : (⟨2, ![4, 192]⟩ : Shape).Idx → ℝ) (C : (⟨3, ![1, 4096, 1024]⟩ : Shape).Idx → ℝ)

/-- A row of one head. -/
def zr (s : Fin 4096) (a : Fin 4) : Fin 192 → ℝ := fun j => H (ix4 0 s a j)
/-- The gate, before the logistic function, of column `n` of the heads. -/
def ogate (s n : ℕ) : ℝ := r3 U 0 s (2304 + n)
/-- The cotangent of the gated columns. -/
def cot (s n : ℕ) : ℝ := r3 C 0 s n
theorem ogate_eq (s : Fin 4096) (n : ℕ) (h : 2304 + n < 3336) : ogate U s n = U (ix3 0 s ⟨2304 + n, h⟩) := (r3_ix U 0 s ⟨2304 + n, h⟩).symm
theorem cot_eq (s : Fin 4096) (n : ℕ) (h : n < 1024) : cot C s n = C (ix3 0 s ⟨n, h⟩) := (r3_ix C 0 s ⟨n, h⟩).symm
/-- The cotangent of the scaled, normalised row. -/
def er (s : Fin 4096) (a : Fin 4) (j : Fin 192) : ℝ := lg (ogate U s (a.val * 192 + j.val)) * cot C s (a.val * 192 + j.val)
/-- The cotangent of the normalised row. -/
def ar (s : Fin 4096) (a : Fin 4) (j : Fin 192) : ℝ := er U C s a j * G (ix2 a j)
/-- The gradient of the row. -/
def dh (s : Fin 4096) (a : Fin 4) (j : Fin 192) : ℝ := Ln.dx 192 eps (zr H s a) (ar U G C s a) j
/-- The gradient of the gate. -/
def dgate (s : Fin 4096) (a : Fin 4) (j : Fin 192) : ℝ :=
  cot C s (a.val * 192 + j.val) * (Ln.xh 192 eps (zr H s a) j * G (ix2 a j))
    * (lg (ogate U s (a.val * 192 + j.val)) * (1 - lg (ogate U s (a.val * 192 + j.val))))
/-- The part of the gradient of the scale that row `s` adds. -/
def dscale (s : Fin 4096) (a : Fin 4) (j : Fin 192) : ℝ := Ln.xh 192 eps (zr H s a) j * er U C s a j

/-- A row of 192 columns in a group of 256, zero in the others. -/
def lanes (f : Fin 192 → ℝ) (l : ℕ) : ℝ := if h : l < 192 then f ⟨l, h⟩ else 0

theorem lanes_sum (f : Fin 192 → ℝ) : ∑ l : Fin 256, lanes f l.val = ∑ j, f j := by
  have e := Ln.sum_pad 256 (by norm_num : (192 : ℕ) ≤ 256) (lanes f)
  have e2 : ∀ l : ℕ, (if l < 192 then lanes f l else 0) = lanes f l := fun l => by
    unfold lanes; split_ifs <;> rfl
  simp only [e2] at e
  rw [e]
  exact Finset.sum_congr rfl fun j _ => dif_pos j.isLt

theorem lanes_mul (f g : Fin 192 → ℝ) (l : ℕ) : lanes f l * lanes g l = lanes (fun j => f j * g j) l := by
  unfold lanes; split_ifs <;> simp

end Cert.Hn
end
-- ==== Proof.HnValue.lean ====
/-
  What the backward call of the memory heads' output norm leaves in its three output arrays, on finite arguments.
-/
module

public import proofs.«01_k».proof.Proof.HnHost
public import proofs.«01_k».proof.Proof.Hn

@[expose] public section

set_option maxRecDepth 200000

noncomputable section

namespace Cert.HnValue

open Idealize.ShloMosaic Idealize.ShloMosaic.TcCoe Idealize.SL.Sem Idealize.ShloMosaic.Pipeline
open Cert.Kernel6Ideal Cert.Kernel6Ideal.Gen
open Cert.Common Cert.Lift Cert.Hn
open Cert.Ln (eps ofBits_eps ofBits_zero)
open scoped BigOperators

/-- The named reciprocal of the heads' width. -/
theorem inv_head : Named.named (F := Ideal) κ "inv_head" (φ := .f32) 0x3BAAAAAB#32 = ((1 / 192 : ℝ) : EReal) :=
  IdealRules.named_const.ideal_named_scalar _ _ _ _ rfl

/-! ## One block of rows of one head -/

section Block
variable {x o d : Vec Ideal S1x2048x256 .f32} {g : Vec Ideal S1x1x256 .f32} {Z O D : Fin 2048 → Fin 192 → ℝ} {G : Fin 192 → ℝ}

/-- The mask of the head's own columns. -/
theorem mask_at (s : Fin 2048) (l : Fin 256) (x y : EReal) : Scalar.select (k0_pay3 (ix2 s l)) x y = if l.val < 192 then x else y := by
  unfold k0_pay3
  pointwise
  exact select_slt l.val 192 (by omega) (by omega) x y

variable (hz : ∀ s l, x (ix3 0 s l) = (lanes (Z s) l.val : EReal))
include hz

theorem pay4_at (s : Fin 2048) (l : Fin 256) : k0_pay4 x (ix2 s l) = (lanes (Ln.zc 192 (Z s)) l.val : EReal) := by
  unfold k0_pay4
  pointwise
  rw [mask_at]
  simp only [hz, inv_head, coe_sum, lanes_sum, coe_mul, coe_sub]
  unfold lanes
  by_cases hl : l.val < 192
  · simp only [if_pos hl, dif_pos hl]
    unfold Ln.zc Ln.mu
    rw [mul_one_div]
  · rw [if_neg hl, dif_neg hl]; rfl

theorem pay5_at (s : Fin 2048) : k0_pay5 x (ix2 s 0) = (Ln.rs 192 eps (Z s) : EReal) := by
  have e := pay4_at hz
  unfold k0_pay5
  generalize k0_pay4 (F := Ideal) x = y at e ⊢
  pointwise
  simp only [e, inv_head, coe_mul, lanes_mul, coe_sum, lanes_sum, ofBits_eps, coe_add, mul_one_div]
  exact Ln.rsqrt_var _ _ (by norm_num)

theorem pay6_at (s : Fin 2048) (l : Fin 256) : k0_pay6 x (ix2 s l) = (lanes (Ln.xh 192 eps (Z s)) l.val : EReal) := by
  have e := pay4_at hz
  have e2 := pay5_at hz
  unfold k0_pay6
  generalize k0_pay4 (F := Ideal) x = y at e ⊢
  generalize k0_pay5 (F := Ideal) x = w at e2 ⊢
  pointwise
  simp only [e, e2, coe_mul]
  unfold lanes
  split_ifs
  · rfl
  · rw [zero_mul]

variable (ho : ∀ s l, o (ix3 0 s l) = (lanes (O s) l.val : EReal)) (hd : ∀ s l, d (ix3 0 s l) = (lanes (D s) l.val : EReal))
  (hg : ∀ l, g (ix3 0 0 l) = (lanes G l.val : EReal))

section
omit hz
include ho
theorem pay10_at (s : Fin 2048) (l : Fin 256) : k0_pay10 (k0_pay8 o) k0_pay9 (ix2 s l) = (lg (lanes (O s) l.val) : EReal) := by
  unfold_payloads
  pointwise
  simp only [ho, zero_sub]
  exact lg_coe _
end

section
omit hz
include hd
theorem pay11_at (s : Fin 2048) (l : Fin 256) : k0_pay11 k0_pay3 d (ix2 s l) = (lanes (D s) l.val : EReal) := by
  unfold k0_pay11
  pointwise
  rw [mask_at, hd]
  unfold lanes
  split_ifs <;> rfl
end

/-- The cotangent of the scaled, normalised row. -/
abbrev ev (O D : Fin 2048 → Fin 192 → ℝ) (s : Fin 2048) : Fin 192 → ℝ := fun j => lg (O s j) * D s j

section
omit hz
include ho hd
theorem pay13_at (s : Fin 2048) (l : Fin 256) :
    k0_pay13 k0_pay3 (k0_pay8 o) k0_pay9 d (ix2 s l) = (lanes (ev O D s) l.val : EReal) := by
  have e := pay10_at ho
  have e2 := pay11_at hd
  unfold k0_pay13
  generalize k0_pay10 (F := Ideal) _ _ = y at e ⊢
  generalize k0_pay11 (F := Ideal) _ _ = w at e2 ⊢
  pointwise
  simp only [e, e2, coe_mul]
  unfold lanes
  split_ifs
  · rw [mul_comm]
  · rw [zero_mul]

include hg
theorem pay15_at (s : Fin 2048) (l : Fin 256) :
    k0_pay15 k0_pay3 (k0_pay7 g) (k0_pay8 o) k0_pay9 d (ix2 s l) = (lanes (fun j => ev O D s j * G j) l.val : EReal) := by
  have e := pay13_at ho hd
  unfold k0_pay15 k0_pay7
  generalize k0_pay13 (F := Ideal) _ _ _ _ = y at e ⊢
  pointwise
  simp only [e, hg, coe_mul, lanes_mul]

theorem pay17_at (s : Fin 2048) (l : Fin 256) : k0_pay17 k0_pay3 (k0_pay7 g) (k0_pay8 o) k0_pay9 d (ix2 s l)
    = ((lanes (fun j => ev O D s j * G j) l.val - (∑ j, ev O D s j * G j) / 192 : ℝ) : EReal) := by
  have e := pay15_at ho hd hg
  unfold k0_pay17
  generalize k0_pay15 (F := Ideal) _ _ _ _ _ = y at e ⊢
  pointwise
  simp only [e, inv_head, coe_mul, coe_sum, lanes_sum, mul_one_div, coe_sub]
end

include ho hd

theorem pay14_at (w : Vec Ideal S1x1x256 .f32) (l : Fin 256) : k0_pay14 k0_pay3 (k0_pay6 x) (k0_pay8 o) k0_pay9 d w (ix3 0 0 l)
    = w (ix3 0 0 l) + ((∑ s, lanes (fun j => Ln.xh 192 eps (Z s) j * ev O D s j) l.val : ℝ) : EReal) := by
  have e := pay13_at ho hd
  have e2 := pay6_at hz
  unfold k0_pay14
  generalize k0_pay13 (F := Ideal) _ _ _ _ = y at e ⊢
  generalize k0_pay6 (F := Ideal) _ = u at e2 ⊢
  pointwise
  simp only [e, e2, coe_mul, lanes_mul, coe_sum, mul_comm]

include hg

theorem pay12_at (s : Fin 2048) (l : Fin 256) : k0_pay12 k0_pay3 (k0_pay6 x) (k0_pay7 g) (k0_pay8 o) k0_pay9 d (ix3 0 s l)
    = (lanes (fun j => D s j * (Ln.xh 192 eps (Z s) j * G j) * (lg (O s j) * (1 - lg (O s j)))) l.val : EReal) := by
  have e := pay10_at ho
  have e2 := pay11_at hd
  have e3 := pay6_at hz
  unfold k0_pay12 k0_pay7
  generalize k0_pay10 (F := Ideal) _ _ = y at e ⊢
  generalize k0_pay11 (F := Ideal) _ _ = w at e2 ⊢
  generalize k0_pay6 (F := Ideal) _ = u at e3 ⊢
  pointwise
  simp only [e, e2, e3, hg, coe_mul, one_sub_coe]
  unfold lanes
  split_ifs
  · congr 1; ring
  · simp

theorem pay16_at (s : Fin 2048) : k0_pay16 k0_pay3 (k0_pay6 x) (k0_pay7 g) (k0_pay8 o) k0_pay9 d (ix2 s 0)
    = (((∑ j, ev O D s j * G j * Ln.xh 192 eps (Z s) j) / 192 : ℝ) : EReal) := by
  have e := pay15_at ho hd hg
  have e3 := pay6_at hz
  unfold k0_pay16
  generalize k0_pay15 (F := Ideal) _ _ _ _ _ = y at e ⊢
  generalize k0_pay6 (F := Ideal) _ = u at e3 ⊢
  pointwise
  simp only [e, e3, inv_head, coe_mul, lanes_mul, coe_sum, lanes_sum, mul_one_div]

theorem pay1_at (s : Fin 2048) (l : Fin 256) :
    k0_pay1 k0_pay3 (k0_pay5 x) (k0_pay6 x) (k0_pay16 k0_pay3 (k0_pay6 x) (k0_pay7 g) (k0_pay8 o) k0_pay9 d)
      (k0_pay17 k0_pay3 (k0_pay7 g) (k0_pay8 o) k0_pay9 d) (ix3 0 s l)
    = (lanes (Ln.dx 192 eps (Z s) (fun j => ev O D s j * G j)) l.val : EReal) := by
  have e := pay5_at hz
  have e2 := pay6_at hz
  have e3 := pay16_at hz ho hd hg
  have e4 := pay17_at ho hd hg
  unfold k0_pay1
  generalize k0_pay16 (F := Ideal) _ _ _ _ _ _ = y at e3 ⊢
  generalize k0_pay17 (F := Ideal) _ _ _ _ _ = w at e4 ⊢
  generalize k0_pay5 (F := Ideal) _ = u at e ⊢
  generalize k0_pay6 (F := Ideal) _ = v at e2 ⊢
  pointwise
  rw [mask_at]
  simp only [e, e2, e3, e4, coe_mul, coe_sub]
  unfold lanes
  by_cases hl : l.val < 192
  · simp only [if_pos hl, dif_pos hl]
    rfl
  · rw [if_neg hl, dif_neg hl]; rfl

end Block

variable (m : (ℓ : Loc nD τ sig) → Buf (Elt Ideal) ℓ) (c : Dev nD)

/-! ## The blocks -/

theorem idx : ∀ t : Fin cfg0.N, win0_0.index t = ![t.val / 2, t.val % 2, 0] ∧ win0_1.index t = ![12 + t.val / 2, t.val % 2, 0] ∧ win0_2.index t = ![t.val / 2, 0, 0]
    ∧ win0_3.index t = ![t.val / 2, t.val % 2, 0] ∧ win0_4.index t = ![t.val / 2, t.val % 2, 0] ∧ win0_5.index t = ![12 + t.val / 2, t.val % 2, 0]
    ∧ win0_6.index t = ![t.val / 2, 0, 0] :=
  (by decide +kernel : ∀ t : Fin grid0.N, _)

/-- The row of the whole array that row `s` of grid point `t`'s block is. -/
def row (t : Fin cfg0.N) (s : Fin 2048) : Fin 4096 := ⟨t.val % 2 * 2048 + s.val, by omega⟩
/-- The head of grid point `t`. -/
def hd (t : Fin cfg0.N) : Fin 4 := ⟨t.val / 2, by have : t.val < 8 := t.isLt; omega⟩

section Finite
variable {H : S1x4096x4x192.Idx → ℝ} {U : S1x4096x3336.Idx → ℝ} {G : S4x192.Idx → ℝ} {C : S1x4096x1024.Idx → ℝ} {c : Dev nD}
  (hH : m ((c : Thread nD τ).loc main_arg0) = fun i => (H i : EReal)) (hU : m ((c : Thread nD τ).loc main_arg1) = fun i => (U i : EReal))
  (hG : m ((c : Thread nD τ).loc main_arg2) = fun i => (G i : EReal)) (hC : m ((c : Thread nD τ).loc main_arg3) = fun i => (C i : EReal))

section
include hH
theorem b0 (t : Fin cfg0.N) (s : Fin 2048) (l : Fin 256) : iblk m c 0 t (ix3 0 s l) = (lanes (zr H (row t s) (hd t)) l.val : EReal) := by
  have e : iblk m c 0 t (ix3 0 s l) = V m c main_v3 (ix3 (hd t) (row t s) l) := by
    blk_ext [iblk, (idx t).1, row, hd]
  rw [e, V_h, hH]
  unfold lanes
  split_ifs <;> rfl
end

section
include hU
theorem b1 (t : Fin cfg0.N) (s : Fin 2048) (l : Fin 256) :
    iblk m c 1 t (ix3 0 s l) = (lanes (fun j => ogate U (row t s) ((hd t).val * 192 + j.val)) l.val : EReal) := by
  have e : iblk m c 1 t (ix3 0 s l) = V m c main_v26 (ix3 ⟨12 + (hd t).val, by omega⟩ (row t s) l) := by
    blk_ext [iblk, (idx t).2.1, row, hd]
  rw [e, V_u m c _ (hd t) rfl, hU, at3_coe, coe_ite]
  unfold lanes
  split_ifs <;> rfl
end

section
include hG
theorem b2 (t : Fin cfg0.N) (l : Fin 256) : iblk m c 2 t (ix3 0 0 l) = (lanes (fun j => G (ix2 (hd t) j)) l.val : EReal) := by
  have e : iblk m c 2 t (ix3 0 0 l) = V m c main_v28 (ix3 (hd t) 0 l) := by
    blk_ext [iblk, (idx t).2.2.1, hd]
  rw [e, V_g, hG]
  unfold lanes
  split_ifs <;> rfl
end

section
include hC
theorem b3 (t : Fin cfg0.N) (s : Fin 2048) (l : Fin 256) :
    iblk m c 3 t (ix3 0 s l) = (lanes (fun j => cot C (row t s) ((hd t).val * 192 + j.val)) l.val : EReal) := by
  have e : iblk m c 3 t (ix3 0 s l) = V m c main_v37 (ix3 ⟨(hd t).val, by omega⟩ (row t s) l) := by
    blk_ext [iblk, (idx t).2.2.2.1, row, hd]
  rw [e, V_ct m c _ (by show (hd t).val < 4; omega), hC, at3_coe, coe_ite]
  unfold lanes
  split_ifs <;> rfl
end

/-! ## The output arrays -/

theorem w4_of (K : S4x4096x256.Idx → EReal) (hK : ∀ (t : Fin cfg0.N) (s : Fin 2048) (l : Fin 256), (outsAt0 m c t.val t.isLt).1 (ix3 0 s l) = K (ix3 (hd t) (row t s) l)) :
    (dats m 0 c).arrAt 4 cfg0.N = K := by
  refine (dats m 0 c).arrAt_eq_of_covers 4 _ (by decide +kernel) fun t hf y => ?_
  blk_simp
  rw [after0_4]
  obtain ⟨s, l, rfl⟩ := eq_ix3_unit y
  refine (hK t s l).trans (congrArg K ?_)
  blk_ext [(idx t).2.2.2.2.1, row, hd]

theorem w5_of (K : S18x4096x256.Idx → EReal) (hK : ∀ (t : Fin cfg0.N) (s : Fin 2048) (l : Fin 256),
      (outsAt0 m c t.val t.isLt).2.1 (ix3 0 s l) = K (ix3 ⟨12 + (hd t).val, by omega⟩ (row t s) l)) :
    (dats m 0 c).arrAt 5 cfg0.N = fun i : S18x4096x256.Idx => if 12 ≤ (i 0).val ∧ (i 0).val < 16 then K i else (dats m 0 c).A 5 i := by
  refine (dats m 0 c).arrAt_eq_of_coversWhere 5 (P := fun i : S18x4096x256.Idx => 12 ≤ (i 0).val ∧ (i 0).val < 16) (K : S18x4096x256.Idx → EReal)
    (fun β => 12 ≤ β (0 : Fin _) ∧ β (0 : Fin _) < 16) (by decide +kernel) (fun t hf y => ?_) (fun j => ?_)
  swap
  · have e : (12 ≤ (j 0).val / 1 ∧ (j 0).val / 1 < 16) = (12 ≤ (j 0).val ∧ (j 0).val < 16) := by rw [Nat.div_one]
    exact Iff.of_eq e.symm
  blk_simp
  rw [after0_5]
  obtain ⟨s, l, rfl⟩ := eq_ix3_unit y
  refine (hK t s l).trans (congrArg K ?_)
  blk_ext [(idx t).2.2.2.2.2.1, row, hd]

theorem w6_of (K : S4x1x256.Idx → EReal) (hK : ∀ (t : Fin cfg0.N), t.val % 2 = 1 → ∀ l : Fin 256, (outsAt0 m c t.val t.isLt).2.2 (ix3 0 0 l) = K (ix3 (hd t) 0 l)) :
    (dats m 0 c).arrAt 6 cfg0.N = K := by
  refine (dats m 0 c).arrAt_eq_of_covers 6 _ (by decide +kernel) fun t hf y => ?_
  have ht := (flush0_6 t).mp hf
  blk_simp
  rw [after0_6]
  obtain ⟨s, l, rfl⟩ := eq_ix3_unit y
  obtain rfl : s = 0 := Subsingleton.elim _ _
  refine (hK t ht l).trans (congrArg K ?_)
  blk_ext [(idx t).2.2.2.2.2.2, hd]

include hH hU hC

theorem out6_A (t : Fin cfg0.N) (h0 : t.val % 2 = 0) (l : Fin 256) : (outsAt0 m c t.val t.isLt).2.2 (ix3 0 0 l)
    = 0 + ((∑ s, lanes (dscale H U C (row t s) (hd t)) l.val : ℝ) : EReal) := by
  rw [Gen.outsAt0_A m c t h0]
  frame_out
  refine (pay14_at (b0 m hH t) (b1 m hU t) (b3 m hC t) _ l).trans ?_
  refine congrArg (· + _) ?_
  unfold_payloads; pointwise

theorem out6_B (t : Fin cfg0.N) (h0 : ¬ t.val % 2 = 0) (l : Fin 256) : (outsAt0 m c t.val t.isLt).2.2 (ix3 0 0 l)
    = (outsAt0 m c (t.val - 1) (Nat.lt_of_le_of_lt (Nat.sub_le _ _) t.isLt)).2.2 (ix3 0 0 l)
      + ((∑ s, lanes (dscale H U C (row t s) (hd t)) l.val : ℝ) : EReal) := by
  rw [Gen.outsAt0_B m c t h0]
  frame_out
  exact pay14_at (b0 m hH t) (b1 m hU t) (b3 m hC t) _ l

omit m hH hU hC in
/-- The two blocks of rows make the whole. -/
theorem two_blocks (f : Fin 4096 → Fin 192 → ℝ) (l : ℕ) (t t' : Fin cfg0.N) (h : t.val % 2 = 1) (h' : t'.val % 2 = 0) :
    (∑ s, lanes (f (row t' s)) l) + ∑ s, lanes (f (row t s)) l = lanes (fun j => ∑ s, f s j) l := by
  have e : ∀ F : Fin 4096 → ℝ, (∑ s, F (row t' s)) + ∑ s, F (row t s) = ∑ s, F s := by
    intro F
    refine Eq.trans ?_ (Fin.sum_univ_add (a := 2048) (b := 2048) F).symm
    refine congrArg₂ (· + ·) (Finset.sum_congr rfl fun s _ => congrArg F (Fin.ext ?_)) (Finset.sum_congr rfl fun s _ => congrArg F (Fin.ext ?_))
    · show t'.val % 2 * 2048 + s.val = s.val; omega
    · show t.val % 2 * 2048 + s.val = 2048 + s.val; omega
  rw [e fun s => lanes (f s) l]
  unfold lanes
  split_ifs
  · rfl
  · exact Finset.sum_const_zero

theorem out6 (t : Fin cfg0.N) (h : t.val % 2 = 1) (l : Fin 256) : (outsAt0 m c t.val t.isLt).2.2 (ix3 0 0 l)
    = (lanes (fun j => ∑ s, dscale H U C s (hd t) j) l.val : EReal) := by
  have ht : t.val < 8 := t.isLt
  have h1 : (⟨t.val - 1, by omega⟩ : Fin cfg0.N).val % 2 = 0 := by show (t.val - 1) % 2 = 0; omega
  have hh : hd ⟨t.val - 1, by omega⟩ = hd t := Fin.ext (by show (t.val - 1) / 2 = t.val / 2; omega)
  rw [out6_B m hH hU hC t (by omega) l]
  have e := out6_A m hH hU hC ⟨t.val - 1, by omega⟩ h1 l
  rw [hh, zero_add] at e
  refine (congrArg (· + _) e).trans ?_
  rw [coe_add]
  exact congrArg (fun x : ℝ => (x : EReal)) (two_blocks (fun s => dscale H U C s (hd t)) l.val t ⟨t.val - 1, by omega⟩ h h1)

theorem w6 : (dats m 0 c).arrAt 6 cfg0.N = (fun i => (lanes (fun j => ∑ s, dscale H U C s (i 0) j) (i 2).val : EReal) : S4x1x256.Idx → EReal) :=
  w6_of m _ (out6 m hH hU hC)

include hG

theorem out4 (t : Fin cfg0.N) (s : Fin 2048) (l : Fin 256) : (outsAt0 m c t.val t.isLt).1 (ix3 0 s l) = (lanes (dh H U G C (row t s) (hd t)) l.val : EReal) := by
  by_cases h0 : t.val % 2 = 0
  · rw [Gen.outsAt0_A m c t h0]
    frame_out
    exact pay1_at (b0 m hH t) (b1 m hU t) (b3 m hC t) (b2 m hG t) s l
  · rw [Gen.outsAt0_B m c t h0]
    frame_out
    exact pay1_at (b0 m hH t) (b1 m hU t) (b3 m hC t) (b2 m hG t) s l

theorem out5 (t : Fin cfg0.N) (s : Fin 2048) (l : Fin 256) : (outsAt0 m c t.val t.isLt).2.1 (ix3 0 s l) = (lanes (dgate H U G C (row t s) (hd t)) l.val : EReal) := by
  by_cases h0 : t.val % 2 = 0
  · rw [Gen.outsAt0_A m c t h0]
    frame_out
    exact pay12_at (b0 m hH t) (b1 m hU t) (b3 m hC t) (b2 m hG t) s l
  · rw [Gen.outsAt0_B m c t h0]
    frame_out
    exact pay12_at (b0 m hH t) (b1 m hU t) (b3 m hC t) (b2 m hG t) s l

theorem w4 : (dats m 0 c).arrAt 4 cfg0.N = (fun i => (lanes (dh H U G C (i 1) (i 0)) (i 2).val : EReal) : S4x4096x256.Idx → EReal) :=
  w4_of m _ (out4 m hH hU hG hC)

theorem w5 (a : Fin 18) (b : Fin 4) (h : a.val = 12 + b.val) (s : Fin 4096) (l : Fin 256) :
    (dats m 0 c).arrAt 5 cfg0.N (ix3 a s l : S18x4096x256.Idx) = (lanes (dgate H U G C s b) l.val : EReal) := by
  have e := congrFun (w5_of m (fun i => (lanes (dgate H U G C (i 1) ⟨(i 0).val - 12 - ((i 0).val - 12) / 4 * 4, by omega⟩) (i 2).val : EReal))
    (fun t s l => (out5 m hH hU hG hC t s l).trans ?_)) (ix3 a s l : S18x4096x256.Idx)
  · refine e.trans ((if_pos (show 12 ≤ a.val ∧ a.val < 16 by omega)).trans ?_)
    have hb : (⟨a.val - 12 - (a.val - 12) / 4 * 4, by omega⟩ : Fin 4) = b := Fin.ext (by show a.val - 12 - (a.val - 12) / 4 * 4 = b.val; omega)
    show (lanes (dgate H U G C s ⟨a.val - 12 - (a.val - 12) / 4 * 4, by omega⟩) l.val : EReal) = _
    rw [hb]
  · have hb : hd t = (⟨12 + (hd t).val - 12 - (12 + (hd t).val - 12) / 4 * 4, by omega⟩ : Fin 4) := Fin.ext (by
      show (hd t).val = 12 + (hd t).val - 12 - (12 + (hd t).val - 12) / 4 * 4
      have := (hd t).isLt
      omega)
    exact congrArg (fun b => (lanes (dgate H U G C (row t s) b) l.val : EReal)) hb

end Finite

end Cert.HnValue
end
-- ==== Proof.HnRef.lean ====
/-
  What the reference of the memory heads' output norm computes, one row of one head at a time, on finite arguments.
-/
module

public import proofs.«01_k».proof.Proof.Hn
public import proofs.«01_k».proof.Proof.Gen.Reference6Ideal.Read

@[expose] public section

set_option maxRecDepth 65536

noncomputable section

namespace Cert.HnRef

open Idealize.ShloMosaic Idealize.ShloMosaic.TcCoe Idealize.SL Idealize.SL.Sem
open Cert.Reference6Ideal Cert.Reference6Ideal.Gen Cert.Reference6Ideal.Read Cert.Common Cert.Lift Cert.Hn
open Cert.Ln (eps ofBits_eps ofBits_two ofBits_neg_half ofBits_192 ofBits_zero)
open scoped BigOperators

/-- The sum of a `1 × 1 × a × b` array over its two unit axes is its entry. -/
theorem hostReduceAdd_unit_axes4 {a b : ℕ} (h : (⟨4, ![1, 1, a, b]⟩ : Shape).ReducesTo [0, 1] ⟨2, ![a, b]⟩)
    (x : (⟨4, ![1, 1, a, b]⟩ : Shape).Idx → EReal) (init : EReal) (i : Fin a) (j : Fin b) :
    Ideal.hostReduceAdd h x init (ix2 i j) = init + x (ix4 0 0 i j) := by
  rw [hostReduceAdd_of_family h x init (ix2 i j) (fun _ : Unit => ix4 0 0 i j) (fun _ _ _ => rfl) (fun _ => ?_) (fun y hy => ⟨(), ?_⟩)]
  · simp
  · funext p
    match p with
    | ⟨0, _⟩ => exact Fin.ext (Shape.ReducesTo.drop_apply_val h _ 0)
    | ⟨1, _⟩ => exact Fin.ext (Shape.ReducesTo.drop_apply_val h _ 1)
  · have h0 : (h.drop y 0 : Nat) = y 2 := Shape.ReducesTo.drop_apply_val h y 0
    have h1 : (h.drop y 1 : Nat) = y 3 := Shape.ReducesTo.drop_apply_val h y 1
    rw [hy] at h0 h1
    funext p
    match p with
    | ⟨0, _⟩ => exact Fin.ext (by have := (y 0).isLt; change _ < 1 at this; show 0 = (y 0).val; omega)
    | ⟨1, _⟩ => exact Fin.ext (by have := (y 1).isLt; change _ < 1 at this; show 0 = (y 1).val; omega)
    | ⟨2, _⟩ => exact Fin.ext h0
    | ⟨3, _⟩ => exact Fin.ext h1

variable (H : S1x4096x4x192.Idx → ℝ) (U : S1x4096x3336.Idx → ℝ) (G : S4x192.Idx → ℝ) (C : S1x4096x1024.Idx → ℝ)

/-- The arguments as the programs hold them. -/
abbrev hE : FVec Ideal S1x4096x4x192 .f32 := fun i => (H i : EReal)
abbrev uE : FVec Ideal S1x4096x3336 .f32 := fun i => (U i : EReal)
abbrev gE : FVec Ideal S4x192 .f32 := fun i => (G i : EReal)
abbrev cE : FVec Ideal S1x4096x1024 .f32 := fun i => (C i : EReal)

theorem v4_at (s : Fin 4096) (a : Fin 4) : val_main_v4 (F := Ideal) (hE H) (ix4 0 s a 0) = (Ln.mu 192 (zr H s a) : EReal) := by
  unfold val_main_v4 val_main_v3 val_main_v2 val_main_v1 val_main_cst_0 val_main_cst
  pointwise
  simp only [coe_sum, ofBits_192, ofBits_zero, zero_add, div_coe _ _ (by norm_num : (192 : ℝ) ≠ 0)]
  rfl

theorem v6_at (s : Fin 4096) (a : Fin 4) (j : Fin 192) : val_main_v6 (F := Ideal) (hE H) (ix4 0 s a j) = (Ln.zc 192 (zr H s a) j : EReal) := by
  have e := v4_at H
  unfold val_main_v6 val_main_v5
  generalize val_main_v4 (F := Ideal) _ = w at e ⊢
  pointwise
  simp only [e, coe_sub]
  rfl

theorem v17_at (s : Fin 4096) (a : Fin 4) : val_main_v17 (F := Ideal) (hE H) (ix4 0 s a 0) = ((Ln.var 192 (zr H s a) + eps : ℝ) : EReal) := by
  have e := v6_at H
  unfold val_main_v17 val_main_v16 val_main_v13 val_main_v12 val_main_v11 val_main_v10 val_main_v7 val_main_cst_4 val_main_cst_3 val_main_cst_2
  generalize val_main_v6 (F := Ideal) _ = w at e ⊢
  pointwise
  simp only [e, coe_mul, coe_sum, ofBits_192, ofBits_zero, ofBits_eps, zero_add, div_coe _ _ (by norm_num : (192 : ℝ) ≠ 0), coe_add]
  rfl

theorem v18_at (s : Fin 4096) (a : Fin 4) : val_main_v18 (F := Ideal) (hE H) (ix4 0 s a 0) = (Ln.rs 192 eps (zr H s a) : EReal) := by
  have e := v17_at H s a
  unfold val_main_v18
  generalize val_main_v17 (F := Ideal) _ = y at e ⊢
  pointwise
  rw [e, Ln.rsqrt_var _ _ (by norm_num)]

theorem v21_at (s : Fin 4096) (a : Fin 4) :
    val_main_v21 (F := Ideal) (hE H) (ix4 0 s a 0) = ((-(1 / 2) * (Ln.rs 192 eps (zr H s a) / (Ln.var 192 (zr H s a) + eps)) : ℝ) : EReal) := by
  have e := v17_at H s a
  have e2 := v18_at H s a
  unfold val_main_v21 val_main_v20 val_main_v19 val_main_cst_5
  generalize val_main_v18 (F := Ideal) _ = w at e2 ⊢
  generalize val_main_v17 (F := Ideal) _ = y at e ⊢
  pointwise
  rw [e, e2, ofBits_neg_half, div_coe _ _ (Ln.var_pos _ _ (by norm_num)).ne', coe_mul]

theorem v23_at (s : Fin 4096) (a : Fin 4) (j : Fin 192) : val_main_v23 (F := Ideal) (hE H) (ix4 0 s a j) = (Ln.xh 192 eps (zr H s a) j : EReal) := by
  have e : ∀ s a j, val_main_v15 (F := Ideal) (hE H) (ix4 0 s a j) = (Ln.zc 192 (zr H s a) j : EReal) := v6_at H
  have e2 := v18_at H
  unfold val_main_v23 val_main_v22
  generalize val_main_v18 (F := Ideal) _ = w at e2 ⊢
  generalize val_main_v15 (F := Ideal) _ = y at e ⊢
  pointwise
  simp only [e, e2, coe_mul]
  rfl

theorem v32_at (s : Fin 4096) (n : Fin 768) : val_main_v32 (F := Ideal) (uE U) (ix3 0 s n) = (lg (ogate U s n) : EReal) := by
  unfold val_main_v32 val_main_v31 val_main_v30 val_main_v29 val_main_v28 val_main_v27 val_main_v0 val_main_cst_7 val_main_cst_6
  pointwise
  rw [ogate_eq U s n (by omega)]
  exact lg_coe _

theorem v35_at (s : Fin 4096) (n : Fin 768) :
    val_main_v35 (F := Ideal) (uE U) (ix3 0 s n) = ((lg (ogate U s n) * (1 - lg (ogate U s n)) : ℝ) : EReal) := by
  have e := v32_at U
  unfold val_main_v35 val_main_v34 val_main_v33 val_main_cst_8
  generalize val_main_v32 (F := Ideal) _ = w at e ⊢
  pointwise
  simp only [e, one_sub_coe, coe_mul]

theorem v36_at (s : Fin 4096) (a : Fin 4) (j : Fin 192) (n : Fin 768) (hn : n.val = a.val * 192 + j.val) :
    val_main_v36 (F := Ideal) (hE H) (gE G) (ix3 0 s n) = ((Ln.xh 192 eps (zr H s a) j * G (ix2 a j) : ℝ) : EReal) := by
  have e := v23_at H
  unfold val_main_v36 val_main_v26 val_main_v25 val_main_v24
  generalize val_main_v23 (F := Ideal) _ = w at e ⊢
  pointwise
  have ha : (⟨n.val / 192, by omega⟩ : Fin 4) = a := Fin.ext (by show n.val / 192 = a.val; omega)
  have hj : (⟨n.val % 192, by omega⟩ : Fin 192) = j := Fin.ext (by show n.val % 192 = j.val; omega)
  simp only [ha, hj, e, coe_mul]

theorem v38_at (s : Fin 4096) (n : Fin 768) : val_main_v38 (F := Ideal) (cE C) (ix3 0 s n) = (cot C s n : EReal) := by
  unfold val_main_v38
  pointwise
  rw [cot_eq C s n (by omega)]

theorem v41_at (s : Fin 4096) (a : Fin 4) (j : Fin 192) : val_main_v41 (F := Ideal) (uE U) (cE C) (ix4 0 s a j) = (er U C s a j : EReal) := by
  have e := v32_at U
  have e2 := v38_at C
  unfold val_main_v41 val_main_v39
  generalize val_main_v32 (F := Ideal) _ = w at e ⊢
  generalize val_main_v38 (F := Ideal) _ = y at e2 ⊢
  pointwise
  simp only [e, e2, coe_mul]
  rfl

theorem v42_at (s : Fin 4096) (a : Fin 4) (j : Fin 192) (n : Fin 768) (hn : n.val = a.val * 192 + j.val) :
    val_main_v42 (F := Ideal) (hE H) (uE U) (gE G) (cE C) (ix3 0 s n) = (dgate H U G C s a j : EReal) := by
  have e := v35_at U
  have e2 := v38_at C
  have e3 := v36_at H G
  unfold val_main_v42 val_main_v40
  generalize val_main_v35 (F := Ideal) _ = w at e ⊢
  generalize val_main_v38 (F := Ideal) _ = y at e2 ⊢
  generalize val_main_v36 (F := Ideal) _ _ = z at e3 ⊢
  pointwise
  rw [e, e2, e3 s a j n hn, coe_mul, coe_mul, hn]
  rfl

theorem v47_at (s : Fin 4096) (a : Fin 4) (j : Fin 192) :
    val_main_v47 (F := Ideal) (uE U) (gE G) (cE C) (ix4 0 s a j) = (ar U G C s a j : EReal) := by
  have e := v41_at U C
  unfold val_main_v47 val_main_v46 val_main_v24
  generalize val_main_v41 (F := Ideal) _ _ = w at e ⊢
  pointwise
  simp only [e, coe_mul]
  rfl

theorem v51_at (s : Fin 4096) (a : Fin 4) : val_main_v51 (F := Ideal) (hE H) (uE U) (gE G) (cE C) (ix4 0 s a 0)
    = ((∑ j, Ln.zc 192 (zr H s a) j * ar U G C s a j : ℝ) : EReal) := by
  have e : ∀ s a j, val_main_v15 (F := Ideal) (hE H) (ix4 0 s a j) = (Ln.zc 192 (zr H s a) j : EReal) := v6_at H
  have e2 := v47_at U G C
  unfold val_main_v51 val_main_v50 val_main_v49 val_main_cst_11
  generalize val_main_v47 (F := Ideal) _ _ _ = w at e2 ⊢
  generalize val_main_v15 (F := Ideal) _ = y at e ⊢
  pointwise
  simp only [e, e2, coe_mul, coe_sum, ofBits_zero, zero_add]

theorem v53_at (s : Fin 4096) (a : Fin 4) (j : Fin 192) : val_main_v53 (F := Ideal) (hE H) (uE U) (gE G) (cE C) (ix4 0 s a j)
    = ((ar U G C s a j * Ln.rs 192 eps (zr H s a) : ℝ) : EReal) := by
  have e := v18_at H
  have e2 := v47_at U G C
  unfold val_main_v53 val_main_v52
  generalize val_main_v47 (F := Ideal) _ _ _ = w at e2 ⊢
  generalize val_main_v18 (F := Ideal) _ = y at e ⊢
  pointwise
  simp only [e, e2, coe_mul]

theorem v60_at (s : Fin 4096) (a : Fin 4) : val_main_v60 (F := Ideal) (hE H) (uE U) (gE G) (cE C) (ix2 s a)
    = ((Ln.dvar 192 eps (zr H s a) (ar U G C s a) / 192 : ℝ) : EReal) := by
  have e := v51_at H U G C
  have e2 := v21_at H
  unfold val_main_v60 val_main_cst_14
  simp only [Host.reduceAdd, Ideal.hostReduceAdd_def]
  rw [hostReduceAdd_outer_units]
  unfold val_main_v59 val_main_v58 val_main_v54 val_main_cst_13
  generalize val_main_v51 (F := Ideal) _ _ _ _ = w at e ⊢
  generalize val_main_v21 (F := Ideal) _ = y at e2 ⊢
  pointwise
  simp only [e, e2, coe_mul, ofBits_192, ofBits_zero, zero_add, div_coe _ _ (by norm_num : (192 : ℝ) ≠ 0)]
  rfl

theorem v63_at (s : Fin 4096) (a : Fin 4) (j : Fin 192) : val_main_v63 (F := Ideal) (hE H) (uE U) (gE G) (cE C) (ix4 0 s a j)
    = (Ln.dsq 192 eps (zr H s a) (ar U G C s a) j : EReal) := by
  have e := v6_at H
  have e2 := v60_at H U G C
  unfold val_main_v63 val_main_v62 val_main_v61 val_main_v9 val_main_v8 val_main_cst_1
  generalize val_main_v6 (F := Ideal) _ = w at e ⊢
  generalize val_main_v60 (F := Ideal) _ _ _ _ = y at e2 ⊢
  pointwise
  simp only [e, e2, coe_mul, ofBits_two]
  rfl

theorem v71_at (s : Fin 4096) (a : Fin 4) : val_main_v71 (F := Ideal) (hE H) (uE U) (gE G) (cE C) (ix2 s a)
    = ((Ln.dmu 192 eps (zr H s a) (ar U G C s a) / 192 : ℝ) : EReal) := by
  have e := v53_at H U G C
  have e2 := v63_at H U G C
  unfold val_main_v71 val_main_cst_17
  simp only [Host.reduceAdd, Ideal.hostReduceAdd_def]
  rw [hostReduceAdd_outer_units]
  unfold val_main_v70 val_main_v69 val_main_v68 val_main_v66 val_main_v65 val_main_v64 val_main_v57 val_main_v56 val_main_v55 val_main_cst_16 val_main_cst_15 val_main_cst_12
  generalize val_main_v53 (F := Ideal) _ _ _ _ = w at e ⊢
  generalize val_main_v63 (F := Ideal) _ _ _ _ = y at e2 ⊢
  pointwise
  simp only [e, e2, coe_neg, coe_sum, coe_add, ofBits_192, ofBits_zero, zero_add, div_coe _ _ (by norm_num : (192 : ℝ) ≠ 0)]
  rfl

theorem v74_at (s : Fin 4096) (a : Fin 4) (j : Fin 192) : val_main_v74 (F := Ideal) (hE H) (uE U) (gE G) (cE C) (ix4 0 s a j)
    = (dh H U G C s a j : EReal) := by
  have e := v53_at H U G C
  have e2 := v63_at H U G C
  have e3 := v71_at H U G C
  unfold val_main_v74 val_main_v73 val_main_v72 val_main_v67
  generalize val_main_v53 (F := Ideal) _ _ _ _ = w at e ⊢
  generalize val_main_v63 (F := Ideal) _ _ _ _ = y at e2 ⊢
  generalize val_main_v71 (F := Ideal) _ _ _ _ = u at e3 ⊢
  pointwise
  simp only [e, e2, e3, coe_add]
  unfold dh
  rw [← Ln.dx_eq 192 eps (zr H s a) (ar U G C s a) (by norm_num) (by norm_num) Ln.eps_pos]

theorem sitofp_zero : FloatOps.sitofp (F := Ideal) FTy.f32 0#32 = (0 : EReal) := by
  simp [FloatOps.sitofp]

/-- The gradient of the heads, in groups of one head. -/
theorem v77_at (a : Fin 4) (s : Fin 4096) (l : Fin 256) : val_main_v77 (F := Ideal) (hE H) (uE U) (gE G) (cE C) (ix3 a s l)
    = (lanes (dh H U G C s a) l.val : EReal) := by
  have e := v74_at H U G C
  unfold val_main_v77 val_main_v76 val_main_v75 val_main_call0_v0 val_main_c
  generalize val_main_v74 (F := Ideal) _ _ _ _ = w at e ⊢
  pointwise
  simp only [sitofp_zero, e]
  unfold lanes
  split_ifs <;> rfl

/-- The gradient of the gates, in groups of one head: groups 12 to 15 of the eighteen. -/
theorem v83_at (a : Fin 18) (b : Fin 4) (h : a.val = 12 + b.val) (s : Fin 4096) (l : Fin 256) :
    val_main_v83 (F := Ideal) (hE H) (uE U) (gE G) (cE C) (ix3 a s l) = (lanes (dgate H U G C s b) l.val : EReal) := by
  have e := v42_at H U G C
  unfold val_main_v83 val_main_v82 val_main_v81 val_main_v80 val_main_v79 val_main_v78 val_main_call2_v0 val_main_call1_v0 val_main_c_19 val_main_c_18
  generalize val_main_v42 (F := Ideal) _ _ _ _ = w at e ⊢
  pointwise
  simp only [sitofp_zero]
  have hg : 12 ≤ a.val ∧ a.val - 12 < 4 := by omega
  refine (dif_pos hg).trans ?_
  unfold lanes
  by_cases hl : l.val < 192
  · refine (dif_pos ⟨hg.2, hl⟩).trans (Eq.trans ?_ (congrArg _ (dif_pos hl).symm))
    exact e s b ⟨l.val, hl⟩ _ (by show (a.val - 12) * 192 + l.val = b.val * 192 + l.val; omega)
  · exact (dif_neg fun h => hl h.2).trans (by rw [dif_neg hl]; rfl)

/-- The gradient of the scale, in groups of one head. -/
theorem v85_at (a : Fin 4) (l : Fin 256) : val_main_v85 (F := Ideal) (hE H) (uE U) (cE C) (ix3 a 0 l)
    = (lanes (fun j => ∑ s, dscale H U C s a j) l.val : EReal) := by
  have e := v23_at H
  have e2 := v41_at U C
  have e3 : ∀ (a : Fin 4) (j : Fin 192), val_main_v48 (F := Ideal) (hE H) (uE U) (cE C) (ix2 a j) = ((∑ s, dscale H U C s a j : ℝ) : EReal) := by
    intro a j
    unfold val_main_v48 val_main_cst_10
    simp only [Host.reduceAdd, Ideal.hostReduceAdd_def]
    rw [hostReduceAdd_unit_axes4]
    unfold val_main_v45 val_main_v44 val_main_v43 val_main_cst_9
    generalize val_main_v23 (F := Ideal) _ = w at e ⊢
    generalize val_main_v41 (F := Ideal) _ _ = y at e2 ⊢
    pointwise
    simp only [e, e2, coe_mul, coe_sum, ofBits_zero, zero_add]
    rfl
  unfold val_main_v85 val_main_v84 val_main_call3_v0 val_main_c_20
  generalize val_main_v48 (F := Ideal) _ _ _ = w at e3 ⊢
  pointwise
  simp only [sitofp_zero, e3]
  unfold lanes
  split_ifs <;> rfl

end Cert.HnRef
end
-- ==== Proof.HnClaim.lean ====
/-
  The pair of the memory heads' output norm: for finite arguments the backward kernel's three arrays are those of the
  reference, the gates' gradient on the groups of columns the kernel writes.
-/
module

public import proofs.«01_k».proof.Defs
public import proofs.«01_k».proof.Proof.HnValue
public import proofs.«01_k».proof.Proof.HnRef

@[expose] public section

noncomputable section

namespace Cert.HnClaim

open Idealize.ShloMosaic Idealize.ShloMosaic.TcCoe Idealize.SL.Sem
open Cert.Common Cert.Lift Cert.HnValue Cert.HnRef

theorem pre_facts : Cert.Pre_finite6.Facts := ⟨by decide, by decide, by decide, by decide⟩
theorem mask_facts : Cert.On_result_mask6.Facts := ⟨by decide, by decide, by decide⟩

attribute [local instance] pre_facts mask_facts

/-- Finite argument arrays are real arrays. -/
theorem args {m : (ℓ : Loc Cert.Kernel6Ideal.nD Cert.Kernel6Ideal.τ Cert.Kernel6Ideal.sig) → Buf (Elt Ideal) ℓ}
    (h : Cert.Pre_Kernel6Ideal_finite6 m) (c : Dev Cert.Kernel6Ideal.nD) :
    ∃ (H : Cert.Kernel6Ideal.S1x4096x4x192.Idx → ℝ) (U : Cert.Kernel6Ideal.S1x4096x3336.Idx → ℝ) (G : Cert.Kernel6Ideal.S4x192.Idx → ℝ)
      (C : Cert.Kernel6Ideal.S1x4096x1024.Idx → ℝ),
      (m ((c.tc : Thread Cert.Kernel6Ideal.nD Cert.Kernel6Ideal.τ).loc Cert.Kernel6Ideal.main_arg0) = fun i => (H i : EReal))
        ∧ (m ((c.tc : Thread Cert.Kernel6Ideal.nD Cert.Kernel6Ideal.τ).loc Cert.Kernel6Ideal.main_arg1) = fun i => (U i : EReal))
        ∧ (m ((c.tc : Thread Cert.Kernel6Ideal.nD Cert.Kernel6Ideal.τ).loc Cert.Kernel6Ideal.main_arg2) = fun i => (G i : EReal))
        ∧ (m ((c.tc : Thread Cert.Kernel6Ideal.nD Cert.Kernel6Ideal.τ).loc Cert.Kernel6Ideal.main_arg3) = fun i => (C i : EReal)) := by
  obtain ⟨h0, h1, h2, h3⟩ := h c
  obtain ⟨H, hH⟩ := finite_of_test (fun _ => rfl) h0
  obtain ⟨U, hU⟩ := finite_of_test (fun _ => rfl) h1
  obtain ⟨G, hG⟩ := finite_of_test (fun _ => rfl) h2
  obtain ⟨C, hC⟩ := finite_of_test (fun _ => rfl) h3
  exact ⟨H, U, G, C, hH, hU, hG, hC⟩

/-- The mask of the gates' gradient holds on groups 12 to 15 alone. -/
theorem mask_group (x0 : FVec Ideal Cert.On_result_mask6.S1x4096x4x192 .f32) (x1 : FVec Ideal Cert.On_result_mask6.S1x4096x3336 .f32)
    (x2 : FVec Ideal Cert.On_result_mask6.S4x192 .f32) (x3 : FVec Ideal Cert.On_result_mask6.S1x4096x1024 .f32) (a : Fin 18) (s : Fin 4096) (l : Fin 256)
    (h : (Cert.On_result_mask6.fn (F := Ideal) x0 x1 x2 x3).2.1 (ix3 a s l) = 1#1) : ∃ b : Fin 4, a.val = 12 + b.val := by
  have h2 : ∀ a : Fin 18, IntOp.andi (IntOp.cmpi .sge (BitVec.ofNat 32 a.val) 12#32) (IntOp.cmpi .slt (BitVec.ofNat 32 a.val) 16#32) = 1#1 → 12 ≤ a.val ∧ a.val < 16 := by decide
  have h3 := h2 a h
  exact ⟨⟨a.val - 12, by omega⟩, by show a.val = 12 + (a.val - 12); omega⟩

open Cert.Kernel6Ideal.Gen in
theorem algebraic : Cert.algebraic_Kernel6Ideal_Reference6Ideal_on_result_mask6_pre_finite6 := by
  intro m g m' g' hpre hagree
  refine ⟨fun c => (dats m 0 c).arrAt 4 Cert.Kernel6Ideal.cfg0.N, fun c => (dats m 0 c).arrAt 5 Cert.Kernel6Ideal.cfg0.N, fun c => (dats m 0 c).arrAt 6 Cert.Kernel6Ideal.cfg0.N,
    (θ_run _ _ _).mono (fun r h c => ?_) (Cert.Kernel6Ideal.Value.run_blocks m g), (θ_run _ _ _).mono (fun r h c => ?_) (Cert.Reference6Ideal.Value.run m' g')⟩
  · obtain ⟨h0, h1, h2, h3⟩ := h c
    exact ⟨fun i _ => congrFun h0 i, fun i _ => congrFun h1 i, fun i _ => congrFun h2 i, h3⟩
  · obtain ⟨h0, h1, h2, h3⟩ := h c
    obtain ⟨H, U, G, C, hH, hU, hG, hC⟩ := args hpre c
    obtain ⟨a0, a1, a2, a3⟩ := hagree c
    refine ⟨fun i _ => ?_, fun i hi => ?_, fun i _ => ?_, h3⟩
    · refine (congrFun (h0.trans (Cert.Reference6Ideal.Read.val_main_v77_eq m' c)) i).trans ?_
      rw [a0, a1, a2, a3]
      refine Eq.trans ?_ (congrFun (w4 m hH hU hG hC) i).symm
      rw [hH, hU, hG, hC]
      obtain ⟨a, s, l, rfl⟩ : ∃ a s l, i = ix3 a s l := ⟨_, _, _, eq_ix3 i⟩
      exact v77_at H U G C a s l
    · refine (congrFun (h1.trans (Cert.Reference6Ideal.Read.val_main_v83_eq _ _ _ _)) i).trans ?_
      rw [a0, a1, a2, a3]
      obtain ⟨a, s, l, rfl⟩ : ∃ a s l, i = ix3 a s l := ⟨_, _, _, eq_ix3 i⟩
      obtain ⟨b, hb⟩ := mask_group _ _ _ _ a s l hi
      refine Eq.trans ?_ (w5 m hH hU hG hC a b hb s l).symm
      rw [hH, hU, hG, hC]
      exact v83_at H U G C a b hb s l
    · refine (congrFun (h2.trans (Cert.Reference6Ideal.Read.val_main_v85_eq _ _ _)) i).trans ?_
      rw [a0, a1, a3]
      refine Eq.trans ?_ (congrFun (w6 m hH hU hC) i).symm
      rw [hH, hU, hC]
      obtain ⟨a, s, l, rfl⟩ : ∃ a s l, i = ix3 a s l := ⟨_, _, _, eq_ix3 i⟩
      obtain rfl : s = 0 := Subsingleton.elim _ _
      exact v85_at H U C a l

end Cert.HnClaim
end
-- ==== Proof.MoValue.lean ====
/-
  What the backward call of the mixer's output normalisation and projection leaves in its five output arrays.
-/
module

public import proofs.«01_k».proof.Proof.Gen.Kernel7Ideal.Value
public import proofs.«01_k».proof.Proof.Ln

@[expose] public section

set_option maxRecDepth 200000

noncomputable section

namespace Cert.MoValue

open Idealize.ShloMosaic Idealize.ShloMosaic.TcCoe Idealize.SL.Sem Idealize.ShloMosaic.Pipeline
open Cert.Kernel7Ideal Cert.Kernel7Ideal.Gen
open Cert.Common Cert.Lift
open Cert.Ln (eps ofBits_eps ofBits_1024 ofBits_zero)
open scoped BigOperators

/-! ## One block of rows -/

section Block
variable {x z : Vec Ideal S512x1024 .f32} {g : Vec Ideal S1x1024 .f32} {C Z : Fin 512 → Fin 1024 → ℝ} {G : Fin 1024 → ℝ}

theorem pay7_at (hz : ∀ s l, z (ix2 s l) = (Z s l : EReal)) (s : Fin 512) (l : Fin 1024) :
    k0_pay7 z (ix2 s l) = (Ln.zc 1024 (Z s) l : EReal) := by
  unfold_payloads
  pointwise
  simp only [hz, coe_sum, coe_sub, ofBits_1024, div_coe _ _ (by norm_num : (1024 : ℝ) ≠ 0)]
  rfl

theorem pay8_at (hz : ∀ s l, z (ix2 s l) = (Z s l : EReal)) (s : Fin 512) :
    k0_pay8 z (ix2 s 0) = (Ln.rs 1024 eps (Z s) : EReal) := by
  have e := pay7_at hz
  unfold k0_pay8
  generalize k0_pay7 (F := Ideal) z = y at e ⊢
  pointwise
  simp only [e, coe_mul, coe_sum, ofBits_1024, ofBits_eps, div_coe _ _ (by norm_num : (1024 : ℝ) ≠ 0), coe_add]
  exact Ln.rsqrt_var _ _ (by norm_num)

theorem pay9_at (hz : ∀ s l, z (ix2 s l) = (Z s l : EReal)) (s : Fin 512) (l : Fin 1024) :
    k0_pay9 z (ix2 s l) = (Ln.xh 1024 eps (Z s) l : EReal) := by
  have e := pay7_at hz
  have e2 := pay8_at hz
  unfold k0_pay9
  generalize k0_pay7 (F := Ideal) z = y at e ⊢
  generalize k0_pay8 (F := Ideal) z = w at e2 ⊢
  pointwise
  simp only [e, e2, coe_mul]
  rfl

variable (hx : ∀ s l, x (ix2 s l) = (C s l : EReal)) (hz : ∀ s l, z (ix2 s l) = (Z s l : EReal)) (hg : ∀ l, g (ix2 0 l) = (G l : EReal))
include hx hz hg

theorem pay11_at (s : Fin 512) (l : Fin 1024) :
    k0_pay11 (k0_pay8 z) (k0_pay10 x z g) (ix2 s l) = (Ln.dx 1024 eps (Z s) (fun j => C s j * G j) l : EReal) := by
  have e := pay8_at hz
  have e2 := pay9_at hz
  unfold k0_pay11 k0_pay10 k0_pay6
  generalize k0_pay8 (F := Ideal) z = w at e ⊢
  generalize k0_pay9 (F := Ideal) z = y at e2 ⊢
  pointwise
  simp only [e, e2, hx, hg, coe_mul, coe_sum, coe_sub, ofBits_1024, div_coe _ _ (by norm_num : (1024 : ℝ) ≠ 0)]
  rfl

omit hg in
theorem pay12_at (o : Vec Ideal S1x1024 .f32) (l : Fin 1024) :
    k0_pay12 (k0_pay6 x) (k0_pay9 z) o (ix2 0 l) = o (ix2 0 l) + ((∑ s : Fin 512, C s l * Ln.xh 1024 eps (Z s) l : ℝ) : EReal) := by
  have e2 := pay9_at hz
  unfold k0_pay12 k0_pay6
  generalize k0_pay9 (F := Ideal) z = y at e2 ⊢
  pointwise
  simp only [e2, hx, coe_mul, coe_sum]

omit hz hg in
theorem pay13_at (o : Vec Ideal S1x1024 .f32) (l : Fin 1024) :
    k0_pay13 (k0_pay6 x) o (ix2 0 l) = o (ix2 0 l) + ((∑ s : Fin 512, C s l : ℝ) : EReal) := by
  unfold k0_pay13 k0_pay6
  pointwise
  simp only [hx, coe_sum]

omit hx hz hg in
theorem pay2_at (d : FVec Ideal S512x1024 .bf16) (w : Vec Ideal S1x256x1024 .bf16) (s : Fin 512) (n : Fin 256) :
    k0_pay2 d w (ix3 0 s n) = (∑ k : Fin 1024, d (ix2 s k) * w (ix3 0 n k) : EReal) := by
  unfold_payloads
  pointwise

end Block

variable (m : (ℓ : Loc nD τ sig) → Buf (Elt Ideal) ℓ) (c : Dev nD)

/-! ## The arrays of the call -/

theorem V_ct (s : Fin 4096) (l : Fin 1024) : V m c main_v8 (ix2 s l) = m ((c : Thread nD τ).loc main_arg4) (ix3 (0 : Fin 1) s l) := by
  unfold V
  simp only [List.flatten_cons, List.flatten_nil, List.append_nil, hostOps0, List.cons_append, List.nil_append]
  after_results
  pointwise

theorem V_g (l : Fin 1024) : V m c main_v9 (ix2 0 l) = m ((c : Thread nD τ).loc main_arg3) (ix1 l) := by
  unfold V
  simp only [List.flatten_cons, List.flatten_nil, List.append_nil, hostOps0, List.cons_append, List.nil_append]
  after_results
  pointwise

theorem V_w (j : Fin 4) (n : Fin 256) (k : Fin 1024) :
    V m c main_v11 (ix3 j n k) = m ((c : Thread nD τ).loc main_arg2) (ix2 ⟨j.val * 256 + n.val, by omega⟩ k) := by
  unfold V
  simp only [List.flatten_cons, List.flatten_nil, List.append_nil, hostOps0, List.cons_append, List.nil_append]
  after_results
  pointwise

/-- The array that is normalised: the scaled residual and the projected mixer output. -/
def zE (M X : S1x4096x1024.Idx → EReal) (W : S1024x1024.Idx → EReal) (s : Fin 4096) (l : Fin 1024) : EReal :=
  Ideal.ofBits .f32 1068827891#32 * X (ix3 0 s l) + ∑ k : Fin 1024, M (ix3 0 s k) * W (ix2 k l)

/-- The same over the reals. -/
def zR (M X : S1x4096x1024.Idx → ℝ) (W : S1024x1024.Idx → ℝ) (i : S1x4096x1024.Idx) : ℝ :=
  11863283 / 8388608 * X (ix3 0 (i 1) (i 2)) + ∑ k : Fin 1024, M (ix3 0 (i 1) k) * W (ix2 k (i 2))

theorem zE_coe (M X : S1x4096x1024.Idx → ℝ) (W : S1024x1024.Idx → ℝ) (s : Fin 4096) (l : Fin 1024) :
    zE (fun i => (M i : EReal)) (fun i => (X i : EReal)) (fun i => (W i : EReal)) s l = (zR M X W (ix3 0 s l) : EReal) := by
  have e : Ideal.ofBits FTy.f32 1068827891#32 = ((11863283 / 8388608 : ℝ) : EReal) := by
    simp [Ideal.ofBits, Ideal.ieee, -EReal.coe_mul]; norm_num
  unfold zE
  rw [e]
  simp only [coe_mul, coe_sum, coe_add]
  rfl

theorem V_z (s : Fin 4096) (l : Fin 1024) : V m c main_v7 (ix2 s l) =
    zE (m ((c : Thread nD τ).loc main_arg0)) (m ((c : Thread nD τ).loc main_arg1)) (m ((c : Thread nD τ).loc main_arg2)) s l := by
  unfold V
  simp only [List.flatten_cons, List.flatten_nil, List.append_nil, hostOps0, List.cons_append, List.nil_append]
  after_results
  pointwise
  rfl

theorem idx : ∀ t : Fin cfg0.N, win0_0.index t = ![t.val, 0] ∧ win0_1.index t = ![t.val, 0] ∧ win0_2.index t = ![0, 0] ∧ win0_3.index t = ![0, 0, 0]
    ∧ win0_4.index t = ![0, t.val, 0] ∧ win0_5.index t = ![t.val, 0] ∧ win0_6.index t = ![t.val, 0] :=
  (by decide +kernel : ∀ t : Fin grid0.N, _)

/-- The row of the whole array that row `s` of grid point `t`'s block is. -/
def row (t : Fin cfg0.N) (s : Fin 512) : Fin 4096 := ⟨t.val * 512 + s.val, by have : t.val < 8 := t.isLt; omega⟩

theorem iblk0 (t : Fin cfg0.N) (s : Fin 512) (l : Fin 1024) : iblk m c 0 t (ix2 s l) = m ((c : Thread nD τ).loc main_arg4) (ix3 (0 : Fin 1) (row t s) l) := by
  refine Eq.trans ?_ (V_ct m c (row t s) l)
  blk_ext [iblk, (idx t).1, row]

theorem iblk1 (t : Fin cfg0.N) (s : Fin 512) (l : Fin 1024) : iblk m c 1 t (ix2 s l) = V m c main_v7 (ix2 (row t s) l) := by
  blk_ext [iblk, (idx t).2.1, row]

theorem iblk2 (t : Fin cfg0.N) (l : Fin 1024) : iblk m c 2 t (ix2 0 l) = m ((c : Thread nD τ).loc main_arg3) (ix1 l) := by
  refine Eq.trans ?_ (V_g m c l)
  blk_ext [iblk, (idx t).2.2.1]

theorem iblk3 (t : Fin cfg0.N) (j : Fin 4) (n : Fin 256) (k : Fin 1024) :
    iblk m c 3 t (ix3 j n k) = m ((c : Thread nD τ).loc main_arg2) (ix2 ⟨j.val * 256 + n.val, by omega⟩ k) := by
  refine Eq.trans ?_ (V_w m c j n k)
  blk_ext [iblk, (idx t).2.2.2.1]

/-! ## The output arrays -/

/-- Group `j` is not among the entries of the piece of another group `k`. -/
theorem off (j : Fin 4) (k : ℕ) (h : j.val ≠ k) (hb) (s : Fin 512) (l : Fin 256) :
    (ix3 j s l : S4x512x256.Idx) ∉ (Rect.unit (s := S4x512x256) ![k, 0, 0] ![1, 512, 256] hb).set := by
  intro hm
  have h0 := Rect.mem_set_unit.mp hm 0
  have h1 : k ≤ j.val := h0.1
  have h2 : j.val < k + 1 := h0.2
  omega

theorem hit (j : Fin 4) (k : ℕ) (h : j.val = k) (hb) (P : FVec Ideal S1x512x256 .f32) (L : List (View.Piece (Elt Ideal) S4x512x256 .f32)) (s : Fin 512) (l : Fin 256) :
    View.canon (Val := Elt Ideal) (e := .f32) (⟨Rect.unit (s := S4x512x256) ![k, 0, 0] ![1, 512, 256] hb, P⟩ :: L) (ix3 j s l) = P (ix3 0 s l) := by
  subst h
  have e : (ix3 j s l : S4x512x256.Idx) = (Rect.unit (s := S4x512x256) ![j.val, 0, 0] ![1, 512, 256] hb).emb (ix3 0 s l) := by
    blk_ext
  rw [e]
  exact View.canon_cons_emb _ _ _ _

theorem miss (j : Fin 4) (k : ℕ) (h : j.val ≠ k) (hb) (P : FVec Ideal S1x512x256 .f32) (L : List (View.Piece (Elt Ideal) S4x512x256 .f32)) (s : Fin 512) (l : Fin 256) :
    View.canon (Val := Elt Ideal) (e := .f32) (⟨Rect.unit (s := S4x512x256) ![k, 0, 0] ![1, 512, 256] hb, P⟩ :: L) (ix3 j s l)
      = View.canon (Val := Elt Ideal) (e := .f32) L (ix3 j s l) :=
  View.canon_cons_of_not_mem _ _ (off j k h hb s l)

/-- A group of the weights' buffer, loaded. -/
theorem ld (w : Vec Ideal S4x256x1024 .bf16) (j : Fin 4) (hb) (n : Fin 256) (k : Fin 1024) :
    View.ld w (Rect.unit (s := S4x256x1024) ![j.val, 0, 0] ![1, 256, 1024] hb) (ix3 0 n k) = w (ix3 j n k) := by
  have e : (ix3 j n k : S4x256x1024.Idx) = (Rect.unit (s := S4x256x1024) ![j.val, 0, 0] ![1, 256, 1024] hb).emb (ix3 0 n k) := by
    blk_ext
  exact congrArg w e.symm

theorem w5_of (H : S4096x1024.Idx → EReal) (hH : ∀ (t : Fin cfg0.N) (s : Fin 512) (l : Fin 1024), (outsAt0 m c t.val t.isLt).2.1 (ix2 s l) = H (ix2 (row t s) l)) :
    (dats m 0 c).arrAt 5 cfg0.N = H := by
  refine (dats m 0 c).arrAt_eq_of_covers 5 _ (by decide +kernel) fun t hf y => ?_
  blk_simp
  rw [after0_5]
  obtain ⟨s, l, rfl⟩ : ∃ s l, y = ix2 s l := ⟨_, _, eq_ix2 y⟩
  refine (hH t s l).trans (congrArg H ?_)
  blk_ext [(idx t).2.2.2.2.2.1, row]

theorem w6_of (H : S4096x1024.Idx → EReal) (hH : ∀ (t : Fin cfg0.N) (s : Fin 512) (l : Fin 1024), (outsAt0 m c t.val t.isLt).2.2.1 (ix2 s l) = H (ix2 (row t s) l)) :
    (dats m 0 c).arrAt 6 cfg0.N = H := by
  refine (dats m 0 c).arrAt_eq_of_covers 6 _ (by decide +kernel) fun t hf y => ?_
  blk_simp
  rw [after0_6]
  obtain ⟨s, l, rfl⟩ : ∃ s l, y = ix2 s l := ⟨_, _, eq_ix2 y⟩
  refine (hH t s l).trans (congrArg H ?_)
  blk_ext [(idx t).2.2.2.2.2.2, row]

theorem w4_of (H : S4x4096x256.Idx → EReal) (hH : ∀ (t : Fin cfg0.N) (j : Fin 4) (s : Fin 512) (l : Fin 256), (outsAt0 m c t.val t.isLt).1 (ix3 j s l) = H (ix3 j (row t s) l)) :
    (dats m 0 c).arrAt 4 cfg0.N = H := by
  refine (dats m 0 c).arrAt_eq_of_covers 4 _ (by decide +kernel) fun t hf y => ?_
  blk_simp
  rw [after0_4]
  obtain ⟨j, s, l, rfl⟩ : ∃ j s l, y = ix3 j s l := ⟨_, _, _, eq_ix3 y⟩
  refine (hH t j s l).trans (congrArg H ?_)
  blk_ext [(idx t).2.2.2.2.1, row]

/-! ## On finite arguments -/

section Finite
variable {M X C : S1x4096x1024.Idx → ℝ} {W : S1024x1024.Idx → ℝ} {G : S1024.Idx → ℝ} {c : Dev nD}
  (hM : m ((c : Thread nD τ).loc main_arg0) = fun i => (M i : EReal)) (hX : m ((c : Thread nD τ).loc main_arg1) = fun i => (X i : EReal))
  (hW : m ((c : Thread nD τ).loc main_arg2) = fun i => (W i : EReal)) (hG : m ((c : Thread nD τ).loc main_arg3) = fun i => (G i : EReal))
  (hC : m ((c : Thread nD τ).loc main_arg4) = fun i => (C i : EReal))

omit m in
/-- A row of the normalised array, of its cotangent, and the scale. -/
abbrev zr (M X : S1x4096x1024.Idx → ℝ) (W : S1024x1024.Idx → ℝ) (s : Fin 4096) : Fin 1024 → ℝ := fun j => zR M X W (ix3 0 s j)
abbrev cr (C : S1x4096x1024.Idx → ℝ) (s : Fin 4096) : Fin 1024 → ℝ := fun j => C (ix3 0 s j)
abbrev gr (G : S1024.Idx → ℝ) : Fin 1024 → ℝ := fun j => G (ix1 j)

section
include hC
theorem b0 (t : Fin cfg0.N) (s : Fin 512) (l : Fin 1024) : iblk m c 0 t (ix2 s l) = (cr C (row t s) l : EReal) := by
  rw [iblk0, hC]
end
section
include hM hX hW
theorem b1 (t : Fin cfg0.N) (s : Fin 512) (l : Fin 1024) : iblk m c 1 t (ix2 s l) = (zr M X W (row t s) l : EReal) := by
  rw [iblk1, V_z, hM, hX, hW, zE_coe]
end
section
include hG
theorem b2 (t : Fin cfg0.N) (l : Fin 1024) : iblk m c 2 t (ix2 0 l) = (gr G l : EReal) := by
  rw [iblk2, hG]
end

/-- The gradient of row `s`. -/
abbrev dz (M X C : S1x4096x1024.Idx → ℝ) (W : S1024x1024.Idx → ℝ) (G : S1024.Idx → ℝ) (s : Fin 4096) (l : Fin 1024) : ℝ :=
  Ln.dx 1024 eps (zr M X W s) (fun j => cr C s j * gr G j) l

include hM hX hW hG hC

theorem dz_at (t : Fin cfg0.N) (s : Fin 512) (l : Fin 1024) :
    k0_pay11 (k0_pay8 (iblk m c 1 t)) (k0_pay10 (iblk m c 0 t) (iblk m c 1 t) (iblk m c 2 t)) (ix2 s l) = (dz M X C W G (row t s) l : EReal) :=
  pay11_at (C := fun s => cr C (row t s)) (Z := fun s => zr M X W (row t s)) (G := gr G) (b0 m hC t) (b1 m hM hX hW t) (b2 m hG t) s l

theorem out5 (t : Fin cfg0.N) (s : Fin 512) (l : Fin 1024) : (outsAt0 m c t.val t.isLt).2.1 (ix2 s l) = (dz M X C W G (row t s) l : EReal) := by
  by_cases h0 : t.val % 8 = 0
  · rw [Gen.outsAt0_A m c t h0]
    frame_out
    exact dz_at m hM hX hW hG hC t s l
  · rw [Gen.outsAt0_B m c t h0]
    frame_out
    exact dz_at m hM hX hW hG hC t s l

theorem out6 (t : Fin cfg0.N) (s : Fin 512) (l : Fin 1024) : (outsAt0 m c t.val t.isLt).2.2.1 (ix2 s l) = (dz M X C W G (row t s) l : EReal) := by
  by_cases h0 : t.val % 8 = 0
  · rw [Gen.outsAt0_A m c t h0]
    frame_out
    exact dz_at m hM hX hW hG hC t s l
  · rw [Gen.outsAt0_B m c t h0]
    frame_out
    exact dz_at m hM hX hW hG hC t s l

theorem w5 : (dats m 0 c).arrAt 5 cfg0.N = (fun i => (dz M X C W G (i 0) (i 1) : EReal) : S4096x1024.Idx → EReal) :=
  w5_of m c _ (out5 m hM hX hW hG hC)
theorem w6 : (dats m 0 c).arrAt 6 cfg0.N = (fun i => (dz M X C W G (i 0) (i 1) : EReal) : S4096x1024.Idx → EReal) :=
  w6_of m c _ (out6 m hM hX hW hG hC)

omit hG in
theorem out7_A (t : Fin cfg0.N) (h0 : t.val % 8 = 0) (l : Fin 1024) : (outsAt0 m c t.val t.isLt).2.2.2.1 (ix2 0 l) =
    0 + ((∑ s : Fin 512, cr C (row t s) l * Ln.xh 1024 eps (zr M X W (row t s)) l : ℝ) : EReal) := by
  rw [Gen.outsAt0_A m c t h0]
  frame_out
  refine (pay12_at (C := fun s => cr C (row t s)) (Z := fun s => zr M X W (row t s)) (b0 m hC t) (b1 m hM hX hW t) _ l).trans ?_
  refine congrArg (· + _) ?_
  unfold_payloads; pointwise

omit hG in
theorem out7_B (t : Fin cfg0.N) (h0 : ¬ t.val % 8 = 0) (l : Fin 1024) : (outsAt0 m c t.val t.isLt).2.2.2.1 (ix2 0 l) =
    (outsAt0 m c (t.val - 1) (Nat.lt_of_le_of_lt (Nat.sub_le _ _) t.isLt)).2.2.2.1 (ix2 0 l)
      + ((∑ s : Fin 512, cr C (row t s) l * Ln.xh 1024 eps (zr M X W (row t s)) l : ℝ) : EReal) := by
  rw [Gen.outsAt0_B m c t h0]
  frame_out
  exact pay12_at (C := fun s => cr C (row t s)) (Z := fun s => zr M X W (row t s)) (b0 m hC t) (b1 m hM hX hW t) _ l

omit hM hX hW hG in
theorem out8_A (t : Fin cfg0.N) (h0 : t.val % 8 = 0) (l : Fin 1024) : (outsAt0 m c t.val t.isLt).2.2.2.2 (ix2 0 l) =
    0 + ((∑ s : Fin 512, cr C (row t s) l : ℝ) : EReal) := by
  rw [Gen.outsAt0_A m c t h0]
  frame_out
  refine (pay13_at (C := fun s => cr C (row t s)) (b0 m hC t) _ l).trans ?_
  refine congrArg (· + _) ?_
  unfold_payloads; pointwise

omit hM hX hW hG in
theorem out8_B (t : Fin cfg0.N) (h0 : ¬ t.val % 8 = 0) (l : Fin 1024) : (outsAt0 m c t.val t.isLt).2.2.2.2 (ix2 0 l) =
    (outsAt0 m c (t.val - 1) (Nat.lt_of_le_of_lt (Nat.sub_le _ _) t.isLt)).2.2.2.2 (ix2 0 l) + ((∑ s : Fin 512, cr C (row t s) l : ℝ) : EReal) := by
  rw [Gen.outsAt0_B m c t h0]
  frame_out
  exact pay13_at (C := fun s => cr C (row t s)) (b0 m hC t) _ l

omit m hM hX hW hG hC in
/-- The four groups the body stores, from the row's gradient `d` and the weights' buffer `w`. -/
theorem groups (d : FVec Ideal S512x1024 .bf16) (w : Vec Ideal S4x256x1024 .bf16) (P0 P1 P2 P3 : FVec Ideal S1x512x256 .f32)
    (h0 : P0 = k0_pay2 d (View.ld w (Rect.unit ![0, 0, 0] ![1, 256, 1024] inb_S4x256x1024_S1x256x1024_0_0_0)))
    (h1 : P1 = k0_pay2 d (View.ld w (Rect.unit ![1, 0, 0] ![1, 256, 1024] inb_S4x256x1024_S1x256x1024_1_0_0)))
    (h2 : P2 = k0_pay2 d (View.ld w (Rect.unit ![2, 0, 0] ![1, 256, 1024] inb_S4x256x1024_S1x256x1024_2_0_0)))
    (h3 : P3 = k0_pay2 d (View.ld w (Rect.unit ![3, 0, 0] ![1, 256, 1024] inb_S4x256x1024_S1x256x1024_3_0_0)))
    (j : Fin 4) (s : Fin 512) (n : Fin 256) :
    View.canon (Val := Elt Ideal) (e := .f32) [⟨Rect.unit ![3, 0, 0] ![1, 512, 256] inb_S4x512x256_S1x512x256_3_0_0, P3⟩,
      ⟨Rect.unit ![2, 0, 0] ![1, 512, 256] inb_S4x512x256_S1x512x256_2_0_0, P2⟩, ⟨Rect.unit ![1, 0, 0] ![1, 512, 256] inb_S4x512x256_S1x512x256_1_0_0, P1⟩,
      ⟨Rect.unit ![0, 0, 0] ![1, 512, 256] inb_S4x512x256_S1x512x256_0_0_0, P0⟩] (ix3 j s n) = (∑ k : Fin 1024, d (ix2 s k) * w (ix3 j n k) : EReal) := by
  have key : ∀ (k : ℕ) (hk : j.val = k) (hb), k0_pay2 d (View.ld w (Rect.unit (s := S4x256x1024) ![k, 0, 0] ![1, 256, 1024] hb)) (ix3 0 s n)
      = (∑ k : Fin 1024, d (ix2 s k) * w (ix3 j n k) : EReal) := by
    intro k hk hb
    subst hk
    rw [pay2_at]
    exact Finset.sum_congr rfl fun k _ => by rw [ld]
  subst h0 h1 h2 h3
  by_cases h3 : j.val = 3
  · exact (hit j 3 h3 _ _ _ s n).trans (key 3 h3 inb_S4x256x1024_S1x256x1024_3_0_0)
  refine (miss j 3 h3 _ _ _ s n).trans ?_
  by_cases h2 : j.val = 2
  · exact (hit j 2 h2 _ _ _ s n).trans (key 2 h2 inb_S4x256x1024_S1x256x1024_2_0_0)
  refine (miss j 2 h2 _ _ _ s n).trans ?_
  by_cases h1 : j.val = 1
  · exact (hit j 1 h1 _ _ _ s n).trans (key 1 h1 inb_S4x256x1024_S1x256x1024_1_0_0)
  refine (miss j 1 h1 _ _ _ s n).trans ?_
  have h0 : j.val = 0 := by omega
  exact (hit j 0 h0 _ _ _ s n).trans (key 0 h0 inb_S4x256x1024_S1x256x1024_0_0_0)

theorem out4 (t : Fin cfg0.N) (j : Fin 4) (s : Fin 512) (n : Fin 256) : (outsAt0 m c t.val t.isLt).1 (ix3 j s n) =
    ((∑ k : Fin 1024, dz M X C W G (row t s) k * W (ix2 ⟨j.val * 256 + n.val, by omega⟩ k) : ℝ) : EReal) := by
  have key : (∑ k : Fin 1024, k0_pay14 (k0_pay8 (iblk m c 1 t)) (k0_pay10 (iblk m c 0 t) (iblk m c 1 t) (iblk m c 2 t)) (ix2 s k) * iblk m c 3 t (ix3 j n k) : EReal)
      = ((∑ k : Fin 1024, dz M X C W G (row t s) k * W (ix2 ⟨j.val * 256 + n.val, by omega⟩ k) : ℝ) : EReal) := by
    rw [← coe_sum]
    refine Finset.sum_congr rfl fun k _ => ?_
    rw [iblk3, hW, ← coe_mul]
    exact congrArg (· * _) (dz_at m hM hX hW hG hC t s k)
  by_cases h0 : t.val % 8 = 0
  · rw [Gen.outsAt0_A m c t h0]
    frame_out
    exact (groups _ _ _ _ _ _ rfl rfl rfl rfl j s n).trans key
  · rw [Gen.outsAt0_B m c t h0]
    frame_out
    exact (groups _ _ _ _ _ _ rfl rfl rfl rfl j s n).trans key

theorem w4 : (dats m 0 c).arrAt 4 cfg0.N = (fun i =>
    ((∑ k : Fin 1024, dz M X C W G (i 1) k * W (ix2 ⟨(i 0).val * 256 + (i 2).val, by have := (i 0).isLt; have := (i 2).isLt; change _ < 4 at *; change _ < 256 at *; omega⟩ k) : ℝ) : EReal) : S4x4096x256.Idx → EReal) :=
  w4_of m c _ (out4 m hM hX hW hG hC)

omit m hM hX hW hG hC in
/-- A function of the rows at natural-number rows. -/
def nat (f : Fin 4096 → ℝ) (n : ℕ) : ℝ := if h : n < 4096 then f ⟨n, h⟩ else 0

omit m hM hX hW hG hC in
/-- The blocks' sums add up to the sum over the rows. -/
theorem sum_rows (f : Fin 4096 → ℝ) : ∑ t ∈ Finset.range 8, ∑ s : Fin 512, nat f (t * 512 + s.val) = ∑ s, f s := by
  rw [sum_blocks 8 512 (nat f)]
  exact Finset.sum_congr rfl fun s _ => dif_pos s.isLt

omit m hM hX hW hG hC in
theorem nat_row (f : Fin 4096 → ℝ) (t : Fin cfg0.N) (s : Fin 512) : nat f (t.val * 512 + s.val) = f (row t s) := dif_pos (row t s).isLt

omit hG in
theorem last7 (l : Fin 1024) : (outsAt0 m c 7 (by decide)).2.2.2.1 (ix2 0 l) =
    ((∑ s, cr C s l * Ln.xh 1024 eps (zr M X W s) l : ℝ) : EReal) := by
  refine (Pipeline.eq_sum_of_reset_step_single (N := cfg0.N) (fun t ht => (outsAt0 m c t ht).2.2.2.1 (ix2 0 l) : (t : ℕ) → t < cfg0.N → EReal) 8 0
    (fun t => ((∑ s : Fin 512, nat (fun s => cr C s l * Ln.xh 1024 eps (zr M X W s) l) (t * 512 + s.val) : ℝ) : EReal))
    (fun t h0 => ?_) (fun t h0 => ?_) (by decide) ⟨7, by decide⟩).trans ?_
  · simp only [nat_row]; exact out7_A m hM hX hW hC t h0 l
  · simp only [nat_row]; exact out7_B m hM hX hW hC t h0 l
  · rw [coe_sum, zero_add]
    exact congrArg _ (sum_rows _)

omit hM hX hW hG in
theorem last8 (l : Fin 1024) : (outsAt0 m c 7 (by decide)).2.2.2.2 (ix2 0 l) = ((∑ s, cr C s l : ℝ) : EReal) := by
  refine (Pipeline.eq_sum_of_reset_step_single (N := cfg0.N) (fun t ht => (outsAt0 m c t ht).2.2.2.2 (ix2 0 l) : (t : ℕ) → t < cfg0.N → EReal) 8 0
    (fun t => ((∑ s : Fin 512, nat (fun s => cr C s l) (t * 512 + s.val) : ℝ) : EReal))
    (fun t h0 => ?_) (fun t h0 => ?_) (by decide) ⟨7, by decide⟩).trans ?_
  · simp only [nat_row]; exact out8_A m hC t h0 l
  · simp only [nat_row]; exact out8_B m hC t h0 l
  · rw [coe_sum, zero_add]
    exact congrArg _ (sum_rows _)

omit hG in
theorem w7 : (dats m 0 c).arrAt 7 cfg0.N = (fun i => ((∑ s, cr C s (i 1) * Ln.xh 1024 eps (zr M X W s) (i 1) : ℝ) : EReal) : S1x1024.Idx → EReal) := by
  refine (dats m 0 c).arrAt_eq_of_after_last 7 ⟨7, by decide⟩ (by decide +kernel) _ fun j => ?_
  obtain ⟨a, l, rfl⟩ : ∃ a l, j = ix2 a l := ⟨_, _, eq_ix2 j⟩
  obtain rfl : a = 0 := Subsingleton.elim _ _
  exact (congrFun (after0_7 m c ⟨7, by decide⟩) _).trans (last7 m hM hX hW hC l)

omit hM hX hW hG in
theorem w8 : (dats m 0 c).arrAt 8 cfg0.N = (fun i => ((∑ s, cr C s (i 1) : ℝ) : EReal) : S1x1024.Idx → EReal) := by
  refine (dats m 0 c).arrAt_eq_of_after_last 8 ⟨7, by decide⟩ (by decide +kernel) _ fun j => ?_
  obtain ⟨a, l, rfl⟩ : ∃ a l, j = ix2 a l := ⟨_, _, eq_ix2 j⟩
  obtain rfl : a = 0 := Subsingleton.elim _ _
  exact (congrFun (after0_8 m c ⟨7, by decide⟩) _).trans (last8 m hC l)

end Finite

end Cert.MoValue
end
-- ==== Proof.MoRef.lean ====
/-
  What the reference of the mixer's output normalisation computes, one row at a time, on finite arguments.
-/
module

public import proofs.«01_k».proof.Proof.Ln
public import proofs.«01_k».proof.Proof.Gen.Reference7Ideal.Read

@[expose] public section

set_option maxRecDepth 65536

noncomputable section

namespace Cert.MoRef

open Idealize.ShloMosaic Idealize.ShloMosaic.TcCoe Idealize.SL Idealize.SL.Sem
open Cert.Reference7Ideal Cert.Reference7Ideal.Gen Cert.Reference7Ideal.Read Cert.Common Cert.Lift
open Cert.Ln (eps ofBits_eps ofBits_two ofBits_neg_half ofBits_1024 ofBits_zero)
open scoped BigOperators

variable (x0 x1 : S1x4096x1024.Idx → EReal) (x2 : S1024x1024.Idx → EReal)
variable (Z : S1x4096x1024.Idx → ℝ) (G : S1024.Idx → ℝ) (C : S1x4096x1024.Idx → ℝ)

/-- A row of the normalised array. -/
abbrev zr (s : Fin 4096) : Fin 1024 → ℝ := fun j => Z (ix3 0 s j)
/-- A row of the cotangent of the normalised rows. -/
abbrev ar (s : Fin 4096) : Fin 1024 → ℝ := fun j => C (ix3 0 s j) * G (ix1 j)

variable (hz : val_main_v3 (F := Ideal) x0 x1 x2 = fun i => (Z i : EReal))
include hz

theorem v8_at (s : Fin 4096) : val_main_v8 (F := Ideal) x0 x1 x2 (ix3 0 s 0) = (Ln.mu 1024 (zr Z s) : EReal) := by
  unfold val_main_v8 val_main_v7 val_main_v6 val_main_v5 val_main_cst_2 val_main_cst_1
  generalize val_main_v3 (F := Ideal) x0 x1 x2 = y at hz ⊢
  subst hz
  pointwise
  simp only [coe_sum, ofBits_1024, ofBits_zero, zero_add, div_coe _ _ (by norm_num : (1024 : ℝ) ≠ 0)]
  rfl

theorem v10_at (s : Fin 4096) (j : Fin 1024) : val_main_v10 (F := Ideal) x0 x1 x2 (ix3 0 s j) = (Ln.zc 1024 (zr Z s) j : EReal) := by
  have e := v8_at x0 x1 x2 Z hz
  unfold val_main_v10 val_main_v9
  generalize val_main_v8 (F := Ideal) x0 x1 x2 = w at e ⊢
  generalize val_main_v3 (F := Ideal) x0 x1 x2 = y at hz ⊢
  subst hz
  pointwise
  simp only [e, coe_sub]
  rfl

theorem v21_at (s : Fin 4096) : val_main_v21 (F := Ideal) x0 x1 x2 (ix3 0 s 0) = ((Ln.var 1024 (zr Z s) + eps : ℝ) : EReal) := by
  have e := v10_at x0 x1 x2 Z hz
  unfold val_main_v21 val_main_v20 val_main_v17 val_main_v16 val_main_v15 val_main_v14 val_main_v11 val_main_cst_6 val_main_cst_5 val_main_cst_4
  generalize val_main_v10 (F := Ideal) x0 x1 x2 = y at e ⊢
  pointwise
  simp only [e, coe_mul, coe_sum, ofBits_1024, ofBits_zero, ofBits_eps, zero_add, div_coe _ _ (by norm_num : (1024 : ℝ) ≠ 0), coe_add]
  rfl

theorem v22_at (s : Fin 4096) : val_main_v22 (F := Ideal) x0 x1 x2 (ix3 0 s 0) = (Ln.rs 1024 eps (zr Z s) : EReal) := by
  have e := v21_at x0 x1 x2 Z hz
  unfold val_main_v22
  generalize val_main_v21 (F := Ideal) x0 x1 x2 = y at e ⊢
  pointwise
  rw [e, Ln.rsqrt_var _ _ (by norm_num)]

theorem v25_at (s : Fin 4096) :
    val_main_v25 (F := Ideal) x0 x1 x2 (ix3 0 s 0) = ((-(1 / 2) * (Ln.rs 1024 eps (zr Z s) / (Ln.var 1024 (zr Z s) + eps)) : ℝ) : EReal) := by
  have e := v21_at x0 x1 x2 Z hz
  have e2 := v22_at x0 x1 x2 Z hz
  unfold val_main_v25 val_main_v24 val_main_v23 val_main_cst_7
  generalize val_main_v22 (F := Ideal) x0 x1 x2 = w at e2 ⊢
  generalize val_main_v21 (F := Ideal) x0 x1 x2 = y at e ⊢
  pointwise
  rw [e, e2, ofBits_neg_half, div_coe _ _ (Ln.var_pos _ _ (by norm_num)).ne', coe_mul]

theorem v27_at (s : Fin 4096) (j : Fin 1024) : val_main_v27 (F := Ideal) x0 x1 x2 (ix3 0 s j) = (Ln.xh 1024 eps (zr Z s) j : EReal) := by
  have e : ∀ s j, val_main_v19 (F := Ideal) x0 x1 x2 (ix3 0 s j) = (Ln.zc 1024 (zr Z s) j : EReal) := v10_at x0 x1 x2 Z hz
  have e2 := v22_at x0 x1 x2 Z hz
  unfold val_main_v27 val_main_v26
  generalize val_main_v22 (F := Ideal) x0 x1 x2 = w at e2 ⊢
  generalize val_main_v19 (F := Ideal) x0 x1 x2 = y at e ⊢
  pointwise
  simp only [e, e2, coe_mul]
  rfl

omit hz in
theorem v42_at (s : Fin 4096) (j : Fin 1024) :
    val_main_v42 (F := Ideal) (fun i => (G i : EReal)) (fun i => (C i : EReal)) (ix3 0 s j) = (ar G C s j : EReal) := by
  unfold val_main_v42 val_main_v41 val_main_v28 val_main_v34
  pointwise
  simp only [coe_mul]

theorem v46_at (s : Fin 4096) : val_main_v46 (F := Ideal) x0 x1 x2 (fun i => (G i : EReal)) (fun i => (C i : EReal)) (ix3 0 s 0)
    = ((∑ j, Ln.zc 1024 (zr Z s) j * ar G C s j : ℝ) : EReal) := by
  have e : ∀ s j, val_main_v19 (F := Ideal) x0 x1 x2 (ix3 0 s j) = (Ln.zc 1024 (zr Z s) j : EReal) := v10_at x0 x1 x2 Z hz
  have e2 := v42_at G C
  unfold val_main_v46 val_main_v45 val_main_v44 val_main_cst_12
  generalize val_main_v42 (F := Ideal) (fun i => (G i : EReal)) (fun i => (C i : EReal)) = w at e2 ⊢
  generalize val_main_v19 (F := Ideal) x0 x1 x2 = y at e ⊢
  pointwise
  simp only [e, e2, coe_mul, coe_sum, ofBits_zero, zero_add]

theorem v48_at (s : Fin 4096) (j : Fin 1024) : val_main_v48 (F := Ideal) x0 x1 x2 (fun i => (G i : EReal)) (fun i => (C i : EReal)) (ix3 0 s j)
    = ((ar G C s j * Ln.rs 1024 eps (zr Z s) : ℝ) : EReal) := by
  have e := v22_at x0 x1 x2 Z hz
  have e2 := v42_at G C
  unfold val_main_v48 val_main_v47
  generalize val_main_v42 (F := Ideal) (fun i => (G i : EReal)) (fun i => (C i : EReal)) = w at e2 ⊢
  generalize val_main_v22 (F := Ideal) x0 x1 x2 = y at e ⊢
  pointwise
  simp only [e, e2, coe_mul]

theorem v55_at (s : Fin 4096) : val_main_v55 (F := Ideal) x0 x1 x2 (fun i => (G i : EReal)) (fun i => (C i : EReal)) (ix1 s)
    = ((Ln.dvar 1024 eps (zr Z s) (ar G C s) / 1024 : ℝ) : EReal) := by
  have e := v46_at x0 x1 x2 Z G C hz
  have e2 := v25_at x0 x1 x2 Z hz
  unfold val_main_v55 val_main_cst_15
  simp only [Host.reduceAdd, Ideal.hostReduceAdd_def]
  rw [Ln.hostReduceAdd_outer_units1]
  unfold val_main_v54 val_main_v53 val_main_v49 val_main_cst_14
  generalize val_main_v46 (F := Ideal) x0 x1 x2 _ _ = w at e ⊢
  generalize val_main_v25 (F := Ideal) x0 x1 x2 = y at e2 ⊢
  pointwise
  simp only [e, e2, coe_mul, ofBits_1024, ofBits_zero, zero_add, div_coe _ _ (by norm_num : (1024 : ℝ) ≠ 0)]
  rfl

theorem v58_at (s : Fin 4096) (j : Fin 1024) : val_main_v58 (F := Ideal) x0 x1 x2 (fun i => (G i : EReal)) (fun i => (C i : EReal)) (ix3 0 s j)
    = (Ln.dsq 1024 eps (zr Z s) (ar G C s) j : EReal) := by
  have e := v10_at x0 x1 x2 Z hz
  have e2 := v55_at x0 x1 x2 Z G C hz
  unfold val_main_v58 val_main_v57 val_main_v56 val_main_v13 val_main_v12 val_main_cst_3
  generalize val_main_v10 (F := Ideal) x0 x1 x2 = w at e ⊢
  generalize val_main_v55 (F := Ideal) x0 x1 x2 _ _ = y at e2 ⊢
  pointwise
  simp only [e, e2, coe_mul, ofBits_two]
  rfl

theorem v66_at (s : Fin 4096) : val_main_v66 (F := Ideal) x0 x1 x2 (fun i => (G i : EReal)) (fun i => (C i : EReal)) (ix1 s)
    = ((Ln.dmu 1024 eps (zr Z s) (ar G C s) / 1024 : ℝ) : EReal) := by
  have e := v48_at x0 x1 x2 Z G C hz
  have e2 := v58_at x0 x1 x2 Z G C hz
  unfold val_main_v66 val_main_cst_18
  simp only [Host.reduceAdd, Ideal.hostReduceAdd_def]
  rw [Ln.hostReduceAdd_outer_units1]
  unfold val_main_v65 val_main_v64 val_main_v63 val_main_v61 val_main_v60 val_main_v59 val_main_v52 val_main_v51 val_main_v50 val_main_cst_17 val_main_cst_16 val_main_cst_13
  generalize val_main_v48 (F := Ideal) x0 x1 x2 _ _ = w at e ⊢
  generalize val_main_v58 (F := Ideal) x0 x1 x2 _ _ = y at e2 ⊢
  pointwise
  simp only [e, e2, coe_neg, coe_sum, coe_add, ofBits_1024, ofBits_zero, zero_add, div_coe _ _ (by norm_num : (1024 : ℝ) ≠ 0)]
  rfl

theorem v69_at (s : Fin 4096) (j : Fin 1024) : val_main_v69 (F := Ideal) x0 x1 x2 (fun i => (G i : EReal)) (fun i => (C i : EReal)) (ix3 0 s j)
    = (Ln.dx 1024 eps (zr Z s) (ar G C s) j : EReal) := by
  have e := v48_at x0 x1 x2 Z G C hz
  have e2 := v58_at x0 x1 x2 Z G C hz
  have e3 := v66_at x0 x1 x2 Z G C hz
  unfold val_main_v69 val_main_v68 val_main_v67 val_main_v62
  generalize val_main_v48 (F := Ideal) x0 x1 x2 _ _ = w at e ⊢
  generalize val_main_v58 (F := Ideal) x0 x1 x2 _ _ = y at e2 ⊢
  generalize val_main_v66 (F := Ideal) x0 x1 x2 _ _ = u at e3 ⊢
  pointwise
  simp only [e, e2, e3, coe_add]
  rw [← Ln.dx_eq 1024 eps (zr Z s) (ar G C s) (by norm_num) (by norm_num) Ln.eps_pos]

/-- The gradient of the scale. -/
theorem v77_at (j : Fin 1024) : val_main_v77 (F := Ideal) x0 x1 x2 (fun i => (C i : EReal)) (ix2 0 j)
    = ((∑ s : Fin 4096, C (ix3 0 s j) * Ln.xh 1024 eps (zr Z s) j : ℝ) : EReal) := by
  have e := v27_at x0 x1 x2 Z hz
  unfold val_main_v77
  pointwise
  unfold val_main_v43 val_main_cst_11
  simp only [Host.reduceAdd, Ideal.hostReduceAdd_def]
  rw [hostReduceAdd_unit_axes]
  unfold val_main_v40 val_main_v39 val_main_v38 val_main_v34 val_main_cst_10
  generalize val_main_v27 (F := Ideal) x0 x1 x2 = w at e ⊢
  pointwise
  simp only [e, coe_mul, coe_sum, ofBits_zero, zero_add]
  exact congrArg _ (Finset.sum_congr rfl fun s _ => mul_comm _ _)

omit hz in
/-- The gradient of the offset. -/
theorem v78_at (j : Fin 1024) : val_main_v78 (F := Ideal) (fun i => (C i : EReal)) (ix2 0 j) = ((∑ s : Fin 4096, C (ix3 0 s j) : ℝ) : EReal) := by
  unfold val_main_v78
  pointwise
  unfold val_main_v37 val_main_cst_9
  simp only [Host.reduceAdd, Ideal.hostReduceAdd_def]
  rw [hostReduceAdd_unit_axes]
  unfold val_main_v36 val_main_v35 val_main_cst_8
  pointwise
  simp only [coe_sum, ofBits_zero, zero_add]

theorem v74_at (s : Fin 4096) (j : Fin 1024) : val_main_v74 (F := Ideal) x0 x1 x2 (fun i => (G i : EReal)) (fun i => (C i : EReal)) (ix2 s j)
    = (Ln.dx 1024 eps (zr Z s) (ar G C s) j : EReal) := by
  have e := v69_at x0 x1 x2 Z G C hz
  unfold val_main_v74
  generalize val_main_v69 (F := Ideal) x0 x1 x2 _ _ = w at e ⊢
  pointwise
  simp only [e]

theorem v76_at (s : Fin 4096) (j : Fin 1024) : val_main_v76 (F := Ideal) x0 x1 x2 (fun i => (G i : EReal)) (fun i => (C i : EReal)) (ix2 s j)
    = (Ln.dx 1024 eps (zr Z s) (ar G C s) j : EReal) := by
  have e := v69_at x0 x1 x2 Z G C hz
  unfold val_main_v76 val_main_v75
  generalize val_main_v69 (F := Ideal) x0 x1 x2 _ _ = w at e ⊢
  pointwise
  simp only [e]

/-- The gradient of the mixer's output, by groups of its columns. -/
theorem v73_at (W : S1024x1024.Idx → ℝ) (hW : x2 = fun i => (W i : EReal)) (j : Fin 4) (s : Fin 4096) (n : Fin 256) :
    val_main_v73 (F := Ideal) x0 x1 x2 (fun i => (G i : EReal)) (fun i => (C i : EReal)) (ix3 j s n)
    = ((∑ k : Fin 1024, Ln.dx 1024 eps (zr Z s) (ar G C s) k * W (ix2 ⟨j.val * 256 + n.val, by omega⟩ k) : ℝ) : EReal) := by
  have e := v69_at x0 x1 x2 Z G C hz
  unfold val_main_v73 val_main_v72 val_main_v71 val_main_v70
  generalize val_main_v69 (F := Ideal) x0 x1 x2 _ _ = w at e ⊢
  subst hW
  pointwise
  simp only [e, coe_mul, coe_sum]

omit hz in
/-- The array that is normalised. -/
theorem v3_at (s : Fin 4096) (l : Fin 1024) : val_main_v3 (F := Ideal) x0 x1 x2 (ix3 0 s l) =
    Ideal.ofBits .f32 1068827891#32 * x1 (ix3 0 s l) + ∑ k : Fin 1024, x0 (ix3 0 s k) * x2 (ix2 k l) := by
  unfold val_main_v3 val_main_v2 val_main_v1 val_main_v0 val_main_cst
  pointwise

end Cert.MoRef
end
-- ==== Proof.MoClaim.lean ====
/-
  The backward call of the mixer's output normalisation and projection against its reference.
-/
module

public import proofs.«01_k».proof.Defs
public import proofs.«01_k».proof.Proof.MoValue
public import proofs.«01_k».proof.Proof.MoRef
public import proofs.«01_k».proof.Proof.Gen.Reference7Ideal

@[expose] public section

set_option maxRecDepth 200000

noncomputable section

namespace Cert.MoClaim

open Idealize.ShloMosaic Idealize.ShloMosaic.TcCoe Idealize.SL.Sem
open Cert.Common Cert.Lift Cert.MoRef Cert.MoValue

theorem pre_facts : Cert.Pre_finite7.Facts := ⟨by decide, by decide, by decide⟩

attribute [local instance] pre_facts

variable {m : (ℓ : Loc Cert.Kernel7Ideal.nD Cert.Kernel7Ideal.τ Cert.Kernel7Ideal.sig) → Buf (Elt Ideal) ℓ}

/-- Finite argument arrays are real arrays. -/
theorem args (h : Cert.Pre_Kernel7Ideal_finite7 m) (c : Dev Cert.Kernel7Ideal.nD) :
    ∃ (M X C : Cert.Kernel7Ideal.S1x4096x1024.Idx → ℝ) (W : Cert.Kernel7Ideal.S1024x1024.Idx → ℝ) (G : Cert.Kernel7Ideal.S1024.Idx → ℝ),
      (m ((c.tc : Thread Cert.Kernel7Ideal.nD Cert.Kernel7Ideal.τ).loc Cert.Kernel7Ideal.main_arg0) = fun i => (M i : EReal))
        ∧ (m ((c.tc : Thread Cert.Kernel7Ideal.nD Cert.Kernel7Ideal.τ).loc Cert.Kernel7Ideal.main_arg1) = fun i => (X i : EReal))
        ∧ (m ((c.tc : Thread Cert.Kernel7Ideal.nD Cert.Kernel7Ideal.τ).loc Cert.Kernel7Ideal.main_arg2) = fun i => (W i : EReal))
        ∧ (m ((c.tc : Thread Cert.Kernel7Ideal.nD Cert.Kernel7Ideal.τ).loc Cert.Kernel7Ideal.main_arg3) = fun i => (G i : EReal))
        ∧ (m ((c.tc : Thread Cert.Kernel7Ideal.nD Cert.Kernel7Ideal.τ).loc Cert.Kernel7Ideal.main_arg4) = fun i => (C i : EReal)) := by
  obtain ⟨h0, h1, h2, h3, h4⟩ := h c
  obtain ⟨M, hM⟩ := finite_of_test (fun _ => rfl) h0
  obtain ⟨X, hX⟩ := finite_of_test (fun _ => rfl) h1
  obtain ⟨W, hW⟩ := finite_of_test (fun _ => rfl) h2
  obtain ⟨G, hG⟩ := finite_of_test (fun _ => rfl) h3
  obtain ⟨C, hC⟩ := finite_of_test (fun _ => rfl) h4
  exact ⟨M, X, C, W, G, hM, hX, hW, hG, hC⟩

/-- The reference's normalised array on real arguments. -/
theorem hz (M X : Cert.Kernel7Ideal.S1x4096x1024.Idx → ℝ) (W : Cert.Kernel7Ideal.S1024x1024.Idx → ℝ) :
    Cert.Reference7Ideal.Read.val_main_v3 (F := Ideal) (fun i => (M i : EReal)) (fun i => (X i : EReal)) (fun i => (W i : EReal)) = fun i => (zR M X W i : EReal) := by
  funext i
  obtain ⟨a, s, l, rfl⟩ : ∃ a s l, i = ix3 a s l := ⟨_, _, _, eq_ix3 i⟩
  obtain rfl : a = 0 := Subsingleton.elim _ _
  exact (v3_at _ _ _ s l).trans (zE_coe M X W s l)

theorem algebraic : Cert.algebraic_Kernel7Ideal_Reference7Ideal_pre_finite7 := by
  pair_intro
  · run_from Cert.Kernel7Ideal.Value.run_blocks m g
  · run_from Cert.Reference7Ideal.Value.run m' g'
    · obtain ⟨M, X, C, W, G, hM, hX, hW, hG, hC⟩ := args hpre c
      refine (Cert.Reference7Ideal.Read.val_main_v73_eq m' c).trans ?_
      rw [(hagree c).1, (hagree c).2.1, (hagree c).2.2.1, (hagree c).2.2.2.1, (hagree c).2.2.2.2]
      refine Eq.trans (funext fun i => ?_) (w4 m hM hX hW hG hC).symm
      rw [hM, hX, hW, hG, hC]
      obtain ⟨j, s, n, rfl⟩ : ∃ j s n, i = ix3 j s n := ⟨_, _, _, eq_ix3 i⟩
      exact v73_at _ _ _ (zR M X W) G C (hz M X W) W rfl j s n
    · obtain ⟨M, X, C, W, G, hM, hX, hW, hG, hC⟩ := args hpre c
      refine (Cert.Reference7Ideal.Read.val_main_v74_eq m' c).trans ?_
      rw [(hagree c).1, (hagree c).2.1, (hagree c).2.2.1, (hagree c).2.2.2.1, (hagree c).2.2.2.2]
      refine Eq.trans (funext fun i => ?_) (w5 m hM hX hW hG hC).symm
      rw [hM, hX, hW, hG, hC]
      obtain ⟨s, n, rfl⟩ : ∃ s n, i = ix2 s n := ⟨_, _, eq_ix2 i⟩
      exact v74_at _ _ _ (zR M X W) G C (hz M X W) s n
    · obtain ⟨M, X, C, W, G, hM, hX, hW, hG, hC⟩ := args hpre c
      refine (Cert.Reference7Ideal.Read.val_main_v76_eq m' c).trans ?_
      rw [(hagree c).1, (hagree c).2.1, (hagree c).2.2.1, (hagree c).2.2.2.1, (hagree c).2.2.2.2]
      refine Eq.trans (funext fun i => ?_) (w6 m hM hX hW hG hC).symm
      rw [hM, hX, hW, hG, hC]
      obtain ⟨s, n, rfl⟩ : ∃ s n, i = ix2 s n := ⟨_, _, eq_ix2 i⟩
      exact v76_at _ _ _ (zR M X W) G C (hz M X W) s n
    · obtain ⟨M, X, C, W, G, hM, hX, hW, hG, hC⟩ := args hpre c
      refine (Cert.Reference7Ideal.Read.val_main_v77_eq _ _ _ _).trans ?_
      refine Eq.trans (funext fun i => ?_) (w7 m hM hX hW hC).symm
      rw [hM, hX, hW, hC]
      obtain ⟨a, n, rfl⟩ : ∃ a n, i = ix2 a n := ⟨_, _, eq_ix2 i⟩
      obtain rfl : a = 0 := Subsingleton.elim _ _
      exact v77_at _ _ _ (zR M X W) C (hz M X W) n
    · obtain ⟨M, X, C, W, G, hM, hX, hW, hG, hC⟩ := args hpre c
      refine (Cert.Reference7Ideal.Read.val_main_v78_eq _).trans ?_
      refine Eq.trans (funext fun i => ?_) (w8 m hC).symm
      rw [hC]
      obtain ⟨a, n, rfl⟩ : ∃ a n, i = ix2 a n := ⟨_, _, eq_ix2 i⟩
      obtain rfl : a = 0 := Subsingleton.elim _ _
      exact v78_at C n

end Cert.MoClaim
end
-- ==== Proof.FfnRun.lean ====
/- The gated feed-forward's backward call: the body of one grid point, run on any staging buffers, in its three cases.
   The grid is 8 row blocks by 4 column groups. At the first point (case A) both conditionals run, at the first group of a
   later row block (case B) the second, at the other groups (case C) neither: there the body reads what the row block's
   first group left in the buffers of the residual gradient and of its rounded half. -/
module

public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame

@[expose] public section

set_option maxRecDepth 16384

noncomputable section

namespace Cert.Kernel8Ideal.Ffn

open Cert.Kernel8Ideal Cert.Kernel8Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer at given contents, and a buffer that stores have written over unnamed contents. -/
abbrev has (c : Dev nD) {s : Shape} {e : EltTy} (a : Memref sig .tc .vmem s e) (x : Vec F s e) : sProp 𝕄 := owns (c : Thread nD τ) a fullShare x
abbrev wrote (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)
abbrev some (c : Dev nD) {s : Shape} {e : EltTy} (a : Memref sig .tc .vmem s e) : sProp 𝕄 := iprop(∃ d : Vec F s e, has c a d)

variable (c : Dev nD) (i : grid0.Coords)
  (a0 : Memref sig .tc .vmem S512x1024 .f32) (h0 : a0.IsWhole) (a1 : Memref sig .tc .vmem S512x1024 .f32) (h1 : a1.IsWhole)
  (a2 : Memref sig .tc .vmem S1x1024 .f32) (h2 : a2.IsWhole) (a3 : Memref sig .tc .vmem S4x704x1024 .bf16) (h3 : a3.IsWhole)
  (a4 : Memref sig .tc .vmem S4x704x1024 .bf16) (h4 : a4.IsWhole) (a5 : Memref sig .tc .vmem S4x704x1024 .bf16) (h5 : a5.IsWhole)
  (a6 : Memref sig .tc .vmem S1x512x704 .bf16) (h6 : a6.IsWhole) (a7 : Memref sig .tc .vmem S1x512x704 .bf16) (h7 : a7.IsWhole)
  (a8 : Memref sig .tc .vmem S1x512x704 .bf16) (h8 : a8.IsWhole) (a9 : Memref sig .tc .vmem S1x512x704 .bf16) (h9 : a9.IsWhole)
  (a10 : Memref sig .tc .vmem S512x1024 .f32) (h10 : a10.IsWhole) (a11 : Memref sig .tc .vmem S512x1024 .bf16) (h11 : a11.IsWhole)
  (a12 : Memref sig .tc .vmem S1x1024 .f32) (h12 : a12.IsWhole) (a13 : Memref sig .tc .vmem S1x1024 .f32) (h13 : a13.IsWhole)
  (x0 x1 : Vec F S512x1024 .f32) (x2 : Vec F S1x1024 .f32) (x3 x4 x5 : Vec F S4x704x1024 .bf16) (x6 x7 : Vec F S1x512x704 .bf16)

/-- The eight inputs at their contents. -/
abbrev ins : sProp 𝕄 :=
  iprop(has c a0 x0 ∗ has c a1 x1 ∗ has c a2 x2 ∗ has c a3 x3 ∗ has c a4 x4 ∗ has c a5 x5 ∗ has c a6 x6 ∗ has c a7 x7)

omit [FloatOps F] in
/-- A buffer whose whole holds `x` is a buffer at `x`. -/
theorem has_of {s : Shape} {e : EltTy} (a : Memref sig .tc .vmem s e) (h : a.IsWhole) (x : Vec F s e) :
    (iprop(a.view.loc (c : Thread nD τ) ↦[a.view.set]{fullShare} h.unread x) : sProp 𝕄)
      ⊢ iprop(∃ f, ⌜a.view.read (Elt F) f = x⌝ ∗ a.view.loc (c : Thread nD τ) ↦[a.view.set]{fullShare} f) := by
  iintro H
  iexists _; isplitr; · ipureintro; exact h.read_unread _
  iexact H

set_option maxHeartbeats 2000000 in
/-- Case A: the stores of all six outputs, over anything. -/
def runA (hc1 : k0_cond1 i = 1#1) (hc2 : k0_cond2 i = 1#1) :
    Σ' (L8 : List (View.Piece (Elt F) S1x512x704 .bf16)), Σ' (L9 : List (View.Piece (Elt F) S1x512x704 .bf16)), Σ' (L10 : List (View.Piece (Elt F) S512x1024 .f32)), Σ' (L11 : List (View.Piece (Elt F) S512x1024 .bf16)), Σ' (L12 : List (View.Piece (Elt F) S1x1024 .f32)),
    { L13 : List (View.Piece (Elt F) S1x1024 .f32) // ∀ (E : Set ℕ) (K : PUnit → sProp 𝕄),
        iprop(ins c a0 a1 a2 a3 a4 a5 a6 a7 x0 x1 x2 x3 x4 x5 x6 x7 ∗ some c a8 ∗ some c a9 ∗ some c a10 ∗ some c a11 ∗ some c a12 ∗ some c a13
          ∗ (iprop(ins c a0 a1 a2 a3 a4 a5 a6 a7 x0 x1 x2 x3 x4 x5 x6 x7 ∗ wrote c a8 L8 ∗ wrote c a9 L9 ∗ wrote c a10 L10 ∗ wrote c a11 L11 ∗ wrote c a12 L12 ∗ wrote c a13 L13) -∗ K ⟨⟩))
          ⊢ wp frame (wpE (defs₀ (F := F)) Variants.none c none) E
            (cc0_ffn_bwd i a0 h0 a1 h1 a2 h2 a3 h3 a4 h4 a5 h5 a6 h6 a7 h7 a8 h8 a9 h9 a10 h10 a11 h11 a12 h12 a13 h13) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold ins some has wrote owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩,
      ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := h0.eq_unread e0; obtain rfl := h1.eq_unread e1; obtain rfl := h2.eq_unread e2; obtain rfl := h3.eq_unread e3
    obtain rfl := h4.eq_unread e4; obtain rfl := h5.eq_unread e5; obtain rfl := h6.eq_unread e6; obtain rfl := h7.eq_unread e7
    sl_exec (disch := first | sl_exact hc1 | sl_exact hc2)
    sl_step
    iapply Hk
    isplitl [H0 H1 H2 H3 H4 H5 H6 H7]
    · isplitl [H0]; · iapply has_of _ _ h0; iexact H0
      isplitl [H1]; · iapply has_of _ _ h1; iexact H1
      isplitl [H2]; · iapply has_of _ _ h2; iexact H2
      isplitl [H3]; · iapply has_of _ _ h3; iexact H3
      isplitl [H4]; · iapply has_of _ _ h4; iexact H4
      isplitl [H5]; · iapply has_of _ _ h5; iexact H5
      isplitl [H6]; · iapply has_of _ _ h6; iexact H6
      iapply has_of _ _ h7; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 2000000 in
/-- Case B: the stores of all six outputs, the sums of scale and shift `p`, `q` as the point before left them. -/
def runB (hc1 : ¬ k0_cond1 i = 1#1) (hc2 : k0_cond2 i = 1#1) (p q : Vec F S1x1024 .f32) :
    Σ' (L8 : List (View.Piece (Elt F) S1x512x704 .bf16)), Σ' (L9 : List (View.Piece (Elt F) S1x512x704 .bf16)), Σ' (L10 : List (View.Piece (Elt F) S512x1024 .f32)), Σ' (L11 : List (View.Piece (Elt F) S512x1024 .bf16)), Σ' (L12 : List (View.Piece (Elt F) S1x1024 .f32)),
    { L13 : List (View.Piece (Elt F) S1x1024 .f32) // ∀ (E : Set ℕ) (K : PUnit → sProp 𝕄),
        iprop(ins c a0 a1 a2 a3 a4 a5 a6 a7 x0 x1 x2 x3 x4 x5 x6 x7 ∗ some c a8 ∗ some c a9 ∗ some c a10 ∗ some c a11 ∗ has c a12 p ∗ has c a13 q
          ∗ (iprop(ins c a0 a1 a2 a3 a4 a5 a6 a7 x0 x1 x2 x3 x4 x5 x6 x7 ∗ wrote c a8 L8 ∗ wrote c a9 L9 ∗ wrote c a10 L10 ∗ wrote c a11 L11 ∗ wrote c a12 L12 ∗ wrote c a13 L13) -∗ K ⟨⟩))
          ⊢ wp frame (wpE (defs₀ (F := F)) Variants.none c none) E
            (cc0_ffn_bwd i a0 h0 a1 h1 a2 h2 a3 h3 a4 h4 a5 h5 a6 h6 a7 h7 a8 h8 a9 h9 a10 h10 a11 h11 a12 h12 a13 h13) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold ins some has wrote owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩,
      ⟨%d8, %f8, -, H8⟩, ⟨%d9, %f9, -, H9⟩, ⟨%d10, %f10, -, H10⟩, ⟨%d11, %f11, -, H11⟩, ⟨%f12, %e12, H12⟩, ⟨%f13, %e13, H13⟩, Hk⟩
    obtain rfl := h0.eq_unread e0; obtain rfl := h1.eq_unread e1; obtain rfl := h2.eq_unread e2; obtain rfl := h3.eq_unread e3
    obtain rfl := h4.eq_unread e4; obtain rfl := h5.eq_unread e5; obtain rfl := h6.eq_unread e6; obtain rfl := h7.eq_unread e7
    obtain rfl := h12.eq_unread e12; obtain rfl := h13.eq_unread e13
    sl_exec (disch := first | sl_exact hc1 | sl_exact hc2)
    sl_step
    iapply Hk
    isplitl [H0 H1 H2 H3 H4 H5 H6 H7]
    · isplitl [H0]; · iapply has_of _ _ h0; iexact H0
      isplitl [H1]; · iapply has_of _ _ h1; iexact H1
      isplitl [H2]; · iapply has_of _ _ h2; iexact H2
      isplitl [H3]; · iapply has_of _ _ h3; iexact H3
      isplitl [H4]; · iapply has_of _ _ h4; iexact H4
      isplitl [H5]; · iapply has_of _ _ h5; iexact H5
      isplitl [H6]; · iapply has_of _ _ h6; iexact H6
      iapply has_of _ _ h7; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 2000000 in
/-- Case C: the stores of the two gate gradients and of the residual gradient, over the rounded half `y` and the residual
    gradient `d` as the point before left them. -/
def runC (hc1 : ¬ k0_cond1 i = 1#1) (hc2 : ¬ k0_cond2 i = 1#1) (d : Vec F S512x1024 .f32) (y : Vec F S512x1024 .bf16) :
    Σ' (L8 : List (View.Piece (Elt F) S1x512x704 .bf16)), Σ' (L9 : List (View.Piece (Elt F) S1x512x704 .bf16)),
    { L10 : List (View.Piece (Elt F) S512x1024 .f32) // ∀ (E : Set ℕ) (K : PUnit → sProp 𝕄),
        iprop(ins c a0 a1 a2 a3 a4 a5 a6 a7 x0 x1 x2 x3 x4 x5 x6 x7 ∗ some c a8 ∗ some c a9 ∗ has c a10 d ∗ has c a11 y
          ∗ (iprop(ins c a0 a1 a2 a3 a4 a5 a6 a7 x0 x1 x2 x3 x4 x5 x6 x7 ∗ wrote c a8 L8 ∗ wrote c a9 L9 ∗ wrote c a10 L10 ∗ has c a11 y) -∗ K ⟨⟩))
          ⊢ wp frame (wpE (defs₀ (F := F)) Variants.none c none) E
            (cc0_ffn_bwd i a0 h0 a1 h1 a2 h2 a3 h3 a4 h4 a5 h5 a6 h6 a7 h7 a8 h8 a9 h9 a10 h10 a11 h11 a12 h12 a13 h13) K } := by
  refine ⟨?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold ins some has wrote owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩,
      ⟨%d8, %f8, -, H8⟩, ⟨%d9, %f9, -, H9⟩, ⟨%f10, %e10, H10⟩, ⟨%f11, %e11, H11⟩, Hk⟩
    obtain rfl := h0.eq_unread e0; obtain rfl := h1.eq_unread e1; obtain rfl := h2.eq_unread e2; obtain rfl := h3.eq_unread e3
    obtain rfl := h4.eq_unread e4; obtain rfl := h5.eq_unread e5; obtain rfl := h6.eq_unread e6; obtain rfl := h7.eq_unread e7
    obtain rfl := h10.eq_unread e10; obtain rfl := h11.eq_unread e11
    sl_exec (disch := first | sl_exact hc1 | sl_exact hc2)
    sl_step
    iapply Hk
    isplitl [H0 H1 H2 H3 H4 H5 H6 H7]
    · isplitl [H0]; · iapply has_of _ _ h0; iexact H0
      isplitl [H1]; · iapply has_of _ _ h1; iexact H1
      isplitl [H2]; · iapply has_of _ _ h2; iexact H2
      isplitl [H3]; · iapply has_of _ _ h3; iexact H3
      isplitl [H4]; · iapply has_of _ _ h4; iexact H4
      isplitl [H5]; · iapply has_of _ _ h5; iexact H5
      isplitl [H6]; · iapply has_of _ _ h6; iexact H6
      iapply has_of _ _ h7; iexact H7
    isplitl [H8]; · iexists _; iexact H8
    isplitl [H9]; · iexists _; iexact H9
    isplitl [H10]; · iexists _; iexact H10
    iapply has_of _ _ h11; iexact H11

end Cert.Kernel8Ideal.Ffn

end
-- ==== Proof.FfnBody.lean ====
/- The gated feed-forward's backward call: what each output's buffer holds after each grid point, the pipeline's proof data,
   and the run of the whole call. The rounded half and the two sums over rows are stored at a row block's first group only;
   at the other groups their buffers keep what they held, which is what is written back at the last of them. -/
module

public import proofs.«01_k».proof.Proof.FfnRun
public import Idealize.ShloMosaic.Lib.Pipeline.TableIdle
public import Idealize.ShloMosaic.Lib.Pipeline.Value
public import Idealize.ShloMosaic.Lib.Claim

@[expose] public section

set_option maxRecDepth 16384

noncomputable section

namespace Cert.Kernel8Ideal.Ffn

open Cert.Kernel8Ideal Cert.Kernel8Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The first conditional runs at the first point, the second at the first group of each row block. -/
theorem first : ∀ t : Fin cfg0.N, k0_cond1 (grid0.coords t) = 1#1 ↔ t.val = 0 := (by decide +kernel : ∀ t : Fin grid0.N, _)
theorem group0 : ∀ t : Fin cfg0.N, k0_cond2 (grid0.coords t) = 1#1 ↔ t.val % 4 = 0 := (by decide +kernel : ∀ t : Fin grid0.N, _)

/-- The six outputs' buffers. -/
abbrev Outs (F : FTy → Type) [FloatOps F] : Type := Vec F S1x512x704 .bf16 × Vec F S1x512x704 .bf16 × Vec F S512x1024 .f32 × Vec F S512x1024 .bf16
  × Vec F S1x1024 .f32 × Vec F S1x1024 .f32

variable (m : (ℓ : Loc nD τ sig) → Buf (Elt F) ℓ) (ρ : Dev nD → PrngReg) (c : Dev nD)

/-- The run at a point of case A, and what it leaves. -/
abbrev atA (t : Fin cfg0.N) (hc1 : k0_cond1 (grid0.coords t) = 1#1) (hc2 : k0_cond2 (grid0.coords t) = 1#1) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    (iblk m c 0 t) (iblk m c 1 t) (iblk m c 2 t) (iblk m c 3 t) (iblk m c 4 t) (iblk m c 5 t) (iblk m c 6 t) (iblk m c 7 t) hc1 hc2
def stA (t : Fin cfg0.N) (hc1 : k0_cond1 (grid0.coords t) = 1#1) (hc2 : k0_cond2 (grid0.coords t) = 1#1) : Outs F :=
  (View.canon (atA m c t hc1 hc2).1,
    View.canon (atA m c t hc1 hc2).2.1,
    View.canon (atA m c t hc1 hc2).2.2.1,
    View.canon (atA m c t hc1 hc2).2.2.2.1,
    View.canon (atA m c t hc1 hc2).2.2.2.2.1,
    View.canon (atA m c t hc1 hc2).2.2.2.2.2.1)

/-- The same in case B, after buffers `o`. -/
abbrev atB (t : Fin cfg0.N) (hc1 : ¬ k0_cond1 (grid0.coords t) = 1#1) (hc2 : k0_cond2 (grid0.coords t) = 1#1) (o : Outs F) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    (iblk m c 0 t) (iblk m c 1 t) (iblk m c 2 t) (iblk m c 3 t) (iblk m c 4 t) (iblk m c 5 t) (iblk m c 6 t) (iblk m c 7 t) hc1 hc2 o.2.2.2.2.1 o.2.2.2.2.2
def stB (t : Fin cfg0.N) (hc1 : ¬ k0_cond1 (grid0.coords t) = 1#1) (hc2 : k0_cond2 (grid0.coords t) = 1#1) (o : Outs F) : Outs F :=
  (View.canon (atB m c t hc1 hc2 o).1,
    View.canon (atB m c t hc1 hc2 o).2.1,
    View.canon (atB m c t hc1 hc2 o).2.2.1,
    View.canon (atB m c t hc1 hc2 o).2.2.2.1,
    View.canon (atB m c t hc1 hc2 o).2.2.2.2.1,
    View.canon (atB m c t hc1 hc2 o).2.2.2.2.2.1)

/-- The same in case C. -/
abbrev atC (t : Fin cfg0.N) (hc1 : ¬ k0_cond1 (grid0.coords t) = 1#1) (hc2 : ¬ k0_cond2 (grid0.coords t) = 1#1) (o : Outs F) :=
  runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    (iblk m c 0 t) (iblk m c 1 t) (iblk m c 2 t) (iblk m c 3 t) (iblk m c 4 t) (iblk m c 5 t) (iblk m c 6 t) (iblk m c 7 t) hc1 hc2 o.2.2.1 o.2.2.2.1
def stC (t : Fin cfg0.N) (hc1 : ¬ k0_cond1 (grid0.coords t) = 1#1) (hc2 : ¬ k0_cond2 (grid0.coords t) = 1#1) (o : Outs F) : Outs F :=
  (View.canon (atC m c t hc1 hc2 o).1,
    View.canon (atC m c t hc1 hc2 o).2.1,
    View.canon (atC m c t hc1 hc2 o).2.2.1,
    o.2.2.2.1,
    o.2.2.2.2.1,
    o.2.2.2.2.2)

theorem first_not {t : Fin cfg0.N} (h : ¬ t.val = 0) : ¬ k0_cond1 (grid0.coords t) = 1#1 := fun e => h ((first t).mp e)
theorem group0_not {t : Fin cfg0.N} (h : ¬ t.val % 4 = 0) : ¬ k0_cond2 (grid0.coords t) = 1#1 := fun e => h ((group0 t).mp e)

/-- What the outputs' buffers hold after grid point `n`, by recursion on the point. -/
def outs : (n : ℕ) → n < cfg0.N → Outs F
  | 0, h => stA m c ⟨0, h⟩ ((first _).mpr rfl) ((group0 _).mpr rfl)
  | n + 1, h =>
    if h0 : (n + 1) % 4 = 0 then stB m c ⟨n + 1, h⟩ (first_not (Nat.succ_ne_zero n)) ((group0 _).mpr h0) (outs n (Nat.lt_of_succ_lt h))
    else stC m c ⟨n + 1, h⟩ (first_not (Nat.succ_ne_zero n)) (group0_not h0) (outs n (Nat.lt_of_succ_lt h))

/-- What they hold after the point before `t`. -/
abbrev prev (t : Fin cfg0.N) : Outs F := outs m c (t.val - 1) (Nat.lt_of_le_of_lt (Nat.sub_le _ _) t.isLt)

theorem outs_A (t : Fin cfg0.N) (h : t.val = 0) : outs m c t.val t.isLt = stA m c t ((first t).mpr h) ((group0 t).mpr (by omega)) := by
  obtain ⟨n, hn⟩ := t
  obtain rfl : n = 0 := h
  rfl

theorem outs_B (t : Fin cfg0.N) (h : ¬ t.val = 0) (h0 : t.val % 4 = 0) :
    outs m c t.val t.isLt = stB m c t (first_not h) ((group0 t).mpr h0) (prev m c t) := by
  obtain ⟨n, hn⟩ := t
  cases n with
  | zero => exact absurd rfl h
  | succ n => exact dif_pos h0

theorem outs_C (t : Fin cfg0.N) (h0 : ¬ t.val % 4 = 0) :
    outs m c t.val t.isLt = stC m c t (first_not (fun h => h0 (by omega))) (group0_not h0) (prev m c t) := by
  obtain ⟨n, hn⟩ := t
  cases n with
  | zero => exact absurd (Nat.zero_mod 4) h0
  | succ n => exact dif_neg h0

/-- The pipeline's proof data: the inputs' buffers at their blocks, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2.1
    | ⟨12, _⟩ => (outs m c t.val t.isLt).2.2.2.2.1
    | ⟨13, _⟩ => (outs m c t.val t.isLt).2.2.2.2.2
  Φ _ := Pipeline.ΦA spec0 c
  q _ := fullShare
  owed _ := 0

theorem A_eq (c : Dev nD) (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]
theorem after7 (t : Fin cfg0.N) : (dats m 0 c).after 7 t = iblk m c 7 t := by dsimp only [dats]
theorem after8 (t : Fin cfg0.N) : (dats m 0 c).after 8 t = (outs m c t.val t.isLt).1 := by dsimp only [dats]
theorem after9 (t : Fin cfg0.N) : (dats m 0 c).after 9 t = (outs m c t.val t.isLt).2.1 := by dsimp only [dats]
theorem after10 (t : Fin cfg0.N) : (dats m 0 c).after 10 t = (outs m c t.val t.isLt).2.2.1 := by dsimp only [dats]
theorem after11 (t : Fin cfg0.N) : (dats m 0 c).after 11 t = (outs m c t.val t.isLt).2.2.2.1 := by dsimp only [dats]
theorem after12 (t : Fin cfg0.N) : (dats m 0 c).after 12 t = (outs m c t.val t.isLt).2.2.2.2.1 := by dsimp only [dats]
theorem after13 (t : Fin cfg0.N) : (dats m 0 c).after 13 t = (outs m c t.val t.isLt).2.2.2.2.2 := by dsimp only [dats]

theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before3 (t : Fin cfg0.N) (d) : (dats m 0 c).before 3 t d = iblk m c 3 t := before0_3_of m (dats m 0 c) (A_eq m c 3) (after3 m c) t d
theorem before4 (t : Fin cfg0.N) (d) : (dats m 0 c).before 4 t d = iblk m c 4 t := before0_4_of m (dats m 0 c) (A_eq m c 4) (after4 m c) t d
theorem before5 (t : Fin cfg0.N) (d) : (dats m 0 c).before 5 t d = iblk m c 5 t := before0_5_of m (dats m 0 c) (A_eq m c 5) (after5 m c) t d
theorem before6 (t : Fin cfg0.N) (d) : (dats m 0 c).before 6 t d = iblk m c 6 t := before0_6_of m (dats m 0 c) (A_eq m c 6) (after6 m c) t d
theorem before7 (t : Fin cfg0.N) (d) : (dats m 0 c).before 7 t d = iblk m c 7 t := before0_7_of m (dats m 0 c) (A_eq m c 7) (after7 m c) t d

/-- The residual gradient's buffer, inside a row block, holds what the point before left. -/
theorem before10 (t : Fin cfg0.N) (h0 : ¬ t.val % 4 = 0) (d) : (dats m 0 c).before 10 t d = (prev m c t).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-- When an idle output's buffer holds nothing stored yet. -/
theorem fresh11 : ∀ n, n ≤ cfg0.N → cfg0.fresh 11 n = (n % 4 == 0) :=
  Cfg.fresh_tab (cfg := cfg0) 11 (fun n => n % 4 == 0) rfl
    (by decide +kernel : ∀ t : Fin grid0.N, ((t.val + 1) % 4 == 0) = ((cfg0.win 11).flush t || (cfg0.idle 11 (cfg0.grid.coords t) && (t.val % 4 == 0))))
theorem fresh12 : ∀ n, n ≤ cfg0.N → cfg0.fresh 12 n = (n % 32 == 0) :=
  Cfg.fresh_tab (cfg := cfg0) 12 (fun n => n % 32 == 0) rfl
    (by decide +kernel : ∀ t : Fin grid0.N, ((t.val + 1) % 32 == 0) = ((cfg0.win 12).flush t || (cfg0.idle 12 (cfg0.grid.coords t) && (t.val % 32 == 0))))
theorem fresh13 : ∀ n, n ≤ cfg0.N → cfg0.fresh 13 n = (n % 32 == 0) :=
  Cfg.fresh_tab (cfg := cfg0) 13 (fun n => n % 32 == 0) rfl
    (by decide +kernel : ∀ t : Fin grid0.N, ((t.val + 1) % 32 == 0) = ((cfg0.win 13).flush t || (cfg0.idle 13 (cfg0.grid.coords t) && (t.val % 32 == 0))))

theorem idle11 : ∀ t : Fin cfg0.N, cfg0.idle 11 (cfg0.grid.coords t) = !(t.val % 4 == 0) := (by decide +kernel : ∀ t : Fin grid0.N, _)
theorem idle12 : ∀ t : Fin cfg0.N, cfg0.idle 12 (cfg0.grid.coords t) = !(t.val % 4 == 0) := (by decide +kernel : ∀ t : Fin grid0.N, _)
theorem idle13 : ∀ t : Fin cfg0.N, cfg0.idle 13 (cfg0.grid.coords t) = !(t.val % 4 == 0) := (by decide +kernel : ∀ t : Fin grid0.N, _)

/-- In case C the idle outputs keep what they held. -/
theorem carried (t : Fin cfg0.N) (h0 : ¬ t.val % 4 = 0) : (outs m c t.val t.isLt).2.2.2 = (prev m c t).2.2.2 := by
  rw [outs_C m c t h0]; generalize prev m c t = o; unfold stC; rfl

theorem before11 (t : Fin cfg0.N) (h0 : ¬ t.val % 4 = 0) (d) : (dats m 0 c).before 11 t d = (prev m c t).2.2.2.1 := by
  rw [Dat.before_out_traj (dats m 0 c) 11 rfl (fun _ _ => rfl) (fun t _ hi _ => ?_) t.val t rfl d, fresh11 _ (Nat.le_of_lt t.isLt), if_neg (by simpa using h0)]
  · dsimp only [dats]
  · rw [after11, after11]
    have h4 : ¬ t.val % 4 = 0 := by rw [idle11] at hi; simpa using hi
    have e := carried m c t h4
    exact congrArg (·.1) e

theorem before12 (t : Fin cfg0.N) (h0 : ¬ t.val % 32 = 0) (d) : (dats m 0 c).before 12 t d = (prev m c t).2.2.2.2.1 := by
  rw [Dat.before_out_traj (dats m 0 c) 12 rfl (fun _ _ => rfl) (fun t _ hi _ => ?_) t.val t rfl d, fresh12 _ (Nat.le_of_lt t.isLt), if_neg (by simpa using h0)]
  · dsimp only [dats]
  · rw [after12, after12]
    have h4 : ¬ t.val % 4 = 0 := by rw [idle12] at hi; simpa using hi
    have e := carried m c t h4
    exact congrArg (·.2.1) e

theorem before13 (t : Fin cfg0.N) (h0 : ¬ t.val % 32 = 0) (d) : (dats m 0 c).before 13 t d = (prev m c t).2.2.2.2.2 := by
  rw [Dat.before_out_traj (dats m 0 c) 13 rfl (fun _ _ => rfl) (fun t _ hi _ => ?_) t.val t rfl d, fresh13 _ (Nat.le_of_lt t.isLt), if_neg (by simpa using h0)]
  · dsimp only [dats]
  · rw [after13, after13]
    have h4 : ¬ t.val % 4 = 0 := by rw [idle13] at hi; simpa using hi
    have e := carried m c t h4
    exact congrArg (·.2.2) e

/-- An output the point stores is left at what it stored; one it does not store, at what it held. -/
theorem live (w : Fin cfg0.W) (t : Fin cfg0.N) (hi : cfg0.idle w (cfg0.grid.coords t) = false) :
    ((dats m 0 c).leavesExact w t : sProp 𝕄) = owns c ((cfg0.win w).stage (cfg0.slots t w)) fullShare ((dats m 0 c).after w t) := by
  unfold Dat.leavesExact; rw [hi]

theorem keep (w : Fin cfg0.W) (t : Fin cfg0.N) (hi : cfg0.idle w (cfg0.grid.coords t) = true) (d) (hb : (dats m 0 c).before w t d = (dats m 0 c).after w t) :
    (owns c ((cfg0.win w).stage (cfg0.slots t w)) fullShare ((dats m 0 c).after w t) : sProp 𝕄) ⊢ (dats m 0 c).leavesExact w t := by
  unfold Dat.leavesExact; rw [hi]
  cases (cfg0.win w).flush t
  · rw [← hb]; iintro H; iexists d; iexact H
  · exact .rfl

/-- What the body is called with at point `t`, and what it returns. -/
def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

def bodyPost (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (dats m 0 c).leavesExact 11 t
    ∗ (dats m 0 c).leavesExact 12 t
    ∗ (dats m 0 c).leavesExact 13 t)

omit [FloatOps F] in
/-- Two stores that cover the columns of a gate gradient's block. -/
theorem halves (P : Vec F S1x512x320 .bf16) (Q : Vec F S1x512x384 .bf16) (y : S1x512x704.Idx) :
    ∃ p ∈ ([⟨Rect.unit (s := S1x512x704) ![0, 0, 384] S1x512x320.size inb_S1x512x704_S1x512x320_0_0_384, P⟩,
      ⟨Rect.unit (s := S1x512x704) ![0, 0, 0] S1x512x384.size inb_S1x512x704_S1x512x384_0_0_0, Q⟩] : List (View.Piece (Elt F) S1x512x704 .bf16)), y ∈ p.1.set := by
  have y0 : (y 0).val < 1 := (y 0).isLt
  have y1 : (y 1).val < 512 := (y 1).isLt
  have y2 : (y 2).val < 704 := (y 2).isLt
  by_cases h : (y 2).val < 384
  · refine ⟨⟨Rect.unit ![0, 0, 0] S1x512x384.size inb_S1x512x704_S1x512x384_0_0_0, Q⟩, List.mem_cons_of_mem _ List.mem_cons_self, ?_⟩
    refine (Rect.mem_set_unit (inb := inb_S1x512x704_S1x512x384_0_0_0)).mpr fun a => ?_
    fin_cases a
    · exact ⟨Nat.zero_le _, y0⟩
    · exact ⟨Nat.zero_le _, y1⟩
    · exact ⟨Nat.zero_le _, h⟩
  · refine ⟨⟨Rect.unit ![0, 0, 384] S1x512x320.size inb_S1x512x704_S1x512x320_0_0_384, P⟩, List.mem_cons_self, ?_⟩
    refine (Rect.mem_set_unit (inb := inb_S1x512x704_S1x512x320_0_0_384)).mpr fun a => ?_
    fin_cases a
    · exact ⟨Nat.zero_le _, y0⟩
    · exact ⟨Nat.zero_le _, y1⟩
    · exact ⟨Nat.le_of_not_lt h, y2⟩

omit [FloatOps F] in
/-- A buffer over which covering stores were written holds what they leave. -/
theorem stored [∀ e, Nonempty (Elt F e)] {s : Shape} {e : EltTy} (a : Memref sig .tc .vmem s e) (L : List (View.Piece (Elt F) s e)) (h : ∀ y, ∃ p ∈ L, y ∈ p.1.set) :
    (wrote c a L : sProp 𝕄) ⊢ owns (c : Thread nD τ) a fullShare (View.canon L) := by
  unfold wrote owns
  iintro ⟨%f, H⟩
  iexists _; isplitr
  swap; · iexact H
  ipureintro
  exact (View.read_writes_of_cover _ _ a.view a.view.junk _ h).trans (View.read_writes_junk_eq_canon _ _)

set_option maxHeartbeats 3200000 in
/-- The body at any point, in its three cases. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  have hN : t.val < 32 := lt_of_lt_of_eq t.isLt (show cfg0.N = 32 from N_0)
  by_cases h0 : t.val % 4 = 0
  · have hi : (!(t.val % 4 == 0)) = false := by simp [h0]
    rw [live m c 11 t ((idle11 t).trans hi), live m c 12 t ((idle12 t).trans hi), live m c 13 t ((idle13 t).trans hi), after11, after12, after13]
    by_cases h : t.val = 0
    · rw [outs_A m c t h]
      unfold stA; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((atA m c t ((first t).mpr h) ((group0 t).mpr h0)).2.2.2.2.2.2 Set.univ _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iintro ⟨⟨H0, H1, H2, H3, H4, H5, H6, H7⟩, H8, H9, H10, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply stored c _ _ (halves _ _); iexact H8
      isplitl [H9]; · iapply stored c _ _ (halves _ _); iexact H9
      isplitl [H10]; · iapply stored c _ _ (View.cover_of_tiledL _ S512x1024.size (by sl_kernel_rfl)); iexact H10
      isplitl [H11]; · iapply stored c _ _ (View.cover_of_tiledL _ S512x1024.size (by sl_kernel_rfl)); iexact H11
      isplitl [H12]; · iapply stored c _ _ (View.cover_of_tiledL _ S1x1024.size (by sl_kernel_rfl)); iexact H12
      iapply stored c _ _ (View.cover_of_tiledL _ S1x1024.size (by sl_kernel_rfl)); iexact H13
    · have h32 : ¬ t.val % 32 = 0 := by omega
      simp only [before12 m c t h32, before13 m c t h32]
      rw [outs_B m c t h h0]
      unfold stB; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((atB m c t (first_not h) ((group0 t).mpr h0) (prev m c t)).2.2.2.2.2.2 Set.univ _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [H9]; · iexists _; iexact H9
      isplitl [H10]; · iexists _; iexact H10
      isplitl [H11]; · iexists _; iexact H11
      isplitl [H12]; · iexact H12
      isplitl [H13]; · iexact H13
      iintro ⟨⟨H0, H1, H2, H3, H4, H5, H6, H7⟩, H8, H9, H10, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply stored c _ _ (halves _ _); iexact H8
      isplitl [H9]; · iapply stored c _ _ (halves _ _); iexact H9
      isplitl [H10]; · iapply stored c _ _ (View.cover_of_tiledL _ S512x1024.size (by sl_kernel_rfl)); iexact H10
      isplitl [H11]; · iapply stored c _ _ (View.cover_of_tiledL _ S512x1024.size (by sl_kernel_rfl)); iexact H11
      isplitl [H12]; · iapply stored c _ _ (View.cover_of_tiledL _ S1x1024.size (by sl_kernel_rfl)); iexact H12
      iapply stored c _ _ (View.cover_of_tiledL _ S1x1024.size (by sl_kernel_rfl)); iexact H13
  · have h : ¬ t.val = 0 := fun h => h0 (by omega)
    have h32 : ¬ t.val % 32 = 0 := by omega
    have hi : (!(t.val % 4 == 0)) = true := by simp [h0]
    have e := carried m c t h0
    have hk11 (d) : (dats m 0 c).before 11 t d = (dats m 0 c).after 11 t := by rw [before11 m c t h0, after11, e]
    have hk12 (d) : (dats m 0 c).before 12 t d = (dats m 0 c).after 12 t := by rw [before12 m c t h32, after12, e]
    have hk13 (d) : (dats m 0 c).before 13 t d = (dats m 0 c).after 13 t := by rw [before13 m c t h32, after13, e]
    simp only [before10 m c t h0, hk11, hk12, hk13, after11, e]
    have x11 := keep m c 11 t ((idle11 t).trans hi)
    have x12 := keep m c 12 t ((idle12 t).trans hi)
    have x13 := keep m c 13 t ((idle13 t).trans hi)
    rw [after11, e] at x11
    rw [outs_C m c t h0]
    unfold stC; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atC m c t (first_not h) (group0_not h0) (prev m c t)).2.2.2 Set.univ _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexact H10
    isplitl [H11]; · iexact H11
    iintro ⟨⟨H0, H1, H2, H3, H4, H5, H6, H7⟩, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply stored c _ _ (halves _ _); iexact H8
    isplitl [H9]; · iapply stored c _ _ (halves _ _); iexact H9
    isplitl [H10]; · iapply stored c _ _ (View.cover_of_tiledL _ S512x1024.size (by sl_kernel_rfl)); iexact H10
    isplitl [H11]; · iapply x11 d11 (by rw [hk11, after11, e]); iexact H11
    isplitl [H12]; · iapply x12 d12 (hk12 d12); iexact H12
    iapply x13 d13 (hk13 d13); iexact H13

/-- The table's row for the body is the body. -/
theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with each array at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel8Ideal.Ffn

end
-- ==== Proof.FfnReal.lean ====
/-
  The gradients of the gated feed-forward and of the normalisation after it, over the reals.
-/
module

public import proofs.«01_k».proof.Proof.Ln

@[expose] public section

noncomputable section

namespace Cert.Ffn

open Idealize.ShloMosaic Cert.Common Cert.Lift
open Cert.Ln (eps)
open scoped BigOperators

/-- The logistic function. -/
def sg (x : ℝ) : ℝ := 1 / (1 + Real.exp (-x))

theorem one_add_exp_pos (x : ℝ) : 0 < 1 + Real.exp (-x) := add_pos one_pos (Real.exp_pos _)

/-- The programs' square root of two, the rational of its word. -/
def alpha : ℝ := 11863283 / 8388608

theorem ofBits_alpha : Ideal.ofBits FTy.f32 1068827891#32 = (alpha : EReal) := by
  simp [Ideal.ofBits, Ideal.ieee, -EReal.coe_mul, alpha]; norm_num
theorem ofBits_half : Ideal.ofBits FTy.f32 1056964608#32 = ((1 / 2 : ℝ) : EReal) := by
  simp [Ideal.ofBits, Ideal.ieee, -EReal.coe_mul]; norm_num
theorem ofBits_one : Ideal.ofBits FTy.f32 1065353216#32 = ((1 : ℝ) : EReal) := by
  simp [Ideal.ofBits, Ideal.ieee, -EReal.coe_mul]; norm_num

/-- Column `n` of group `j`. -/
abbrev col (j : Fin 4) (n : Fin 704) : Fin 2816 := ⟨j.val * 704 + n.val, by omega⟩

/-- The gate's gradient and the value's, from what reaches their product `d`. -/
def dgate (d g u : ℝ) : ℝ := d * u * (sg g * (1 + g * (1 - sg g)))
def dval (d g : ℝ) : ℝ := d * (g * sg g)

variable (X : Fin 4096 → Fin 1024 → ℝ) (Wg Wu : Fin 1024 → Fin 2816 → ℝ) (Wd : Fin 2816 → Fin 1024 → ℝ) (Gm : Fin 1024 → ℝ) (C : Fin 4096 → Fin 1024 → ℝ)

/-- A product of a row with a matrix of columns. -/
def proj (W : Fin 1024 → Fin 2816 → ℝ) (s : Fin 4096) (c : Fin 2816) : ℝ := ∑ k, X s k * W k c
/-- The array that is normalised. -/
def zr (s : Fin 4096) (l : Fin 1024) : ℝ :=
  alpha * X s l + 1 / 2 * ∑ c, proj X Wg s c * sg (proj X Wg s c) * proj X Wu s c * Wd c l
/-- Its gradient. -/
def dz (s : Fin 4096) (l : Fin 1024) : ℝ := Ln.dx 1024 eps (zr X Wg Wu Wd s) (fun j => C s j * Gm j) l
/-- What reaches the product of gate and value. -/
def dh (s : Fin 4096) (c : Fin 2816) : ℝ := ∑ k, 1 / 2 * dz X Wg Wu Wd Gm C s k * Wd c k
/-- The gradients of the gate, of the value and of the input. -/
def dg (s : Fin 4096) (c : Fin 2816) : ℝ := dgate (dh X Wg Wu Wd Gm C s c) (proj X Wg s c) (proj X Wu s c)
def du (s : Fin 4096) (c : Fin 2816) : ℝ := dval (dh X Wg Wu Wd Gm C s c) (proj X Wg s c)
def dx (s : Fin 4096) (l : Fin 1024) : ℝ :=
  alpha * dz X Wg Wu Wd Gm C s l + ∑ c, (dg X Wg Wu Wd Gm C s c * Wg l c + du X Wg Wu Wd Gm C s c * Wu l c)
/-- The gradients of the scale and of the offset. -/
def dgamma (l : Fin 1024) : ℝ := ∑ s, C s l * Ln.xh 1024 eps (zr X Wg Wu Wd s) l
def dbeta (l : Fin 1024) : ℝ := ∑ s, C s l

end Cert.Ffn
end
-- ==== Proof.FfnGate.lean ====
/-
  One row block and one column group of the feed-forward's backward call: the gradients the body computes.
-/
module

public import proofs.«01_k».proof.Proof.FfnBody
public import proofs.«01_k».proof.Proof.FfnReal

@[expose] public section

set_option maxRecDepth 200000

noncomputable section

namespace Cert.FfnValue

open Idealize.ShloMosaic Idealize.ShloMosaic.TcCoe Idealize.SL.Sem Idealize.ShloMosaic.Pipeline
open Cert.Kernel8Ideal Cert.Kernel8Ideal.Gen
open Cert.Common Cert.Lift Cert.Ffn
open Cert.Ln (ofBits_zero)
open scoped BigOperators

/-- The columns of a group that each half of the body works on. -/
abbrev lo (n : Fin 384) : Fin 704 := ⟨n.val, by omega⟩
abbrev hi (n : Fin 320) : Fin 704 := ⟨384 + n.val, by omega⟩

theorem sum_halves (f : Fin 704 → ℝ) : ∑ n, f n = ∑ n, f (lo n) + ∑ n, f (hi n) := Fin.sum_univ_add (a := 384) (b := 320) f

/-! ## The loads -/

theorem ld_lo (w : Vec Ideal S4x704x1024 .bf16) (off : Fin 3 → ℕ) (j : Fin 4) (h : off = ![j.val, 0, 0]) (hb) (n : Fin 384) (k : Fin 1024) :
    View.ld w (Rect.unit (s := S4x704x1024) off ![1, 384, 1024] hb) (ix3 0 n k) = w (ix3 j (lo n) k) := by
  subst h
  have e : (ix3 j (lo n) k : S4x704x1024.Idx) = (Rect.unit (s := S4x704x1024) ![j.val, 0, 0] ![1, 384, 1024] hb).emb (ix3 0 n k) := by
    blk_ext
  exact congrArg w e.symm

theorem ld_hi (w : Vec Ideal S4x704x1024 .bf16) (off : Fin 3 → ℕ) (j : Fin 4) (h : off = ![j.val, 384, 0]) (hb) (n : Fin 320) (k : Fin 1024) :
    View.ld w (Rect.unit (s := S4x704x1024) off ![1, 320, 1024] hb) (ix3 0 n k) = w (ix3 j (hi n) k) := by
  subst h
  have e : (ix3 j (hi n) k : S4x704x1024.Idx) = (Rect.unit (s := S4x704x1024) ![j.val, 384, 0] ![1, 320, 1024] hb).emb (ix3 0 n k) := by
    blk_ext
  exact congrArg w e.symm

theorem col_lo (hb) (s : Fin 512) (n : Fin 384) :
    (ix3 0 s (lo n) : S1x512x704.Idx) = (Rect.unit (s := S1x512x704) ![0, 0, 0] ![1, 512, 384] hb).emb (ix3 0 s n) := by
  blk_ext

theorem col_hi (hb) (s : Fin 512) (n : Fin 320) :
    (ix3 0 s (hi n) : S1x512x704.Idx) = (Rect.unit (s := S1x512x704) ![0, 0, 384] ![1, 512, 320] hb).emb (ix3 0 s n) := by
  blk_ext

theorem gate_lo (w : Vec Ideal S1x512x704 .bf16) (hb) (s : Fin 512) (n : Fin 384) :
    View.ld w (Rect.unit (s := S1x512x704) ![0, 0, 0] ![1, 512, 384] hb) (ix3 0 s n) = w (ix3 0 s (lo n)) :=
  congrArg w (col_lo hb s n).symm

theorem gate_hi (w : Vec Ideal S1x512x704 .bf16) (hb) (s : Fin 512) (n : Fin 320) :
    View.ld w (Rect.unit (s := S1x512x704) ![0, 0, 384] ![1, 512, 320] hb) (ix3 0 s n) = w (ix3 0 s (hi n)) :=
  congrArg w (col_hi hb s n).symm

/-! ## The first half of the columns -/

section Low
variable {y : Vec Ideal S512x1024 .bf16} {w wg wu : Vec Ideal S1x384x1024 .bf16} {g u : Vec Ideal S1x512x384 .bf16}
  {D : Fin 512 → Fin 1024 → ℝ} {W Wg Wu : Fin 384 → Fin 1024 → ℝ} {G U : Fin 512 → Fin 384 → ℝ}
  (hy : ∀ s k, y (ix2 s k) = (D s k : EReal)) (hw : ∀ n k, w (ix3 0 n k) = (W n k : EReal))
  (hg : ∀ s n, g (ix3 0 s n) = (G s n : EReal)) (hu : ∀ s n, u (ix3 0 s n) = (U s n : EReal))
  (hwg : ∀ n k, wg (ix3 0 n k) = (Wg n k : EReal)) (hwu : ∀ n k, wu (ix3 0 n k) = (Wu n k : EReal))

include hy hw in
theorem pay19_at (s : Fin 512) (n : Fin 384) : k0_pay19 y w (ix2 s n) = ((∑ k, D s k * W n k : ℝ) : EReal) := by
  unfold_payloads
  pointwise
  simp only [hy, hw, coe_mul, coe_sum]

include hg in
theorem pay20_at (s : Fin 512) (n : Fin 384) : k0_pay20 g (ix2 s n) = (G s n : EReal) := by
  unfold_payloads
  pointwise
  exact hg s n

include hg in
theorem pay21_at (s : Fin 512) (n : Fin 384) : k0_pay21 g (ix2 s n) = (sg (G s n) : EReal) := by
  have e := pay20_at hg
  unfold k0_pay21
  generalize k0_pay20 (F := Ideal) g = a at e ⊢
  pointwise
  simp only [e, ofBits_one, zero_sub, ← EReal.coe_one, coe_neg, exp_coe, coe_add]
  rw [div_coe _ _ (one_add_exp_pos _).ne']
  rfl

include hy hw hg hu in
theorem pay22_at (s : Fin 512) (n : Fin 384) :
    k0_pay22 y w g u (ix2 s n) = (dgate (∑ k, D s k * W n k) (G s n) (U s n) : EReal) := by
  have e := pay19_at hy hw
  have e2 := pay20_at hg
  have e3 := pay21_at hg
  unfold k0_pay22
  generalize k0_pay19 (F := Ideal) y w = a at e ⊢
  generalize k0_pay20 (F := Ideal) g = b at e2 ⊢
  generalize k0_pay21 (F := Ideal) g = d at e3 ⊢
  pointwise
  simp only [e, e2, e3, hu, ofBits_one, ← EReal.coe_one, coe_mul, coe_add, coe_sub]
  rfl

include hy hw hg in
theorem pay24_at (s : Fin 512) (n : Fin 384) :
    k0_pay24 (k0_pay19 y w) (k0_pay20 g) (k0_pay21 g) (ix2 s n) = (dval (∑ k, D s k * W n k) (G s n) : EReal) := by
  have e := pay19_at hy hw
  have e2 := pay20_at hg
  have e3 := pay21_at hg
  unfold k0_pay24
  generalize k0_pay19 (F := Ideal) y w = a at e ⊢
  generalize k0_pay20 (F := Ideal) g = b at e2 ⊢
  generalize k0_pay21 (F := Ideal) g = d at e3 ⊢
  pointwise
  simp only [e, e2, e3, coe_mul]
  rfl

include hy hw hg hu in
theorem pay25_at (s : Fin 512) (n : Fin 384) :
    k0_pay25 (k0_pay22 y w g u) (ix3 0 s n) = (dgate (∑ k, D s k * W n k) (G s n) (U s n) : EReal) := by
  have e := pay22_at hy hw hg hu
  unfold k0_pay25 k0_pay23
  generalize k0_pay22 (F := Ideal) y w g u = a at e ⊢
  pointwise
  exact e s n

include hy hw hg in
theorem pay26_at (s : Fin 512) (n : Fin 384) :
    k0_pay26 (k0_pay19 y w) (k0_pay20 g) (k0_pay21 g) (ix3 0 s n) = (dval (∑ k, D s k * W n k) (G s n) : EReal) := by
  have e := pay24_at hy hw hg
  unfold k0_pay26
  generalize k0_pay24 (F := Ideal) (k0_pay19 y w) (k0_pay20 g) (k0_pay21 g) = a at e ⊢
  pointwise
  exact e s n

include hy hw hg hu hwg hwu in
theorem pay27_at (s : Fin 512) (l : Fin 1024) :
    k0_pay27 (k0_pay19 y w) (k0_pay20 g) (k0_pay21 g) (k0_pay22 y w g u) wg wu (ix2 s l) =
      ((∑ n, dgate (∑ k, D s k * W n k) (G s n) (U s n) * Wg n l + ∑ n, dval (∑ k, D s k * W n k) (G s n) * Wu n l : ℝ) : EReal) := by
  have e := pay22_at hy hw hg hu
  have e2 := pay24_at hy hw hg
  unfold k0_pay27 k0_pay23
  generalize k0_pay24 (F := Ideal) (k0_pay19 y w) (k0_pay20 g) (k0_pay21 g) = b at e2 ⊢
  generalize k0_pay22 (F := Ideal) y w g u = a at e ⊢
  pointwise
  simp only [e, e2, hwg, hwu, coe_mul, coe_sum, coe_add]

end Low

/-! ## The second half -/

section High
variable {y : Vec Ideal S512x1024 .bf16} {w wg wu : Vec Ideal S1x320x1024 .bf16} {g u : Vec Ideal S1x512x320 .bf16}
  {D : Fin 512 → Fin 1024 → ℝ} {W Wg Wu : Fin 320 → Fin 1024 → ℝ} {G U : Fin 512 → Fin 320 → ℝ}
  (hy : ∀ s k, y (ix2 s k) = (D s k : EReal)) (hw : ∀ n k, w (ix3 0 n k) = (W n k : EReal))
  (hg : ∀ s n, g (ix3 0 s n) = (G s n : EReal)) (hu : ∀ s n, u (ix3 0 s n) = (U s n : EReal))
  (hwg : ∀ n k, wg (ix3 0 n k) = (Wg n k : EReal)) (hwu : ∀ n k, wu (ix3 0 n k) = (Wu n k : EReal))

include hy hw in
theorem pay28_at (s : Fin 512) (n : Fin 320) : k0_pay28 (k0_pay18 y) w (ix2 s n) = ((∑ k, D s k * W n k : ℝ) : EReal) := by
  unfold_payloads
  pointwise
  simp only [hy, hw, coe_mul, coe_sum]

include hg in
theorem pay29_at (s : Fin 512) (n : Fin 320) : k0_pay29 g (ix2 s n) = (G s n : EReal) := by
  unfold_payloads
  pointwise
  exact hg s n

include hg in
theorem pay30_at (s : Fin 512) (n : Fin 320) : k0_pay30 g (ix2 s n) = (sg (G s n) : EReal) := by
  have e := pay29_at hg
  unfold k0_pay30
  generalize k0_pay29 (F := Ideal) g = a at e ⊢
  pointwise
  simp only [e, ofBits_one, zero_sub, ← EReal.coe_one, coe_neg, exp_coe, coe_add]
  rw [div_coe _ _ (one_add_exp_pos _).ne']
  rfl

include hy hw hg hu in
theorem pay1_at (s : Fin 512) (n : Fin 320) :
    k0_pay1 (k0_pay28 (k0_pay18 y) w) (k0_pay29 g) (k0_pay30 g) u (ix2 s n) = (dgate (∑ k, D s k * W n k) (G s n) (U s n) : EReal) := by
  have e := pay28_at hy hw
  have e2 := pay29_at hg
  have e3 := pay30_at hg
  unfold k0_pay1
  generalize k0_pay28 (F := Ideal) (k0_pay18 y) w = a at e ⊢
  generalize k0_pay29 (F := Ideal) g = b at e2 ⊢
  generalize k0_pay30 (F := Ideal) g = d at e3 ⊢
  pointwise
  simp only [e, e2, e3, hu, ofBits_one, ← EReal.coe_one, coe_mul, coe_add, coe_sub]
  rfl

include hy hw hg in
theorem pay2_at (s : Fin 512) (n : Fin 320) :
    k0_pay2 (k0_pay28 (k0_pay18 y) w) (k0_pay29 g) (k0_pay30 g) (ix2 s n) = (dval (∑ k, D s k * W n k) (G s n) : EReal) := by
  have e := pay28_at hy hw
  have e2 := pay29_at hg
  have e3 := pay30_at hg
  unfold k0_pay2
  generalize k0_pay28 (F := Ideal) (k0_pay18 y) w = a at e ⊢
  generalize k0_pay29 (F := Ideal) g = b at e2 ⊢
  generalize k0_pay30 (F := Ideal) g = d at e3 ⊢
  pointwise
  simp only [e, e2, e3, coe_mul]
  rfl

include hy hw hg hu in
theorem pay3_at (s : Fin 512) (n : Fin 320) :
    k0_pay3 (k0_pay28 (k0_pay18 y) w) (k0_pay29 g) (k0_pay30 g) u (ix3 0 s n) = (dgate (∑ k, D s k * W n k) (G s n) (U s n) : EReal) := by
  have e := pay1_at hy hw hg hu
  unfold k0_pay3
  generalize k0_pay1 (F := Ideal) (k0_pay28 (k0_pay18 y) w) (k0_pay29 g) (k0_pay30 g) u = a at e ⊢
  pointwise
  exact e s n

include hy hw hg in
theorem pay4_at (s : Fin 512) (n : Fin 320) :
    k0_pay4 (k0_pay28 (k0_pay18 y) w) (k0_pay29 g) (k0_pay30 g) (ix3 0 s n) = (dval (∑ k, D s k * W n k) (G s n) : EReal) := by
  have e := pay2_at hy hw hg
  unfold k0_pay4
  generalize k0_pay2 (F := Ideal) (k0_pay28 (k0_pay18 y) w) (k0_pay29 g) (k0_pay30 g) = a at e ⊢
  pointwise
  exact e s n

include hy hw hg hu hwg hwu in
theorem pay5_at (a o : Vec Ideal S512x1024 .f32) (s : Fin 512) (l : Fin 1024) :
    k0_pay5 a (k0_pay28 (k0_pay18 y) w) (k0_pay29 g) (k0_pay30 g) u wg wu o (ix2 s l) = o (ix2 s l) + (a (ix2 s l) +
      ((∑ n, dgate (∑ k, D s k * W n k) (G s n) (U s n) * Wg n l + ∑ n, dval (∑ k, D s k * W n k) (G s n) * Wu n l : ℝ) : EReal)) := by
  have e := pay1_at hy hw hg hu
  have e2 := pay2_at hy hw hg
  unfold k0_pay5
  generalize k0_pay2 (F := Ideal) (k0_pay28 (k0_pay18 y) w) (k0_pay29 g) (k0_pay30 g) = b at e2 ⊢
  generalize k0_pay1 (F := Ideal) (k0_pay28 (k0_pay18 y) w) (k0_pay29 g) (k0_pay30 g) u = d at e ⊢
  pointwise
  simp only [e, e2, hwg, hwu, coe_mul, coe_sum, coe_add]

end High

/-! ## A group of columns -/

section Group
variable {y : Vec Ideal S512x1024 .bf16} {w wg wu : Vec Ideal S4x704x1024 .bf16} {g u : Vec Ideal S1x512x704 .bf16} (j : Fin 4)
  {D : Fin 512 → Fin 1024 → ℝ} {W Wg Wu : Fin 704 → Fin 1024 → ℝ} {G U : Fin 512 → Fin 704 → ℝ} {o1 o2 : Fin 3 → ℕ}
  (h1 : o1 = ![j.val, 0, 0]) (h2 : o2 = ![j.val, 384, 0]) (b1) (b2) (b3) (b4)
  (hy : ∀ s k, y (ix2 s k) = (D s k : EReal)) (hw : ∀ n k, w (ix3 j n k) = (W n k : EReal))
  (hg : ∀ s n, g (ix3 0 s n) = (G s n : EReal)) (hu : ∀ s n, u (ix3 0 s n) = (U s n : EReal))
  (hwg : ∀ n k, wg (ix3 j n k) = (Wg n k : EReal)) (hwu : ∀ n k, wu (ix3 j n k) = (Wu n k : EReal))

/-- The buffer of a gate's gradient, from its two halves. -/
theorem canon_at (P : Vec Ideal S1x512x320 .bf16) (Q : Vec Ideal S1x512x384 .bf16) (f : Fin 512 → Fin 704 → EReal)
    (hP : ∀ s n, P (ix3 0 s n) = f s (hi n)) (hQ : ∀ s n, Q (ix3 0 s n) = f s (lo n)) (s : Fin 512) (n : Fin 704) :
    View.canon (Val := Elt Ideal) (e := .bf16) [⟨Rect.unit (s := S1x512x704) ![0, 0, 384] ![1, 512, 320] b4, P⟩,
      ⟨Rect.unit (s := S1x512x704) ![0, 0, 0] ![1, 512, 384] b3, Q⟩] (ix3 0 s n) = f s n := by
  by_cases h : n.val < 384
  · obtain ⟨k, rfl⟩ : ∃ k, n = lo k := ⟨⟨n.val, h⟩, rfl⟩
    refine (View.canon_cons_of_not_mem _ _ fun hm => ?_).trans ?_
    · have h0 := (Rect.mem_set_unit (inb := b4)).mp hm 2
      have : 384 ≤ k.val := h0.1
      omega
    · rw [col_lo b3 s k]
      exact (View.canon_cons_emb _ _ _ _).trans (hQ s k)
  · obtain ⟨k, rfl⟩ : ∃ k, n = hi k := ⟨⟨n.val - 384, by omega⟩, Fin.ext (by dsimp only; omega)⟩
    rw [col_hi b4 s k]
    exact (View.canon_cons_emb _ _ _ _).trans (hP s k)

include h1 h2 hy hw hg hu in
theorem gate_at (s : Fin 512) (n : Fin 704) :
    View.canon (Val := Elt Ideal) (e := .bf16) [⟨Rect.unit (s := S1x512x704) ![0, 0, 384] ![1, 512, 320] b4,
        k0_pay3 (k0_pay28 (k0_pay18 y) (View.ld w (Rect.unit (s := S4x704x1024) o2 ![1, 320, 1024] b2)))
          (k0_pay29 (View.ld g (Rect.unit (s := S1x512x704) ![0, 0, 384] ![1, 512, 320] b4)))
          (k0_pay30 (View.ld g (Rect.unit (s := S1x512x704) ![0, 0, 384] ![1, 512, 320] b4)))
          (View.ld u (Rect.unit (s := S1x512x704) ![0, 0, 384] ![1, 512, 320] b4))⟩,
      ⟨Rect.unit (s := S1x512x704) ![0, 0, 0] ![1, 512, 384] b3,
        k0_pay25 (k0_pay22 y (View.ld w (Rect.unit (s := S4x704x1024) o1 ![1, 384, 1024] b1))
          (View.ld g (Rect.unit (s := S1x512x704) ![0, 0, 0] ![1, 512, 384] b3))
          (View.ld u (Rect.unit (s := S1x512x704) ![0, 0, 0] ![1, 512, 384] b3)))⟩] (ix3 0 s n)
      = (dgate (∑ k, D s k * W n k) (G s n) (U s n) : EReal) :=
  canon_at b3 b4 _ _ (fun s n => (dgate (∑ k, D s k * W n k) (G s n) (U s n) : EReal))
    (pay3_at (W := fun n => W (hi n)) (G := fun s n => G s (hi n)) (U := fun s n => U s (hi n)) hy (fun n k => (ld_hi w o2 j h2 b2 n k).trans (hw _ k))
      (fun s n => (gate_hi g b4 s n).trans (hg s _)) (fun s n => (gate_hi u b4 s n).trans (hu s _)))
    (pay25_at (W := fun n => W (lo n)) (G := fun s n => G s (lo n)) (U := fun s n => U s (lo n)) hy (fun n k => (ld_lo w o1 j h1 b1 n k).trans (hw _ k))
      (fun s n => (gate_lo g b3 s n).trans (hg s _)) (fun s n => (gate_lo u b3 s n).trans (hu s _))) s n

include h1 h2 hy hw hg in
theorem value_at (s : Fin 512) (n : Fin 704) :
    View.canon (Val := Elt Ideal) (e := .bf16) [⟨Rect.unit (s := S1x512x704) ![0, 0, 384] ![1, 512, 320] b4,
        k0_pay4 (k0_pay28 (k0_pay18 y) (View.ld w (Rect.unit (s := S4x704x1024) o2 ![1, 320, 1024] b2)))
          (k0_pay29 (View.ld g (Rect.unit (s := S1x512x704) ![0, 0, 384] ![1, 512, 320] b4)))
          (k0_pay30 (View.ld g (Rect.unit (s := S1x512x704) ![0, 0, 384] ![1, 512, 320] b4)))⟩,
      ⟨Rect.unit (s := S1x512x704) ![0, 0, 0] ![1, 512, 384] b3,
        k0_pay26 (k0_pay19 y (View.ld w (Rect.unit (s := S4x704x1024) o1 ![1, 384, 1024] b1)))
          (k0_pay20 (View.ld g (Rect.unit (s := S1x512x704) ![0, 0, 0] ![1, 512, 384] b3)))
          (k0_pay21 (View.ld g (Rect.unit (s := S1x512x704) ![0, 0, 0] ![1, 512, 384] b3)))⟩] (ix3 0 s n)
      = (dval (∑ k, D s k * W n k) (G s n) : EReal) :=
  canon_at b3 b4 _ _ (fun s n => (dval (∑ k, D s k * W n k) (G s n) : EReal))
    (pay4_at (W := fun n => W (hi n)) (G := fun s n => G s (hi n)) hy (fun n k => (ld_hi w o2 j h2 b2 n k).trans (hw _ k))
      (fun s n => (gate_hi g b4 s n).trans (hg s _)))
    (pay26_at (W := fun n => W (lo n)) (G := fun s n => G s (lo n)) hy (fun n k => (ld_lo w o1 j h1 b1 n k).trans (hw _ k))
      (fun s n => (gate_lo g b3 s n).trans (hg s _))) s n

include h1 h2 hy hw hg hu hwg hwu in
/-- What a group adds to the input's gradient. -/
theorem input_at (o : Vec Ideal S512x1024 .f32) (s : Fin 512) (l : Fin 1024) :
    k0_pay5 (k0_pay27 (k0_pay19 y (View.ld w (Rect.unit (s := S4x704x1024) o1 ![1, 384, 1024] b1)))
        (k0_pay20 (View.ld g (Rect.unit (s := S1x512x704) ![0, 0, 0] ![1, 512, 384] b3)))
        (k0_pay21 (View.ld g (Rect.unit (s := S1x512x704) ![0, 0, 0] ![1, 512, 384] b3)))
        (k0_pay22 y (View.ld w (Rect.unit (s := S4x704x1024) o1 ![1, 384, 1024] b1))
          (View.ld g (Rect.unit (s := S1x512x704) ![0, 0, 0] ![1, 512, 384] b3))
          (View.ld u (Rect.unit (s := S1x512x704) ![0, 0, 0] ![1, 512, 384] b3)))
        (View.ld wg (Rect.unit (s := S4x704x1024) o1 ![1, 384, 1024] b1))
        (View.ld wu (Rect.unit (s := S4x704x1024) o1 ![1, 384, 1024] b1)))
      (k0_pay28 (k0_pay18 y) (View.ld w (Rect.unit (s := S4x704x1024) o2 ![1, 320, 1024] b2)))
      (k0_pay29 (View.ld g (Rect.unit (s := S1x512x704) ![0, 0, 384] ![1, 512, 320] b4)))
      (k0_pay30 (View.ld g (Rect.unit (s := S1x512x704) ![0, 0, 384] ![1, 512, 320] b4)))
      (View.ld u (Rect.unit (s := S1x512x704) ![0, 0, 384] ![1, 512, 320] b4))
      (View.ld wg (Rect.unit (s := S4x704x1024) o2 ![1, 320, 1024] b2))
      (View.ld wu (Rect.unit (s := S4x704x1024) o2 ![1, 320, 1024] b2)) o (ix2 s l)
    = o (ix2 s l) + ((∑ n, (dgate (∑ k, D s k * W n k) (G s n) (U s n) * Wg n l + dval (∑ k, D s k * W n k) (G s n) * Wu n l) : ℝ) : EReal) := by
  refine (pay5_at (W := fun n => W (hi n)) (G := fun s n => G s (hi n)) (U := fun s n => U s (hi n)) (Wg := fun n => Wg (hi n)) (Wu := fun n => Wu (hi n)) hy
    (fun n k => (ld_hi w o2 j h2 b2 n k).trans (hw _ k)) (fun s n => (gate_hi g b4 s n).trans (hg s _)) (fun s n => (gate_hi u b4 s n).trans (hu s _))
    (fun n k => (ld_hi wg o2 j h2 b2 n k).trans (hwg _ k)) (fun n k => (ld_hi wu o2 j h2 b2 n k).trans (hwu _ k)) _ o s l).trans ?_
  rw [pay27_at (W := fun n => W (lo n)) (G := fun s n => G s (lo n)) (U := fun s n => U s (lo n)) (Wg := fun n => Wg (lo n)) (Wu := fun n => Wu (lo n)) hy
    (fun n k => (ld_lo w o1 j h1 b1 n k).trans (hw _ k)) (fun s n => (gate_lo g b3 s n).trans (hg s _)) (fun s n => (gate_lo u b3 s n).trans (hu s _))
    (fun n k => (ld_lo wg o1 j h1 b1 n k).trans (hwg _ k)) (fun n k => (ld_lo wu o1 j h1 b1 n k).trans (hwu _ k)) s l, coe_add]
  refine congrArg _ (congrArg _ ?_)
  rw [sum_halves]
  simp only [Finset.sum_add_distrib]

end Group

end Cert.FfnValue
end
-- ==== Proof.FfnHost.lean ====
/-
  The arrays the feed-forward's backward call is given, and their blocks.
-/
module

public import proofs.«01_k».proof.Proof.FfnBody
public import proofs.«01_k».proof.Proof.FfnReal

@[expose] public section

set_option maxRecDepth 200000

noncomputable section

namespace Cert.FfnValue

open Idealize.ShloMosaic Idealize.ShloMosaic.TcCoe Idealize.SL.Sem Idealize.ShloMosaic.Pipeline
open Cert.Kernel8Ideal Cert.Kernel8Ideal.Gen
open Cert.Common Cert.Lift Cert.Ffn
open scoped BigOperators

/-! ## Arrays over the extended reals -/

/-- A projection, and the array that is normalised. -/
def projE (X : S1x4096x1024.Idx → EReal) (W : S1024x2816.Idx → EReal) (s : Fin 4096) (c : Fin 2816) : EReal :=
  ∑ k : Fin 1024, X (ix3 0 s k) * W (ix2 k c)

def zE (X : S1x4096x1024.Idx → EReal) (Wg Wu : S1024x2816.Idx → EReal) (Wd : S2816x1024.Idx → EReal) (s : Fin 4096) (l : Fin 1024) : EReal :=
  Ideal.ofBits .f32 1068827891#32 * X (ix3 0 s l) + Ideal.ofBits .f32 1056964608#32 *
    ∑ c : Fin 2816, projE X Wg s c * Ideal.div 1 (1 + Ideal.exp (-projE X Wg s c)) * projE X Wu s c * Wd (ix2 c l)

/-- The rows of a matrix of reals. -/
abbrev rows (X : S1x4096x1024.Idx → ℝ) : Fin 4096 → Fin 1024 → ℝ := fun s k => X (ix3 0 s k)
abbrev cols (W : S1024x2816.Idx → ℝ) : Fin 1024 → Fin 2816 → ℝ := fun k c => W (ix2 k c)
abbrev down (W : S2816x1024.Idx → ℝ) : Fin 2816 → Fin 1024 → ℝ := fun c l => W (ix2 c l)
abbrev lane (G : S1024.Idx → ℝ) : Fin 1024 → ℝ := fun l => G (ix1 l)

theorem projE_coe (X : S1x4096x1024.Idx → ℝ) (W : S1024x2816.Idx → ℝ) (s : Fin 4096) (c : Fin 2816) :
    projE (fun i => (X i : EReal)) (fun i => (W i : EReal)) s c = (proj (rows X) (cols W) s c : EReal) := by
  unfold projE
  simp only [coe_mul, coe_sum]
  rfl

theorem zE_coe (X : S1x4096x1024.Idx → ℝ) (Wg Wu : S1024x2816.Idx → ℝ) (Wd : S2816x1024.Idx → ℝ) (s : Fin 4096) (l : Fin 1024) :
    zE (fun i => (X i : EReal)) (fun i => (Wg i : EReal)) (fun i => (Wu i : EReal)) (fun i => (Wd i : EReal)) s l
      = (zr (rows X) (cols Wg) (cols Wu) (down Wd) s l : EReal) := by
  unfold zE
  have hs (x : ℝ) : Ideal.div 1 (1 + Ideal.exp (-(x : EReal))) = (sg x : EReal) := by
    rw [coe_neg, exp_coe, ← EReal.coe_one, coe_add, div_coe _ _ (one_add_exp_pos _).ne']
    rfl
  simp only [projE_coe, hs, ofBits_alpha, ofBits_half, coe_mul, coe_sum, coe_add]
  rfl

variable (m : (ℓ : Loc nD τ sig) → Buf (Elt Ideal) ℓ) (c : Dev nD)

/-! ## The arrays of the call -/

theorem V_ct (s : Fin 4096) (l : Fin 1024) : V m c main_v25 (ix2 s l) = m ((c : Thread nD τ).loc main_arg5) (ix3 (0 : Fin 1) s l) := by
  unfold V
  simp only [List.flatten_cons, List.flatten_nil, List.append_nil, hostOps0, List.cons_append, List.nil_append]
  after_results
  pointwise

theorem V_gm (l : Fin 1024) : V m c main_v26 (ix2 0 l) = m ((c : Thread nD τ).loc main_arg4) (ix1 l) := by
  unfold V
  simp only [List.flatten_cons, List.flatten_nil, List.append_nil, hostOps0, List.cons_append, List.nil_append]
  after_results
  pointwise

theorem V_wd (j : Fin 4) (n : Fin 704) (k : Fin 1024) : V m c main_v28 (ix3 j n k) = m ((c : Thread nD τ).loc main_arg3) (ix2 (col j n) k) := by
  unfold V
  simp only [List.flatten_cons, List.flatten_nil, List.append_nil, hostOps0, List.cons_append, List.nil_append]
  after_results
  pointwise

theorem V_wg (j : Fin 4) (n : Fin 704) (k : Fin 1024) : V m c main_v31 (ix3 j n k) = m ((c : Thread nD τ).loc main_arg1) (ix2 k (col j n)) := by
  unfold V
  simp only [List.flatten_cons, List.flatten_nil, List.append_nil, hostOps0, List.cons_append, List.nil_append]
  after_results
  pointwise

theorem V_wu (j : Fin 4) (n : Fin 704) (k : Fin 1024) : V m c main_v34 (ix3 j n k) = m ((c : Thread nD τ).loc main_arg2) (ix2 k (col j n)) := by
  unfold V
  simp only [List.flatten_cons, List.flatten_nil, List.append_nil, hostOps0, List.cons_append, List.nil_append]
  after_results
  pointwise

theorem V_g (j : Fin 4) (s : Fin 4096) (n : Fin 704) :
    V m c main_v37 (ix3 j s n) = projE (m ((c : Thread nD τ).loc main_arg0)) (m ((c : Thread nD τ).loc main_arg1)) s (col j n) := by
  unfold V
  simp only [List.flatten_cons, List.flatten_nil, List.append_nil, hostOps0, List.cons_append, List.nil_append]
  after_results
  pointwise
  rfl

theorem V_u (j : Fin 4) (s : Fin 4096) (n : Fin 704) :
    V m c main_v40 (ix3 j s n) = projE (m ((c : Thread nD τ).loc main_arg0)) (m ((c : Thread nD τ).loc main_arg2)) s (col j n) := by
  unfold V
  simp only [List.flatten_cons, List.flatten_nil, List.append_nil, hostOps0, List.cons_append, List.nil_append]
  after_results
  pointwise
  rfl

theorem V_z (s : Fin 4096) (l : Fin 1024) : V m c main_v24 (ix2 s l) = zE (m ((c : Thread nD τ).loc main_arg0)) (m ((c : Thread nD τ).loc main_arg1))
    (m ((c : Thread nD τ).loc main_arg2)) (m ((c : Thread nD τ).loc main_arg3)) s l := by
  unfold V
  simp only [List.flatten_cons, List.flatten_nil, List.append_nil, hostOps0, List.cons_append, List.nil_append]
  after_results
  pointwise
  rfl

/-! ## Their blocks -/

theorem idx : ∀ t : Fin cfg0.N, win0_0.index t = ![t.val / 4, 0] ∧ win0_1.index t = ![t.val / 4, 0] ∧ win0_2.index t = ![0, 0] ∧ win0_3.index t = ![0, 0, 0]
    ∧ win0_4.index t = ![0, 0, 0] ∧ win0_5.index t = ![0, 0, 0] ∧ win0_6.index t = ![t.val % 4, t.val / 4, 0] ∧ win0_7.index t = ![t.val % 4, t.val / 4, 0] :=
  (by decide +kernel : ∀ t : Fin grid0.N, _)

theorem idx_out : ∀ t : Fin cfg0.N, win0_8.index t = ![t.val % 4, t.val / 4, 0] ∧ win0_9.index t = ![t.val % 4, t.val / 4, 0]
    ∧ win0_10.index t = ![t.val / 4, 0] ∧ win0_11.index t = ![t.val / 4, 0] :=
  (by decide +kernel : ∀ t : Fin grid0.N, _)

theorem offs : ∀ t : Fin cfg0.N, k0_off1 (grid0.coords t) = ![t.val % 4, 0, 0] ∧ k0_off2 (grid0.coords t) = ![t.val % 4, 384, 0] :=
  (by decide +kernel : ∀ t : Fin grid0.N, _)

/-- Grid point `t`'s column group, and the row of the whole array that row `s` of its block is. -/
def grp (t : Fin cfg0.N) : Fin 4 := ⟨t.val % 4, by omega⟩
def row (t : Fin cfg0.N) (s : Fin 512) : Fin 4096 := ⟨t.val / 4 * 512 + s.val, by have : t.val < 32 := t.isLt; omega⟩

section Blocks
variable {X C : S1x4096x1024.Idx → ℝ} {Wg Wu : S1024x2816.Idx → ℝ} {Wd : S2816x1024.Idx → ℝ} {G : S1024.Idx → ℝ} {c : Dev nD}
  (hX : m ((c : Thread nD τ).loc main_arg0) = fun i => (X i : EReal)) (hWg : m ((c : Thread nD τ).loc main_arg1) = fun i => (Wg i : EReal))
  (hWu : m ((c : Thread nD τ).loc main_arg2) = fun i => (Wu i : EReal)) (hWd : m ((c : Thread nD τ).loc main_arg3) = fun i => (Wd i : EReal))
  (hG : m ((c : Thread nD τ).loc main_arg4) = fun i => (G i : EReal)) (hC : m ((c : Thread nD τ).loc main_arg5) = fun i => (C i : EReal))
  (t : Fin cfg0.N)

include hC in
theorem b0 (s : Fin 512) (l : Fin 1024) : iblk m c 0 t (ix2 s l) = (rows C (row t s) l : EReal) := by
  refine Eq.trans ?_ ((V_ct m c (row t s) l).trans (by rw [hC]))
  blk_ext [iblk, (idx t).1, row]

include hX hWg hWu hWd in
theorem b1 (s : Fin 512) (l : Fin 1024) : iblk m c 1 t (ix2 s l) = (zr (rows X) (cols Wg) (cols Wu) (down Wd) (row t s) l : EReal) := by
  refine Eq.trans ?_ ((V_z m c (row t s) l).trans (by rw [hX, hWg, hWu, hWd, zE_coe]))
  blk_ext [iblk, (idx t).2.1, row]

include hG in
theorem b2 (l : Fin 1024) : iblk m c 2 t (ix2 0 l) = (lane G l : EReal) := by
  refine Eq.trans ?_ ((V_gm m c l).trans (by rw [hG]))
  blk_ext [iblk, (idx t).2.2.1]

include hWd in
theorem b3 (j : Fin 4) (n : Fin 704) (k : Fin 1024) : iblk m c 3 t (ix3 j n k) = (down Wd (col j n) k : EReal) := by
  refine Eq.trans ?_ ((V_wd m c j n k).trans (by rw [hWd]))
  blk_ext [iblk, (idx t).2.2.2.1]

include hWg in
theorem b4 (j : Fin 4) (n : Fin 704) (k : Fin 1024) : iblk m c 4 t (ix3 j n k) = (cols Wg k (col j n) : EReal) := by
  refine Eq.trans ?_ ((V_wg m c j n k).trans (by rw [hWg]))
  blk_ext [iblk, (idx t).2.2.2.2.1]

include hWu in
theorem b5 (j : Fin 4) (n : Fin 704) (k : Fin 1024) : iblk m c 5 t (ix3 j n k) = (cols Wu k (col j n) : EReal) := by
  refine Eq.trans ?_ ((V_wu m c j n k).trans (by rw [hWu]))
  blk_ext [iblk, (idx t).2.2.2.2.2.1]

include hX hWg in
theorem b6 (s : Fin 512) (n : Fin 704) : iblk m c 6 t (ix3 0 s n) = (proj (rows X) (cols Wg) (row t s) (col (grp t) n) : EReal) := by
  refine Eq.trans ?_ ((V_g m c (grp t) (row t s) n).trans (by rw [hX, hWg, projE_coe]))
  blk_ext [iblk, (idx t).2.2.2.2.2.2.1, row, grp]

include hX hWu in
theorem b7 (s : Fin 512) (n : Fin 704) : iblk m c 7 t (ix3 0 s n) = (proj (rows X) (cols Wu) (row t s) (col (grp t) n) : EReal) := by
  refine Eq.trans ?_ ((V_u m c (grp t) (row t s) n).trans (by rw [hX, hWu, projE_coe]))
  blk_ext [iblk, (idx t).2.2.2.2.2.2.2, row, grp]

end Blocks

end Cert.FfnValue
end
-- ==== Proof.FfnValue.lean ====
/-
  What the feed-forward's backward call leaves in its six output arrays.
-/
module

public import proofs.«01_k».proof.Proof.FfnGate
public import proofs.«01_k».proof.Proof.FfnHost
public import proofs.«01_k».proof.Proof.MoValue

@[expose] public section

set_option maxRecDepth 200000

noncomputable section

namespace Cert.FfnValue

open Idealize.ShloMosaic Idealize.ShloMosaic.TcCoe Idealize.SL.Sem Idealize.ShloMosaic.Pipeline
open Cert.Kernel8Ideal Cert.Kernel8Ideal.Gen Cert.Kernel8Ideal.Ffn
open Cert.Common Cert.Lift Cert.Ffn
open Cert.MoValue (nat sum_rows)
open scoped BigOperators

/-! ## The sums over the groups and over the row blocks -/

/-- The groups' sums add up to the sum over the columns. -/
theorem sum_cols (f : Fin 2816 → ℝ) (T : ℕ → ℝ) (hT : ∀ j : Fin 4, T j.val = ∑ n, f (col j n)) : ∑ j ∈ Finset.range 4, T j = ∑ c, f c := by
  have e := sum_blocks 4 704 fun n => if h : n < 2816 then f ⟨n, h⟩ else 0
  have r : ∑ i : Fin (4 * 704), (if h : i.val < 2816 then f ⟨i.val, h⟩ else 0) = ∑ c, f c := Finset.sum_congr rfl fun c _ => dif_pos c.isLt
  rw [← r, ← e]
  refine Finset.sum_congr rfl fun j hj => ?_
  have hj4 : j < 4 := Finset.mem_range.mp hj
  refine (hT ⟨j, hj4⟩).trans (Finset.sum_congr rfl fun n _ => ?_)
  have h : j * 704 + n.val < 2816 := (col ⟨j, hj4⟩ n).isLt
  rw [dif_pos h]

variable (m : (ℓ : Loc nD τ sig) → Buf (Elt Ideal) ℓ) (c : Dev nD)

/-- The point before. -/
def before (t : Fin cfg0.N) : Fin cfg0.N := ⟨t.val - 1, Nat.lt_of_le_of_lt (Nat.sub_le _ _) t.isLt⟩

theorem prev_eq (t : Fin cfg0.N) : prev m c t = outs m c (before t).val (before t).isLt := rfl

/-- An array that starts anew at each row block and then grows by a term a group. -/
theorem grown (f : Fin cfg0.N → EReal) (a : ℕ → ℝ) (T : ℕ → ℕ → ℝ) (h0 : ∀ t : Fin cfg0.N, t.val % 4 = 0 → f t = ((a (t.val / 4) + T (t.val / 4) 0 : ℝ) : EReal))
    (hs : ∀ t : Fin cfg0.N, ¬ t.val % 4 = 0 → f t = f (before t) + (T (t.val / 4) (t.val % 4) : EReal)) :
    ∀ (n : ℕ) (h : n < cfg0.N), f ⟨n, h⟩ = ((a (n / 4) + ∑ j ∈ Finset.range (n % 4 + 1), T (n / 4) j : ℝ) : EReal) := by
  intro n
  induction n with
  | zero => intro h; rw [h0 ⟨0, h⟩ rfl]; simp
  | succ n ih =>
    intro h
    by_cases hz : (n + 1) % 4 = 0
    · rw [h0 ⟨n + 1, h⟩ hz]; simp [hz]
    · have e := ih (Nat.lt_of_succ_lt h)
      have e1 : n / 4 = (n + 1) / 4 := by omega
      have e2 : n % 4 + 1 = (n + 1) % 4 := by omega
      rw [hs ⟨n + 1, h⟩ hz, show before ⟨n + 1, h⟩ = ⟨n, Nat.lt_of_succ_lt h⟩ from rfl, e, e1, e2, coe_add, Finset.sum_range_succ, add_assoc]

/-- An array that grows by a term at each row block's first point and is kept at its others. -/
theorem gathered (f : Fin cfg0.N → EReal) (P : ℕ → ℝ) (hA : ∀ t : Fin cfg0.N, t.val = 0 → f t = (P 0 : EReal))
    (hB : ∀ t : Fin cfg0.N, ¬ t.val = 0 → t.val % 4 = 0 → f t = f (before t) + (P (t.val / 4) : EReal))
    (hC : ∀ t : Fin cfg0.N, ¬ t.val % 4 = 0 → f t = f (before t)) :
    ∀ (n : ℕ) (h : n < cfg0.N), f ⟨n, h⟩ = ((∑ i ∈ Finset.range (n / 4 + 1), P i : ℝ) : EReal) := by
  intro n
  induction n with
  | zero => intro h; rw [hA ⟨0, h⟩ rfl]; simp
  | succ n ih =>
    intro h
    have e := ih (Nat.lt_of_succ_lt h)
    by_cases hz : (n + 1) % 4 = 0
    · have e1 : n / 4 + 1 = (n + 1) / 4 := by omega
      rw [hB ⟨n + 1, h⟩ (Nat.succ_ne_zero n) hz, show before ⟨n + 1, h⟩ = ⟨n, Nat.lt_of_succ_lt h⟩ from rfl, e, e1, coe_add, Finset.sum_range_succ]
    · have e1 : n / 4 = (n + 1) / 4 := by omega
      rw [hC ⟨n + 1, h⟩ hz, show before ⟨n + 1, h⟩ = ⟨n, Nat.lt_of_succ_lt h⟩ from rfl, e, e1]

/-! ## The output arrays, from what each point leaves -/

theorem w8_of (H : S4x4096x704.Idx → EReal) (hH : ∀ (t : Fin cfg0.N) (s : Fin 512) (n : Fin 704), (outs m c t.val t.isLt).1 (ix3 0 s n) = H (ix3 (grp t) (row t s) n)) :
    (dats m 0 c).arrAt 8 cfg0.N = H := by
  refine (dats m 0 c).arrAt_eq_of_covers 8 _ (by decide +kernel) fun t hf y => ?_
  blk_simp
  rw [after8]
  obtain ⟨s, n, rfl⟩ : ∃ s n, y = ix3 0 s n := eq_ix3_unit y
  refine (hH t s n).trans (congrArg H ?_)
  blk_ext [(idx_out t).1, row, grp]

theorem w9_of (H : S4x4096x704.Idx → EReal) (hH : ∀ (t : Fin cfg0.N) (s : Fin 512) (n : Fin 704), (outs m c t.val t.isLt).2.1 (ix3 0 s n) = H (ix3 (grp t) (row t s) n)) :
    (dats m 0 c).arrAt 9 cfg0.N = H := by
  refine (dats m 0 c).arrAt_eq_of_covers 9 _ (by decide +kernel) fun t hf y => ?_
  blk_simp
  rw [after9]
  obtain ⟨s, n, rfl⟩ : ∃ s n, y = ix3 0 s n := eq_ix3_unit y
  refine (hH t s n).trans (congrArg H ?_)
  blk_ext [(idx_out t).2.1, row, grp]

theorem w10_of (H : S4096x1024.Idx → EReal) (hH : ∀ (t : Fin cfg0.N) (s : Fin 512) (l : Fin 1024), t.val % 4 = 3 → (outs m c t.val t.isLt).2.2.1 (ix2 s l) = H (ix2 (row t s) l)) :
    (dats m 0 c).arrAt 10 cfg0.N = H := by
  refine (dats m 0 c).arrAt_eq_of_covers 10 _ (by decide +kernel) fun t hf y => ?_
  blk_simp
  rw [after10]
  obtain ⟨s, l, rfl⟩ : ∃ s l, y = ix2 s l := ⟨_, _, eq_ix2 y⟩
  refine (hH t s l ((flush0_10 t).mp hf)).trans (congrArg H ?_)
  blk_ext [(idx_out t).2.2.1, row]

theorem w11_of (H : S4096x1024.Idx → EReal) (hH : ∀ (t : Fin cfg0.N) (s : Fin 512) (l : Fin 1024), (outs m c t.val t.isLt).2.2.2.1 (ix2 s l) = H (ix2 (row t s) l)) :
    (dats m 0 c).arrAt 11 cfg0.N = H := by
  refine (dats m 0 c).arrAt_eq_of_covers 11 _ (by decide +kernel) fun t hf y => ?_
  blk_simp
  rw [after11]
  obtain ⟨s, l, rfl⟩ : ∃ s l, y = ix2 s l := ⟨_, _, eq_ix2 y⟩
  refine (hH t s l).trans (congrArg H ?_)
  blk_ext [(idx_out t).2.2.2, row]

theorem w12_of (H : S1x1024.Idx → EReal) (hH : ∀ l : Fin 1024, (outs m c 31 (by decide)).2.2.2.2.1 (ix2 0 l) = H (ix2 0 l)) : (dats m 0 c).arrAt 12 cfg0.N = H := by
  refine (dats m 0 c).arrAt_eq_of_after_last 12 ⟨31, by decide⟩ (by decide +kernel) _ fun j => ?_
  obtain ⟨a, l, rfl⟩ : ∃ a l, j = ix2 a l := ⟨_, _, eq_ix2 j⟩
  obtain rfl : a = 0 := Subsingleton.elim _ _
  exact (congrFun (after12 m c ⟨31, by decide⟩) _).trans (hH l)

theorem w13_of (H : S1x1024.Idx → EReal) (hH : ∀ l : Fin 1024, (outs m c 31 (by decide)).2.2.2.2.2 (ix2 0 l) = H (ix2 0 l)) : (dats m 0 c).arrAt 13 cfg0.N = H := by
  refine (dats m 0 c).arrAt_eq_of_after_last 13 ⟨31, by decide⟩ (by decide +kernel) _ fun j => ?_
  obtain ⟨a, l, rfl⟩ : ∃ a l, j = ix2 a l := ⟨_, _, eq_ix2 j⟩
  obtain rfl : a = 0 := Subsingleton.elim _ _
  exact (congrFun (after13 m c ⟨31, by decide⟩) _).trans (hH l)

/-! ## On finite arguments -/

section Finite
variable {X C : S1x4096x1024.Idx → ℝ} {Wg Wu : S1024x2816.Idx → ℝ} {Wd : S2816x1024.Idx → ℝ} {G : S1024.Idx → ℝ} {c : Dev nD}
  (hX : m ((c : Thread nD τ).loc main_arg0) = fun i => (X i : EReal)) (hWg : m ((c : Thread nD τ).loc main_arg1) = fun i => (Wg i : EReal))
  (hWu : m ((c : Thread nD τ).loc main_arg2) = fun i => (Wu i : EReal)) (hWd : m ((c : Thread nD τ).loc main_arg3) = fun i => (Wd i : EReal))
  (hG : m ((c : Thread nD τ).loc main_arg4) = fun i => (G i : EReal)) (hC : m ((c : Thread nD τ).loc main_arg5) = fun i => (C i : EReal))

omit m in
/-- The normalised array and the gradients, of the arrays given. -/
abbrev zA (X : S1x4096x1024.Idx → ℝ) (Wg Wu : S1024x2816.Idx → ℝ) (Wd : S2816x1024.Idx → ℝ) := zr (rows X) (cols Wg) (cols Wu) (down Wd)
abbrev dzA (X C : S1x4096x1024.Idx → ℝ) (Wg Wu : S1024x2816.Idx → ℝ) (Wd : S2816x1024.Idx → ℝ) (G : S1024.Idx → ℝ) :=
  dz (rows X) (cols Wg) (cols Wu) (down Wd) (lane G) (rows C)
abbrev dgA (X C : S1x4096x1024.Idx → ℝ) (Wg Wu : S1024x2816.Idx → ℝ) (Wd : S2816x1024.Idx → ℝ) (G : S1024.Idx → ℝ) :=
  dg (rows X) (cols Wg) (cols Wu) (down Wd) (lane G) (rows C)
abbrev duA (X C : S1x4096x1024.Idx → ℝ) (Wg Wu : S1024x2816.Idx → ℝ) (Wd : S2816x1024.Idx → ℝ) (G : S1024.Idx → ℝ) :=
  du (rows X) (cols Wg) (cols Wu) (down Wd) (lane G) (rows C)

/-- What group `j` adds to row `s` of the input's gradient. -/
def term (X C : S1x4096x1024.Idx → ℝ) (Wg Wu : S1024x2816.Idx → ℝ) (Wd : S2816x1024.Idx → ℝ) (G : S1024.Idx → ℝ) (s : Fin 4096) (l : Fin 1024) (j : Fin 4) : ℝ :=
  ∑ n, (dgA X C Wg Wu Wd G s (col j n) * cols Wg l (col j n) + duA X C Wg Wu Wd G s (col j n) * cols Wu l (col j n))

section Norm
include hX hWg hWu hWd hG hC

theorem dz_at (t : Fin cfg0.N) (s : Fin 512) (l : Fin 1024) :
    k0_pay10 (iblk m c 0 t) (iblk m c 1 t) (iblk m c 2 t) (ix2 s l) = (dzA X C Wg Wu Wd G (row t s) l : EReal) :=
  MoValue.pay11_at (C := fun s => rows C (row t s)) (Z := fun s => zA X Wg Wu Wd (row t s)) (G := lane G)
    (b0 m hC t) (b1 m hX hWg hWu hWd t) (b2 m hG t) s l

theorem half_at (t : Fin cfg0.N) (s : Fin 512) (l : Fin 1024) :
    k0_pay17 (k0_pay10 (iblk m c 0 t) (iblk m c 1 t) (iblk m c 2 t)) (ix2 s l) = ((1 / 2 * dzA X C Wg Wu Wd G (row t s) l : ℝ) : EReal) := by
  have e := dz_at m hX hWg hWu hWd hG hC t
  unfold k0_pay17
  generalize k0_pay10 (F := Ideal) (iblk m c 0 t) (iblk m c 1 t) (iblk m c 2 t) = y at e ⊢
  pointwise
  simp only [e, ofBits_half, coe_mul]

theorem alpha_at (t : Fin cfg0.N) (s : Fin 512) (l : Fin 1024) :
    k0_pay16 (k0_pay10 (iblk m c 0 t) (iblk m c 1 t) (iblk m c 2 t)) (ix2 s l) = ((alpha * dzA X C Wg Wu Wd G (row t s) l : ℝ) : EReal) := by
  have e := dz_at m hX hWg hWu hWd hG hC t
  unfold k0_pay16
  generalize k0_pay10 (F := Ideal) (iblk m c 0 t) (iblk m c 1 t) (iblk m c 2 t) = y at e ⊢
  pointwise
  simp only [e, ofBits_alpha, coe_mul]

/-- The second result at every point: the row block's first point stores it, the others keep it. -/
theorem out11_nat : ∀ (n : ℕ) (h : n < cfg0.N) (s : Fin 512) (l : Fin 1024),
    (outs m c n h).2.2.2.1 (ix2 s l) = ((1 / 2 * dzA X C Wg Wu Wd G (row ⟨n, h⟩ s) l : ℝ) : EReal) := by
  intro n
  induction n with
  | zero =>
    intro h s l
    rw [outs_A m c ⟨0, h⟩ rfl]
    unfold stA atA runA
    frame_out
    exact half_at m hX hWg hWu hWd hG hC _ s l
  | succ n ih =>
    intro h s l
    by_cases hz : (n + 1) % 4 = 0
    · rw [outs_B m c ⟨n + 1, h⟩ (Nat.succ_ne_zero n) hz]
      unfold stB atB runB
      frame_out
      exact half_at m hX hWg hWu hWd hG hC _ s l
    · have e := congrFun (congrArg (·.1) (carried m c ⟨n + 1, h⟩ hz)) (ix2 s l)
      refine e.trans ((ih (Nat.lt_of_succ_lt h) s l).trans ?_)
      have e1 : row ⟨n, Nat.lt_of_succ_lt h⟩ s = row ⟨n + 1, h⟩ s := Fin.ext (by
        show n / 4 * 512 + s.val = (n + 1) / 4 * 512 + s.val
        have : n / 4 = (n + 1) / 4 := by omega
        rw [this])
      rw [e1]

theorem kept_at (t : Fin cfg0.N) (h0 : ¬ t.val % 4 = 0) (s : Fin 512) (l : Fin 1024) :
    (prev m c t).2.2.2.1 (ix2 s l) = ((1 / 2 * dzA X C Wg Wu Wd G (row t s) l : ℝ) : EReal) :=
  (congrFun (congrArg (·.1) (carried m c t h0)) (ix2 s l)).symm.trans (out11_nat m hX hWg hWu hWd hG hC t.val t.isLt s l)

theorem out8 (t : Fin cfg0.N) (s : Fin 512) (n : Fin 704) : (outs m c t.val t.isLt).1 (ix3 0 s n) = (dgA X C Wg Wu Wd G (row t s) (col (grp t) n) : EReal) := by
  have key (y) (hy : ∀ s k, y (ix2 s k) = ((1 / 2 * dzA X C Wg Wu Wd G (row t s) k : ℝ) : EReal)) (p1 p2 p3 p4) :=
    gate_at (y := y) (grp t) (o1 := k0_off1 (grid0.coords t)) (o2 := k0_off2 (grid0.coords t)) (offs t).1 (offs t).2 p1 p2 p3 p4 hy
      (b3 m hWd t (grp t)) (b6 m hX hWg t) (b7 m hX hWu t) s n
  by_cases h0 : t.val % 4 = 0
  · by_cases h : t.val = 0
    · rw [outs_A m c t h]
      unfold stA atA runA
      frame_out
      exact key _ (half_at m hX hWg hWu hWd hG hC t) _ _ _ _
    · rw [outs_B m c t h h0]
      unfold stB atB runB
      frame_out
      exact key _ (half_at m hX hWg hWu hWd hG hC t) _ _ _ _
  · rw [outs_C m c t h0]
    have hk := kept_at m hX hWg hWu hWd hG hC t h0
    generalize prev m c t = o at hk ⊢
    unfold stC atC runC
    frame_out
    exact key _ hk _ _ _ _

theorem out9 (t : Fin cfg0.N) (s : Fin 512) (n : Fin 704) : (outs m c t.val t.isLt).2.1 (ix3 0 s n) = (duA X C Wg Wu Wd G (row t s) (col (grp t) n) : EReal) := by
  have key (y) (hy : ∀ s k, y (ix2 s k) = ((1 / 2 * dzA X C Wg Wu Wd G (row t s) k : ℝ) : EReal)) (p1 p2 p3 p4) :=
    value_at (y := y) (grp t) (o1 := k0_off1 (grid0.coords t)) (o2 := k0_off2 (grid0.coords t)) (offs t).1 (offs t).2 p1 p2 p3 p4 hy
      (b3 m hWd t (grp t)) (b6 m hX hWg t) s n
  by_cases h0 : t.val % 4 = 0
  · by_cases h : t.val = 0
    · rw [outs_A m c t h]
      unfold stA atA runA
      frame_out
      exact key _ (half_at m hX hWg hWu hWd hG hC t) _ _ _ _
    · rw [outs_B m c t h h0]
      unfold stB atB runB
      frame_out
      exact key _ (half_at m hX hWg hWu hWd hG hC t) _ _ _ _
  · rw [outs_C m c t h0]
    have hk := kept_at m hX hWg hWu hWd hG hC t h0
    generalize prev m c t = o at hk ⊢
    unfold stC atC runC
    frame_out
    exact key _ hk _ _ _ _

/-- The input's gradient after a row block's first point. -/
theorem out10_first (t : Fin cfg0.N) (h0 : t.val % 4 = 0) (s : Fin 512) (l : Fin 1024) : (outs m c t.val t.isLt).2.2.1 (ix2 s l) =
    ((alpha * dzA X C Wg Wu Wd G (row t s) l + term X C Wg Wu Wd G (row t s) l (grp t) : ℝ) : EReal) := by
  have key (p1 p2 p3 p4) (o) :=
    input_at (y := k0_pay17 (k0_pay10 (iblk m c 0 t) (iblk m c 1 t) (iblk m c 2 t))) (grp t) (o1 := k0_off1 (grid0.coords t)) (o2 := k0_off2 (grid0.coords t))
      (offs t).1 (offs t).2 p1 p2 p3 p4 (half_at m hX hWg hWu hWd hG hC t)
      (b3 m hWd t (grp t)) (b6 m hX hWg t) (b7 m hX hWu t) (b4 m hWg t (grp t)) (b5 m hWu t (grp t)) o s l
  rw [← coe_add, ← alpha_at m hX hWg hWu hWd hG hC t s l]
  by_cases h : t.val = 0
  · rw [outs_A m c t h]
    unfold stA atA runA
    frame_out
    exact key _ _ _ _ _
  · rw [outs_B m c t h h0]
    unfold stB atB runB
    frame_out
    exact key _ _ _ _ _

/-- … and after each other. -/
theorem out10_next (t : Fin cfg0.N) (h0 : ¬ t.val % 4 = 0) (s : Fin 512) (l : Fin 1024) : (outs m c t.val t.isLt).2.2.1 (ix2 s l) =
    (outs m c (before t).val (before t).isLt).2.2.1 (ix2 s l) + (term X C Wg Wu Wd G (row t s) l (grp t) : EReal) := by
  rw [← prev_eq, outs_C m c t h0]
  have hk := kept_at m hX hWg hWu hWd hG hC t h0
  generalize prev m c t = o at hk ⊢
  unfold stC atC runC
  frame_out
  exact input_at (y := o.2.2.2.1) (grp t) (o1 := k0_off1 (grid0.coords t)) (o2 := k0_off2 (grid0.coords t)) (offs t).1 (offs t).2 _ _ _ _ hk
      (b3 m hWd t (grp t)) (b6 m hX hWg t) (b7 m hX hWu t) (b4 m hWg t (grp t)) (b5 m hWu t (grp t)) _ s l

theorem out10 (t : Fin cfg0.N) (s : Fin 512) (l : Fin 1024) (h3 : t.val % 4 = 3) : (outs m c t.val t.isLt).2.2.1 (ix2 s l) =
    (dx (rows X) (cols Wg) (cols Wu) (down Wd) (lane G) (rows C) (row t s) l : EReal) := by
  let r (i : ℕ) : Fin 4096 := if h : i * 512 + s.val < 4096 then ⟨i * 512 + s.val, h⟩ else 0
  have hr (t : Fin cfg0.N) : row t s = r (t.val / 4) := (dif_pos (row t s).isLt).symm
  let T (i j : ℕ) : ℝ := if h : j < 4 then term X C Wg Wu Wd G (r i) l ⟨j, h⟩ else 0
  have hT (t : Fin cfg0.N) : term X C Wg Wu Wd G (row t s) l (grp t) = T (t.val / 4) (t.val % 4) := by
    have h : t.val % 4 < 4 := (grp t).isLt
    rw [hr]; simp only [T]; rw [dif_pos h]; rfl
  refine (grown (fun t => (outs m c t.val t.isLt).2.2.1 (ix2 s l) : Fin cfg0.N → EReal) (fun i => alpha * dzA X C Wg Wu Wd G (r i) l) T
    (fun t h0 => ?_) (fun t h0 => ?_) t.val t.isLt).trans ?_
  · refine (out10_first m hX hWg hWu hWd hG hC t h0 s l).trans ?_
    rw [hT, hr, h0]
  · refine (out10_next m hX hWg hWu hWd hG hC t h0 s l).trans ?_
    rw [hT]
  · rw [h3, sum_cols (fun c => dgA X C Wg Wu Wd G (r (t.val / 4)) c * cols Wg l c + duA X C Wg Wu Wd G (r (t.val / 4)) c * cols Wu l c) (T (t.val / 4)) fun j => dif_pos j.isLt, ← hr]
    rfl

end Norm

section Scale
include hX hWg hWu hWd hC

theorem scale_at (t : Fin cfg0.N) (o : Vec Ideal S1x1024 .f32) (l : Fin 1024) : k0_pay14 (k0_pay11 (iblk m c 0 t) (iblk m c 1 t)) o (ix2 0 l) = o (ix2 0 l)
    + ((∑ s : Fin 512, nat (fun s => rows C s l * Ln.xh 1024 Ln.eps (zA X Wg Wu Wd s) l) (t.val / 4 * 512 + s.val) : ℝ) : EReal) := by
  have e (s : Fin 512) : nat (fun s => rows C s l * Ln.xh 1024 Ln.eps (zA X Wg Wu Wd s) l) (t.val / 4 * 512 + s.val)
      = rows C (row t s) l * Ln.xh 1024 Ln.eps (zA X Wg Wu Wd (row t s)) l := dif_pos (row t s).isLt
  simp only [e]
  exact MoValue.pay12_at (C := fun s => rows C (row t s)) (Z := fun s => zA X Wg Wu Wd (row t s)) (b0 m hC t) (b1 m hX hWg hWu hWd t) o l

theorem last12 (l : Fin 1024) : (outs m c 31 (by decide)).2.2.2.2.1 (ix2 0 l) = (dgamma (rows X) (cols Wg) (cols Wu) (down Wd) (rows C) l : EReal) := by
  refine (gathered (fun t => (outs m c t.val t.isLt).2.2.2.2.1 (ix2 0 l) : Fin cfg0.N → EReal)
    (fun i => ∑ s : Fin 512, nat (fun s => rows C s l * Ln.xh 1024 Ln.eps (zA X Wg Wu Wd s) l) (i * 512 + s.val))
    (fun t h => ?_) (fun t h h0 => ?_) (fun t h0 => ?_) 31 (by decide)).trans ?_
  · rw [outs_A m c t h]
    unfold stA atA runA
    frame_out
    refine (scale_at m hX hWg hWu hWd hC t _ l).trans ?_
    rw [h]
    refine Eq.trans (congrArg (· + _) ?_) (zero_add _)
    unfold_payloads; pointwise
  · show (outs m c t.val t.isLt).2.2.2.2.1 (ix2 0 l) = (prev m c t).2.2.2.2.1 (ix2 0 l) + _
    rw [outs_B m c t h h0]
    generalize prev m c t = o
    unfold stB atB runB
    frame_out
    exact scale_at m hX hWg hWu hWd hC t _ l
  · exact congrFun (congrArg (·.2.1) (carried m c t h0)) (ix2 0 l)
  · exact congrArg _ (sum_rows _)

end Scale

section Offset
include hC

theorem offset_at (t : Fin cfg0.N) (o : Vec Ideal S1x1024 .f32) (l : Fin 1024) : k0_pay15 (k0_pay6 (iblk m c 0 t)) o (ix2 0 l) = o (ix2 0 l)
    + ((∑ s : Fin 512, nat (fun s => rows C s l) (t.val / 4 * 512 + s.val) : ℝ) : EReal) := by
  have e (s : Fin 512) : nat (fun s => rows C s l) (t.val / 4 * 512 + s.val) = rows C (row t s) l := dif_pos (row t s).isLt
  simp only [e]
  exact MoValue.pay13_at (C := fun s => rows C (row t s)) (b0 m hC t) o l

theorem last13 (l : Fin 1024) : (outs m c 31 (by decide)).2.2.2.2.2 (ix2 0 l) = (dbeta (rows C) l : EReal) := by
  refine (gathered (fun t => (outs m c t.val t.isLt).2.2.2.2.2 (ix2 0 l) : Fin cfg0.N → EReal)
    (fun i => ∑ s : Fin 512, nat (fun s => rows C s l) (i * 512 + s.val))
    (fun t h => ?_) (fun t h h0 => ?_) (fun t h0 => ?_) 31 (by decide)).trans ?_
  · rw [outs_A m c t h]
    unfold stA atA runA
    frame_out
    refine (offset_at m hC t _ l).trans ?_
    rw [h]
    refine Eq.trans (congrArg (· + _) ?_) (zero_add _)
    unfold_payloads; pointwise
  · show (outs m c t.val t.isLt).2.2.2.2.2 (ix2 0 l) = (prev m c t).2.2.2.2.2 (ix2 0 l) + _
    rw [outs_B m c t h h0]
    generalize prev m c t = o
    unfold stB atB runB
    frame_out
    exact offset_at m hC t _ l
  · exact congrFun (congrArg (·.2.2) (carried m c t h0)) (ix2 0 l)
  · exact congrArg _ (sum_rows _)

end Offset

end Finite

/-- The run, with each output array named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v41_0) = (dats m 0 c).arrAt 8 cfg0.N
      ∧ r.2.mem ((c : Thread nD τ).loc main_v41_1) = (dats m 0 c).arrAt 9 cfg0.N
      ∧ r.2.mem ((c : Thread nD τ).loc main_v41_2) = (dats m 0 c).arrAt 10 cfg0.N
      ∧ r.2.mem ((c : Thread nD τ).loc main_v41_3) = (dats m 0 c).arrAt 11 cfg0.N
      ∧ r.2.mem ((c : Thread nD τ).loc main_v41_4) = (dats m 0 c).arrAt 12 cfg0.N
      ∧ r.2.mem ((c : Thread nD τ).loc main_v41_5) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 8, (h.1 c).1 9, (h.1 c).1 10, (h.1 c).1 11, (h.1 c).1 12, (h.1 c).1 13, h.2.1 c⟩)
    (θ_run_and (run_main m ρ) (Ffn.frame m ρ))

end Cert.FfnValue
end
-- ==== Proof.FfnRef.lean ====
/-
  What the reference of the gated feed-forward's backward call computes, on finite arguments. Its normalisation is the one
  after the mixer's output: read at an array that is the same, it is the same array.
-/
module

public import proofs.«01_k».proof.Proof.MoRef
public import proofs.«01_k».proof.Proof.FfnReal
public import proofs.«01_k».proof.Proof.Gen.Reference8Ideal.Read

@[expose] public section

set_option maxRecDepth 65536

noncomputable section

namespace Cert.FfnRef

open Idealize.ShloMosaic Idealize.ShloMosaic.TcCoe Idealize.SL Idealize.SL.Sem
open Cert.Reference8Ideal Cert.Reference8Ideal.Gen Cert.Reference8Ideal.Read Cert.Common Cert.Lift
open Cert.Ln (eps ofBits_zero)
open Cert.Ffn
open scoped BigOperators

section Norm
variable (x0 : S1x4096x1024.Idx → EReal) (x1 x2 : S1024x2816.Idx → EReal) (x3 : S2816x1024.Idx → EReal) (x4 : S1024.Idx → EReal) (x5 : S1x4096x1024.Idx → EReal)
  (y0 y1 : S1x4096x1024.Idx → EReal) (y2 : Cert.Reference7Ideal.S1024x1024.Idx → EReal)
  (h : val_main_v9 (F := Ideal) x0 x1 x2 x3 = Cert.Reference7Ideal.Read.val_main_v3 (F := Ideal) y0 y1 y2)
include h

theorem v28_same : val_main_v28 (F := Ideal) x0 x1 x2 x3 = Cert.Reference7Ideal.Read.val_main_v22 (F := Ideal) y0 y1 y2 := by
  unfold val_main_v28 val_main_v27 val_main_v23 val_main_v21 val_main_v20 val_main_v17 val_main_v16 val_main_v15 val_main_v14 val_main_v12 val_main_v11
  rw [h]
  rfl

theorem v16_same : val_main_v16 (F := Ideal) x0 x1 x2 x3 = Cert.Reference7Ideal.Read.val_main_v10 (F := Ideal) y0 y1 y2 := by
  unfold val_main_v16 val_main_v15 val_main_v14 val_main_v12 val_main_v11
  rw [h]
  rfl

theorem v33_same : val_main_v33 (F := Ideal) x0 x1 x2 x3 = Cert.Reference7Ideal.Read.val_main_v27 (F := Ideal) y0 y1 y2 := by
  have e : val_main_v25 (F := Ideal) x0 x1 x2 x3 = Cert.Reference7Ideal.Read.val_main_v19 (F := Ideal) y0 y1 y2 := v16_same _ _ _ _ _ _ _ h
  unfold val_main_v33 val_main_v32
  rw [v28_same _ _ _ _ _ _ _ h, e]
  rfl

theorem v61_same : val_main_v61 (F := Ideal) x0 x1 x2 x3 x4 x5 = Cert.Reference7Ideal.Read.val_main_v55 (F := Ideal) y0 y1 y2 x4 x5 := by
  have e : val_main_v25 (F := Ideal) x0 x1 x2 x3 = Cert.Reference7Ideal.Read.val_main_v19 (F := Ideal) y0 y1 y2 := v16_same _ _ _ _ _ _ _ h
  have e2 : val_main_v27 (F := Ideal) x0 x1 x2 x3 = Cert.Reference7Ideal.Read.val_main_v21 (F := Ideal) y0 y1 y2 := by
    unfold val_main_v27 val_main_v23 val_main_v21 val_main_v20 val_main_v17
    rw [v16_same _ _ _ _ _ _ _ h]
    rfl
  unfold val_main_v61 val_main_v60 val_main_v55 val_main_v52 val_main_v51 val_main_v50 val_main_v31 val_main_v29
  rw [v28_same _ _ _ _ _ _ _ h, e, e2]
  rfl

theorem v64_same : val_main_v64 (F := Ideal) x0 x1 x2 x3 x4 x5 = Cert.Reference7Ideal.Read.val_main_v58 (F := Ideal) y0 y1 y2 x4 x5 := by
  unfold val_main_v64 val_main_v63 val_main_v62 val_main_v19
  rw [v61_same _ _ _ _ _ _ _ _ _ h, v16_same _ _ _ _ _ _ _ h]
  rfl

theorem v54_same : val_main_v54 (F := Ideal) x0 x1 x2 x3 x4 x5 = Cert.Reference7Ideal.Read.val_main_v48 (F := Ideal) y0 y1 y2 x4 x5 := by
  unfold val_main_v54 val_main_v53
  rw [v28_same _ _ _ _ _ _ _ h]
  rfl

theorem v75_same : val_main_v75 (F := Ideal) x0 x1 x2 x3 x4 x5 = Cert.Reference7Ideal.Read.val_main_v69 (F := Ideal) y0 y1 y2 x4 x5 := by
  unfold val_main_v75 val_main_v74 val_main_v73 val_main_v72 val_main_v71 val_main_v69 val_main_v68 val_main_v67 val_main_v66 val_main_v65 val_main_v58 val_main_v57 val_main_v56
  rw [v64_same _ _ _ _ _ _ _ _ _ h, v54_same _ _ _ _ _ _ _ _ _ h]
  rfl

theorem v99_same : val_main_v99 (F := Ideal) x0 x1 x2 x3 x5 = Cert.Reference7Ideal.Read.val_main_v77 (F := Ideal) y0 y1 y2 x5 := by
  unfold val_main_v99 val_main_v49 val_main_v46 val_main_v45 val_main_v44
  rw [v33_same _ _ _ _ _ _ _ h]
  rfl

omit h in
theorem v100_same : val_main_v100 (F := Ideal) x5 = Cert.Reference7Ideal.Read.val_main_v78 (F := Ideal) x5 := rfl

end Norm

/-! ## On real arguments -/

variable (X : S1x4096x1024.Idx → ℝ) (Wg Wu : S1024x2816.Idx → ℝ) (Wd : S2816x1024.Idx → ℝ) (G : S1024.Idx → ℝ) (C : S1x4096x1024.Idx → ℝ)

/-- The arrays by rows and columns. -/
abbrev rows (X : S1x4096x1024.Idx → ℝ) (s : Fin 4096) (l : Fin 1024) : ℝ := X (ix3 0 s l)
abbrev cols (W : S1024x2816.Idx → ℝ) (k : Fin 1024) (c : Fin 2816) : ℝ := W (ix2 k c)
abbrev down (W : S2816x1024.Idx → ℝ) (c : Fin 2816) (k : Fin 1024) : ℝ := W (ix2 c k)
abbrev lane (G : S1024.Idx → ℝ) (l : Fin 1024) : ℝ := G (ix1 l)

/-- The arrays as the programs' arguments. -/
abbrev up {s : Shape} (a : s.Idx → ℝ) : s.Idx → EReal := fun i => (a i : EReal)

theorem v0_at (s : Fin 4096) (c : Fin 2816) : val_main_v0 (F := Ideal) (up X) (up Wg) (ix3 0 s c) = (proj (rows X) (cols Wg) s c : EReal) := by
  unfold val_main_v0
  pointwise
  simp only [coe_mul, coe_sum]
  rfl

theorem sig_at (s : Fin 4096) (c : Fin 2816) : val_main_v2_2 (F := Ideal) (up X) (up Wg) (ix3 0 s c) = (sg (proj (rows X) (cols Wg) s c) : EReal) := by
  have e := v0_at X Wg
  unfold val_main_v2_2 val_main_call0_v4 val_main_call0_v3 val_main_call0_v2 val_main_call0_v1 val_main_call0_v0 val_main_call0_cst val_main_call0_cst_0
  generalize val_main_v0 (F := Ideal) (up X) (up Wg) = y at e ⊢
  pointwise
  simp only [e, ofBits_one, coe_neg, exp_coe, coe_add]
  exact div_coe _ _ (one_add_exp_pos _).ne'

theorem silu_at (s : Fin 4096) (c : Fin 2816) : val_main_v2_0 (F := Ideal) (up X) (up Wg) (ix3 0 s c)
    = ((proj (rows X) (cols Wg) s c * sg (proj (rows X) (cols Wg) s c) : ℝ) : EReal) := by
  have e := v0_at X Wg
  have e2 := sig_at X Wg
  unfold val_main_v2_0
  generalize val_main_v0 (F := Ideal) (up X) (up Wg) = y at e ⊢
  generalize val_main_v2_2 (F := Ideal) (up X) (up Wg) = w at e2 ⊢
  pointwise
  simp only [e, e2, coe_mul]

theorem v9_at (s : Fin 4096) (l : Fin 1024) :
    val_main_v9 (F := Ideal) (up X) (up Wg) (up Wu) (up Wd) (ix3 0 s l) = (zr (rows X) (cols Wg) (cols Wu) (down Wd) s l : EReal) := by
  have e := silu_at X Wg
  have e2 : ∀ s c, val_main_v1 (F := Ideal) (up X) (up Wu) (ix3 0 s c) = (proj (rows X) (cols Wu) s c : EReal) := v0_at X Wu
  unfold val_main_v9 val_main_v8 val_main_v7 val_main_v6 val_main_v5 val_main_v4 val_main_v3 val_main_cst val_main_cst_0
  generalize val_main_v2_0 (F := Ideal) (up X) (up Wg) = y at e ⊢
  generalize val_main_v1 (F := Ideal) (up X) (up Wu) = w at e2 ⊢
  pointwise
  simp only [e, e2, ofBits_alpha, ofBits_half, coe_mul, coe_sum, coe_add]
  rfl

/-- The normalised array, index by index. -/
def Z (i : S1x4096x1024.Idx) : ℝ := zr (rows X) (cols Wg) (cols Wu) (down Wd) (i 1) (i 2)

theorem v9_eq : val_main_v9 (F := Ideal) (up X) (up Wg) (up Wu) (up Wd) = up (Z X Wg Wu Wd) := by
  funext i
  obtain ⟨a, s, l, rfl⟩ : ∃ a s l, i = ix3 a s l := ⟨_, _, _, eq_ix3 i⟩
  obtain rfl : a = 0 := Subsingleton.elim _ _
  exact v9_at X Wg Wu Wd s l

theorem alpha_ne : alpha ≠ 0 := by unfold alpha; norm_num

/-- Any real array is one the mixer's normalisation is read at. -/
theorem norm_of (Z : S1x4096x1024.Idx → ℝ) :
    Cert.Reference7Ideal.Read.val_main_v3 (F := Ideal) (fun _ => 0) (fun i => ((Z i / alpha : ℝ) : EReal)) (fun _ => 0) = up Z := by
  funext i
  obtain ⟨a, s, l, rfl⟩ : ∃ a s l, i = ix3 a s l := ⟨_, _, _, eq_ix3 i⟩
  obtain rfl : a = 0 := Subsingleton.elim _ _
  refine (MoRef.v3_at _ _ _ s l).trans ?_
  simp only [mul_zero, Finset.sum_const_zero, add_zero, ofBits_alpha, coe_mul]
  exact congrArg _ (mul_div_cancel₀ _ alpha_ne)

abbrev dzA (s : Fin 4096) (l : Fin 1024) : ℝ := dz (rows X) (cols Wg) (cols Wu) (down Wd) (lane G) (rows C) s l

theorem v75_at (s : Fin 4096) (l : Fin 1024) :
    val_main_v75 (F := Ideal) (up X) (up Wg) (up Wu) (up Wd) (up G) (up C) (ix3 0 s l) = (dzA X Wg Wu Wd G C s l : EReal) := by
  have h := norm_of (Z X Wg Wu Wd)
  rw [v75_same _ _ _ _ _ _ _ _ _ ((v9_eq X Wg Wu Wd).trans h.symm)]
  exact MoRef.v69_at _ _ _ _ G C h s l

theorem v99_at (l : Fin 1024) : val_main_v99 (F := Ideal) (up X) (up Wg) (up Wu) (up Wd) (up C) (ix2 0 l)
    = (dgamma (rows X) (cols Wg) (cols Wu) (down Wd) (rows C) l : EReal) := by
  have h := norm_of (Z X Wg Wu Wd)
  rw [v99_same _ _ _ _ _ _ _ _ ((v9_eq X Wg Wu Wd).trans h.symm)]
  exact MoRef.v77_at _ _ _ _ C h l

theorem v100_at (l : Fin 1024) : val_main_v100 (F := Ideal) (up C) (ix2 0 l) = (dbeta (rows C) l : EReal) := by
  rw [v100_same]
  exact MoRef.v78_at C l

theorem v77_at (s : Fin 4096) (l : Fin 1024) :
    val_main_v77 (F := Ideal) (up X) (up Wg) (up Wu) (up Wd) (up G) (up C) (ix3 0 s l) = ((1 / 2 * dzA X Wg Wu Wd G C s l : ℝ) : EReal) := by
  have e := v75_at X Wg Wu Wd G C
  unfold val_main_v77 val_main_v76 val_main_cst_20
  generalize val_main_v75 (F := Ideal) (up X) (up Wg) (up Wu) (up Wd) (up G) (up C) = y at e ⊢
  pointwise
  simp only [e, ofBits_half, coe_mul]

theorem v80_at (s : Fin 4096) (c : Fin 2816) :
    val_main_v80 (F := Ideal) (up X) (up Wg) (up Wu) (up Wd) (up G) (up C) (ix3 0 s c)
      = (dh (rows X) (cols Wg) (cols Wu) (down Wd) (lane G) (rows C) s c : EReal) := by
  have e := v77_at X Wg Wu Wd G C
  unfold val_main_v80
  generalize val_main_v77 (F := Ideal) (up X) (up Wg) (up Wu) (up Wd) (up G) (up C) = y at e ⊢
  pointwise
  simp only [e, coe_mul, coe_sum]
  rfl

theorem v81_at (s : Fin 4096) (c : Fin 2816) :
    val_main_v81 (F := Ideal) (up X) (up Wg) (up Wu) (up Wd) (up G) (up C) (ix3 0 s c)
      = (du (rows X) (cols Wg) (cols Wu) (down Wd) (lane G) (rows C) s c : EReal) := by
  have e := v80_at X Wg Wu Wd G C
  have e2 := silu_at X Wg
  unfold val_main_v81
  generalize val_main_v80 (F := Ideal) (up X) (up Wg) (up Wu) (up Wd) (up G) (up C) = y at e ⊢
  generalize val_main_v2_0 (F := Ideal) (up X) (up Wg) = w at e2 ⊢
  pointwise
  simp only [e, e2, coe_mul]
  exact congrArg _ (mul_comm _ _)

theorem v83_at (s : Fin 4096) (c : Fin 2816) :
    val_main_v83 (F := Ideal) (up X) (up Wg) (up Wu) (up Wd) (up G) (up C) (ix3 0 s c)
      = (dg (rows X) (cols Wg) (cols Wu) (down Wd) (lane G) (rows C) s c : EReal) := by
  have e := v80_at X Wg Wu Wd G C
  have e2 := v0_at X Wg
  have e3 := sig_at X Wg
  have e4 : ∀ s c, val_main_v1 (F := Ideal) (up X) (up Wu) (ix3 0 s c) = (proj (rows X) (cols Wu) s c : EReal) := v0_at X Wu
  unfold val_main_v83 val_main_call1_v2 val_main_call1_v1 val_main_call1_v0 val_main_v82 val_main_v2_1 val_main_call0_v7 val_main_call0_v6 val_main_call0_cst_1
  generalize val_main_v80 (F := Ideal) (up X) (up Wg) (up Wu) (up Wd) (up G) (up C) = y at e ⊢
  generalize val_main_v0 (F := Ideal) (up X) (up Wg) = w at e2 ⊢
  generalize val_main_v2_2 (F := Ideal) (up X) (up Wg) = u at e3 ⊢
  generalize val_main_v1 (F := Ideal) (up X) (up Wu) = v at e4 ⊢
  pointwise
  simp only [e, e2, e3, e4, ← EReal.coe_one, coe_mul, coe_sub, coe_add]
  refine congrArg _ ?_
  unfold dg dgate
  ring

/-- The six results. -/
theorem v90_at (j : Fin 4) (s : Fin 4096) (n : Fin 704) :
    val_main_v90 (F := Ideal) (up X) (up Wg) (up Wu) (up Wd) (up G) (up C) (ix3 j s n)
      = (dg (rows X) (cols Wg) (cols Wu) (down Wd) (lane G) (rows C) s (col j n) : EReal) := by
  have e := v83_at X Wg Wu Wd G C
  unfold val_main_v90 val_main_v89 val_main_v88 val_main_v87
  generalize val_main_v83 (F := Ideal) (up X) (up Wg) (up Wu) (up Wd) (up G) (up C) = y at e ⊢
  pointwise
  exact e s (col j n)

theorem v94_at (j : Fin 4) (s : Fin 4096) (n : Fin 704) :
    val_main_v94 (F := Ideal) (up X) (up Wg) (up Wu) (up Wd) (up G) (up C) (ix3 j s n)
      = (du (rows X) (cols Wg) (cols Wu) (down Wd) (lane G) (rows C) s (col j n) : EReal) := by
  have e := v81_at X Wg Wu Wd G C
  unfold val_main_v94 val_main_v93 val_main_v92 val_main_v91
  generalize val_main_v81 (F := Ideal) (up X) (up Wg) (up Wu) (up Wd) (up G) (up C) = y at e ⊢
  pointwise
  exact e s (col j n)

theorem v96_at (s : Fin 4096) (l : Fin 1024) :
    val_main_v96 (F := Ideal) (up X) (up Wg) (up Wu) (up Wd) (up G) (up C) (ix2 s l)
      = (dx (rows X) (cols Wg) (cols Wu) (down Wd) (lane G) (rows C) s l : EReal) := by
  have e := v75_at X Wg Wu Wd G C
  have e2 := v81_at X Wg Wu Wd G C
  have e3 := v83_at X Wg Wu Wd G C
  unfold val_main_v96 val_main_v95 val_main_v86 val_main_v85 val_main_v84 val_main_v79 val_main_v78 val_main_cst_21
  generalize val_main_v75 (F := Ideal) (up X) (up Wg) (up Wu) (up Wd) (up G) (up C) = y at e ⊢
  generalize val_main_v81 (F := Ideal) (up X) (up Wg) (up Wu) (up Wd) (up G) (up C) = w at e2 ⊢
  generalize val_main_v83 (F := Ideal) (up X) (up Wg) (up Wu) (up Wd) (up G) (up C) = u at e3 ⊢
  pointwise
  simp only [e, e2, e3, ofBits_alpha, coe_mul, coe_sum, coe_add]
  refine congrArg _ ?_
  unfold dx
  rw [Finset.sum_add_distrib, add_comm (∑ c, _)]

theorem v98_at (s : Fin 4096) (l : Fin 1024) :
    val_main_v98 (F := Ideal) (up X) (up Wg) (up Wu) (up Wd) (up G) (up C) (ix2 s l) = ((1 / 2 * dzA X Wg Wu Wd G C s l : ℝ) : EReal) := by
  have e := v77_at X Wg Wu Wd G C
  unfold val_main_v98 val_main_v97
  generalize val_main_v77 (F := Ideal) (up X) (up Wg) (up Wu) (up Wd) (up G) (up C) = y at e ⊢
  pointwise
  exact e s l

end Cert.FfnRef
end
-- ==== Proof.FfnClaim.lean ====
/-
  The backward call of the feed-forward against its reference.
-/
module

public import proofs.«01_k».proof.Defs
public import proofs.«01_k».proof.Proof.FfnValue
public import proofs.«01_k».proof.Proof.FfnRef
public import proofs.«01_k».proof.Proof.Gen.Reference8Ideal

@[expose] public section

set_option maxRecDepth 200000

noncomputable section

namespace Cert.FfnClaim

open Idealize.ShloMosaic Idealize.ShloMosaic.TcCoe Idealize.SL.Sem
open Cert.Common Cert.Lift Cert.FfnRef Cert.FfnValue Cert.Kernel8Ideal Cert.Kernel8Ideal.Gen Cert.Kernel8Ideal.Ffn

theorem pre_facts : Cert.Pre_finite8.Facts := ⟨by decide, by decide, by decide, by decide⟩

attribute [local instance] pre_facts

variable (m : (ℓ : Loc nD τ sig) → Buf (Elt Ideal) ℓ)

/-- The argument arrays at device `c` are these arrays of reals. -/
structure Real (c : Dev nD) (X C : S1x4096x1024.Idx → ℝ) (Wg Wu : S1024x2816.Idx → ℝ) (Wd : S2816x1024.Idx → ℝ) (G : S1024.Idx → ℝ) : Prop where
  a0 : m ((c.tc : Thread nD τ).loc main_arg0) = up X
  a1 : m ((c.tc : Thread nD τ).loc main_arg1) = up Wg
  a2 : m ((c.tc : Thread nD τ).loc main_arg2) = up Wu
  a3 : m ((c.tc : Thread nD τ).loc main_arg3) = up Wd
  a4 : m ((c.tc : Thread nD τ).loc main_arg4) = up G
  a5 : m ((c.tc : Thread nD τ).loc main_arg5) = up C

/-- Finite argument arrays are real arrays. -/
theorem args {m : (ℓ : Loc nD τ sig) → Buf (Elt Ideal) ℓ} (h : Cert.Pre_Kernel8Ideal_finite8 m) (c : Dev nD) :
    ∃ X C Wg Wu Wd G, Real m c X C Wg Wu Wd G := by
  obtain ⟨h0, h1, h2, h3, h4, h5⟩ := h c
  obtain ⟨X, hX⟩ := finite_of_test (fun _ => rfl) h0
  obtain ⟨Wg, hWg⟩ := finite_of_test (fun _ => rfl) h1
  obtain ⟨Wu, hWu⟩ := finite_of_test (fun _ => rfl) h2
  obtain ⟨Wd, hWd⟩ := finite_of_test (fun _ => rfl) h3
  obtain ⟨G, hG⟩ := finite_of_test (fun _ => rfl) h4
  obtain ⟨C, hC⟩ := finite_of_test (fun _ => rfl) h5
  exact ⟨X, C, Wg, Wu, Wd, G, hX, hWg, hWu, hWd, hG, hC⟩

/-- The reference's arguments, which agree with the kernel's, are the same arrays. -/
theorem same {m : (ℓ : Loc nD τ sig) → Buf (Elt Ideal) ℓ} {c : Dev nD} {X C : S1x4096x1024.Idx → ℝ} {Wg Wu : S1024x2816.Idx → ℝ} {Wd : S2816x1024.Idx → ℝ}
    {G : S1024.Idx → ℝ} (m' : (ℓ : Loc Cert.Reference8Ideal.nD Cert.Reference8Ideal.τ Cert.Reference8Ideal.sig) → Buf (Elt Ideal) ℓ) (h : Real m c X C Wg Wu Wd G)
    (e : m' ((c.tc : Thread Cert.Reference8Ideal.nD Cert.Reference8Ideal.τ).loc Cert.Reference8Ideal.main_arg0) = m ((c.tc : Thread nD τ).loc main_arg0)
      ∧ m' ((c.tc : Thread Cert.Reference8Ideal.nD Cert.Reference8Ideal.τ).loc Cert.Reference8Ideal.main_arg1) = m ((c.tc : Thread nD τ).loc main_arg1)
      ∧ m' ((c.tc : Thread Cert.Reference8Ideal.nD Cert.Reference8Ideal.τ).loc Cert.Reference8Ideal.main_arg2) = m ((c.tc : Thread nD τ).loc main_arg2)
      ∧ m' ((c.tc : Thread Cert.Reference8Ideal.nD Cert.Reference8Ideal.τ).loc Cert.Reference8Ideal.main_arg3) = m ((c.tc : Thread nD τ).loc main_arg3)
      ∧ m' ((c.tc : Thread Cert.Reference8Ideal.nD Cert.Reference8Ideal.τ).loc Cert.Reference8Ideal.main_arg4) = m ((c.tc : Thread nD τ).loc main_arg4)
      ∧ m' ((c.tc : Thread Cert.Reference8Ideal.nD Cert.Reference8Ideal.τ).loc Cert.Reference8Ideal.main_arg5) = m ((c.tc : Thread nD τ).loc main_arg5)) :
    StableHlo.launchContents m' c (Proc.devRef .tc Cert.Reference8Ideal.main_arg0) = up X
      ∧ StableHlo.launchContents m' c (Proc.devRef .tc Cert.Reference8Ideal.main_arg1) = up Wg
      ∧ StableHlo.launchContents m' c (Proc.devRef .tc Cert.Reference8Ideal.main_arg2) = up Wu
      ∧ StableHlo.launchContents m' c (Proc.devRef .tc Cert.Reference8Ideal.main_arg3) = up Wd
      ∧ StableHlo.launchContents m' c (Proc.devRef .tc Cert.Reference8Ideal.main_arg4) = up G
      ∧ StableHlo.launchContents m' c (Proc.devRef .tc Cert.Reference8Ideal.main_arg5) = up C :=
  ⟨e.1.trans h.a0, e.2.1.trans h.a1, e.2.2.1.trans h.a2, e.2.2.2.1.trans h.a3, e.2.2.2.2.1.trans h.a4, e.2.2.2.2.2.trans h.a5⟩

set_option maxHeartbeats 3200000 in
theorem algebraic : Cert.algebraic_Kernel8Ideal_Reference8Ideal_pre_finite8 := by
  pair_intro
  · run_from Cert.FfnValue.run_blocks m g
  · run_from Cert.Reference8Ideal.Value.run m' g'
    · obtain ⟨X, C, Wg, Wu, Wd, G, h⟩ := args hpre c
      obtain ⟨r0, r1, r2, r3, r4, r5⟩ := same m' h (hagree c)
      refine (Cert.Reference8Ideal.Read.val_main_v90_eq (StableHlo.launchContents m' c)).trans ?_
      rw [r0, r1, r2, r3, r4, r5]
      refine (w8_of m c _ fun t s n => ?_).symm
      exact (out8 m h.a0 h.a1 h.a2 h.a3 h.a4 h.a5 t s n).trans (v90_at X Wg Wu Wd G C (grp t) (row t s) n).symm
    · obtain ⟨X, C, Wg, Wu, Wd, G, h⟩ := args hpre c
      obtain ⟨r0, r1, r2, r3, r4, r5⟩ := same m' h (hagree c)
      refine (Cert.Reference8Ideal.Read.val_main_v94_eq (StableHlo.launchContents m' c)).trans ?_
      rw [r0, r1, r2, r3, r4, r5]
      refine (w9_of m c _ fun t s n => ?_).symm
      exact (out9 m h.a0 h.a1 h.a2 h.a3 h.a4 h.a5 t s n).trans (v94_at X Wg Wu Wd G C (grp t) (row t s) n).symm
    · obtain ⟨X, C, Wg, Wu, Wd, G, h⟩ := args hpre c
      obtain ⟨r0, r1, r2, r3, r4, r5⟩ := same m' h (hagree c)
      rw [← (hagree c).2.1, ← (hagree c).2.2.1]
      refine (Cert.Reference8Ideal.Read.val_main_v96_eq (StableHlo.launchContents m' c)).trans ?_
      rw [r0, r1, r2, r3, r4, r5]
      refine (w10_of m c _ fun t s l h3 => ?_).symm
      exact (out10 m h.a0 h.a1 h.a2 h.a3 h.a4 h.a5 t s l h3).trans (v96_at X Wg Wu Wd G C (row t s) l).symm
    · obtain ⟨X, C, Wg, Wu, Wd, G, h⟩ := args hpre c
      obtain ⟨r0, r1, r2, r3, r4, r5⟩ := same m' h (hagree c)
      refine (Cert.Reference8Ideal.Read.val_main_v98_eq (StableHlo.launchContents m' c)).trans ?_
      rw [r0, r1, r2, r3, r4, r5]
      refine (w11_of m c _ fun t s l => ?_).symm
      exact (out11_nat m h.a0 h.a1 h.a2 h.a3 h.a4 h.a5 t.val t.isLt s l).trans (v98_at X Wg Wu Wd G C (row t s) l).symm
    · obtain ⟨X, C, Wg, Wu, Wd, G, h⟩ := args hpre c
      obtain ⟨r0, r1, r2, r3, r4, r5⟩ := same m' h (hagree c)
      refine (Cert.Reference8Ideal.Read.val_main_v99_eq (StableHlo.launchContents m' c)).trans ?_
      rw [r0, r1, r2, r3, r5]
      refine (w12_of m c _ fun l => ?_).symm
      exact (last12 m h.a0 h.a1 h.a2 h.a3 h.a5 l).trans (v99_at X Wg Wu Wd C l).symm
    · obtain ⟨X, C, Wg, Wu, Wd, G, h⟩ := args hpre c
      obtain ⟨r0, r1, r2, r3, r4, r5⟩ := same m' h (hagree c)
      rw [← (hagree c).2.2.2.2.2]
      refine (Cert.Reference8Ideal.Read.val_main_v100_eq (StableHlo.launchContents m' c)).trans ?_
      rw [r5]
      refine (w13_of m c _ fun l => ?_).symm
      exact (last13 m h.a5 l).trans (v100_at C l).symm

end Cert.FfnClaim
end
-- ==== Proof.XfValue.lean ====
/-
  The cross-attention's forward call: what its body stores for a row block, and the array it leaves. Every step is an
  equation of extended reals, so no argument need be finite.
-/
module

public import proofs.«01_k».proof.Proof.Gen.Kernel9Ideal.Value
public import proofs.«01_k».proof.Proof.XaValue

@[expose] public section

set_option maxRecDepth 200000

noncomputable section

namespace Cert.Soft

open Idealize.ShloMosaic
open scoped BigOperators

/-- The score of key `n` in head `h`. -/
def sc (q : Fin 256 → EReal) (k : Fin 256 → Fin 256 → EReal) (h : ℕ) (n : Fin 256) : EReal :=
  (∑ x : Fin 256, if x.val / 64 = h then q x * k n x else 0) * ((1 / 8 : ℝ) : EReal)
/-- The largest of a row. -/
def top (f : Fin 256 → EReal) : EReal := Finset.fold max (Ideal.ofBits FTy.f32 4286578688#32) f Finset.univ
/-- A softmax weight. -/
def pr (q : Fin 256 → EReal) (k : Fin 256 → Fin 256 → EReal) (h : ℕ) (n : Fin 256) : EReal :=
  Ideal.div (Ideal.exp (sc q k h n - top (sc q k h))) (∑ j, Ideal.exp (sc q k h j - top (sc q k h)))
/-- The attended values. -/
def out (q : Fin 256 → EReal) (k v : Fin 256 → Fin 256 → EReal) (l : Fin 256) : EReal := ∑ n, pr q k (l.val / 64) n * v n l

/-- The lanes of head `h` of an array of three axes, from column `off`. -/
def cols {a b c : ℕ} (X : (⟨3, ![a, b, c]⟩ : Shape).Idx → EReal) (off s : ℕ) (l : Fin 256) : EReal := Common.at3 X 0 s (off + l.val)

theorem lanes_sum (h : Fin 4) (f : Fin 256 → EReal) : (∑ x : Fin 256, if x.val / 64 = h.val then f x else 0) = ∑ d : Fin 64, f (Attn.lane h d) := by
  rw [← Finset.sum_filter]
  refine (Finset.sum_bij (fun d _ => Attn.lane h d) (fun d _ => ?_) (fun a _ b _ hab => ?_) (fun x hx => ?_) (fun _ _ => rfl)).symm
  · simpa only [Finset.mem_filter, Finset.mem_univ, true_and] using Attn.lane_div h d
  · have := congrArg Fin.val hab; simp only [Attn.lane] at this; exact Fin.ext (by omega)
  · simp only [Finset.mem_filter, Finset.mem_univ, true_and] at hx
    exact ⟨⟨x.val - h.val * 64, by omega⟩, Finset.mem_univ _, Fin.ext (by simp only [Attn.lane]; omega)⟩

theorem four_heads (q : Fin 256 → EReal) (k v : Fin 256 → Fin 256 → EReal) (l : Fin 256) :
    (∑ n, if l.val / 64 = 0 then pr q k 0 n * v n l else 0) + (∑ n, if l.val / 64 = 1 then pr q k 1 n * v n l else 0)
      + (∑ n, if l.val / 64 = 2 then pr q k 2 n * v n l else 0) + (∑ n, if l.val / 64 = 3 then pr q k 3 n * v n l else 0) = out q k v l := by
  have : l.val / 64 = 0 ∨ l.val / 64 = 1 ∨ l.val / 64 = 2 ∨ l.val / 64 = 3 := by omega
  rcases this with h | h | h | h <;> simp [out, h]

end Cert.Soft

namespace Cert.XfValue

open Idealize.ShloMosaic Idealize.ShloMosaic.TcCoe Idealize.SL.Sem Idealize.ShloMosaic.Pipeline
open Cert.Kernel9Ideal Cert.Kernel9Ideal.Gen
open Cert.Common Cert.Lift
open scoped BigOperators

theorem m0 (l : Fin 256) : k0_pay6 (ix2 0 l) = if l.val / 64 = 0 then 1#1 else 0#1 := XaPay.m0 l
theorem m1 (l : Fin 256) : k0_pay7 (ix2 0 l) = if l.val / 64 = 1 then 1#1 else 0#1 := XaPay.m1 l
theorem m2 (l : Fin 256) : k0_pay8 (ix2 0 l) = if l.val / 64 = 2 then 1#1 else 0#1 := XaPay.m2 l
theorem m3 (l : Fin 256) : k0_pay9 (ix2 0 l) = if l.val / 64 = 3 then 1#1 else 0#1 := by
  unfold_payloads; pointwise; exact XaPay.mask_bit l 3 192 256 rfl rfl (by omega)

section Body
variable (x : Vec Ideal S1x1024x256 .f32) (k v : Vec Ideal S1x256x256 .f32)

abbrev Q (s : Fin 1024) (l : Fin 256) : EReal := x (ix3 0 s l)
abbrev M (n l : Fin 256) : EReal := k (ix3 0 n l)

theorem q_at (s : Fin 1024) (l : Fin 256) : k0_pay2 x (ix2 s l) = Q x s l := by unfold_payloads; pointwise
theorem k_at (s l : Fin 256) : k0_pay3 k (ix2 s l) = M k s l := by unfold_payloads; pointwise
theorem v_at (s l : Fin 256) : k0_pay4 v (ix2 s l) = M v s l := by unfold_payloads; pointwise

theorem score0 (s : Fin 1024) (n : Fin 256) : k0_pay10 x k (ix2 s n) = Soft.sc (Q x s) (M k) 0 n := by
  have eq := q_at x
  have ek := k_at k
  have em := m0
  unfold k0_pay10
  generalize k0_pay2 x = yq at eq ⊢
  generalize k0_pay3 k = yk at ek ⊢
  generalize k0_pay6 = ym at em ⊢
  pointwise
  simp only [eq, ek, em, select_ite, ofBits_eighth, ite_mul, zero_mul, mul_ite, mul_zero]
  rfl

theorem two_heads (s : Fin 1024) (l : Fin 256) :
    k0_pay11 (k0_pay2 x) (k0_pay3 k) (k0_pay4 v) k0_pay5 k0_pay6 k0_pay7 (k0_pay10 x k) (ix2 s l)
      = (∑ n, if l.val / 64 = 0 then Soft.pr (Q x s) (M k) 0 n * M v n l else 0) + (∑ n, if l.val / 64 = 1 then Soft.pr (Q x s) (M k) 1 n * M v n l else 0) := by
  have eq := q_at x
  have ek := k_at k
  have ev := v_at v
  have e0 := m0
  have e1 := m1
  have es := score0 x k
  unfold k0_pay11 k0_pay5
  generalize k0_pay2 x = yq at eq ⊢
  generalize k0_pay3 k = yk at ek ⊢
  generalize k0_pay4 v = yv at ev ⊢
  generalize k0_pay6 = y0 at e0 ⊢
  generalize k0_pay7 = y1 at e1 ⊢
  generalize k0_pay10 x k = ys at es ⊢
  pointwise
  simp only [eq, ek, ev, e0, e1, es, select_ite, ofBits_eighth, ite_mul, zero_mul, mul_ite, mul_zero]
  rfl

theorem body_at (s : Fin 1024) (l : Fin 256) :
    k0_pay1 (k0_pay13 (k0_pay2 x) (k0_pay3 k) (k0_pay4 v) k0_pay8 k0_pay9
      (k0_pay11 (k0_pay2 x) (k0_pay3 k) (k0_pay4 v) k0_pay5 k0_pay6 k0_pay7 (k0_pay10 x k)) (k0_pay12 (k0_pay2 x) (k0_pay3 k) k0_pay8)) (ix3 0 s l)
      = Soft.out (Q x s) (M k) (M v) l := by
  have eq := q_at x
  have ek := k_at k
  have ev := v_at v
  have e2 := m2
  have e3 := m3
  have et := two_heads x k v
  unfold k0_pay1 k0_pay13 k0_pay12
  generalize k0_pay11 (k0_pay2 x) (k0_pay3 k) (k0_pay4 v) k0_pay5 k0_pay6 k0_pay7 (k0_pay10 x k) = yt at et ⊢
  generalize k0_pay2 x = yq at eq ⊢
  generalize k0_pay3 k = yk at ek ⊢
  generalize k0_pay4 v = yv at ev ⊢
  generalize k0_pay8 = y0 at e2 ⊢
  generalize k0_pay9 = y1 at e3 ⊢
  pointwise
  simp only [eq, ek, ev, e2, e3, et, select_ite, ofBits_eighth, ite_mul, zero_mul, mul_ite, mul_zero]
  exact Soft.four_heads (Q x s) (M k) (M v) l

end Body

variable (m : (ℓ : Loc nD τ sig) → Buf (Elt Ideal) ℓ)

theorem V_u (c : Dev nD) (g : Fin 10) (s : Fin 4096) (l : Fin 256) :
    V m c main_v2 (ix3 g s l) = m ((c : Thread nD τ).loc main_arg0) (ix3 (0 : Fin 1) s (⟨g.val * 256 + l.val, by omega⟩ : Fin 2560)) := by
  unfold V
  simp only [List.flatten_cons, List.flatten_nil, List.append_nil, hostOps0, List.cons_append, List.nil_append]
  after_results
  pointwise
  blk_ext

theorem V_kv (c : Dev nD) (g : Fin 2) (s : Fin 256) (l : Fin 256) :
    V m c main_v5 (ix3 g s l) = m ((c : Thread nD τ).loc main_arg1) (ix3 (0 : Fin 1) s (⟨g.val * 256 + l.val, by omega⟩ : Fin 512)) := by
  unfold V
  simp only [List.flatten_cons, List.flatten_nil, List.append_nil, hostOps0, List.cons_append, List.nil_append]
  after_results
  pointwise
  blk_ext

theorem V_tok (c : Dev nD) : V m c main_v6 = m ((c : Thread nD τ).loc main_arg2) := by
  unfold V
  simp only [List.flatten_cons, List.flatten_nil, List.append_nil, hostOps0, List.cons_append, List.nil_append]
  after_results
  rfl

theorem idx : ∀ t : Fin cfg0.N, win0_0.index t = ![9, t.val, 0] ∧ win0_1.index t = ![0, 0, 0] ∧ win0_2.index t = ![3, t.val, 0] :=
  (by decide +kernel : ∀ t : Fin grid0.N, _)

theorem iblk0 (c : Dev nD) (t : Fin cfg0.N) (s : Fin 1024) (l : Fin 256) :
    iblk m c 0 t (ix3 (0 : Fin 1) s l) = Soft.cols (m ((c : Thread nD τ).loc main_arg0)) 2304 (t.val * 1024 + s.val) l := by
  have h0 : t.val < 4 := t.isLt
  refine Eq.trans ?_ ((V_u m c 9 ⟨t.val * 1024 + s.val, by omega⟩ l).trans (at3_ix (m ((c : Thread nD τ).loc main_arg0)) _ _ _))
  blk_ext [iblk, (idx t).1]

theorem ld1 (c : Dev nD) (t : Fin cfg0.N) (g : Fin 2) (n l : Fin 256) :
    iblk m c 1 t (ix3 g n l) = Soft.cols (m ((c : Thread nD τ).loc main_arg1)) (g.val * 256) n.val l := by
  refine Eq.trans ?_ ((V_kv m c g n l).trans (at3_ix (m ((c : Thread nD τ).loc main_arg1)) _ _ _))
  blk_ext [iblk, (idx t).2.1]

/-- The attended memory of row `s`. -/
abbrev G (c : Dev nD) (s : ℕ) (l : Fin 256) : EReal :=
  Soft.out (Soft.cols (m ((c : Thread nD τ).loc main_arg0)) 2304 s) (fun n => Soft.cols (m ((c : Thread nD τ).loc main_arg1)) 0 n.val)
    (fun n => Soft.cols (m ((c : Thread nD τ).loc main_arg1)) 256 n.val) l

theorem out2 (c : Dev nD) (t : Fin cfg0.N) (s : Fin 1024) (l : Fin 256) : outsAt0 m c t (ix3 0 s l) = G m c (t.val * 1024 + s.val) l := by
  unfold outsAt0
  frame_out
  refine (body_at _ _ _ s l).trans ?_
  have e0 : Q (iblk m c 0 t) s = Soft.cols (m ((c : Thread nD τ).loc main_arg0)) 2304 (t.val * 1024 + s.val) := funext fun l => iblk0 m c t s l
  have e1 : M (View.ld (iblk m c 1 t) (Rect.unit ![0, 0, 0] ![1, 256, 256] inb_S2x256x256_S1x256x256_0_0_0))
      = fun n => Soft.cols (m ((c : Thread nD τ).loc main_arg1)) 0 n.val :=
    funext fun n => funext fun l => (congrArg (iblk m c 1 t) (XaValue.emb0 n l).symm).trans (ld1 m c t 0 n l)
  have e2 : M (View.ld (iblk m c 1 t) (Rect.unit ![1, 0, 0] ![1, 256, 256] inb_S2x256x256_S1x256x256_1_0_0))
      = fun n => Soft.cols (m ((c : Thread nD τ).loc main_arg1)) 256 n.val :=
    funext fun n => funext fun l => (congrArg (iblk m c 1 t) (XaValue.emb1 n l).symm).trans (ld1 m c t 1 n l)
  exact congrFun (by rw [e0, e1, e2]) l

/-- The mixer's buffer: its last group is written, the others keep what they held. -/
theorem w2 (c : Dev nD) : (dats m 0 c).arrAt 2 cfg0.N =
    (fun i => if 3 ≤ (i 0).val then G m c (i 1).val (i 2) else m ((c : Thread nD τ).loc main_arg2) i : S4x4096x256.Idx → EReal) := by
  rw [← V_tok m c]
  refine (dats m 0 c).arrAt_eq_of_coversWhere 2 (fun i => G m c (i 1).val (i 2) : S4x4096x256.Idx → EReal) (fun β => 3 ≤ β (0 : Fin _)) (by decide +kernel) (fun t hf y => ?_)
    (fun j => by show 3 ≤ (j (0 : Fin 3)).val ↔ 3 ≤ (j (0 : Fin 3)).val / 1; rw [Nat.div_one])
  blk_simp
  rw [after0_2]
  obtain ⟨s, l, rfl⟩ := eq_ix3_unit y
  refine (out2 m c t s l).trans ?_
  have h0 : t.val < 4 := t.isLt
  have e : (ix3 3 ⟨t.val * 1024 + s.val, by omega⟩ l : S4x4096x256.Idx) = ((cfg0.win 2).blk t).view.emb (ix3 0 s l) := by
    blk_ext [(idx t).2.2]
  have h2 : win0_2.index t 1 = t.val := by rw [(idx t).2.2]; rfl
  show G m c (t.val * 1024 + s.val) l = G m c (win0_2.index t 1 * 1024 + s.val) _
  rw [h2]
  exact congrArg (G m c _) (congrFun e 2)

end Cert.XfValue

end
-- ==== Proof.XfRef.lean ====
/-
  The cross-attention's forward lines, one stage after the other, over any arguments.
-/
module

public import proofs.«01_k».proof.Proof.Gen.Reference9Ideal.Read
public import proofs.«01_k».proof.Proof.XfValue

@[expose] public section

set_option maxRecDepth 200000

noncomputable section

namespace Cert.XfRef

open Idealize.ShloMosaic Idealize.ShloMosaic.TcCoe Idealize.ShloMosaic.Pipeline
open Cert.Reference9Ideal Cert.Reference9Ideal.Read
open Cert.Common Cert.Lift Cert.Soft
open scoped BigOperators

variable (U : (⟨S1x4096x2560, .f32⟩ : BufTy).Contents (Elt Ideal)) (M : (⟨S1x256x512, .f32⟩ : BufTy).Contents (Elt Ideal))
  (T : (⟨S4x4096x256, .bf16⟩ : BufTy).Contents (Elt Ideal))

abbrev q : ℕ → Fin 256 → EReal := Soft.cols U 2304
abbrev k (n : Fin 256) : Fin 256 → EReal := Soft.cols M 0 n.val
abbrev v (n : Fin 256) : Fin 256 → EReal := Soft.cols M 256 n.val

theorem cols_ix {b c : ℕ} (X : (⟨3, ![1, b, c]⟩ : Shape).Idx → EReal) (off : ℕ) (s : Fin b) (l : Fin 256) (i : Fin c) (hi : i.val = off + l.val) :
    X (ix3 0 s i) = Soft.cols X off s.val l := by
  rw [Soft.cols, ← hi]; exact at3_ix X 0 s i

theorem v8_at (h : Fin 4) (s : Fin 4096) (n : Fin 256) : val_main_v8 (F := Ideal) U M (ix4 0 h s n) = sc (q U s.val) (k M) h.val n := by
  unfold val_main_v8 val_main_v6 val_main_v7 val_main_cst val_main_v1 val_main_v0 val_main_v4 val_main_v2
  pointwise
  rw [sc, lanes_sum, ofBits_eighth]
  refine congrArg (· * _) (Finset.sum_congr rfl fun x _ => ?_)
  exact congrArg₂ (· * ·) (cols_ix U 2304 s (Attn.lane h x) _ rfl) (cols_ix M 0 n (Attn.lane h x) _ (Nat.zero_add _).symm)

theorem v11_at (h : Fin 4) (s : Fin 4096) : val_main_v11 (F := Ideal) U M (ix3 0 h s) = top (sc (q U s.val) (k M) h.val) := by
  have e8 := v8_at U M h s
  rw [val_main_v11_apply]
  unfold val_main_v9
  generalize val_main_v8 (F := Ideal) U M = y8 at e8 ⊢
  show max (Ideal.ofBits FTy.f32 4286578688#32) _ = _
  rw [ofBits_neg_inf]
  refine (max_eq_right bot_le).trans ?_
  pointwise
  simp only [e8]
  rfl

theorem v15_at (h : Fin 4) (s : Fin 4096) (n : Fin 256) :
    val_main_v15 (F := Ideal) U M (ix4 0 h s n) = Ideal.exp (sc (q U s.val) (k M) h.val n - top (sc (q U s.val) (k M) h.val)) := by
  have e : idx_main_v12 (idx_main_v13 (ix4 0 h s n)) = ix3 0 h s := by blk_ext
  rw [val_main_v15_apply, val_main_v14_apply, val_main_v13_apply, val_main_v12_apply, e, v8_at, v11_at]
  rfl

theorem v16_at (h : Fin 4) (s : Fin 4096) :
    val_main_v16 (F := Ideal) U M (ix3 0 h s) = ∑ n, Ideal.exp (sc (q U s.val) (k M) h.val n - top (sc (q U s.val) (k M) h.val)) := by
  have e := v15_at U M h s
  unfold val_main_v16 val_main_cst_2
  generalize val_main_v15 (F := Ideal) U M = y at e ⊢
  pointwise
  simp only [e]

theorem v19_at (h : Fin 4) (s : Fin 4096) (n : Fin 256) : val_main_v19 (F := Ideal) U M (ix4 0 h s n) = pr (q U s.val) (k M) h.val n := by
  have e : idx_main_v17 (idx_main_v18 (ix4 0 h s n)) = ix3 0 h s := by blk_ext
  rw [val_main_v19_apply, val_main_v18_apply, val_main_v17_apply, e, v15_at, v16_at]
  rfl

theorem v24_at (s : Fin 4096) (l : Fin 256) : val_main_v24 (F := Ideal) U M (ix3 0 s l) = out (q U s.val) (k M) (v M) l := by
  have e := v19_at U M ⟨l.val / 64, by omega⟩ s
  unfold val_main_v24 val_main_v22 val_main_v21 val_main_v20 val_main_v5 val_main_v3
  generalize val_main_v19 (F := Ideal) U M = y at e ⊢
  pointwise
  simp only [e, out]
  refine Finset.sum_congr rfl fun n _ => (EReal.mul_comm _ _).trans (congrArg (pr (q U s.val) (k M) (l.val / 64) n * ·) ?_)
  exact cols_ix M 256 n l _ rfl

theorem v25_at (a : Fin 4) (s : Fin 4096) (l : Fin 256) : val_main_v25 (F := Ideal) U M T (ix3 a s l) =
    if 3 ≤ a.val then out (q U s.val) (k M) (v M) l else T (ix3 a s l) := by
  have e := v24_at U M s l
  unfold val_main_v25 val_main_v23
  generalize val_main_v24 (F := Ideal) U M = y at e ⊢
  pointwise
  by_cases h : a.val < 3
  · exact (dif_pos h).trans (if_neg (by omega)).symm
  · refine (dif_neg h).trans (Eq.trans ?_ (if_pos (by omega)).symm)
    exact (congrArg (fun b => y (ix3 b s l)) (Subsingleton.elim _ _)).trans e

end Cert.XfRef

end
-- ==== Proof.XfClaim.lean ====
/-
  The cross-attention's forward pair: the kernel's array is that of the reference, whatever the arguments.
-/
module

public import proofs.«01_k».proof.Defs
public import proofs.«01_k».proof.Proof.Gen.Reference9Ideal.Run
public import proofs.«01_k».proof.Proof.XfValue
public import proofs.«01_k».proof.Proof.XfRef

@[expose] public section

noncomputable section

namespace Cert.XfClaim

open Idealize.ShloMosaic Idealize.ShloMosaic.TcCoe Idealize.SL.Sem
open Cert.Common Cert.XfRef

theorem algebraic : Cert.algebraic_Kernel9Ideal_Reference9Ideal := by
  pair_intro
  · run_from Cert.Kernel9Ideal.Value.run_blocks m g
  · run_from Cert.Reference9Ideal.Value.run m' g'
    refine (Cert.Reference9Ideal.Read.val_main_v25_eq _ _ _).trans ?_
    rw [(hagree c).2.2]
    refine Eq.trans (funext fun i => ?_) (Cert.XfValue.w2 m c).symm
    obtain ⟨a, s, l, rfl⟩ : ∃ a s l, i = ix3 a s l := ⟨_, _, _, eq_ix3 i⟩
    exact v25_at _ _ _ a s l

end Cert.XfClaim
end
-- ==== Proof.QfValue.lean ====
/-
  What the forward kernel of the queries' and keys' convolution leaves in its output array, at each index.
-/
module

public import proofs.«01_k».proof.Proof.Gen.Kernel10Ideal.Value
public import proofs.«01_k».proof.Proof.QkRef
public import proofs.«01_k».proof.Proof.ConvValue
public import proofs.«01_k».proof.Proof.Lift

@[expose] public section

set_option maxRecDepth 200000

noncomputable section

namespace Cert.QfValue

open Idealize.ShloMosaic Idealize.ShloMosaic.TcCoe Idealize.SL.Sem Idealize.ShloMosaic.Pipeline
open Cert.Kernel10Ideal Cert.Kernel10Ideal.Gen
open Cert.Common Cert.QkRef Cert.Lift
open Cert.ConvValue (rot_down)

section Body
variable (x0 : Vec Ideal S1x4096x256 .f32) (x1 : Vec Ideal S1x8x256 .f32)
variable (l : Fin 256) (A w : ℕ → EReal) (h0 : ∀ s : Fin 4096, x0 (ix3 0 s l) = A s.val)
  (h1 : ∀ k : Fin 8, k.val < 4 → x1 (ix3 0 k l) = w k.val)

include h0 h1 in
theorem pay2_at (s : Fin 4096) : k0_pay2 x0 x1 (ix2 s l) = pre A w s.val := by
  unfold_payloads
  pointwise
  have hr : ∀ (k : Fin 8), k.val < 4 → ∀ r : Fin 4096, x1 (ix3 0 k l) * x0 (ix3 0 r l) = w k.val * A r.val := fun k hk r => by rw [h0, h1 k hk]
  rw [rot_down 1 (by norm_num) s (fun r => x1 (ix3 0 2 l) * x0 (ix3 0 r l)) (fun r => w 2 * A r) (hr 2 (by decide)),
    rot_down 2 (by norm_num) s (fun r => x1 (ix3 0 1 l) * x0 (ix3 0 r l)) (fun r => w 1 * A r) (hr 1 (by decide)),
    rot_down 3 (by norm_num) s (fun r => x1 (ix3 0 0 l) * x0 (ix3 0 r l)) (fun r => w 0 * A r) (hr 0 (by decide)), hr 3 (by decide)]
  simp only [ConvValue.down_mul]
  unfold pre
  rw [mul_comm]
  show A s.val * w 3 + down 1 A s.val * w 2 + down 2 A s.val * w 1 + down 3 A s.val * w 0 = _
  abel

/-- The activated convolution. -/
def act (A w : ℕ → EReal) (s : ℕ) : EReal := pre A w s * sg A w s

include h0 h1 in
theorem pay1_at (s : Fin 4096) : k0_pay1 (k0_pay2 x0 x1) (k0_pay3 x0 x1) (ix3 0 s l) = act A w s.val := by
  have e := pay2_at x0 x1 l A w h0 h1 s
  unfold k0_pay1 k0_pay3
  generalize k0_pay2 (F := Ideal) x0 x1 = y at e ⊢
  pointwise
  rw [e]
  unfold act sg
  rw [← zero_sub]

end Body

/-- The padded lanes hold zeros. -/
theorem act_zero (w : ℕ → EReal) (hw : ∀ k, w k = 0) (f : ℕ → EReal) (s : ℕ) : act f w s = 0 := by
  have : pre f w s = 0 := by unfold pre; simp [hw]
  unfold act
  rw [this, zero_mul]

/-! ## The arrays the kernel is called on -/

variable (m : (ℓ : Loc nD τ sig) → Buf (Elt Ideal) ℓ)

theorem sitofp_zero : FloatOps.sitofp (F := Ideal) FTy.f32 0#32 = (0 : EReal) := by
  simp [FloatOps.sitofp]

theorem V_w (c : Dev nD) (g : Fin 8) (s : Fin 8) (h : s.val < 4) (l : Fin 256) :
    V m c main_v26 (ix3 g s l) = if l.val < 192 then at2 (m ((c : Thread nD τ).loc main_arg1)) s.val (g.val * 192 + l.val) else 0 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, List.cons_append, List.nil_append]
  after_results
  simp only [StableHlo.TRef.toBuf, StableHlo.TRef.ofBuf, cast_eq]
  pointwise
  simp only [sitofp_zero, at2_ix]
  rw [dif_pos h]
  by_cases hl : l.val < 192
  · rw [dif_pos ⟨h, hl⟩, if_pos hl]
  · rw [dif_neg (fun h => hl h.2), if_neg hl]

theorem V_u (c : Dev nD) (g : Fin 18) (hg : g.val < 8) (s : Fin 4096) (l : Fin 256) :
    V m c main_v22 (ix3 g s l) = if l.val < 192 then at3 (m ((c : Thread nD τ).loc main_arg0)) 0 s.val (g.val * 192 + l.val) else 0 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, List.cons_append, List.nil_append]
  after_results
  simp only [StableHlo.TRef.toBuf, StableHlo.TRef.ofBuf, cast_eq]
  pointwise
  simp only [↓ StableHlo.readResult]
  pointwise
  simp only [↓ StableHlo.readResult, StableHlo.TRef.toBuf, StableHlo.TRef.ofBuf, cast_eq]
  by_cases h4 : g.val < 4
  · refine (dif_pos h4).trans ?_
    pointwise
    simp only [sitofp_zero, at3_ix]
    by_cases hl : l.val < 192
    · rw [dif_pos ⟨h4, hl⟩, if_pos hl]; rfl
    · rw [dif_neg (fun h => hl h.2), if_neg hl]
  · refine (dif_neg h4).trans ((dif_pos (show g.val - 4 < 4 by omega)).trans ?_)
    pointwise
    simp only [sitofp_zero, at3_ix]
    by_cases hl : l.val < 192
    · rw [dif_pos (⟨by omega, hl⟩ : g.val - 4 < 4 ∧ l.val < 192), if_pos hl, show 768 + ((g.val - 4) * 192 + l.val) = g.val * 192 + l.val by omega]; rfl
    · rw [dif_neg (fun h => hl h.2), if_neg hl]

theorem idx : ∀ t : Fin cfg0.N,
    win0_0.index t = ![(grid0.coords t 0).val, 0, 0] ∧ win0_1.index t = ![(grid0.coords t 0).val, 0, 0] ∧
    win0_2.index t = ![(grid0.coords t 0).val, 0, 0] :=
  (by decide +kernel : ∀ t : Fin grid0.N, _)

/-- Lane `n` of group `g` of the projected input and of the taps. -/
def kU (c : Dev nD) (g n s : ℕ) : EReal := if n < 192 then at3 (m ((c : Thread nD τ).loc main_arg0)) 0 s (g * 192 + n) else 0
def kW (c : Dev nD) (g n k : ℕ) : EReal := if n < 192 then at2 (m ((c : Thread nD τ).loc main_arg1)) k (g * 192 + n) else 0

theorem iblk0 (c : Dev nD) (t : Fin cfg0.N) (s : Fin 4096) (l : Fin 256) :
    iblk m c 0 t (ix3 (0 : Fin 1) s l) = kU m c (grid0.coords t 0).val l.val s.val := by
  have h0 : (grid0.coords t 0).val < 8 := (grid0.coords t 0).isLt
  refine Eq.trans ?_ (V_u m c ⟨(grid0.coords t 0).val, by omega⟩ h0 s l)
  blk_ext [iblk, (idx t).1]

theorem iblk1 (c : Dev nD) (t : Fin cfg0.N) (k : Fin 8) (hk : k.val < 4) (l : Fin 256) :
    iblk m c 1 t (ix3 (0 : Fin 1) k l) = kW m c (grid0.coords t 0).val l.val k.val := by
  have h0 : (grid0.coords t 0).val < 8 := (grid0.coords t 0).isLt
  refine Eq.trans ?_ (V_w m c ⟨(grid0.coords t 0).val, by omega⟩ k hk l)
  blk_ext [iblk, (idx t).2.1]

theorem out2 (c : Dev nD) (t : Fin cfg0.N) (y : S1x4096x256.Idx) : (dats m 0 c).after 2 t y =
    k0_pay1 (k0_pay2 (iblk m c 0 t) (iblk m c 1 t)) (k0_pay3 (iblk m c 0 t) (iblk m c 1 t)) y := by
  rw [after0_2]
  unfold out0_2
  frame_out

theorem w2 (c : Dev nD) : (dats m 0 c).arrAt 2 cfg0.N =
    (fun i => act (kU m c (i 0).val (i 2).val) (kW m c (i 0).val (i 2).val) (i 1).val : S8x4096x256.Idx → EReal) := by
  refine (dats m 0 c).arrAt_eq_of_covers 2 _ (by decide +kernel) fun t hf y => ?_
  blk_simp
  obtain ⟨s, l, rfl⟩ := eq_ix3_unit y
  refine (out2 m c t _).trans ((pay1_at _ _ l _ _ (fun s => iblk0 m c t s l) (fun k hk => iblk1 m c t k hk l) s).trans ?_)
  have e1 : win0_2.index t 1 * 4096 + s.val = s.val := by rw [(idx t).2.2]; simp
  have e2 : win0_2.index t 2 * 256 + l.val = l.val := by rw [(idx t).2.2]; simp
  have e0 : win0_2.index t 0 = (grid0.coords t 0).val := by rw [(idx t).2.2]; rfl
  show _ = act (kU m c (win0_2.index t 0) (win0_2.index t 2 * 256 + l.val)) (kW m c (win0_2.index t 0) (win0_2.index t 2 * 256 + l.val)) (win0_2.index t 1 * 4096 + s.val)
  rw [e0, e1, e2]

end Cert.QfValue
end
-- ==== Proof.QfClaim.lean ====
/-
  The pair of the queries' and keys' convolution, forward: the kernel's array is that of the reference, whatever the arguments.
-/
module

public import proofs.«01_k».proof.Defs
public import proofs.«01_k».proof.Proof.Gen.Reference10Ideal.Run
public import proofs.«01_k».proof.Proof.Gen.Reference10Ideal.Read
public import proofs.«01_k».proof.Proof.QfValue

@[expose] public section

set_option maxRecDepth 65536

noncomputable section

namespace Cert.QfClaim

open Idealize.ShloMosaic Idealize.ShloMosaic.TcCoe Idealize.SL.Sem
open Cert.Common Cert.QkRef Cert.QfValue
open Cert.Reference10Ideal Cert.Reference10Ideal.Gen Cert.Reference10Ideal.Read

variable (x0 : S1x4096x3336.Idx → EReal) (x1 : S4x1536.Idx → EReal)

theorem v29_at (s : Fin 4096) (j : Fin 1536) : val_main_v29 (F := Ideal) x0 x1 (ix3 0 s j) = pre (cU x0 j.val) (cW x1 j.val) s.val :=
  QkRef.v30_at x0 x1 s j

theorem v34_at (a : Fin 8) (s : Fin 4096) (l : Fin 256) : val_main_v34 (F := Ideal) x0 x1 (ix3 a s l) =
    if l.val < 192 then act (cU x0 (a.val * 192 + l.val)) (cW x1 (a.val * 192 + l.val)) s.val else 0 := by
  have e := v29_at x0 x1
  unfold val_main_v34 val_main_call1_v0 val_main_c val_main_v33 val_main_v32 val_main_v31 val_main_v30 val_main_call0_v5 val_main_call0_v4 val_main_call0_cst_0 val_main_call0_v3 val_main_call0_v2 val_main_call0_cst val_main_call0_v1 val_main_call0_v0
  generalize val_main_v29 (F := Ideal) x0 x1 = y at e ⊢
  pointwise
  simp only [e, QfValue.sitofp_zero]
  by_cases h : l.val < 192
  · rw [if_pos h]
    refine (dif_pos h).trans ?_
    rfl
  · rw [if_neg h]
    exact dif_neg h

theorem algebraic : Cert.algebraic_Kernel10Ideal_Reference10Ideal := by
  pair_intro
  · run_from Cert.Kernel10Ideal.Value.run_blocks m g
  · run_from Cert.Reference10Ideal.Value.run m' g'
    refine (Cert.Reference10Ideal.Read.val_main_v34_eq m' c).trans ?_
    rw [(hagree c).1, (hagree c).2]
    refine Eq.trans (funext fun i => ?_) (w2 m c).symm
    obtain ⟨a, s, l, rfl⟩ : ∃ a s l, i = ix3 a s l := ⟨_, _, _, eq_ix3 i⟩
    refine (v34_at _ _ a s l).trans ?_
    show _ = act (kU m c a.val l.val) (kW m c a.val l.val) s.val
    by_cases hl : l.val < 192
    · unfold kU kW
      simp only [if_pos hl]
    · rw [if_neg hl]
      exact (act_zero _ (fun k => if_neg hl) _ _).symm

end Cert.QfClaim
end
-- ==== Proof.CfValue.lean ====
/-
  What the forward kernel of the gated short convolution leaves in the groups of columns it writes, at each index.
-/
module

public import proofs.«01_k».proof.Proof.Gen.Kernel11Ideal.Value
public import proofs.«01_k».proof.Proof.ConvValue

@[expose] public section

set_option maxRecDepth 200000

noncomputable section

namespace Cert.CfValue

open Idealize.ShloMosaic Idealize.ShloMosaic.TcCoe Idealize.SL.Sem Idealize.ShloMosaic.Pipeline
open Cert.Kernel11Ideal Cert.Kernel11Ideal.Gen
open Cert.Common Cert.ConvRef

variable (m : (ℓ : Loc nD τ sig) → Buf (Elt Ideal) ℓ)

/-- The gated convolution of one column at row `s`, over the projected input and the taps at natural-number coordinates. -/
def mixed (U W : ℕ → ℕ → EReal) (s j : ℕ) : EReal :=
  U s j * (P U s j * W 2 j + down 2 (fun r => P U r j) s * W 0 j + down 1 (fun r => P U r j) s * W 1 j)

/-! ## The arrays the kernel is called on -/

theorem V_u (c : Dev nD) (g : Fin 10) (s : Fin 4096) (l : Fin 256) :
    V m c main_v2 (ix3 g s l) = m ((c : Thread nD τ).loc main_arg0) (ix3 (0 : Fin 1) s (⟨g.val * 256 + l.val, by omega⟩ : Fin 2560)) := by
  unfold V
  simp only [List.flatten_cons, List.flatten_nil, List.append_nil, hostOps0, hostOps0_1, hostOps0_2, hostOps0_3, List.cons_append, List.nil_append]
  after_results
  pointwise
  blk_ext

theorem V_w (c : Dev nD) (g : Fin 3) (s : Fin 8) (h : s.val < 3) (l : Fin 256) :
    V m c main_v6 (ix3 g s l) = m ((c : Thread nD τ).loc main_arg1) (ix2 (⟨s.val, h⟩ : Fin 3) (⟨g.val * 256 + l.val, by omega⟩ : Fin 768)) := by
  unfold V
  simp only [List.flatten_cons, List.flatten_nil, List.append_nil, hostOps0, hostOps0_1, hostOps0_2, hostOps0_3, List.cons_append, List.nil_append]
  after_results
  simp only [StableHlo.TRef.toBuf, StableHlo.TRef.ofBuf, cast_eq]
  pointwise
  rw [dif_pos h, dif_pos h]

/-! ## The blocks of a grid point -/

theorem idx : ∀ t : Fin cfg0.N,
    win0_0.index t = ![t.val, 0, 0] ∧ win0_1.index t = ![t.val + 3, 0, 0] ∧ win0_2.index t = ![t.val + 6, 0, 0] ∧
    win0_3.index t = ![t.val, 0, 0] ∧ win0_4.index t = ![t.val, 0, 0] :=
  (by decide +kernel : ∀ t : Fin grid0.N, _)

/-- The projected input and the taps, at natural-number coordinates. -/
abbrev U (c : Dev nD) : ℕ → ℕ → EReal := at3 (m ((c : Thread nD τ).loc main_arg0)) 0
abbrev W (c : Dev nD) : ℕ → ℕ → EReal := at2 (m ((c : Thread nD τ).loc main_arg1))

theorem iblk0 (c : Dev nD) (t : Fin cfg0.N) (s : Fin 4096) (l : Fin 256) :
    iblk m c 0 t (ix3 (0 : Fin 1) s l) = U m c s.val (t.val * 256 + l.val) := by
  have h0 : t.val < 3 := t.isLt
  refine Eq.trans ?_ ((V_u m c ⟨t.val, by omega⟩ s l).trans (at3_ix (m ((c : Thread nD τ).loc main_arg0)) _ _ _))
  blk_ext [iblk, (idx t).1]

theorem iblk1 (c : Dev nD) (t : Fin cfg0.N) (s : Fin 4096) (l : Fin 256) :
    iblk m c 1 t (ix3 (0 : Fin 1) s l) = U m c s.val (768 + (t.val * 256 + l.val)) := by
  have h0 : t.val < 3 := t.isLt
  refine Eq.trans ?_ ((V_u m c ⟨t.val + 3, by omega⟩ s l).trans ((at3_ix (m ((c : Thread nD τ).loc main_arg0)) _ _ _).trans ?_))
  · blk_ext [iblk, (idx t).2.1]
  · exact congrArg (U m c s.val) (by show (t.val + 3) * 256 + l.val = 768 + (t.val * 256 + l.val); omega)

theorem iblk2 (c : Dev nD) (t : Fin cfg0.N) (s : Fin 4096) (l : Fin 256) :
    iblk m c 2 t (ix3 (0 : Fin 1) s l) = U m c s.val (1536 + (t.val * 256 + l.val)) := by
  have h0 : t.val < 3 := t.isLt
  refine Eq.trans ?_ ((V_u m c ⟨t.val + 6, by omega⟩ s l).trans ((at3_ix (m ((c : Thread nD τ).loc main_arg0)) _ _ _).trans ?_))
  · blk_ext [iblk, (idx t).2.2.1]
  · exact congrArg (U m c s.val) (by show (t.val + 6) * 256 + l.val = 1536 + (t.val * 256 + l.val); omega)

theorem iblk3 (c : Dev nD) (t : Fin cfg0.N) (k : Fin 8) (hk : k.val < 3) (l : Fin 256) :
    iblk m c 3 t (ix3 (0 : Fin 1) k l) = W m c k.val (t.val * 256 + l.val) := by
  have h0 : t.val < 3 := t.isLt
  refine Eq.trans ?_ ((V_w m c ⟨t.val, h0⟩ k hk l).trans (at2_ix (m ((c : Thread nD τ).loc main_arg1)) _ _))
  blk_ext [iblk, (idx t).2.2.2.1]

/-! ## What the body computes of its blocks -/

section Body
variable (x0 x1 x2 : Vec Ideal S1x4096x256 .f32) (x3 : Vec Ideal S1x8x256 .f32)

theorem pay1_at (l : Fin 256) (A B C w : ℕ → EReal) (h0 : ∀ s : Fin 4096, x0 (ix3 0 s l) = A s.val)
    (h1 : ∀ s : Fin 4096, x1 (ix3 0 s l) = B s.val) (h2 : ∀ s : Fin 4096, x2 (ix3 0 s l) = C s.val)
    (h3 : ∀ k : Fin 8, k.val < 3 → x3 (ix3 0 k l) = w k.val) (s : Fin 4096) : k0_pay1 x1 x2 x3 x0 (ix3 0 s l) =
    A s.val * (B s.val * C s.val * w 2 + down 2 (fun r => B r * C r) s.val * w 0 + down 1 (fun r => B r * C r) s.val * w 1) := by
  have hp : ∀ s : Fin 4096, x1 (ix3 0 s l) * x2 (ix3 0 s l) = B s.val * C s.val := fun s => by rw [h1, h2]
  unfold k0_pay1
  pointwise
  have hr : ∀ (k : Fin 8), k.val < 3 → ∀ r : Fin 4096, x3 (ix3 0 k l) * (x1 (ix3 0 r l) * x2 (ix3 0 r l)) = w k.val * (B r.val * C r.val) :=
    fun k hk r => by rw [hp, h3 k hk]
  rw [ConvValue.rot_down 1 (by norm_num) s (fun r => x3 (ix3 0 1 l) * (x1 (ix3 0 r l) * x2 (ix3 0 r l))) (fun r => w 1 * (B r * C r)) (hr 1 (by decide)),
    ConvValue.rot_down 2 (by norm_num) s (fun r => x3 (ix3 0 0 l) * (x1 (ix3 0 r l) * x2 (ix3 0 r l))) (fun r => w 0 * (B r * C r)) (hr 0 (by decide)),
    h0, hr 2 (by decide)]
  simp only [ConvValue.down_mul]
  rw [mul_comm (w _), add_right_comm]
  rfl

end Body

/-! ## The result -/

/-- The groups of columns, each the gated convolution of its own. -/
def groups (c : Dev nD) : S4x4096x256.Idx → EReal := fun i => mixed (U m c) (W m c) (i 1).val ((i 0).val * 256 + (i 2).val)

theorem out4 (c : Dev nD) (t : Fin cfg0.N) (s : Fin 4096) (l : Fin 256) :
    (dats m 0 c).after 4 t (ix3 (0 : Fin 1) s l) = groups m c (ix3 (⟨t.val, by have : t.val < 3 := t.isLt; omega⟩ : Fin 4) s l) := by
  rw [after0_4]
  unfold out0_4
  frame_out
  exact pay1_at _ _ _ _ l (fun s => U m c s (t.val * 256 + l.val)) (fun s => U m c s (768 + (t.val * 256 + l.val))) (fun s => U m c s (1536 + (t.val * 256 + l.val)))
    (fun k => W m c k (t.val * 256 + l.val)) (fun s => iblk0 m c t s l) (fun s => iblk1 m c t s l) (fun s => iblk2 m c t s l) (fun k hk => iblk3 m c t k hk l) s

theorem w4 (c : Dev nD) (a : Fin 4) (h : a.val < 3) (s : Fin 4096) (l : Fin 256) :
    (dats m 0 c).arrAt 4 cfg0.N (ix3 a s l) = mixed (U m c) (W m c) s.val (a.val * 256 + l.val) := by
  have e : (dats m 0 c).arrAt 4 cfg0.N = fun i : S4x4096x256.Idx => if (i 0).val < 3 then groups m c i else (dats m 0 c).A 4 i := by
    refine (dats m 0 c).arrAt_eq_of_coversWhere 4 (P := fun i : S4x4096x256.Idx => (i 0).val < 3) (groups m c : S4x4096x256.Idx → EReal)
      (fun β => β (0 : Fin _) < 3) (by decide +kernel) (fun t hf y => ?_) (fun j => ?_)
    swap
    · have e : ((j 0).val / 1 < 3) = ((j 0).val < 3) := by rw [Nat.div_one]
      exact Iff.of_eq e.symm
    blk_simp
    obtain ⟨s, l, rfl⟩ := eq_ix3_unit y
    refine (out4 m c t s l).trans (congrArg (groups m c) ?_)
    blk_ext [(idx t).2.2.2.2]
  rw [e]
  exact if_pos h

end Cert.CfValue
end
-- ==== Proof.CfClaim.lean ====
/-
  The pair of the gated short convolution's forward call: the two programs agree on the groups of columns the kernel writes.
-/
module

public import proofs.«01_k».proof.Defs
public import proofs.«01_k».proof.Proof.CfValue
public import proofs.«01_k».proof.Proof.Gen.Reference11Ideal.Read

@[expose] public section

set_option maxRecDepth 200000

noncomputable section

namespace Cert.CfClaim

open Idealize.ShloMosaic Idealize.ShloMosaic.TcCoe Idealize.SL.Sem
open Cert.Common Cert.ConvRef Cert.CfValue
open Cert.Reference11Ideal Cert.Reference11Ideal.Gen Cert.Reference11Ideal.Read

theorem mask_facts : Cert.On_result_mask11.Facts := ⟨by decide⟩

attribute [local instance] mask_facts

variable (x0 : S1x4096x2560.Idx → EReal) (x1 : S3x768.Idx → EReal)

theorem v6_at (s : Fin 4098) (j : Fin 768) :
    val_main_v6 (F := Ideal) x0 (ix3 0 s j) = down 2 (fun r => P (at3 x0 0) r j.val) s.val := ConvRef.v6_at x0 s j

theorem v27_at (s : Fin 4096) (j : Fin 768) : val_main_v27 (F := Ideal) x0 x1 (ix3 0 s j) = mixed (at3 x0 0) (at2 x1) s.val j.val := by
  have e := v6_at x0
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v1 val_main_v0
  generalize val_main_v6 (F := Ideal) _ = y at e ⊢
  pointwise
  simp only [e, at2_ix x1, at3_ix x0, down_down 2 _ _ le_rfl, down_down 1 _ _ (by norm_num : 1 ≤ 2)]
  rfl

theorem v32_at (a : Fin 4) (h : a.val < 3) (s : Fin 4096) (l : Fin 256) :
    val_main_v32 (F := Ideal) x0 x1 (ix3 a s l) = mixed (at3 x0 0) (at2 x1) s.val (a.val * 256 + l.val) := by
  have e := v27_at x0 x1
  unfold val_main_v32 val_main_v31 val_main_v30 val_main_v29 val_main_v28
  generalize val_main_v27 (F := Ideal) _ _ = y at e ⊢
  pointwise
  simp only [e]
  exact dif_pos h

/-- The mask holds on groups 0 to 2 alone. -/
theorem mask_group (a : Fin 4) (s : Fin 4096) (l : Fin 256) (h : Cert.On_result_mask11.fn (F := Ideal) x0 x1 (ix3 a s l) = 1#1) : a.val < 3 := by
  have h2 : ∀ a : Fin 4, IntOp.cmpi .slt (BitVec.ofNat 32 a.val) 3#32 = 1#1 → a.val < 3 := by decide
  exact h2 a h

open Cert.Kernel11Ideal.Gen in
theorem algebraic : Cert.algebraic_Kernel11Ideal_Reference11Ideal_on_result_mask11 := by
  intro m g m' g' _ hagree
  refine ⟨fun c => (dats m 0 c).arrAt 4 Cert.Kernel11Ideal.cfg0.N,
    (θ_run _ _ _).mono (fun r h c => ?_) (Cert.Kernel11Ideal.Value.run_blocks m g), (θ_run _ _ _).mono (fun r h c => ?_) (Cert.Reference11Ideal.Value.run m' g')⟩
  · obtain ⟨h0, h1⟩ := h c
    exact ⟨fun i _ => congrFun h0 i, h1⟩
  · obtain ⟨h0, h1⟩ := h c
    obtain ⟨a0, a1⟩ := hagree c
    refine ⟨fun i hi => ?_, h1⟩
    refine (congrFun (h0.trans (Cert.Reference11Ideal.Read.val_main_v32_eq _ _)) i).trans ?_
    rw [a0, a1]
    obtain ⟨a, s, l, rfl⟩ : ∃ a s l, i = ix3 a s l := ⟨_, _, _, eq_ix3 i⟩
    have ha := mask_group _ _ a s l hi
    exact (v32_at _ _ a ha s l).trans (w4 m c a ha s l).symm

end Cert.CfClaim
end
-- ==== Proof.HfValue.lean ====
/-
  What the forward kernel of the memory heads' output norm leaves in the groups of columns it writes, for finite arguments.
-/
module

public import proofs.«01_k».proof.Proof.Gen.Kernel12Ideal.Value
public import proofs.«01_k».proof.Proof.HnValue

@[expose] public section

set_option maxRecDepth 200000

noncomputable section

namespace Cert.HfValue

open Idealize.ShloMosaic Idealize.ShloMosaic.TcCoe Idealize.SL.Sem Idealize.ShloMosaic.Pipeline
open Cert.Kernel12Ideal Cert.Kernel12Ideal.Gen
open Cert.Common Cert.Lift Cert.Hn
open Cert.Ln (eps)
open Cert.HnValue (sitofp_zero)

variable (m : (ℓ : Loc nD τ sig) → Buf (Elt Ideal) ℓ)

/-- The normalised, scaled row of one head under its gate. -/
def gated (H : (⟨4, ![1, 4096, 4, 192]⟩ : Shape).Idx → ℝ) (U : (⟨3, ![1, 4096, 3336]⟩ : Shape).Idx → ℝ) (G : (⟨2, ![4, 192]⟩ : Shape).Idx → ℝ)
    (s : Fin 4096) (a : Fin 4) (j : Fin 192) : ℝ :=
  lg (ogate U s (a.val * 192 + j.val)) * (Ln.xh 192 eps (zr H s a) j * G (ix2 a j))

/-! ## The arrays the kernel is called on -/

theorem V_h (c : Dev nD) (a : Fin 4) (s : Fin 4096) (l : Fin 256) :
    V m c main_v3 (ix3 a s l) = if h : l.val < 192 then m ((c : Thread nD τ).loc main_arg0) (ix4 (0 : Fin 1) s a ⟨l.val, h⟩) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, List.cons_append, List.nil_append]
  after_results
  simp only [StableHlo.TRef.toBuf, StableHlo.TRef.ofBuf, cast_eq]
  pointwise
  simp only [sitofp_zero]

theorem V_g (c : Dev nD) (a : Fin 4) (l : Fin 256) :
    V m c main_v28 (ix3 a 0 l) = if h : l.val < 192 then m ((c : Thread nD τ).loc main_arg2) (ix2 a ⟨l.val, h⟩) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, List.cons_append, List.nil_append]
  after_results
  simp only [StableHlo.TRef.toBuf, StableHlo.TRef.ofBuf, cast_eq]
  pointwise
  simp only [sitofp_zero]

theorem V_u (c : Dev nD) (g : Fin 18) (b : Fin 4) (hb : g.val = 12 + b.val) (s : Fin 4096) (l : Fin 256) :
    V m c main_v26 (ix3 g s l) = if l.val < 192 then at3 (m ((c : Thread nD τ).loc main_arg1)) 0 s.val (2304 + (b.val * 192 + l.val)) else (0 : EReal) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, List.cons_append, List.nil_append]
  after_results
  simp only [StableHlo.TRef.toBuf, StableHlo.TRef.ofBuf, cast_eq]
  pointwise
  simp only [↓ StableHlo.readResult]
  pointwise
  simp only [↓ StableHlo.readResult, StableHlo.TRef.toBuf, StableHlo.TRef.ofBuf, cast_eq]
  refine (dif_neg (show ¬ g.val < 4 by omega)).trans ((dif_neg (show ¬ g.val - 4 < 4 by omega)).trans
    ((dif_neg (show ¬ g.val - 4 - 4 < 4 by omega)).trans ((dif_pos (show g.val - 4 - 4 - 4 < 4 by omega)).trans ?_)))
  pointwise
  simp only [sitofp_zero, at3_ix]
  by_cases hl : l.val < 192
  · rw [dif_pos (⟨by omega, hl⟩ : g.val - 4 - 4 - 4 < 4 ∧ l.val < 192), if_pos hl, show g.val - 4 - 4 - 4 = b.val by omega]; rfl
  · rw [dif_neg (fun h => hl h.2), if_neg hl]

/-! ## What the body computes of its blocks -/

section Block
variable {x o : Vec Ideal S1x2048x256 .f32} {g : Vec Ideal S1x1x256 .f32} {Z O : Fin 2048 → Fin 192 → ℝ} {G : Fin 192 → ℝ}

/-- The body's value over the normalised row and the logistic function of the gate. -/
theorem pay2_eq : k0_pay2 x g o = truncf .bf16 (mulf (Cert.Kernel6Ideal.Gen.k0_pay10 (Cert.Kernel6Ideal.Gen.k0_pay8 o) Cert.Kernel6Ideal.Gen.k0_pay9)
    (mulf (Cert.Kernel6Ideal.Gen.k0_pay6 x) (broadcastTo S2048x256 (Cert.Kernel6Ideal.Gen.k0_pay7 g) Facts₀.broadcasts_S1x256_S2048x256))) Facts₀.bitsLt_bf16_f32 := rfl

theorem pay1_at (hz : ∀ s l, x (ix3 0 s l) = (lanes (Z s) l.val : EReal)) (ho : ∀ s l, o (ix3 0 s l) = (lanes (O s) l.val : EReal))
    (hg : ∀ l, g (ix3 0 0 l) = (lanes G l.val : EReal)) (s : Fin 2048) (l : Fin 256) : k0_pay1 (k0_pay2 x g o) (ix3 0 s l)
    = (lanes (fun j => lg (O s j) * (Ln.xh 192 eps (Z s) j * G j)) l.val : EReal) := by
  have e := HnValue.pay10_at ho
  have e2 := HnValue.pay6_at hz
  rw [pay2_eq]
  unfold k0_pay1 Cert.Kernel6Ideal.Gen.k0_pay7
  generalize Cert.Kernel6Ideal.Gen.k0_pay10 (F := Ideal) _ _ = y at e ⊢
  generalize Cert.Kernel6Ideal.Gen.k0_pay6 (F := Ideal) _ = w at e2 ⊢
  pointwise
  simp only [e, e2, hg, coe_mul]
  unfold lanes
  split_ifs
  · rfl
  · simp

end Block

/-! ## The blocks -/

theorem idx : ∀ t : Fin cfg0.N, win0_0.index t = ![t.val / 2, t.val % 2, 0] ∧ win0_1.index t = ![12 + t.val / 2, t.val % 2, 0] ∧ win0_2.index t = ![t.val / 2, 0, 0]
    ∧ win0_3.index t = ![t.val / 2, t.val % 2, 0] :=
  (by decide +kernel : ∀ t : Fin grid0.N, _)

/-- The row of the whole array that row `s` of grid point `t`'s block is. -/
def row (t : Fin cfg0.N) (s : Fin 2048) : Fin 4096 := ⟨t.val % 2 * 2048 + s.val, by omega⟩
/-- The head of grid point `t`. -/
def hd (t : Fin cfg0.N) : Fin 4 := ⟨t.val / 2, by have : t.val < 8 := t.isLt; omega⟩

variable {H : S1x4096x4x192.Idx → ℝ} {U : S1x4096x3336.Idx → ℝ} {G : S4x192.Idx → ℝ} {c : Dev nD}
  (hH : m ((c : Thread nD τ).loc main_arg0) = fun i => (H i : EReal)) (hU : m ((c : Thread nD τ).loc main_arg1) = fun i => (U i : EReal))
  (hG : m ((c : Thread nD τ).loc main_arg2) = fun i => (G i : EReal))

include hH in
theorem b0 (t : Fin cfg0.N) (s : Fin 2048) (l : Fin 256) : iblk m c 0 t (ix3 0 s l) = (lanes (zr H (row t s) (hd t)) l.val : EReal) := by
  have e : iblk m c 0 t (ix3 0 s l) = V m c main_v3 (ix3 (hd t) (row t s) l) := by
    blk_ext [iblk, (idx t).1, row, hd]
  rw [e, V_h, hH]
  unfold lanes
  split_ifs <;> rfl

include hU in
theorem b1 (t : Fin cfg0.N) (s : Fin 2048) (l : Fin 256) :
    iblk m c 1 t (ix3 0 s l) = (lanes (fun j => ogate U (row t s) ((hd t).val * 192 + j.val)) l.val : EReal) := by
  have e : iblk m c 1 t (ix3 0 s l) = V m c main_v26 (ix3 ⟨12 + (hd t).val, by omega⟩ (row t s) l) := by
    blk_ext [iblk, (idx t).2.1, row, hd]
  rw [e, V_u m c _ (hd t) rfl, hU, at3_coe, coe_ite]
  unfold lanes
  split_ifs <;> rfl

include hG in
theorem b2 (t : Fin cfg0.N) (l : Fin 256) : iblk m c 2 t (ix3 0 0 l) = (lanes (fun j => G (ix2 (hd t) j)) l.val : EReal) := by
  have e : iblk m c 2 t (ix3 0 0 l) = V m c main_v28 (ix3 (hd t) 0 l) := by
    blk_ext [iblk, (idx t).2.2.1, hd]
  rw [e, V_g, hG]
  unfold lanes
  split_ifs <;> rfl

/-! ## The result -/

/-- The heads' groups of columns. -/
def groups (H : S1x4096x4x192.Idx → ℝ) (U : S1x4096x3336.Idx → ℝ) (G : S4x192.Idx → ℝ) : S5x4096x256.Idx → EReal :=
  fun i => if h : (i 0).val < 4 then (lanes (gated H U G (i 1) ⟨(i 0).val, h⟩) (i 2).val : EReal) else 0

theorem groups_at (a : Fin 5) (b : Fin 4) (hb : a.val = b.val) (s : Fin 4096) (l : Fin 256) :
    groups H U G (ix3 a s l) = (lanes (gated H U G s b) l.val : EReal) := by
  have h : a.val < 4 := by omega
  obtain rfl : b = ⟨a.val, h⟩ := Fin.ext hb.symm
  unfold groups
  exact dif_pos h

include hH hU hG in
theorem out3 (t : Fin cfg0.N) (s : Fin 2048) (l : Fin 256) :
    (dats m 0 c).after 3 t (ix3 (0 : Fin 1) s l) = groups H U G (ix3 (⟨(hd t).val, by omega⟩ : Fin 5) (row t s) l) := by
  rw [after0_3]
  unfold out0_3
  frame_out
  exact (pay1_at (b0 m hH t) (b1 m hU t) (b2 m hG t) s l).trans (groups_at (H := H) (U := U) (G := G) _ (hd t) rfl (row t s) l).symm

include hH hU hG in
theorem w3 (a : Fin 5) (b : Fin 4) (hb : a.val = b.val) (s : Fin 4096) (l : Fin 256) :
    (dats m 0 c).arrAt 3 cfg0.N (ix3 a s l) = (lanes (gated H U G s b) l.val : EReal) := by
  have e : (dats m 0 c).arrAt 3 cfg0.N = fun i : S5x4096x256.Idx => if (i 0).val < 4 then groups H U G i else (dats m 0 c).A 3 i := by
    refine (dats m 0 c).arrAt_eq_of_coversWhere 3 (P := fun i : S5x4096x256.Idx => (i 0).val < 4) (groups H U G : S5x4096x256.Idx → EReal)
      (fun β => β (0 : Fin _) < 4) (by decide +kernel) (fun t hf y => ?_) (fun j => ?_)
    swap
    · have e : ((j 0).val / 1 < 4) = ((j 0).val < 4) := by rw [Nat.div_one]
      exact Iff.of_eq e.symm
    blk_simp
    obtain ⟨s, l, rfl⟩ := eq_ix3_unit y
    refine (out3 m hH hU hG t s l).trans (congrArg (groups H U G) ?_)
    blk_ext [(idx t).2.2.2, row, hd]
  rw [e]
  exact (if_pos (show a.val < 4 by omega)).trans (groups_at a b hb s l)

end Cert.HfValue
end
-- ==== Proof.HfClaim.lean ====
/-
  The pair of the forward output norm of the memory heads: for finite arguments the two programs agree on the groups of columns the kernel writes.
-/
module

public import proofs.«01_k».proof.Defs
public import proofs.«01_k».proof.Proof.HfValue
public import proofs.«01_k».proof.Proof.HnRef
public import proofs.«01_k».proof.Proof.Gen.Reference12Ideal.Read

@[expose] public section

set_option maxRecDepth 200000

noncomputable section

namespace Cert.HfClaim

open Idealize.ShloMosaic Idealize.ShloMosaic.TcCoe Idealize.SL.Sem
open Cert.Common Cert.Lift Cert.Hn Cert.HfValue
open Cert.Ln (eps ofBits_eps ofBits_192 ofBits_zero)
open Cert.HnRef (hE uE gE)
open Cert.Reference12Ideal Cert.Reference12Ideal.Gen Cert.Reference12Ideal.Read

theorem pre_facts : Cert.Pre_finite12.Facts := ⟨by decide, by decide, by decide⟩
theorem mask_facts : Cert.On_result_mask12.Facts := ⟨by decide⟩

attribute [local instance] pre_facts mask_facts

/-! ## What the reference computes -/

variable (H : S1x4096x4x192.Idx → ℝ) (U : S1x4096x3336.Idx → ℝ) (G : S4x192.Idx → ℝ)

theorem v3_at (s : Fin 4096) (a : Fin 4) : val_main_v3 (F := Ideal) (hE H) (ix4 0 s a 0) = (Ln.mu 192 (zr H s a) : EReal) := by
  unfold val_main_v3 val_main_v2 val_main_v1 val_main_v0 val_main_cst_0 val_main_cst
  pointwise
  simp only [coe_sum, ofBits_192, ofBits_zero, zero_add, div_coe _ _ (by norm_num : (192 : ℝ) ≠ 0)]
  rfl

theorem v5_at (s : Fin 4096) (a : Fin 4) (j : Fin 192) : val_main_v5 (F := Ideal) (hE H) (ix4 0 s a j) = (Ln.zc 192 (zr H s a) j : EReal) := by
  have e := v3_at H
  unfold val_main_v5 val_main_v4
  generalize val_main_v3 (F := Ideal) _ = w at e ⊢
  pointwise
  simp only [e, coe_sub]
  rfl

theorem v14_at (s : Fin 4096) (a : Fin 4) : val_main_v14 (F := Ideal) (hE H) (ix4 0 s a 0) = ((Ln.var 192 (zr H s a) + eps : ℝ) : EReal) := by
  have e := v5_at H
  unfold val_main_v14 val_main_v13 val_main_v10 val_main_v9 val_main_v8 val_main_v7 val_main_v6 val_main_cst_3 val_main_cst_2 val_main_cst_1
  generalize val_main_v5 (F := Ideal) _ = w at e ⊢
  pointwise
  simp only [e, coe_mul, coe_sum, ofBits_192, ofBits_zero, ofBits_eps, zero_add, div_coe _ _ (by norm_num : (192 : ℝ) ≠ 0), coe_add]
  rfl

theorem v15_at (s : Fin 4096) (a : Fin 4) : val_main_v15 (F := Ideal) (hE H) (ix4 0 s a 0) = (Ln.rs 192 eps (zr H s a) : EReal) := by
  have e := v14_at H s a
  unfold val_main_v15
  generalize val_main_v14 (F := Ideal) _ = y at e ⊢
  pointwise
  rw [e, Ln.rsqrt_var _ _ (by norm_num)]

theorem v20_at (s : Fin 4096) (a : Fin 4) (j : Fin 192) :
    val_main_v20 (F := Ideal) (hE H) (gE G) (ix4 0 s a j) = ((Ln.xh 192 eps (zr H s a) j * G (ix2 a j) : ℝ) : EReal) := by
  have e : ∀ s a j, val_main_v12 (F := Ideal) (hE H) (ix4 0 s a j) = (Ln.zc 192 (zr H s a) j : EReal) := v5_at H
  have e2 := v15_at H
  unfold val_main_v20 val_main_v19 val_main_v18 val_main_v17 val_main_v16
  generalize val_main_v15 (F := Ideal) _ = w at e2 ⊢
  generalize val_main_v12 (F := Ideal) _ = y at e ⊢
  pointwise
  simp only [e, e2, coe_mul]
  rfl

theorem v27_at (s : Fin 4096) (n : Fin 768) : val_main_v27 (F := Ideal) (uE U) (ix3 0 s n) = (lg (ogate U s n) : EReal) := by
  unfold val_main_v27 val_main_v26 val_main_v25 val_main_v24 val_main_v23 val_main_v22 val_main_v21 val_main_cst_5 val_main_cst_4
  pointwise
  rw [ogate_eq U s n (by omega)]
  exact lg_coe _

theorem v29_at (s : Fin 4096) (a : Fin 4) (j : Fin 192) (n : Fin 768) (hn : n.val = a.val * 192 + j.val) :
    val_main_v29 (F := Ideal) (hE H) (uE U) (gE G) (ix3 0 s n) = (gated H U G s a j : EReal) := by
  have e := v27_at U
  have e2 := v20_at H G
  unfold val_main_v29 val_main_v28
  generalize val_main_v27 (F := Ideal) _ = w at e ⊢
  generalize val_main_v20 (F := Ideal) _ _ = z at e2 ⊢
  pointwise
  have ha : (⟨n.val / 192, by omega⟩ : Fin 4) = a := Fin.ext (by show n.val / 192 = a.val; omega)
  have hj : (⟨n.val % 192, by omega⟩ : Fin 192) = j := Fin.ext (by show n.val % 192 = j.val; omega)
  simp only [ha, hj, e, e2, coe_mul]
  rw [hn]
  rfl

theorem v34_at (a : Fin 5) (b : Fin 4) (hb : a.val = b.val) (s : Fin 4096) (l : Fin 256) :
    val_main_v34 (F := Ideal) (hE H) (uE U) (gE G) (ix3 a s l) = (lanes (gated H U G s b) l.val : EReal) := by
  have e := v29_at H U G
  unfold val_main_v34 val_main_v33 val_main_v32 val_main_v31 val_main_v30 val_main_call0_v0 val_main_c
  generalize val_main_v29 (F := Ideal) _ _ _ = w at e ⊢
  pointwise
  simp only [HnValue.sitofp_zero]
  have ha : a.val < 4 := by omega
  unfold lanes
  by_cases hl : l.val < 192
  · refine (dif_pos ⟨ha, hl⟩).trans (Eq.trans ?_ (congrArg _ (dif_pos hl).symm))
    exact e s b ⟨l.val, hl⟩ _ (by show a.val * 192 + l.val = b.val * 192 + l.val; omega)
  · exact (dif_neg fun h => hl h.2).trans (by rw [dif_neg hl]; rfl)

/-! ## The pair -/

/-- Finite argument arrays are real arrays. -/
theorem args {m : (ℓ : Loc Cert.Kernel12Ideal.nD Cert.Kernel12Ideal.τ Cert.Kernel12Ideal.sig) → Buf (Elt Ideal) ℓ}
    (h : Cert.Pre_Kernel12Ideal_finite12 m) (c : Dev Cert.Kernel12Ideal.nD) :
    ∃ (H : Cert.Kernel12Ideal.S1x4096x4x192.Idx → ℝ) (U : Cert.Kernel12Ideal.S1x4096x3336.Idx → ℝ) (G : Cert.Kernel12Ideal.S4x192.Idx → ℝ),
      (m ((c.tc : Thread Cert.Kernel12Ideal.nD Cert.Kernel12Ideal.τ).loc Cert.Kernel12Ideal.main_arg0) = fun i => (H i : EReal))
        ∧ (m ((c.tc : Thread Cert.Kernel12Ideal.nD Cert.Kernel12Ideal.τ).loc Cert.Kernel12Ideal.main_arg1) = fun i => (U i : EReal))
        ∧ (m ((c.tc : Thread Cert.Kernel12Ideal.nD Cert.Kernel12Ideal.τ).loc Cert.Kernel12Ideal.main_arg2) = fun i => (G i : EReal)) := by
  obtain ⟨h0, h1, h2⟩ := h c
  obtain ⟨H, hH⟩ := finite_of_test (fun _ => rfl) h0
  obtain ⟨U, hU⟩ := finite_of_test (fun _ => rfl) h1
  obtain ⟨G, hG⟩ := finite_of_test (fun _ => rfl) h2
  exact ⟨H, U, G, hH, hU, hG⟩

/-- The mask holds on groups 0 to 3 alone. -/
theorem mask_group (x0 : FVec Ideal S1x4096x4x192 .f32) (x1 : FVec Ideal S1x4096x3336 .f32) (x2 : FVec Ideal S4x192 .f32)
    (a : Fin 5) (s : Fin 4096) (l : Fin 256) (h : Cert.On_result_mask12.fn (F := Ideal) x0 x1 x2 (ix3 a s l) = 1#1) : ∃ b : Fin 4, a.val = b.val := by
  have h2 : ∀ a : Fin 5, IntOp.cmpi .slt (BitVec.ofNat 32 a.val) 4#32 = 1#1 → a.val < 4 := by decide
  exact ⟨⟨a.val, h2 a h⟩, rfl⟩

open Cert.Kernel12Ideal.Gen in
theorem algebraic : Cert.algebraic_Kernel12Ideal_Reference12Ideal_on_result_mask12_pre_finite12 := by
  intro m g m' g' hpre hagree
  refine ⟨fun c => (dats m 0 c).arrAt 3 Cert.Kernel12Ideal.cfg0.N,
    (θ_run _ _ _).mono (fun r h c => ?_) (Cert.Kernel12Ideal.Value.run_blocks m g), (θ_run _ _ _).mono (fun r h c => ?_) (Cert.Reference12Ideal.Value.run m' g')⟩
  · obtain ⟨h0, h1⟩ := h c
    exact ⟨fun i _ => congrFun h0 i, h1⟩
  · obtain ⟨h0, h1⟩ := h c
    obtain ⟨H, U, G, hH, hU, hG⟩ := args hpre c
    obtain ⟨a0, a1, a2⟩ := hagree c
    refine ⟨fun i hi => ?_, h1⟩
    refine (congrFun (h0.trans (Cert.Reference12Ideal.Read.val_main_v34_eq _ _ _)) i).trans ?_
    rw [a0, a1, a2]
    obtain ⟨a, s, l, rfl⟩ : ∃ a s l, i = ix3 a s l := ⟨_, _, _, eq_ix3 i⟩
    obtain ⟨b, hb⟩ := mask_group _ _ _ a s l hi
    refine Eq.trans ?_ (w3 m hH hU hG a b hb s l).symm
    rw [hH, hU, hG]
    exact v34_at H U G a b hb s l

end Cert.HfClaim
end
-- ==== Proof.XgValue.lean ====
/-
  The cross-attention's forward call in the matrix-LSTM layer: the array it leaves, for any arguments.
-/
module

public import proofs.«01_k».proof.Proof.Gen.Kernel13Ideal.Value
public import proofs.«01_k».proof.Proof.XfValue

@[expose] public section

set_option maxRecDepth 200000

noncomputable section

namespace Cert.XgValue

open Idealize.ShloMosaic Idealize.ShloMosaic.TcCoe Idealize.SL.Sem Idealize.ShloMosaic.Pipeline
open Cert.Kernel13Ideal Cert.Kernel13Ideal.Gen
open Cert.Common Cert.Lift
open Cert.XfValue (Q M)
open scoped BigOperators

theorem body_at (x : Vec Ideal S1x1024x256 .f32) (k v : Vec Ideal S1x256x256 .f32) (s : Fin 1024) (l : Fin 256) :
    k0_pay1 (k0_pay13 (k0_pay2 x) (k0_pay3 k) (k0_pay4 v) k0_pay8 k0_pay9
      (k0_pay11 (k0_pay2 x) (k0_pay3 k) (k0_pay4 v) k0_pay5 k0_pay6 k0_pay7 (k0_pay10 x k)) (k0_pay12 (k0_pay2 x) (k0_pay3 k) k0_pay8)) (ix3 0 s l)
      = Soft.out (Q x s) (M k) (M v) l := XfValue.body_at x k v s l

variable (m : (ℓ : Loc nD τ sig) → Buf (Elt Ideal) ℓ)

theorem V_u (c : Dev nD) (s : Fin 4096) (l : Fin 256) :
    V m c main_v22 (ix3 16 s l) = m ((c : Thread nD τ).loc main_arg0) (ix3 (0 : Fin 1) s (⟨3080 + l.val, by omega⟩ : Fin 3336)) := by
  unfold V
  simp only [List.flatten_cons, List.flatten_nil, List.append_nil, hostOps0, List.cons_append, List.nil_append]
  after_results
  pointwise
  simp only [↓ StableHlo.readResult]
  pointwise

theorem V_kv (c : Dev nD) (g : Fin 2) (s : Fin 256) (l : Fin 256) :
    V m c main_v25 (ix3 g s l) = m ((c : Thread nD τ).loc main_arg1) (ix3 (0 : Fin 1) s (⟨g.val * 256 + l.val, by omega⟩ : Fin 512)) := by
  unfold V
  simp only [List.flatten_cons, List.flatten_nil, List.append_nil, hostOps0, List.cons_append, List.nil_append]
  after_results
  pointwise
  blk_ext

theorem V_tok (c : Dev nD) : V m c main_v26 = m ((c : Thread nD τ).loc main_arg2) := by
  unfold V
  simp only [List.flatten_cons, List.flatten_nil, List.append_nil, hostOps0, List.cons_append, List.nil_append]
  after_results
  rfl

theorem idx : ∀ t : Fin cfg0.N, win0_0.index t = ![16, t.val, 0] ∧ win0_1.index t = ![0, 0, 0] ∧ win0_2.index t = ![4, t.val, 0] :=
  (by decide +kernel : ∀ t : Fin grid0.N, _)

theorem iblk0 (c : Dev nD) (t : Fin cfg0.N) (s : Fin 1024) (l : Fin 256) :
    iblk m c 0 t (ix3 (0 : Fin 1) s l) = Soft.cols (m ((c : Thread nD τ).loc main_arg0)) 3080 (t.val * 1024 + s.val) l := by
  have h0 : t.val < 4 := t.isLt
  refine Eq.trans ?_ ((V_u m c ⟨t.val * 1024 + s.val, by omega⟩ l).trans (at3_ix (m ((c : Thread nD τ).loc main_arg0)) _ _ _))
  blk_ext [iblk, (idx t).1]

theorem ld1 (c : Dev nD) (t : Fin cfg0.N) (g : Fin 2) (n l : Fin 256) :
    iblk m c 1 t (ix3 g n l) = Soft.cols (m ((c : Thread nD τ).loc main_arg1)) (g.val * 256) n.val l := by
  refine Eq.trans ?_ ((V_kv m c g n l).trans (at3_ix (m ((c : Thread nD τ).loc main_arg1)) _ _ _))
  blk_ext [iblk, (idx t).2.1]

/-- The attended memory of row `s`. -/
abbrev G (c : Dev nD) (s : ℕ) (l : Fin 256) : EReal :=
  Soft.out (Soft.cols (m ((c : Thread nD τ).loc main_arg0)) 3080 s) (fun n => Soft.cols (m ((c : Thread nD τ).loc main_arg1)) 0 n.val)
    (fun n => Soft.cols (m ((c : Thread nD τ).loc main_arg1)) 256 n.val) l

theorem out2 (c : Dev nD) (t : Fin cfg0.N) (s : Fin 1024) (l : Fin 256) : outsAt0 m c t (ix3 0 s l) = G m c (t.val * 1024 + s.val) l := by
  unfold outsAt0
  frame_out
  refine (body_at _ _ _ s l).trans ?_
  have e0 : Q (iblk m c 0 t) s = Soft.cols (m ((c : Thread nD τ).loc main_arg0)) 3080 (t.val * 1024 + s.val) := funext fun l => iblk0 m c t s l
  have e1 : M (View.ld (iblk m c 1 t) (Rect.unit ![0, 0, 0] ![1, 256, 256] inb_S2x256x256_S1x256x256_0_0_0))
      = fun n => Soft.cols (m ((c : Thread nD τ).loc main_arg1)) 0 n.val :=
    funext fun n => funext fun l => (congrArg (iblk m c 1 t) (XaValue.emb0 n l).symm).trans (ld1 m c t 0 n l)
  have e2 : M (View.ld (iblk m c 1 t) (Rect.unit ![1, 0, 0] ![1, 256, 256] inb_S2x256x256_S1x256x256_1_0_0))
      = fun n => Soft.cols (m ((c : Thread nD τ).loc main_arg1)) 256 n.val :=
    funext fun n => funext fun l => (congrArg (iblk m c 1 t) (XaValue.emb1 n l).symm).trans (ld1 m c t 1 n l)
  exact congrFun (by rw [e0, e1, e2]) l

/-- The mixer's buffer: its last group is written, the others keep what they held. -/
theorem w2 (c : Dev nD) : (dats m 0 c).arrAt 2 cfg0.N =
    (fun i => if 4 ≤ (i 0).val then G m c (i 1).val (i 2) else m ((c : Thread nD τ).loc main_arg2) i : S5x4096x256.Idx → EReal) := by
  rw [← V_tok m c]
  refine (dats m 0 c).arrAt_eq_of_coversWhere 2 (fun i => G m c (i 1).val (i 2) : S5x4096x256.Idx → EReal) (fun β => 4 ≤ β (0 : Fin _)) (by decide +kernel) (fun t hf y => ?_)
    (fun j => by show 4 ≤ (j (0 : Fin 3)).val ↔ 4 ≤ (j (0 : Fin 3)).val / 1; rw [Nat.div_one])
  blk_simp
  rw [after0_2]
  obtain ⟨s, l, rfl⟩ := eq_ix3_unit y
  refine (out2 m c t s l).trans ?_
  have h0 : t.val < 4 := t.isLt
  have e : (ix3 4 ⟨t.val * 1024 + s.val, by omega⟩ l : S5x4096x256.Idx) = ((cfg0.win 2).blk t).view.emb (ix3 0 s l) := by
    blk_ext [(idx t).2.2]
  have h2 : win0_2.index t 1 = t.val := by rw [(idx t).2.2]; rfl
  show G m c (t.val * 1024 + s.val) l = G m c (win0_2.index t 1 * 1024 + s.val) _
  rw [h2]
  exact congrArg (G m c _) (congrFun e 2)

end Cert.XgValue

end
-- ==== Proof.XgClaim.lean ====
/-
  The cross-attention's forward pair in the matrix-LSTM layer: the kernel's array is that of the reference, whatever the
  arguments. The reference is that of the first layer on an array holding the queries' columns at their place there.
-/
module

public import proofs.«01_k».proof.Defs
public import proofs.«01_k».proof.Proof.Gen.Reference13Ideal.Run
public import proofs.«01_k».proof.Proof.Gen.Reference13Ideal.Read
public import proofs.«01_k».proof.Proof.XgValue
public import proofs.«01_k».proof.Proof.XfRef

@[expose] public section

set_option maxRecDepth 200000

noncomputable section

namespace Cert.XgClaim

open Idealize.ShloMosaic Idealize.ShloMosaic.TcCoe Idealize.SL.Sem
open Cert.Reference13Ideal Cert.Reference13Ideal.Read
open Cert.Common Cert.Soft

variable (U : (⟨S1x4096x3336, .f32⟩ : BufTy).Contents (Elt Ideal)) (M : (⟨S1x256x512, .f32⟩ : BufTy).Contents (Elt Ideal))
  (T : (⟨S5x4096x256, .bf16⟩ : BufTy).Contents (Elt Ideal))

/-- The projected input with its columns where the first layer has them. -/
def moved : (⟨Cert.Reference9Ideal.S1x4096x2560, .f32⟩ : BufTy).Contents (Elt Ideal) := fun i => at3 U 0 (i 1).val ((i 2).val + 776)

theorem v0_eq : val_main_v0 (F := Ideal) U = Cert.Reference9Ideal.Read.val_main_v0 (F := Ideal) (moved U) := by
  funext i
  obtain ⟨a, s, l, rfl⟩ : ∃ a s l, i = ix3 a s l := ⟨_, _, _, eq_ix3 i⟩
  obtain rfl : a = 0 := Subsingleton.elim _ _
  unfold val_main_v0 Cert.Reference9Ideal.Read.val_main_v0 moved
  pointwise
  refine (at3_ix U 0 s _).trans (congrArg (at3 U 0 s.val) ?_)
  show 3080 + l.val = 2304 + l.val + 776
  omega

theorem v24_eq : val_main_v24 (F := Ideal) U M = Cert.Reference9Ideal.Read.val_main_v24 (F := Ideal) (moved U) M := by
  unfold val_main_v24 val_main_v22 val_main_v21 val_main_v20 val_main_v19 val_main_v18 val_main_v17 val_main_v16 val_main_v15 val_main_v14 val_main_v13 val_main_v12 val_main_v11 val_main_v9 val_main_v8 val_main_v6 val_main_v1
  rw [v0_eq]
  rfl

theorem cols_moved (s : Fin 4096) : Soft.cols (moved U) 2304 s.val = Soft.cols U 3080 s.val := by
  funext l
  refine (XfRef.cols_ix (moved U) 2304 s l ⟨2304 + l.val, by omega⟩ rfl).symm.trans (congrArg (at3 U 0 s.val) ?_)
  show 2304 + l.val + 776 = 3080 + l.val
  omega

theorem v25_at (a : Fin 5) (s : Fin 4096) (l : Fin 256) : val_main_v25 (F := Ideal) U M T (ix3 a s l) =
    if 4 ≤ a.val then out (Soft.cols U 3080 s.val) (XfRef.k M) (XfRef.v M) l else T (ix3 a s l) := by
  have e := XfRef.v24_at (moved U) M s l
  rw [← v24_eq, XfRef.q, cols_moved] at e
  unfold val_main_v25 val_main_v23
  generalize val_main_v24 (F := Ideal) U M = y at e ⊢
  pointwise
  by_cases h : a.val < 4
  · exact (dif_pos h).trans (if_neg (by omega)).symm
  · refine (dif_neg h).trans (Eq.trans ?_ (if_pos (by omega)).symm)
    exact (congrArg (fun b => y (ix3 b s l)) (Subsingleton.elim _ _)).trans e

theorem algebraic : Cert.algebraic_Kernel13Ideal_Reference13Ideal := by
  pair_intro
  · run_from Cert.Kernel13Ideal.Value.run_blocks m g
  · run_from Cert.Reference13Ideal.Value.run m' g'
    refine (Cert.Reference13Ideal.Read.val_main_v25_eq _ _ _).trans ?_
    rw [(hagree c).2.2]
    refine Eq.trans (funext fun i => ?_) (Cert.XgValue.w2 m c).symm
    obtain ⟨a, s, l, rfl⟩ : ∃ a s l, i = ix3 a s l := ⟨_, _, _, eq_ix3 i⟩
    exact v25_at _ _ _ a s l

end Cert.XgClaim
end
-- ==== Proof.ClValue.lean ====
/-
  The output projection's forward call: the sum under the layer norm and the normalised rows, for any arguments.
-/
module

public import proofs.«01_k».proof.Proof.Gen.Kernel14Ideal.Value
public import proofs.«01_k».proof.Proof.Common
public import proofs.«01_k».proof.Proof.Ln

@[expose] public section

set_option maxRecDepth 200000

noncomputable section

namespace Cert.ClValue

open Idealize.ShloMosaic Idealize.ShloMosaic.TcCoe Idealize.SL.Sem Idealize.ShloMosaic.Pipeline
open Cert.Kernel14Ideal Cert.Kernel14Ideal.Gen
open Cert.Common Cert.Lift
open scoped BigOperators

/-! ## Layer norm over the extended reals -/

/-- The mean of a row. -/
def mean (f : Fin 1024 → EReal) : EReal := Ideal.div (∑ k, f k) (Ideal.ofBits .f32 1149239296#32)

/-- A row, normalised, scaled and shifted. -/
def ln (z g b : Fin 1024 → EReal) (l : Fin 1024) : EReal :=
  (z l - mean z) * Ideal.rsqrt (mean (fun k => (z k - mean z) * (z k - mean z)) + Ideal.ofBits .f32 925353388#32) * g l + b l

/-- The projected row. -/
def prod (M : S1x4096x1024.Idx → EReal) (W : S1024x1024.Idx → EReal) (s : Fin 4096) (l : Fin 1024) : EReal := ∑ k : Fin 1024, M (ix3 0 s k) * W (ix2 k l)

/-- The sum under the norm: the scaled residual and the projected row. -/
def zE (M X : S1x4096x1024.Idx → EReal) (W : S1024x1024.Idx → EReal) (s : Fin 4096) (l : Fin 1024) : EReal :=
  Ideal.ofBits .f32 1068827891#32 * X (ix3 0 s l) + prod M W s l

/-- The sum of four groups of 256 is the sum over all 1024. -/
theorem four (f : Fin 1024 → EReal) :
    (((∑ k : Fin 256, f ⟨0 * 256 + k.val, by omega⟩) + ∑ k : Fin 256, f ⟨1 * 256 + k.val, by omega⟩) + ∑ k : Fin 256, f ⟨2 * 256 + k.val, by omega⟩)
      + ∑ k : Fin 256, f ⟨3 * 256 + k.val, by omega⟩ = ∑ k, f k := by
  have e1 : ∑ k, f k = ∑ k : Fin 768, f ⟨k.val, by omega⟩ + ∑ k : Fin 256, f ⟨3 * 256 + k.val, by omega⟩ := Fin.sum_univ_add (a := 768) (b := 256) f
  have e2 : ∑ k : Fin 768, f ⟨k.val, by omega⟩ = ∑ k : Fin 512, f ⟨k.val, by omega⟩ + ∑ k : Fin 256, f ⟨2 * 256 + k.val, by omega⟩ :=
    Fin.sum_univ_add (a := 512) (b := 256) fun k => f ⟨k.val, by omega⟩
  have e3 : ∑ k : Fin 512, f ⟨k.val, by omega⟩ = ∑ k : Fin 256, f ⟨k.val, by omega⟩ + ∑ k : Fin 256, f ⟨1 * 256 + k.val, by omega⟩ :=
    Fin.sum_univ_add (a := 256) (b := 256) fun k => f ⟨k.val, by omega⟩
  rw [e1, e2, e3]
  simp only [Nat.zero_mul, Nat.zero_add]

/-! ## One block of rows -/

section Block
variable (p q : FVec Ideal S1024x1024 .f32) (g b : Vec Ideal S1x1024 .f32)

theorem pay1_at (s l : Fin 1024) : k0_pay1 p q (Scalar.ofBits .f32 0x3F800000#32) (ix2 s l) = q (ix2 s l) + p (ix2 s l) := by
  unfold_payloads
  pointwise

theorem pay2_at (s l : Fin 1024) : k0_pay2 p q (Scalar.ofBits .f32 0x3F800000#32) g b (ix2 s l)
    = ln (fun j => q (ix2 s j) + p (ix2 s j)) (fun j => g (ix2 0 j)) (fun j => b (ix2 0 j)) l := by
  have e := pay1_at p q
  unfold k0_pay2
  generalize k0_pay1 (F := Ideal) p q _ = y at e ⊢
  pointwise
  simp only [e]
  rfl

theorem pay4_at (A : Vec Ideal S4x1024x256 .bf16) (w : Vec Ideal S4x256x1024 .bf16) (x2 : Vec Ideal S1024x1024 .f32) (x3 x4 : Vec Ideal S1x1024 .f32) (s l : Fin 1024) :
    k0_pay6 A w x2 x3 x4 (ix2 s l) =
      ((((∑ k : Fin 256, A (ix3 0 s k) * w (ix3 0 k l)) + ∑ k : Fin 256, A (ix3 1 s k) * w (ix3 1 k l)) + ∑ k : Fin 256, A (ix3 2 s k) * w (ix3 2 k l))
      + ∑ k : Fin 256, A (ix3 3 s k) * w (ix3 3 k l) : EReal) := by
  have hA : ∀ (j : Fin 4) (hb) (s : Fin 1024) (k : Fin 256), View.ld A (Rect.unit (s := S4x1024x256) ![j.val, 0, 0] ![1, 1024, 256] hb) (ix3 0 s k) = A (ix3 j s k) := fun j hb s k => by
    have e : (ix3 j s k : S4x1024x256.Idx) = (Rect.unit (s := S4x1024x256) ![j.val, 0, 0] ![1, 1024, 256] hb).emb (ix3 0 s k) := by
      blk_ext
    exact congrArg A e.symm
  have hw : ∀ (j : Fin 4) (hb) (k : Fin 256) (l : Fin 1024), View.ld w (Rect.unit (s := S4x256x1024) ![j.val, 0, 0] ![1, 256, 1024] hb) (ix3 0 k l) = w (ix3 j k l) := fun j hb k l => by
    have e : (ix3 j k l : S4x256x1024.Idx) = (Rect.unit (s := S4x256x1024) ![j.val, 0, 0] ![1, 256, 1024] hb).emb (ix3 0 k l) := by
      blk_ext
    exact congrArg w e.symm
  have a0 := hA 0 inb_S4x1024x256_S1x1024x256_0_0_0
  have a1 := hA 1 inb_S4x1024x256_S1x1024x256_1_0_0
  have a2 := hA 2 inb_S4x1024x256_S1x1024x256_2_0_0
  have a3 := hA 3 inb_S4x1024x256_S1x1024x256_3_0_0
  have w0 := hw 0 inb_S4x256x1024_S1x256x1024_0_0_0
  have w1 := hw 1 inb_S4x256x1024_S1x256x1024_1_0_0
  have w2 := hw 2 inb_S4x256x1024_S1x256x1024_2_0_0
  have w3 := hw 3 inb_S4x256x1024_S1x256x1024_3_0_0
  have e : ∀ (c0 c1 c2 c3 : Vec Ideal S1x1024x256 .bf16) (d0 d1 d2 d3 : Vec Ideal S1x256x1024 .bf16), k0_pay4 c0 d0 c1 d1 c2 d2 c3 d3 (ix2 s l) =
      ((((∑ k : Fin 256, c0 (ix3 0 s k) * d0 (ix3 0 k l)) + ∑ k : Fin 256, c1 (ix3 0 s k) * d1 (ix3 0 k l)) + ∑ k : Fin 256, c2 (ix3 0 s k) * d2 (ix3 0 k l))
      + ∑ k : Fin 256, c3 (ix3 0 s k) * d3 (ix3 0 k l) : EReal) := fun c0 c1 c2 c3 d0 d1 d2 d3 => by
    unfold k0_pay4
    pointwise
  refine (e _ _ _ _ _ _ _ _).trans ?_
  refine congrArg₂ (· + ·) (congrArg₂ (· + ·) (congrArg₂ (· + ·) ?_ ?_) ?_) ?_ <;> refine Finset.sum_congr rfl fun k _ => ?_
  · exact congrArg₂ (· * ·) (a0 s k) (w0 k l)
  · exact congrArg₂ (· * ·) (a1 s k) (w1 k l)
  · exact congrArg₂ (· * ·) (a2 s k) (w2 k l)
  · exact congrArg₂ (· * ·) (a3 s k) (w3 k l)

theorem pay5_at (x : Vec Ideal S1024x1024 .f32) (s l : Fin 1024) : k0_pay5 x (ix2 s l) = Ideal.ofBits .f32 1068827891#32 * x (ix2 s l) := by
  unfold k0_pay5
  pointwise

end Block

variable (m : (ℓ : Loc nD τ sig) → Buf (Elt Ideal) ℓ) (c : Dev nD)

/-! ## The arrays of the call -/

theorem V_m (j : Fin 4) (s : Fin 4096) (k : Fin 256) :
    V m c main_v3 (ix3 j s k) = m ((c : Thread nD τ).loc main_arg0) (ix3 (0 : Fin 1) s (⟨j.val * 256 + k.val, by omega⟩ : Fin 1024)) := by
  unfold V
  simp only [List.flatten_cons, List.flatten_nil, List.append_nil, hostOps0, List.cons_append, List.nil_append]
  after_results
  pointwise
  blk_ext

theorem V_w (j : Fin 4) (n : Fin 256) (k : Fin 1024) :
    V m c main_v5 (ix3 j n k) = m ((c : Thread nD τ).loc main_arg2) (ix2 ⟨j.val * 256 + n.val, by omega⟩ k) := by
  unfold V
  simp only [List.flatten_cons, List.flatten_nil, List.append_nil, hostOps0, List.cons_append, List.nil_append]
  after_results
  pointwise

theorem V_x (s : Fin 4096) (l : Fin 1024) : V m c main_v6 (ix2 s l) = m ((c : Thread nD τ).loc main_arg1) (ix3 (0 : Fin 1) s l) := by
  unfold V
  simp only [List.flatten_cons, List.flatten_nil, List.append_nil, hostOps0, List.cons_append, List.nil_append]
  after_results
  pointwise

theorem V_g (l : Fin 1024) : V m c main_v7 (ix2 0 l) = m ((c : Thread nD τ).loc main_arg3) (ix1 l) := by
  unfold V
  simp only [List.flatten_cons, List.flatten_nil, List.append_nil, hostOps0, List.cons_append, List.nil_append]
  after_results
  pointwise

theorem V_b (l : Fin 1024) : V m c main_v8 (ix2 0 l) = m ((c : Thread nD τ).loc main_arg4) (ix1 l) := by
  unfold V
  simp only [List.flatten_cons, List.flatten_nil, List.append_nil, hostOps0, List.cons_append, List.nil_append]
  after_results
  pointwise

theorem idx : ∀ t : Fin cfg0.N, win0_0.index t = ![0, t.val, 0] ∧ win0_1.index t = ![0, 0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The row of the whole array that row `s` of grid point `t`'s block is. -/
def row (t : Fin cfg0.N) (s : Fin 1024) : Fin 4096 := ⟨t.val * 1024 + s.val, by have : t.val < 4 := t.isLt; omega⟩

theorem iblk0 (t : Fin cfg0.N) (j : Fin 4) (s : Fin 1024) (k : Fin 256) :
    iblk m c 0 t (ix3 j s k) = m ((c : Thread nD τ).loc main_arg0) (ix3 (0 : Fin 1) (row t s) (⟨j.val * 256 + k.val, by omega⟩ : Fin 1024)) := by
  refine Eq.trans ?_ (V_m m c j (row t s) k)
  blk_ext [iblk, (idx t).1, row]

theorem iblk1 (t : Fin cfg0.N) (j : Fin 4) (n : Fin 256) (k : Fin 1024) :
    iblk m c 1 t (ix3 j n k) = m ((c : Thread nD τ).loc main_arg2) (ix2 ⟨j.val * 256 + n.val, by omega⟩ k) := by
  refine Eq.trans ?_ (V_w m c j n k)
  blk_ext [iblk, (idx t).2.1]

theorem iblk2 (t : Fin cfg0.N) (s l : Fin 1024) : iblk m c 2 t (ix2 s l) = m ((c : Thread nD τ).loc main_arg1) (ix3 (0 : Fin 1) (row t s) l) := by
  refine Eq.trans ?_ (V_x m c (row t s) l)
  blk_ext [iblk, (idx t).2.2.1, row]

theorem iblk3 (t : Fin cfg0.N) (l : Fin 1024) : iblk m c 3 t (ix2 0 l) = m ((c : Thread nD τ).loc main_arg3) (ix1 l) := by
  refine Eq.trans ?_ (V_g m c l)
  blk_ext [iblk, (idx t).2.2.2.1]

theorem iblk4 (t : Fin cfg0.N) (l : Fin 1024) : iblk m c 4 t (ix2 0 l) = m ((c : Thread nD τ).loc main_arg4) (ix1 l) := by
  refine Eq.trans ?_ (V_b m c l)
  blk_ext [iblk, (idx t).2.2.2.2.1]

/-! ## The output arrays -/

/-- The sum under the norm, from the call's arguments. -/
abbrev Z (s : Fin 4096) (l : Fin 1024) : EReal :=
  zE (m ((c : Thread nD τ).loc main_arg0)) (m ((c : Thread nD τ).loc main_arg1)) (m ((c : Thread nD τ).loc main_arg2)) s l

/-- The normalised rows, from the call's arguments. -/
def L (s : Fin 4096) (l : Fin 1024) : EReal :=
  ln (Z m c s) (fun j => m ((c : Thread nD τ).loc main_arg3) (ix1 j)) (fun j => m ((c : Thread nD τ).loc main_arg4) (ix1 j)) l

theorem p_at (t : Fin cfg0.N) (s l : Fin 1024) : k0_pay6 (iblk m c 0 t) (iblk m c 1 t) (iblk m c 2 t) (iblk m c 3 t) (iblk m c 4 t) (ix2 s l)
    = prod (m ((c : Thread nD τ).loc main_arg0)) (m ((c : Thread nD τ).loc main_arg2)) (row t s) l := by
  refine (pay4_at _ _ _ _ _ s l).trans ?_
  refine Eq.trans ?_ (four _)
  refine congrArg₂ (· + ·) (congrArg₂ (· + ·) (congrArg₂ (· + ·) ?_ ?_) ?_) ?_ <;> refine Finset.sum_congr rfl fun k _ => ?_
  · exact congrArg₂ (fun a b : EReal => a * b) (iblk0 m c t 0 s k) (iblk1 m c t 0 k l)
  · exact congrArg₂ (fun a b : EReal => a * b) (iblk0 m c t 1 s k) (iblk1 m c t 1 k l)
  · exact congrArg₂ (fun a b : EReal => a * b) (iblk0 m c t 2 s k) (iblk1 m c t 2 k l)
  · exact congrArg₂ (fun a b : EReal => a * b) (iblk0 m c t 3 s k) (iblk1 m c t 3 k l)

theorem emb2 (s l : Fin 1024) : (ix2 s l : S1024x1024.Idx) = (Rect.unit (s := S1024x1024) ![0, 0] ![1024, 1024] inb_S1024x1024_S1024x1024_0_0).emb (ix2 s l) := by
  blk_ext

theorem z_at (t : Fin cfg0.N) (s l : Fin 1024) : k0_pay7 (iblk m c 0 t) (iblk m c 1 t) (iblk m c 2 t) (iblk m c 3 t) (iblk m c 4 t) (ix2 s l)
    + k0_pay6 (iblk m c 0 t) (iblk m c 1 t) (iblk m c 2 t) (iblk m c 3 t) (iblk m c 4 t) (ix2 s l) = Z m c (row t s) l := by
  refine congrArg₂ (fun a b : EReal => a + b) ?_ (p_at m c t s l)
  unfold k0_pay7
  refine (pay5_at _ s l).trans (congrArg (fun a : EReal => _ * a) ?_)
  exact (congrArg (iblk m c 2 t) (emb2 s l).symm).trans (iblk2 m c t s l)

theorem x_at (t : Fin cfg0.N) (s l : Fin 1024) : k0_pay2 (k0_pay6 (iblk m c 0 t) (iblk m c 1 t) (iblk m c 2 t) (iblk m c 3 t) (iblk m c 4 t))
    (k0_pay7 (iblk m c 0 t) (iblk m c 1 t) (iblk m c 2 t) (iblk m c 3 t) (iblk m c 4 t)) (Scalar.ofBits .f32 0x3F800000#32)
    (iblk m c 3 t) (iblk m c 4 t) (ix2 s l) = L m c (row t s) l := by
  refine (pay2_at _ _ _ _ s l).trans ?_
  exact congrFun (congr (congr (congrArg ln (funext fun j => z_at m c t s j))
    (funext fun j => iblk3 m c t j))
    (funext fun j => iblk4 m c t j)) l

theorem out5 (t : Fin cfg0.N) (s l : Fin 1024) : out0_5 (iblk m c 0 t) (iblk m c 1 t) (iblk m c 2 t) (iblk m c 3 t) (iblk m c 4 t) (ix2 s l) = Z m c (row t s) l := by
  unfold out0_5
  frame_out
  exact (pay1_at _ _ s l).trans (z_at m c t s l)

theorem w5_of (H : S4096x1024.Idx → EReal) (O : Fin cfg0.N → Vec Ideal S1024x1024 .f32) (hO : ∀ t, (dats m 0 c).after 5 t = O t)
    (hH : ∀ (t : Fin cfg0.N) (s l : Fin 1024), O t (ix2 s l) = H (ix2 (row t s) l)) : (dats m 0 c).arrAt 5 cfg0.N = H := by
  refine (dats m 0 c).arrAt_eq_of_covers 5 _ (by decide +kernel) fun t hf y => ?_
  blk_simp
  rw [hO]
  obtain ⟨s, l, rfl⟩ : ∃ s l, y = ix2 s l := ⟨_, _, eq_ix2 y⟩
  refine (hH t s l).trans (congrArg H ?_)
  blk_ext [(idx t).2.2.2.2.2.1, row]

theorem w5 : (dats m 0 c).arrAt 5 cfg0.N = (fun i => Z m c (i 0) (i 1) : S4096x1024.Idx → EReal) :=
  w5_of m c _ (fun t => out0_5 (iblk m c 0 t) (iblk m c 1 t) (iblk m c 2 t) (iblk m c 3 t) (iblk m c 4 t)) (after0_5 m c) (out5 m c)

theorem out6 (t : Fin cfg0.N) (s l : Fin 1024) : out0_6 (iblk m c 0 t) (iblk m c 1 t) (iblk m c 2 t) (iblk m c 3 t) (iblk m c 4 t) (ix2 s l) = L m c (row t s) l := by
  unfold out0_6
  frame_out
  exact x_at m c t s l

theorem w6_of (H : S4096x1024.Idx → EReal) (O : Fin cfg0.N → Vec Ideal S1024x1024 .f32) (hO : ∀ t, (dats m 0 c).after 6 t = O t)
    (hH : ∀ (t : Fin cfg0.N) (s l : Fin 1024), O t (ix2 s l) = H (ix2 (row t s) l)) : (dats m 0 c).arrAt 6 cfg0.N = H := by
  refine (dats m 0 c).arrAt_eq_of_covers 6 _ (by decide +kernel) fun t hf y => ?_
  blk_simp
  rw [hO]
  obtain ⟨s, l, rfl⟩ : ∃ s l, y = ix2 s l := ⟨_, _, eq_ix2 y⟩
  refine (hH t s l).trans (congrArg H ?_)
  blk_ext [(idx t).2.2.2.2.2.2.1, row]

theorem w6 : (dats m 0 c).arrAt 6 cfg0.N = (fun i => L m c (i 0) (i 1) : S4096x1024.Idx → EReal) :=
  w6_of m c _ (fun t => out0_6 (iblk m c 0 t) (iblk m c 1 t) (iblk m c 2 t) (iblk m c 3 t) (iblk m c 4 t)) (after0_6 m c) (out6 m c)

theorem out7 (t : Fin cfg0.N) (s l : Fin 1024) : out0_7 (iblk m c 0 t) (iblk m c 1 t) (iblk m c 2 t) (iblk m c 3 t) (iblk m c 4 t) (ix2 s l) = L m c (row t s) l := by
  unfold out0_7
  frame_out
  exact x_at m c t s l

theorem w7_of (H : S4096x1024.Idx → EReal) (O : Fin cfg0.N → Vec Ideal S1024x1024 .bf16) (hO : ∀ t, (dats m 0 c).after 7 t = O t)
    (hH : ∀ (t : Fin cfg0.N) (s l : Fin 1024), O t (ix2 s l) = H (ix2 (row t s) l)) : (dats m 0 c).arrAt 7 cfg0.N = H := by
  refine (dats m 0 c).arrAt_eq_of_covers 7 _ (by decide +kernel) fun t hf y => ?_
  blk_simp
  rw [hO]
  obtain ⟨s, l, rfl⟩ : ∃ s l, y = ix2 s l := ⟨_, _, eq_ix2 y⟩
  refine (hH t s l).trans (congrArg H ?_)
  blk_ext [(idx t).2.2.2.2.2.2.2, row]

theorem w7 : (dats m 0 c).arrAt 7 cfg0.N = (fun i => L m c (i 0) (i 1) : S4096x1024.Idx → EReal) :=
  w7_of m c _ (fun t => out0_7 (iblk m c 0 t) (iblk m c 1 t) (iblk m c 2 t) (iblk m c 3 t) (iblk m c 4 t)) (after0_7 m c) (out7 m c)

end Cert.ClValue
end
-- ==== Proof.ClClaim.lean ====
/-
  The output projection's forward pair: the sum under the layer norm and the normalised rows are those of the reference,
  whatever the arguments.
-/
module

public import proofs.«01_k».proof.Defs
public import proofs.«01_k».proof.Proof.Gen.Reference14Ideal.Run
public import proofs.«01_k».proof.Proof.Gen.Reference14Ideal.Read
public import proofs.«01_k».proof.Proof.ClValue

@[expose] public section

set_option maxRecDepth 200000

noncomputable section

namespace Cert.ClClaim

open Idealize.ShloMosaic Idealize.ShloMosaic.TcCoe Idealize.SL.Sem
open Cert.Reference14Ideal Cert.Reference14Ideal.Gen Cert.Reference14Ideal.Read
open Cert.Common Cert.ClValue
open scoped BigOperators

variable (x0 x1 : S1x4096x1024.Idx → EReal) (x2 : S1024x1024.Idx → EReal) (x3 x4 : S1024.Idx → EReal)

theorem v3_at (s : Fin 4096) (l : Fin 1024) : val_main_v3 (F := Ideal) x0 x1 x2 (ix3 0 s l) = zE x0 x1 x2 s l := by
  unfold val_main_v3 val_main_v2 val_main_v1 val_main_v0 val_main_cst
  pointwise
  rfl

theorem v7_at (s : Fin 4096) : val_main_v7 (F := Ideal) x0 x1 x2 (ix3 0 s 0) = mean (zE x0 x1 x2 s) := by
  have e := v3_at x0 x1 x2
  unfold val_main_v7 val_main_v6 val_main_v5 val_main_v4 val_main_cst_1 val_main_cst_0
  generalize val_main_v3 (F := Ideal) x0 x1 x2 = y at e ⊢
  pointwise
  simp only [e, Ln.ofBits_zero, zero_add]
  rfl

theorem v9_at (s : Fin 4096) (l : Fin 1024) : val_main_v9 (F := Ideal) x0 x1 x2 (ix3 0 s l) = zE x0 x1 x2 s l - mean (zE x0 x1 x2 s) := by
  have e := v3_at x0 x1 x2
  have e7 := v7_at x0 x1 x2
  unfold val_main_v9 val_main_v8
  generalize val_main_v7 (F := Ideal) x0 x1 x2 = w at e7 ⊢
  generalize val_main_v3 (F := Ideal) x0 x1 x2 = y at e ⊢
  pointwise
  simp only [e, e7]

theorem v19_at (s : Fin 4096) : val_main_v19 (F := Ideal) x0 x1 x2 (ix3 0 s 0) =
    Ideal.rsqrt (mean (fun k => (zE x0 x1 x2 s k - mean (zE x0 x1 x2 s)) * (zE x0 x1 x2 s k - mean (zE x0 x1 x2 s))) + Ideal.ofBits .f32 925353388#32) := by
  have e := v9_at x0 x1 x2
  unfold val_main_v19 val_main_v18 val_main_v17 val_main_v14 val_main_v13 val_main_v12 val_main_v11 val_main_v10 val_main_cst_4 val_main_cst_3 val_main_cst_2
  generalize val_main_v9 (F := Ideal) x0 x1 x2 = y at e ⊢
  pointwise
  simp only [e, Ln.ofBits_zero, zero_add]
  rfl

theorem v27_at (s : Fin 4096) (l : Fin 1024) : val_main_v27 (F := Ideal) x0 x1 x2 x3 x4 (ix3 0 s l) =
    ln (zE x0 x1 x2 s) (fun j => x3 (ix1 j)) (fun j => x4 (ix1 j)) l := by
  have e : ∀ s l, val_main_v16 (F := Ideal) x0 x1 x2 (ix3 0 s l) = _ := v9_at x0 x1 x2
  have e2 := v19_at x0 x1 x2
  unfold val_main_v27 val_main_v26 val_main_v25 val_main_v24 val_main_v23 val_main_v22 val_main_v21 val_main_v20
  generalize val_main_v16 (F := Ideal) x0 x1 x2 = y at e ⊢
  generalize val_main_v19 (F := Ideal) x0 x1 x2 = w at e2 ⊢
  pointwise
  simp only [e, e2]
  rfl

theorem v28_eq : val_main_v28 (F := Ideal) x0 x1 x2 = (fun i => zE x0 x1 x2 (i 0) (i 1) : S4096x1024.Idx → EReal) := by
  funext i
  obtain ⟨s, l, rfl⟩ : ∃ s l, i = ix2 s l := ⟨_, _, eq_ix2 i⟩
  have e := v3_at x0 x1 x2
  unfold val_main_v28
  generalize val_main_v3 (F := Ideal) x0 x1 x2 = y at e ⊢
  pointwise
  exact e s l

theorem v29_eq : val_main_v29 (F := Ideal) x0 x1 x2 x3 x4
    = (fun i => ln (zE x0 x1 x2 (i 0)) (fun j => x3 (ix1 j)) (fun j => x4 (ix1 j)) (i 1) : S4096x1024.Idx → EReal) := by
  funext i
  obtain ⟨s, l, rfl⟩ : ∃ s l, i = ix2 s l := ⟨_, _, eq_ix2 i⟩
  have e := v27_at x0 x1 x2 x3 x4
  unfold val_main_v29
  generalize val_main_v27 (F := Ideal) x0 x1 x2 x3 x4 = y at e ⊢
  pointwise
  exact e s l

theorem algebraic : Cert.algebraic_Kernel14Ideal_Reference14Ideal := by
  pair_intro
  · run_from Cert.Kernel14Ideal.Value.run_blocks m g
  · run_from Cert.Reference14Ideal.Value.run m' g'
    · refine (Cert.Reference14Ideal.Read.val_main_v28_eq _ _ _).trans ?_
      exact (v28_eq _ _ _).trans (w5 m c).symm
    · refine (Cert.Reference14Ideal.Read.val_main_v29_eq _ _ _ _ _).trans ?_
      exact (v29_eq _ _ _ _ _).trans (w6 m c).symm
    · refine (Cert.Reference14Ideal.Read.val_main_v31_eq _ _ _ _ _).trans ?_
      exact (v29_eq _ _ _ _ _).trans (w7 m c).symm

end Cert.ClClaim
end
-- ==== Proof.FfValue.lean ====
/-
  The feed-forward's forward call: its two projections, the gated product, the sum under the layer norm and the normalised rows, for any arguments.
-/
module

public import proofs.«01_k».proof.Proof.Gen.Kernel15Ideal.Value
public import proofs.«01_k».proof.Proof.Common
public import proofs.«01_k».proof.Proof.Ln
public import proofs.«01_k».proof.Proof.FfnReal
public import proofs.«01_k».proof.Proof.ClValue

@[expose] public section

set_option maxRecDepth 200000

noncomputable section

namespace Cert.FfValue

open Idealize.ShloMosaic Idealize.ShloMosaic.TcCoe Idealize.SL.Sem Idealize.ShloMosaic.Pipeline
open Cert.Kernel15Ideal Cert.Kernel15Ideal.Gen
open Cert.Common Cert.Lift
open Cert.Ffn (col)
open Cert.ClValue (mean ln)
open scoped BigOperators

/-! ## The feed-forward over the extended reals -/

/-- A projection. -/
def projE (X : S1x4096x1024.Idx → EReal) (W : S1024x2816.Idx → EReal) (s : Fin 4096) (n : Fin 2816) : EReal :=
  ∑ k : Fin 1024, X (ix3 0 s k) * W (ix2 k n)

/-- The gated product: the gate times its logistic function times the other projection. -/
def act (g u : EReal) : EReal := g * Ideal.div 1 (1 + Ideal.exp (-g)) * u

/-- A gated entry. -/
def actE (X : S1x4096x1024.Idx → EReal) (Wg Wu : S1024x2816.Idx → EReal) (s : Fin 4096) (n : Fin 2816) : EReal := act (projE X Wg s n) (projE X Wu s n)

/-- The sum under the norm: the scaled residual and half the projected row. -/
def zE (X : S1x4096x1024.Idx → EReal) (Wg Wu : S1024x2816.Idx → EReal) (Wd : S2816x1024.Idx → EReal) (s : Fin 4096) (l : Fin 1024) : EReal :=
  Ideal.ofBits .f32 1068827891#32 * X (ix3 0 s l) + Ideal.ofBits .f32 1056964608#32 * ∑ n : Fin 2816, actE X Wg Wu s n * Wd (ix2 n l)

/-- The sum of four groups of 704 is the sum over all 2816. -/
theorem four (f : Fin 2816 → EReal) :
    (((∑ k : Fin 704, f (col 0 k)) + ∑ k : Fin 704, f (col 1 k)) + ∑ k : Fin 704, f (col 2 k)) + ∑ k : Fin 704, f (col 3 k) = ∑ k, f k := by
  have e1 : ∑ k, f k = ∑ k : Fin 2112, f ⟨k.val, by omega⟩ + ∑ k : Fin 704, f ⟨2112 + k.val, by omega⟩ := Fin.sum_univ_add (a := 2112) (b := 704) f
  have e2 : ∑ k : Fin 2112, f ⟨k.val, by omega⟩ = ∑ k : Fin 1408, f ⟨k.val, by omega⟩ + ∑ k : Fin 704, f ⟨1408 + k.val, by omega⟩ :=
    Fin.sum_univ_add (a := 1408) (b := 704) fun k => f ⟨k.val, by omega⟩
  have e3 : ∑ k : Fin 1408, f ⟨k.val, by omega⟩ = ∑ k : Fin 704, f ⟨k.val, by omega⟩ + ∑ k : Fin 704, f ⟨704 + k.val, by omega⟩ :=
    Fin.sum_univ_add (a := 704) (b := 704) fun k => f ⟨k.val, by omega⟩
  have h (j : Fin 4) (b : ℕ) (hb : j.val * 704 = b) : ∑ k : Fin 704, f (col j k) = ∑ k : Fin 704, f ⟨b + k.val, by omega⟩ :=
    Finset.sum_congr rfl fun k _ => congrArg f (Fin.ext (by show j.val * 704 + k.val = b + k.val; omega))
  have h0 : ∑ k : Fin 704, f (col 0 k) = ∑ k : Fin 704, f ⟨k.val, by omega⟩ :=
    Finset.sum_congr rfl fun k _ => congrArg f (Fin.ext (by show 0 * 704 + k.val = k.val; omega))
  rw [e1, e2, e3, h0, h 1 704 rfl, h 2 1408 rfl, h 3 2112 rfl]

/-! ## One block -/

section Block

theorem pay7_at (x : Vec Ideal S512x1024 .bf16) (w : Vec Ideal S1x704x1024 .bf16) (s : Fin 512) (n : Fin 704) :
    k0_pay7 x w (ix2 s n) = ∑ k : Fin 1024, x (ix2 s k) * w (ix3 0 n k) := by
  unfold k0_pay7 k0_pay6
  pointwise

theorem pay8_at (x : Vec Ideal S512x1024 .bf16) (w : Vec Ideal S1x704x1024 .bf16) (s : Fin 512) (n : Fin 704) :
    k0_pay8 x w (ix2 s n) = ∑ k : Fin 1024, x (ix2 s k) * w (ix3 0 n k) := by
  unfold k0_pay8 k0_pay6
  pointwise

theorem pay9_at (x : Vec Ideal S512x1024 .bf16) (w v : Vec Ideal S1x704x1024 .bf16) (s : Fin 512) (n : Fin 704) :
    k0_pay9 x w v (ix2 s n) = act (k0_pay7 x w (ix2 s n)) (k0_pay8 x v (ix2 s n)) := by
  unfold k0_pay9
  generalize k0_pay7 (F := Ideal) x w = a
  generalize k0_pay8 (F := Ideal) x v = b
  pointwise
  simp only [zero_sub]
  rfl

theorem pay1_at (h : FVec Ideal S512x704 .bf16) (w : Vec Ideal S1x704x1024 .bf16) (s : Fin 512) (l : Fin 1024) :
    k0_pay1 h w (ix2 s l) = ∑ n : Fin 704, h (ix2 s n) * w (ix3 0 n l) := by
  unfold k0_pay1
  pointwise

theorem pay2_at (h : FVec Ideal S512x704 .bf16) (w : Vec Ideal S1x704x1024 .bf16) (y : Vec Ideal S512x1024 .f32) (s : Fin 512) (l : Fin 1024) :
    k0_pay2 h w y (ix2 s l) = y (ix2 s l) + k0_pay1 h w (ix2 s l) := by
  unfold k0_pay2
  generalize k0_pay1 (F := Ideal) h w = a
  pointwise

theorem pay3_at (x z : Vec Ideal S512x1024 .f32) (s : Fin 512) (l : Fin 1024) :
    k0_pay3 x z (ix2 s l) = Ideal.ofBits .f32 1068827891#32 * x (ix2 s l) + Ideal.ofBits .f32 1056964608#32 * z (ix2 s l) := by
  unfold k0_pay3
  pointwise

theorem pay4_at (x z : Vec Ideal S512x1024 .f32) (g b : Vec Ideal S1x1024 .f32) (s : Fin 512) (l : Fin 1024) :
    k0_pay4 x z g b (ix2 s l) = ln (fun j => k0_pay3 x z (ix2 s j)) (fun j => g (ix2 0 j)) (fun j => b (ix2 0 j)) l := by
  unfold k0_pay4
  generalize k0_pay3 (F := Ideal) x z = y
  pointwise
  rfl

theorem pay5_at (x z : Vec Ideal S512x1024 .f32) (g b : Vec Ideal S1x1024 .f32) (s : Fin 512) (l : Fin 1024) :
    k0_pay5 x z g b (ix2 s l) = ln (fun j => k0_pay3 x z (ix2 s j)) (fun j => g (ix2 0 j)) (fun j => b (ix2 0 j)) l := by
  refine Eq.trans ?_ (pay4_at x z g b s l)
  unfold k0_pay5
  generalize k0_pay4 (F := Ideal) x z g b = y
  pointwise

theorem pay10_at (x : Vec Ideal S512x1024 .bf16) (w : Vec Ideal S1x704x1024 .bf16) (s : Fin 512) (n : Fin 704) :
    k0_pay10 x w (ix3 0 s n) = k0_pay7 x w (ix2 s n) := by
  unfold k0_pay10
  generalize k0_pay7 (F := Ideal) x w = a
  pointwise

theorem pay11_at (x : Vec Ideal S512x1024 .bf16) (w : Vec Ideal S1x704x1024 .bf16) (s : Fin 512) (n : Fin 704) :
    k0_pay11 x w (ix3 0 s n) = k0_pay8 x w (ix2 s n) := by
  unfold k0_pay11
  generalize k0_pay8 (F := Ideal) x w = a
  pointwise

theorem pay12_at (x : Vec Ideal S512x1024 .bf16) (w v : Vec Ideal S1x704x1024 .bf16) (s : Fin 512) (n : Fin 704) :
    k0_pay12 x w v (ix3 0 s n) = k0_pay9 x w v (ix2 s n) := by
  unfold k0_pay12
  generalize k0_pay9 (F := Ideal) x w v = a
  pointwise

/-- The group of a weight that a point reads. -/
theorem ld_at (w : Vec Ideal S4x704x1024 .bf16) (off : Fin 3 → ℕ) (j : Fin 4) (h : off = ![j.val, 0, 0]) (hb) (n : Fin 704) (k : Fin 1024) :
    View.ld w (Rect.unit (s := S4x704x1024) off ![1, 704, 1024] hb) (ix3 0 n k) = w (ix3 j n k) := by
  subst h
  have e : (ix3 j n k : S4x704x1024.Idx) = (Rect.unit (s := S4x704x1024) ![j.val, 0, 0] ![1, 704, 1024] hb).emb (ix3 0 n k) := by
    blk_ext
  exact congrArg w e.symm

end Block

variable (m : (ℓ : Loc nD τ sig) → Buf (Elt Ideal) ℓ) (c : Dev nD)

/-! ## The arrays of the call -/

theorem V_xb (s : Fin 4096) (l : Fin 1024) : V m c main_v1 (ix2 s l) = m ((c : Thread nD τ).loc main_arg0) (ix3 (0 : Fin 1) s l) := by
  unfold V
  simp only [List.flatten_cons, List.flatten_nil, List.append_nil, hostOps0, List.cons_append, List.nil_append]
  after_results
  pointwise

theorem V_x (s : Fin 4096) (l : Fin 1024) : V m c main_v2 (ix2 s l) = m ((c : Thread nD τ).loc main_arg0) (ix3 (0 : Fin 1) s l) := by
  unfold V
  simp only [List.flatten_cons, List.flatten_nil, List.append_nil, hostOps0, List.cons_append, List.nil_append]
  after_results
  pointwise

theorem V_wg (j : Fin 4) (n : Fin 704) (k : Fin 1024) : V m c main_v5 (ix3 j n k) = m ((c : Thread nD τ).loc main_arg1) (ix2 k (col j n)) := by
  unfold V
  simp only [List.flatten_cons, List.flatten_nil, List.append_nil, hostOps0, List.cons_append, List.nil_append]
  after_results
  pointwise

theorem V_wu (j : Fin 4) (n : Fin 704) (k : Fin 1024) : V m c main_v8 (ix3 j n k) = m ((c : Thread nD τ).loc main_arg2) (ix2 k (col j n)) := by
  unfold V
  simp only [List.flatten_cons, List.flatten_nil, List.append_nil, hostOps0, List.cons_append, List.nil_append]
  after_results
  pointwise

theorem V_wd (j : Fin 4) (n : Fin 704) (k : Fin 1024) : V m c main_v10 (ix3 j n k) = m ((c : Thread nD τ).loc main_arg3) (ix2 (col j n) k) := by
  unfold V
  simp only [List.flatten_cons, List.flatten_nil, List.append_nil, hostOps0, List.cons_append, List.nil_append]
  after_results
  pointwise

theorem V_g (l : Fin 1024) : V m c main_v11 (ix2 0 l) = m ((c : Thread nD τ).loc main_arg4) (ix1 l) := by
  unfold V
  simp only [List.flatten_cons, List.flatten_nil, List.append_nil, hostOps0, List.cons_append, List.nil_append]
  after_results
  pointwise

theorem V_b (l : Fin 1024) : V m c main_v12 (ix2 0 l) = m ((c : Thread nD τ).loc main_arg5) (ix1 l) := by
  unfold V
  simp only [List.flatten_cons, List.flatten_nil, List.append_nil, hostOps0, List.cons_append, List.nil_append]
  after_results
  pointwise

theorem idx : ∀ t : Fin cfg0.N, win0_0.index t = ![t.val / 4, 0] ∧ win0_1.index t = ![t.val / 4, 0] ∧ win0_2.index t = ![0, 0, 0] ∧ win0_3.index t = ![0, 0, 0]
    ∧ win0_4.index t = ![0, 0, 0] ∧ win0_5.index t = ![0, 0] ∧ win0_6.index t = ![0, 0] :=
  (by decide +kernel : ∀ t : Fin grid0.N, _)

theorem idx_out : ∀ t : Fin cfg0.N, win0_7.index t = ![t.val % 4, t.val / 4, 0] ∧ win0_8.index t = ![t.val % 4, t.val / 4, 0]
    ∧ win0_9.index t = ![t.val % 4, t.val / 4, 0] ∧ win0_10.index t = ![t.val / 4, 0] ∧ win0_11.index t = ![t.val / 4, 0] ∧ win0_12.index t = ![t.val / 4, 0] :=
  (by decide +kernel : ∀ t : Fin grid0.N, _)

theorem offs : ∀ t : Fin cfg0.N, k0_off1 (grid0.coords t) = ![t.val % 4, 0, 0] :=
  (by decide +kernel : ∀ t : Fin grid0.N, _)

/-- Grid point `t`'s column group, and the row of the whole array that row `s` of its block is. -/
def grp (t : Fin cfg0.N) : Fin 4 := ⟨t.val % 4, by omega⟩
def row (t : Fin cfg0.N) (s : Fin 512) : Fin 4096 := ⟨t.val / 4 * 512 + s.val, by have : t.val < 32 := t.isLt; omega⟩

theorem iblk0 (t : Fin cfg0.N) (s : Fin 512) (l : Fin 1024) : iblk m c 0 t (ix2 s l) = m ((c : Thread nD τ).loc main_arg0) (ix3 (0 : Fin 1) (row t s) l) := by
  refine Eq.trans ?_ (V_xb m c (row t s) l)
  blk_ext [iblk, (idx t).1, row]

theorem iblk1 (t : Fin cfg0.N) (s : Fin 512) (l : Fin 1024) : iblk m c 1 t (ix2 s l) = m ((c : Thread nD τ).loc main_arg0) (ix3 (0 : Fin 1) (row t s) l) := by
  refine Eq.trans ?_ (V_x m c (row t s) l)
  blk_ext [iblk, (idx t).2.1, row]

theorem iblk2 (t : Fin cfg0.N) (j : Fin 4) (n : Fin 704) (k : Fin 1024) : iblk m c 2 t (ix3 j n k) = m ((c : Thread nD τ).loc main_arg1) (ix2 k (col j n)) := by
  refine Eq.trans ?_ (V_wg m c j n k)
  blk_ext [iblk, (idx t).2.2.1]

theorem iblk3 (t : Fin cfg0.N) (j : Fin 4) (n : Fin 704) (k : Fin 1024) : iblk m c 3 t (ix3 j n k) = m ((c : Thread nD τ).loc main_arg2) (ix2 k (col j n)) := by
  refine Eq.trans ?_ (V_wu m c j n k)
  blk_ext [iblk, (idx t).2.2.2.1]

theorem iblk4 (t : Fin cfg0.N) (j : Fin 4) (n : Fin 704) (k : Fin 1024) : iblk m c 4 t (ix3 j n k) = m ((c : Thread nD τ).loc main_arg3) (ix2 (col j n) k) := by
  refine Eq.trans ?_ (V_wd m c j n k)
  blk_ext [iblk, (idx t).2.2.2.2.1]

theorem iblk5 (t : Fin cfg0.N) (l : Fin 1024) : iblk m c 5 t (ix2 0 l) = m ((c : Thread nD τ).loc main_arg4) (ix1 l) := by
  refine Eq.trans ?_ (V_g m c l)
  blk_ext [iblk, (idx t).2.2.2.2.2.1]

theorem iblk6 (t : Fin cfg0.N) (l : Fin 1024) : iblk m c 6 t (ix2 0 l) = m ((c : Thread nD τ).loc main_arg5) (ix1 l) := by
  refine Eq.trans ?_ (V_b m c l)
  blk_ext [iblk, (idx t).2.2.2.2.2.2]

/-! ## What one point computes -/

/-- The arrays of the call, from its arguments. -/
def G : Fin 4096 → Fin 2816 → EReal := projE (m ((c : Thread nD τ).loc main_arg0)) (m ((c : Thread nD τ).loc main_arg1))
def U : Fin 4096 → Fin 2816 → EReal := projE (m ((c : Thread nD τ).loc main_arg0)) (m ((c : Thread nD τ).loc main_arg2))
def H : Fin 4096 → Fin 2816 → EReal := actE (m ((c : Thread nD τ).loc main_arg0)) (m ((c : Thread nD τ).loc main_arg1)) (m ((c : Thread nD τ).loc main_arg2))
def Z : Fin 4096 → Fin 1024 → EReal := zE (m ((c : Thread nD τ).loc main_arg0)) (m ((c : Thread nD τ).loc main_arg1)) (m ((c : Thread nD τ).loc main_arg2)) (m ((c : Thread nD τ).loc main_arg3))
def L (s : Fin 4096) (l : Fin 1024) : EReal :=
  ln (Z m c s) (fun j => m ((c : Thread nD τ).loc main_arg4) (ix1 j)) (fun j => m ((c : Thread nD τ).loc main_arg5) (ix1 j)) l

/-- One group's part of the projected row. -/
def S (j : Fin 4) (s : Fin 4096) (l : Fin 1024) : EReal := ∑ n : Fin 704, H m c s (col j n) * m ((c : Thread nD τ).loc main_arg3) (ix2 (col j n) l)

theorem g_at (t : Fin cfg0.N) (s : Fin 512) (n : Fin 704) (b2) : k0_pay7 (iblk m c 0 t) (View.ld (iblk m c 2 t) (Rect.unit (s := S4x704x1024) (k0_off1 (grid0.coords t)) ![1, 704, 1024] b2)) (ix2 s n) = G m c (row t s) (col (grp t) n) :=
  (pay7_at _ _ s n).trans (Finset.sum_congr rfl fun k _ => congrArg₂ (fun a b : EReal => a * b) (iblk0 m c t s k)
    ((ld_at _ _ (grp t) (offs t) b2 n k).trans (iblk2 m c t (grp t) n k)))

theorem u_at (t : Fin cfg0.N) (s : Fin 512) (n : Fin 704) (b3) : k0_pay8 (iblk m c 0 t) (View.ld (iblk m c 3 t) (Rect.unit (s := S4x704x1024) (k0_off1 (grid0.coords t)) ![1, 704, 1024] b3)) (ix2 s n) = U m c (row t s) (col (grp t) n) :=
  (pay8_at _ _ s n).trans (Finset.sum_congr rfl fun k _ => congrArg₂ (fun a b : EReal => a * b) (iblk0 m c t s k)
    ((ld_at _ _ (grp t) (offs t) b3 n k).trans (iblk3 m c t (grp t) n k)))

theorem h_at (t : Fin cfg0.N) (s : Fin 512) (n : Fin 704) (b2) (b3) : k0_pay9 (iblk m c 0 t) (View.ld (iblk m c 2 t) (Rect.unit (s := S4x704x1024) (k0_off1 (grid0.coords t)) ![1, 704, 1024] b2)) (View.ld (iblk m c 3 t) (Rect.unit (s := S4x704x1024) (k0_off1 (grid0.coords t)) ![1, 704, 1024] b3)) (ix2 s n) = H m c (row t s) (col (grp t) n) :=
  (pay9_at _ _ _ s n).trans (congrArg₂ act (g_at m c t s n b2) (u_at m c t s n b3))

theorem s_at (t : Fin cfg0.N) (s : Fin 512) (l : Fin 1024) (b2) (b3) (b4) : k0_pay1 (k0_pay9 (iblk m c 0 t) (View.ld (iblk m c 2 t) (Rect.unit (s := S4x704x1024) (k0_off1 (grid0.coords t)) ![1, 704, 1024] b2)) (View.ld (iblk m c 3 t) (Rect.unit (s := S4x704x1024) (k0_off1 (grid0.coords t)) ![1, 704, 1024] b3))) (View.ld (iblk m c 4 t) (Rect.unit (s := S4x704x1024) (k0_off1 (grid0.coords t)) ![1, 704, 1024] b4)) (ix2 s l) = S m c (grp t) (row t s) l :=
  (pay1_at _ _ s l).trans (Finset.sum_congr rfl fun n _ => congrArg₂ (fun a b : EReal => a * b) (h_at m c t s n b2 b3)
    ((ld_at _ _ (grp t) (offs t) b4 n l).trans (iblk4 m c t (grp t) n l)))

/-! ## The projections and the gated product -/

theorem out7 (t : Fin cfg0.N) (s : Fin 512) (n : Fin 704) : (outsAt0 m c t.val t.isLt).1 (ix3 0 s n) = G m c (row t s) (col (grp t) n) := by
  by_cases h0 : t.val % 4 = 0
  · rw [Gen.outsAt0_A m c t h0 (by omega) (by omega)]
    frame_out
    exact (pay10_at _ _ s n).trans (g_at m c t s n _)
  · by_cases h2 : t.val % 4 = 3
    · rw [Gen.outsAt0_C m c t h0 (by omega) h2]
      frame_out
      exact (pay10_at _ _ s n).trans (g_at m c t s n _)
    · rw [Gen.outsAt0_B m c t h0 (by omega) h2]
      frame_out
      exact (pay10_at _ _ s n).trans (g_at m c t s n _)

theorem out8 (t : Fin cfg0.N) (s : Fin 512) (n : Fin 704) : (outsAt0 m c t.val t.isLt).2.1 (ix3 0 s n) = U m c (row t s) (col (grp t) n) := by
  by_cases h0 : t.val % 4 = 0
  · rw [Gen.outsAt0_A m c t h0 (by omega) (by omega)]
    frame_out
    exact (pay11_at _ _ s n).trans (u_at m c t s n _)
  · by_cases h2 : t.val % 4 = 3
    · rw [Gen.outsAt0_C m c t h0 (by omega) h2]
      frame_out
      exact (pay11_at _ _ s n).trans (u_at m c t s n _)
    · rw [Gen.outsAt0_B m c t h0 (by omega) h2]
      frame_out
      exact (pay11_at _ _ s n).trans (u_at m c t s n _)

theorem out9 (t : Fin cfg0.N) (s : Fin 512) (n : Fin 704) : (outsAt0 m c t.val t.isLt).2.2.1 (ix3 0 s n) = H m c (row t s) (col (grp t) n) := by
  by_cases h0 : t.val % 4 = 0
  · rw [Gen.outsAt0_A m c t h0 (by omega) (by omega)]
    frame_out
    exact (pay12_at _ _ _ s n).trans (h_at m c t s n _ _)
  · by_cases h2 : t.val % 4 = 3
    · rw [Gen.outsAt0_C m c t h0 (by omega) h2]
      frame_out
      exact (pay12_at _ _ _ s n).trans (h_at m c t s n _ _)
    · rw [Gen.outsAt0_B m c t h0 (by omega) h2]
      frame_out
      exact (pay12_at _ _ _ s n).trans (h_at m c t s n _ _)

/-! ## The sum under the norm -/

/-- The point before. -/
abbrev bef (t : Fin cfg0.N) : Fin cfg0.N := ⟨t.val - 1, Nat.lt_of_le_of_lt (Nat.sub_le _ _) t.isLt⟩

theorem row_bef (t : Fin cfg0.N) (h : ¬ t.val % 4 = 0) (s : Fin 512) : row (bef t) s = row t s :=
  Fin.ext (by show (t.val - 1) / 4 * 512 + s.val = t.val / 4 * 512 + s.val; omega)

theorem grp_of (t : Fin cfg0.N) (j : Fin 4) (h : t.val % 4 = j.val) : grp t = j := Fin.ext h

/-- What the sum's block holds after a point. -/
def acc (t : Fin cfg0.N) : Vec Ideal S512x1024 .f32 := (outsAt0 m c t.val t.isLt).2.2.2.1

theorem acc_A (t : Fin cfg0.N) (h0 : t.val % 4 = 0) (s : Fin 512) (l : Fin 1024) : acc m c t (ix2 s l) = S m c (grp t) (row t s) l := by
  unfold acc
  rw [Gen.outsAt0_A m c t h0 (by omega) (by omega)]
  frame_out
  exact s_at m c t s l _ _ _

theorem acc_B (t : Fin cfg0.N) (h0 : ¬ t.val % 4 = 0) (h2 : ¬ t.val % 4 = 3) (s : Fin 512) (l : Fin 1024) :
    acc m c t (ix2 s l) = acc m c (bef t) (ix2 s l) + S m c (grp t) (row t s) l := by
  unfold acc
  rw [Gen.outsAt0_B m c t h0 (by omega) h2]
  frame_out
  exact (pay2_at _ _ _ s l).trans (congrArg (fun a : EReal => _ + a) (s_at m c t s l _ _ _))

theorem acc0 (t : Fin cfg0.N) (h : t.val % 4 = 0) (s : Fin 512) (l : Fin 1024) : acc m c t (ix2 s l) = S m c 0 (row t s) l := by
  rw [acc_A m c t h, grp_of t 0 h]

theorem acc1 (t : Fin cfg0.N) (h : t.val % 4 = 1) (s : Fin 512) (l : Fin 1024) : acc m c t (ix2 s l) = S m c 0 (row t s) l + S m c 1 (row t s) l := by
  rw [acc_B m c t (by omega) (by omega), grp_of t 1 h, acc0 m c (bef t) (by show (t.val - 1) % 4 = 0; omega), row_bef t (by omega)]

theorem acc2 (t : Fin cfg0.N) (h : t.val % 4 = 2) (s : Fin 512) (l : Fin 1024) :
    acc m c t (ix2 s l) = (S m c 0 (row t s) l + S m c 1 (row t s) l) + S m c 2 (row t s) l := by
  rw [acc_B m c t (by omega) (by omega), grp_of t 2 h, acc1 m c (bef t) (by show (t.val - 1) % 4 = 1; omega), row_bef t (by omega)]

/-- The last point's sum, and with it the row under the norm. -/
theorem z_at (t : Fin cfg0.N) (h : t.val % 4 = 3) (s : Fin 512) (l : Fin 1024) (b2) (b3) (b4) :
    k0_pay3 (iblk m c 1 t) (k0_pay2 (k0_pay9 (iblk m c 0 t) (View.ld (iblk m c 2 t) (Rect.unit (s := S4x704x1024) (k0_off1 (grid0.coords t)) ![1, 704, 1024] b2)) (View.ld (iblk m c 3 t) (Rect.unit (s := S4x704x1024) (k0_off1 (grid0.coords t)) ![1, 704, 1024] b3))) (View.ld (iblk m c 4 t) (Rect.unit (s := S4x704x1024) (k0_off1 (grid0.coords t)) ![1, 704, 1024] b4)) (acc m c (bef t))) (ix2 s l) = Z m c (row t s) l := by
  refine (pay3_at _ _ s l).trans ?_
  refine congrArg₂ (fun a b : EReal => Ideal.ofBits .f32 1068827891#32 * a + Ideal.ofBits .f32 1056964608#32 * b) (iblk1 m c t s l) ?_
  refine (pay2_at _ _ _ s l).trans ?_
  rw [s_at m c t s l b2 b3 b4, grp_of t 3 h, acc2 m c (bef t) (by show (t.val - 1) % 4 = 2; omega), row_bef t (by omega)]
  exact four fun n => H m c (row t s) n * m ((c : Thread nD τ).loc main_arg3) (ix2 n l)

theorem x_at (t : Fin cfg0.N) (h : t.val % 4 = 3) (s : Fin 512) (l : Fin 1024) (b2) (b3) (b4) :
    ln (fun j => k0_pay3 (iblk m c 1 t) (k0_pay2 (k0_pay9 (iblk m c 0 t) (View.ld (iblk m c 2 t) (Rect.unit (s := S4x704x1024) (k0_off1 (grid0.coords t)) ![1, 704, 1024] b2)) (View.ld (iblk m c 3 t) (Rect.unit (s := S4x704x1024) (k0_off1 (grid0.coords t)) ![1, 704, 1024] b3))) (View.ld (iblk m c 4 t) (Rect.unit (s := S4x704x1024) (k0_off1 (grid0.coords t)) ![1, 704, 1024] b4)) (acc m c (bef t))) (ix2 s j)) (fun j => iblk m c 5 t (ix2 0 j)) (fun j => iblk m c 6 t (ix2 0 j)) l
      = L m c (row t s) l :=
  congrFun (congr (congr (congrArg ln (funext fun j => z_at m c t h s j b2 b3 b4)) (funext fun j => iblk5 m c t j)) (funext fun j => iblk6 m c t j)) l

theorem out10 (t : Fin cfg0.N) (h : t.val % 4 = 3) (s : Fin 512) (l : Fin 1024) : (outsAt0 m c t.val t.isLt).2.2.2.1 (ix2 s l) = Z m c (row t s) l := by
  rw [Gen.outsAt0_C m c t (by omega) (by omega) h]
  frame_out
  exact z_at m c t h s l _ _ _

theorem out11 (t : Fin cfg0.N) (h : t.val % 4 = 3) (s : Fin 512) (l : Fin 1024) : (outsAt0 m c t.val t.isLt).2.2.2.2.1 (ix2 s l) = L m c (row t s) l := by
  rw [Gen.outsAt0_C m c t (by omega) (by omega) h]
  frame_out
  exact (pay4_at _ _ _ _ s l).trans (x_at m c t h s l _ _ _)

theorem out12 (t : Fin cfg0.N) (h : t.val % 4 = 3) (s : Fin 512) (l : Fin 1024) : (outsAt0 m c t.val t.isLt).2.2.2.2.2 (ix2 s l) = L m c (row t s) l := by
  rw [Gen.outsAt0_C m c t (by omega) (by omega) h]
  frame_out
  exact (pay5_at _ _ _ _ s l).trans (x_at m c t h s l _ _ _)

/-! ## The output arrays -/

theorem w7_of (H : S4x4096x704.Idx → EReal) (O : Fin cfg0.N → Vec Ideal S1x512x704 .bf16) (hO : ∀ t, (dats m 0 c).after 7 t = O t)
    (hH : ∀ (t : Fin cfg0.N) (s : Fin 512) (n : Fin 704), O t (ix3 0 s n) = H (ix3 (grp t) (row t s) n)) : (dats m 0 c).arrAt 7 cfg0.N = H := by
  refine (dats m 0 c).arrAt_eq_of_covers 7 _ (by decide +kernel) fun t hf y => ?_
  blk_simp
  rw [hO]
  obtain ⟨s, n, rfl⟩ : ∃ s n, y = ix3 0 s n := eq_ix3_unit y
  refine (hH t s n).trans (congrArg H ?_)
  blk_ext [(idx_out t).1, row, grp]

theorem w7 : (dats m 0 c).arrAt 7 cfg0.N = (fun i => G m c (i 1) (col (i 0) (i 2)) : S4x4096x704.Idx → EReal) :=
  w7_of m c _ (fun t => (outsAt0 m c t.val t.isLt).1) (after0_7 m c) (out7 m c)

theorem w8_of (H : S4x4096x704.Idx → EReal) (O : Fin cfg0.N → Vec Ideal S1x512x704 .bf16) (hO : ∀ t, (dats m 0 c).after 8 t = O t)
    (hH : ∀ (t : Fin cfg0.N) (s : Fin 512) (n : Fin 704), O t (ix3 0 s n) = H (ix3 (grp t) (row t s) n)) : (dats m 0 c).arrAt 8 cfg0.N = H := by
  refine (dats m 0 c).arrAt_eq_of_covers 8 _ (by decide +kernel) fun t hf y => ?_
  blk_simp
  rw [hO]
  obtain ⟨s, n, rfl⟩ : ∃ s n, y = ix3 0 s n := eq_ix3_unit y
  refine (hH t s n).trans (congrArg H ?_)
  blk_ext [(idx_out t).2.1, row, grp]

theorem w8 : (dats m 0 c).arrAt 8 cfg0.N = (fun i => U m c (i 1) (col (i 0) (i 2)) : S4x4096x704.Idx → EReal) :=
  w8_of m c _ (fun t => (outsAt0 m c t.val t.isLt).2.1) (after0_8 m c) (out8 m c)

theorem w9_of (H : S4x4096x704.Idx → EReal) (O : Fin cfg0.N → Vec Ideal S1x512x704 .bf16) (hO : ∀ t, (dats m 0 c).after 9 t = O t)
    (hH : ∀ (t : Fin cfg0.N) (s : Fin 512) (n : Fin 704), O t (ix3 0 s n) = H (ix3 (grp t) (row t s) n)) : (dats m 0 c).arrAt 9 cfg0.N = H := by
  refine (dats m 0 c).arrAt_eq_of_covers 9 _ (by decide +kernel) fun t hf y => ?_
  blk_simp
  rw [hO]
  obtain ⟨s, n, rfl⟩ : ∃ s n, y = ix3 0 s n := eq_ix3_unit y
  refine (hH t s n).trans (congrArg H ?_)
  blk_ext [(idx_out t).2.2.1, row, grp]

theorem w9 : (dats m 0 c).arrAt 9 cfg0.N = (fun i => H m c (i 1) (col (i 0) (i 2)) : S4x4096x704.Idx → EReal) :=
  w9_of m c _ (fun t => (outsAt0 m c t.val t.isLt).2.2.1) (after0_9 m c) (out9 m c)

theorem w10_of (H : S4096x1024.Idx → EReal) (O : Fin cfg0.N → Vec Ideal S512x1024 .f32) (hO : ∀ t, (dats m 0 c).after 10 t = O t)
    (hH : ∀ (t : Fin cfg0.N) (h : t.val % 4 = 3) (s : Fin 512) (l : Fin 1024), O t (ix2 s l) = H (ix2 (row t s) l)) : (dats m 0 c).arrAt 10 cfg0.N = H := by
  refine (dats m 0 c).arrAt_eq_of_covers 10 _ (by decide +kernel) fun t hf y => ?_
  blk_simp
  rw [hO]
  obtain ⟨s, l, rfl⟩ : ∃ s l, y = ix2 s l := ⟨_, _, eq_ix2 y⟩
  refine (hH t ((flush0_10 t).mp hf) s l).trans (congrArg H ?_)
  blk_ext [(idx_out t).2.2.2.1, row]

theorem w10 : (dats m 0 c).arrAt 10 cfg0.N = (fun i => Z m c (i 0) (i 1) : S4096x1024.Idx → EReal) :=
  w10_of m c _ (fun t => (outsAt0 m c t.val t.isLt).2.2.2.1) (after0_10 m c) (out10 m c)

theorem w11_of (H : S4096x1024.Idx → EReal) (O : Fin cfg0.N → Vec Ideal S512x1024 .f32) (hO : ∀ t, (dats m 0 c).after 11 t = O t)
    (hH : ∀ (t : Fin cfg0.N) (h : t.val % 4 = 3) (s : Fin 512) (l : Fin 1024), O t (ix2 s l) = H (ix2 (row t s) l)) : (dats m 0 c).arrAt 11 cfg0.N = H := by
  refine (dats m 0 c).arrAt_eq_of_covers 11 _ (by decide +kernel) fun t hf y => ?_
  blk_simp
  rw [hO]
  obtain ⟨s, l, rfl⟩ : ∃ s l, y = ix2 s l := ⟨_, _, eq_ix2 y⟩
  refine (hH t ((flush0_11 t).mp hf) s l).trans (congrArg H ?_)
  blk_ext [(idx_out t).2.2.2.2.1, row]

theorem w11 : (dats m 0 c).arrAt 11 cfg0.N = (fun i => L m c (i 0) (i 1) : S4096x1024.Idx → EReal) :=
  w11_of m c _ (fun t => (outsAt0 m c t.val t.isLt).2.2.2.2.1) (after0_11 m c) (out11 m c)

theorem w12_of (H : S4096x1024.Idx → EReal) (O : Fin cfg0.N → Vec Ideal S512x1024 .bf16) (hO : ∀ t, (dats m 0 c).after 12 t = O t)
    (hH : ∀ (t : Fin cfg0.N) (h : t.val % 4 = 3) (s : Fin 512) (l : Fin 1024), O t (ix2 s l) = H (ix2 (row t s) l)) : (dats m 0 c).arrAt 12 cfg0.N = H := by
  refine (dats m 0 c).arrAt_eq_of_covers 12 _ (by decide +kernel) fun t hf y => ?_
  blk_simp
  rw [hO]
  obtain ⟨s, l, rfl⟩ : ∃ s l, y = ix2 s l := ⟨_, _, eq_ix2 y⟩
  refine (hH t ((flush0_12 t).mp hf) s l).trans (congrArg H ?_)
  blk_ext [(idx_out t).2.2.2.2.2, row]

theorem w12 : (dats m 0 c).arrAt 12 cfg0.N = (fun i => L m c (i 0) (i 1) : S4096x1024.Idx → EReal) :=
  w12_of m c _ (fun t => (outsAt0 m c t.val t.isLt).2.2.2.2.2) (after0_12 m c) (out12 m c)

end Cert.FfValue
end
-- ==== Proof.FfClaim.lean ====
/-
  The feed-forward's forward pair: its two projections, the gated product, the sum under the layer norm and the normalised rows
  are those of the reference, whatever the arguments.
-/
module

public import proofs.«01_k».proof.Defs
public import proofs.«01_k».proof.Proof.Gen.Reference15Ideal.Run
public import proofs.«01_k».proof.Proof.Gen.Reference15Ideal.Read
public import proofs.«01_k».proof.Proof.FfValue

@[expose] public section

set_option maxRecDepth 200000

noncomputable section

namespace Cert.FfClaim

open Idealize.ShloMosaic Idealize.ShloMosaic.TcCoe Idealize.SL.Sem
open Cert.Reference15Ideal Cert.Reference15Ideal.Gen Cert.Reference15Ideal.Read
open Cert.Common Cert.FfValue
open Cert.Ffn (col)
open Cert.ClValue (mean ln)
open scoped BigOperators

variable (x0 : S1x4096x1024.Idx → EReal) (x1 x2 : S1024x2816.Idx → EReal) (x3 : S2816x1024.Idx → EReal) (x4 x5 : S1024.Idx → EReal)

theorem v0_at (s : Fin 4096) (n : Fin 2816) : val_main_v0 (F := Ideal) x0 x1 (ix3 0 s n) = projE x0 x1 s n := by
  unfold val_main_v0
  pointwise
  rfl

theorem v1_at (s : Fin 4096) (n : Fin 2816) : val_main_v1 (F := Ideal) x0 x2 (ix3 0 s n) = projE x0 x2 s n := by
  unfold val_main_v1
  pointwise
  rfl

theorem v3_at (s : Fin 4096) (n : Fin 2816) : val_main_v3 (F := Ideal) x0 x1 x2 (ix3 0 s n) = actE x0 x1 x2 s n := by
  have e := v0_at x0 x1
  have e1 := v1_at x0 x2
  unfold val_main_v3 val_main_v2 val_main_call0_v5 val_main_call0_v4 val_main_call0_cst_0 val_main_call0_v3 val_main_call0_v2 val_main_call0_cst val_main_call0_v1 val_main_call0_v0
  generalize val_main_v0 (F := Ideal) x0 x1 = y at e ⊢
  generalize val_main_v1 (F := Ideal) x0 x2 = w at e1 ⊢
  pointwise
  simp only [e, e1]
  rfl

theorem v9_at (s : Fin 4096) (l : Fin 1024) : val_main_v9 (F := Ideal) x0 x1 x2 x3 (ix3 0 s l) = zE x0 x1 x2 x3 s l := by
  have e := v3_at x0 x1 x2
  unfold val_main_v9 val_main_v8 val_main_v7 val_main_cst_0 val_main_v6 val_main_v5 val_main_v4 val_main_cst
  generalize val_main_v3 (F := Ideal) x0 x1 x2 = y at e ⊢
  pointwise
  simp only [e]
  rfl

theorem v13_at (s : Fin 4096) : val_main_v13 (F := Ideal) x0 x1 x2 x3 (ix3 0 s 0) = mean (zE x0 x1 x2 x3 s) := by
  have e := v9_at x0 x1 x2 x3
  unfold val_main_v13 val_main_v12 val_main_v11 val_main_v10 val_main_cst_2 val_main_cst_1
  generalize val_main_v9 (F := Ideal) x0 x1 x2 x3 = y at e ⊢
  pointwise
  simp only [e, Ln.ofBits_zero, zero_add]
  rfl

theorem v15_at (s : Fin 4096) (l : Fin 1024) : val_main_v15 (F := Ideal) x0 x1 x2 x3 (ix3 0 s l) = zE x0 x1 x2 x3 s l - mean (zE x0 x1 x2 x3 s) := by
  have e := v9_at x0 x1 x2 x3
  have e7 := v13_at x0 x1 x2 x3
  unfold val_main_v15 val_main_v14
  generalize val_main_v13 (F := Ideal) x0 x1 x2 x3 = w at e7 ⊢
  generalize val_main_v9 (F := Ideal) x0 x1 x2 x3 = y at e ⊢
  pointwise
  simp only [e, e7]

theorem v25_at (s : Fin 4096) : val_main_v25 (F := Ideal) x0 x1 x2 x3 (ix3 0 s 0) = Ideal.rsqrt (mean (fun k =>
    (zE x0 x1 x2 x3 s k - mean (zE x0 x1 x2 x3 s)) * (zE x0 x1 x2 x3 s k - mean (zE x0 x1 x2 x3 s))) + Ideal.ofBits .f32 925353388#32) := by
  have e := v15_at x0 x1 x2 x3
  unfold val_main_v25 val_main_v24 val_main_v23 val_main_v20 val_main_v19 val_main_v18 val_main_v17 val_main_v16 val_main_cst_5 val_main_cst_4 val_main_cst_3
  generalize val_main_v15 (F := Ideal) x0 x1 x2 x3 = y at e ⊢
  pointwise
  simp only [e, Ln.ofBits_zero, zero_add]
  rfl

theorem v33_at (s : Fin 4096) (l : Fin 1024) : val_main_v33 (F := Ideal) x0 x1 x2 x3 x4 x5 (ix3 0 s l) =
    ln (zE x0 x1 x2 x3 s) (fun j => x4 (ix1 j)) (fun j => x5 (ix1 j)) l := by
  have e : ∀ s l, val_main_v22 (F := Ideal) x0 x1 x2 x3 (ix3 0 s l) = _ := v15_at x0 x1 x2 x3
  have e2 := v25_at x0 x1 x2 x3
  unfold val_main_v33 val_main_v32 val_main_v31 val_main_v30 val_main_v29 val_main_v28 val_main_v27 val_main_v26
  generalize val_main_v22 (F := Ideal) x0 x1 x2 x3 = y at e ⊢
  generalize val_main_v25 (F := Ideal) x0 x1 x2 x3 = w at e2 ⊢
  pointwise
  simp only [e, e2]
  rfl

theorem v37_eq : val_main_v37 (F := Ideal) x0 x1 = (fun i => projE x0 x1 (i 1) (col (i 0) (i 2)) : S4x4096x704.Idx → EReal) := by
  funext i
  obtain ⟨j, s, n, rfl⟩ : ∃ j s n, i = ix3 j s n := ⟨_, _, _, eq_ix3 i⟩
  have e := v0_at x0 x1
  unfold val_main_v37 val_main_v36 val_main_v35 val_main_v34
  generalize val_main_v0 (F := Ideal) x0 x1 = y at e ⊢
  pointwise
  exact e s (col j n)

theorem v41_eq : val_main_v41 (F := Ideal) x0 x2 = (fun i => projE x0 x2 (i 1) (col (i 0) (i 2)) : S4x4096x704.Idx → EReal) := by
  funext i
  obtain ⟨j, s, n, rfl⟩ : ∃ j s n, i = ix3 j s n := ⟨_, _, _, eq_ix3 i⟩
  have e := v1_at x0 x2
  unfold val_main_v41 val_main_v40 val_main_v39 val_main_v38
  generalize val_main_v1 (F := Ideal) x0 x2 = y at e ⊢
  pointwise
  exact e s (col j n)

theorem v45_eq : val_main_v45 (F := Ideal) x0 x1 x2 = (fun i => actE x0 x1 x2 (i 1) (col (i 0) (i 2)) : S4x4096x704.Idx → EReal) := by
  funext i
  obtain ⟨j, s, n, rfl⟩ : ∃ j s n, i = ix3 j s n := ⟨_, _, _, eq_ix3 i⟩
  have e := v3_at x0 x1 x2
  unfold val_main_v45 val_main_v44 val_main_v43 val_main_v42
  generalize val_main_v3 (F := Ideal) x0 x1 x2 = y at e ⊢
  pointwise
  exact e s (col j n)

theorem v46_eq : val_main_v46 (F := Ideal) x0 x1 x2 x3 = (fun i => zE x0 x1 x2 x3 (i 0) (i 1) : S4096x1024.Idx → EReal) := by
  funext i
  obtain ⟨s, l, rfl⟩ : ∃ s l, i = ix2 s l := ⟨_, _, eq_ix2 i⟩
  have e := v9_at x0 x1 x2 x3
  unfold val_main_v46
  generalize val_main_v9 (F := Ideal) x0 x1 x2 x3 = y at e ⊢
  pointwise
  exact e s l

theorem v47_eq : val_main_v47 (F := Ideal) x0 x1 x2 x3 x4 x5 = (fun i => ln (zE x0 x1 x2 x3 (i 0)) (fun j => x4 (ix1 j)) (fun j => x5 (ix1 j)) (i 1) : S4096x1024.Idx → EReal) := by
  funext i
  obtain ⟨s, l, rfl⟩ : ∃ s l, i = ix2 s l := ⟨_, _, eq_ix2 i⟩
  have e := v33_at x0 x1 x2 x3 x4 x5
  unfold val_main_v47
  generalize val_main_v33 (F := Ideal) x0 x1 x2 x3 x4 x5 = y at e ⊢
  pointwise
  exact e s l

theorem v48_eq : val_main_v48 (F := Ideal) x0 x1 x2 x3 x4 x5 = (fun i => ln (zE x0 x1 x2 x3 (i 0)) (fun j => x4 (ix1 j)) (fun j => x5 (ix1 j)) (i 1) : S4096x1024.Idx → EReal) := by
  funext i
  obtain ⟨s, l, rfl⟩ : ∃ s l, i = ix2 s l := ⟨_, _, eq_ix2 i⟩
  have e := v33_at x0 x1 x2 x3 x4 x5
  unfold val_main_v48
  generalize val_main_v33 (F := Ideal) x0 x1 x2 x3 x4 x5 = y at e ⊢
  pointwise
  exact e s l

theorem algebraic : Cert.algebraic_Kernel15Ideal_Reference15Ideal := by
  pair_intro
  · run_from Cert.Kernel15Ideal.Value.run_blocks m g
  · run_from Cert.Reference15Ideal.Value.run m' g'
    · refine (Cert.Reference15Ideal.Read.val_main_v37_eq _ _).trans ?_
      exact (v37_eq _ _).trans (w7 m c).symm
    · refine (Cert.Reference15Ideal.Read.val_main_v41_eq _ _).trans ?_
      exact (v41_eq _ _).trans (w8 m c).symm
    · refine (Cert.Reference15Ideal.Read.val_main_v45_eq _ _ _).trans ?_
      exact (v45_eq _ _ _).trans (w9 m c).symm
    · refine (Cert.Reference15Ideal.Read.val_main_v46_eq _ _ _ _).trans ?_
      exact (v46_eq _ _ _ _).trans (w10 m c).symm
    · refine (Cert.Reference15Ideal.Read.val_main_v47_eq m' c).trans ?_
      rw [(hagree c).1, (hagree c).2.1, (hagree c).2.2.1, (hagree c).2.2.2.1, (hagree c).2.2.2.2.1, (hagree c).2.2.2.2.2]
      exact (v47_eq _ _ _ _ _ _).trans (w11 m c).symm
    · refine (Cert.Reference15Ideal.Read.val_main_v49_eq m' c).trans ?_
      rw [(hagree c).1, (hagree c).2.1, (hagree c).2.2.1, (hagree c).2.2.2.1, (hagree c).2.2.2.2.1, (hagree c).2.2.2.2.2]
      exact (v48_eq _ _ _ _ _ _).trans (w12 m c).symm

end Cert.FfClaim
end
-- ==== Proof.FfnWords.lean ====
/- The gated feed-forward's backward call on float words: the idealised program is the same text, so its frame over any values is this one's. -/
module

public import proofs.«01_k».proof.Proof.FfnBody
public import proofs.«01_k».proof.Proof.Gen.Kernel8
public import Idealize.ShloMosaic.PureOps.BitExact

@[expose] public section

set_option maxRecDepth 16384

noncomputable section

namespace Cert.Kernel8.Ffn

open Cert.Kernel8 Cert.Kernel8.Gen Idealize.ShloMosaic Idealize.ShloMosaic.TcCoe Idealize.ShloMosaic.Tactic Idealize.SL.Sem

variable (m : (ℓ : Loc nD τ sig) → Buf (Elt Bits) ℓ) (ρ : Dev nD → PrngReg)

theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Eq.mp ?_ (Cert.Kernel8Ideal.Ffn.frame (F := Bits) m ρ)
  sl_kernel_rfl

end Cert.Kernel8.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.ConvClaim
public import proofs.«01_k».proof.Proof.XaClaim
public import proofs.«01_k».proof.Proof.XbClaim
public import proofs.«01_k».proof.Proof.LossClaim
public import proofs.«01_k».proof.Proof.QkClaim
public import proofs.«01_k».proof.Proof.HnClaim
public import proofs.«01_k».proof.Proof.MoClaim
public import proofs.«01_k».proof.Proof.FfnClaim
public import proofs.«01_k».proof.Proof.XfClaim
public import proofs.«01_k».proof.Proof.QfClaim
public import proofs.«01_k».proof.Proof.CfClaim
public import proofs.«01_k».proof.Proof.HfClaim
public import proofs.«01_k».proof.Proof.XgClaim
public import proofs.«01_k».proof.Proof.ClClaim
public import proofs.«01_k».proof.Proof.FfClaim
public import proofs.«01_k».proof.Proof.FfnWords
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal :=
  fun m ρ _ => (θ_run Cert.ReferenceIdeal.defs _ _).mono (fun r h => ⟨fun c => (h c).2.2.2.2, sem_eq_zero_of_no_sems (by decide) r.2⟩)
    (Cert.ReferenceIdeal.Value.run m ρ)

theorem reference2_frame : Cert.quiescent_Reference2Ideal :=
  fun m ρ _ => (θ_run Cert.Reference2Ideal.defs _ _).mono (fun r h => ⟨fun c => (h c).2.2, sem_eq_zero_of_no_sems (by decide) r.2⟩)
    (Cert.Reference2Ideal.Value.run m ρ)

theorem reference3_frame : Cert.quiescent_Reference3Ideal :=
  fun m ρ _ => (θ_run Cert.Reference3Ideal.defs _ _).mono (fun r h => ⟨fun c => (h c).2.2, sem_eq_zero_of_no_sems (by decide) r.2⟩)
    (Cert.Reference3Ideal.Value.run m ρ)

theorem reference4_frame : Cert.quiescent_Reference4Ideal :=
  fun m ρ _ => (θ_run Cert.Reference4Ideal.defs _ _).mono (fun r h => ⟨fun c => (h c).2.2, sem_eq_zero_of_no_sems (by decide) r.2⟩)
    (Cert.Reference4Ideal.Value.run m ρ)

theorem reference5_frame : Cert.quiescent_Reference5Ideal :=
  fun m ρ _ => (θ_run Cert.Reference5Ideal.defs _ _).mono (fun r h => ⟨fun c => (h c).2.2, sem_eq_zero_of_no_sems (by decide) r.2⟩)
    (Cert.Reference5Ideal.Value.run m ρ)

theorem reference6_frame : Cert.quiescent_Reference6Ideal :=
  fun m ρ _ => (θ_run Cert.Reference6Ideal.defs _ _).mono (fun r h => ⟨fun c => (h c).2.2.2, sem_eq_zero_of_no_sems (by decide) r.2⟩)
    (Cert.Reference6Ideal.Value.run m ρ)

theorem reference7_frame : Cert.quiescent_Reference7Ideal :=
  fun m ρ _ => (θ_run Cert.Reference7Ideal.defs _ _).mono (fun r h => ⟨fun c => (h c).2.2.2.2.2, sem_eq_zero_of_no_sems (by decide) r.2⟩)
    (Cert.Reference7Ideal.Value.run m ρ)

theorem reference8_frame : Cert.quiescent_Reference8Ideal :=
  fun m ρ _ => (θ_run Cert.Reference8Ideal.defs _ _).mono (fun r h => ⟨fun c => (h c).2.2.2.2.2.2, sem_eq_zero_of_no_sems (by decide) r.2⟩)
    (Cert.Reference8Ideal.Value.run m ρ)

theorem reference9_frame : Cert.quiescent_Reference9Ideal :=
  fun m ρ _ => (θ_run Cert.Reference9Ideal.defs _ _).mono (fun r h => ⟨fun c => (h c).2, sem_eq_zero_of_no_sems (by decide) r.2⟩)
    (Cert.Reference9Ideal.Value.run m ρ)

theorem reference10_frame : Cert.quiescent_Reference10Ideal :=
  fun m ρ _ => (θ_run Cert.Reference10Ideal.defs _ _).mono (fun r h => ⟨fun c => (h c).2, sem_eq_zero_of_no_sems (by decide) r.2⟩)
    (Cert.Reference10Ideal.Value.run m ρ)

theorem reference11_frame : Cert.quiescent_Reference11Ideal :=
  fun m ρ _ => (θ_run Cert.Reference11Ideal.defs _ _).mono (fun r h => ⟨fun c => (h c).2, sem_eq_zero_of_no_sems (by decide) r.2⟩)
    (Cert.Reference11Ideal.Value.run m ρ)

theorem reference12_frame : Cert.quiescent_Reference12Ideal :=
  fun m ρ _ => (θ_run Cert.Reference12Ideal.defs _ _).mono (fun r h => ⟨fun c => (h c).2, sem_eq_zero_of_no_sems (by decide) r.2⟩)
    (Cert.Reference12Ideal.Value.run m ρ)

theorem reference13_frame : Cert.quiescent_Reference13Ideal :=
  fun m ρ _ => (θ_run Cert.Reference13Ideal.defs _ _).mono (fun r h => ⟨fun c => (h c).2, sem_eq_zero_of_no_sems (by decide) r.2⟩)
    (Cert.Reference13Ideal.Value.run m ρ)

theorem reference14_frame : Cert.quiescent_Reference14Ideal :=
  fun m ρ _ => (θ_run Cert.Reference14Ideal.defs _ _).mono (fun r h => ⟨fun c => (h c).2.2.2, sem_eq_zero_of_no_sems (by decide) r.2⟩)
    (Cert.Reference14Ideal.Value.run m ρ)

theorem reference15_frame : Cert.quiescent_Reference15Ideal :=
  fun m ρ _ => (θ_run Cert.Reference15Ideal.defs _ _).mono (fun r h => ⟨fun c => (h c).2.2.2.2.2.2, sem_eq_zero_of_no_sems (by decide) r.2⟩)
    (Cert.Reference15Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.XaClaim.pre_facts, Cert.XbClaim.pre_facts, Cert.QkClaim.pre_facts, Cert.HnClaim.pre_facts, Cert.MoClaim.pre_facts, Cert.FfnClaim.pre_facts, Cert.HfClaim.pre_facts,
  Cert.HnClaim.mask_facts, Cert.CfClaim.mask_facts, Cert.HfClaim.mask_facts,
  fun m ρ _ => Cert.Kernel.Gen.frame m ρ,
  fun m ρ _ => Cert.KernelIdeal.Gen.frame m ρ,
  reference_frame,
  fun m ρ _ => Cert.Kernel2.Gen.frame m ρ,
  fun m ρ _ => Cert.Kernel2Ideal.Gen.frame m ρ, fun m ρ _ => Cert.Kernel2Ideal.Gen.frame m ρ,
  reference2_frame, fun m ρ _ => reference2_frame m ρ trivial,
  fun m ρ _ => Cert.Kernel3.Gen.frame m ρ,
  fun m ρ _ => Cert.Kernel3Ideal.Gen.frame m ρ, fun m ρ _ => Cert.Kernel3Ideal.Gen.frame m ρ,
  reference3_frame, fun m ρ _ => reference3_frame m ρ trivial,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ, fun m ρ _ => Cert.Kernel5Ideal.Gen.frame m ρ,
  reference5_frame, fun m ρ _ => reference5_frame m ρ trivial,
  fun m ρ _ => Cert.Kernel6.Gen.frame m ρ,
  fun m ρ _ => Cert.Kernel6Ideal.Gen.frame m ρ, fun m ρ _ => Cert.Kernel6Ideal.Gen.frame m ρ,
  reference6_frame, fun m ρ _ => reference6_frame m ρ trivial,
  fun m ρ _ => Cert.Kernel7.Gen.frame m ρ,
  fun m ρ _ => Cert.Kernel7Ideal.Gen.frame m ρ, fun m ρ _ => Cert.Kernel7Ideal.Gen.frame m ρ,
  reference7_frame, fun m ρ _ => reference7_frame m ρ trivial,
  fun m ρ _ => Cert.Kernel8.Ffn.frame m ρ,
  fun m ρ _ => Cert.Kernel8Ideal.Ffn.frame m ρ, fun m ρ _ => Cert.Kernel8Ideal.Ffn.frame m ρ,
  reference8_frame, fun m ρ _ => reference8_frame m ρ trivial,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ, fun m ρ _ => Cert.Kernel12Ideal.Gen.frame m ρ,
  reference12_frame, fun m ρ _ => reference12_frame m ρ trivial,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  trivial, Cert.ConvClaim.algebraic,
  trivial, Cert.XaClaim.algebraic,
  trivial, Cert.XbClaim.algebraic,
  trivial, Cert.LossClaim.algebraic,
  trivial, Cert.QkClaim.algebraic,
  IdealRules.named_const.statement Cert.Kernel6Ideal.κ "inv_head" .f32 0x3BAAAAAB#32 ((1 / 192 : ℝ) : EReal) rfl, Cert.HnClaim.algebraic,
  trivial, Cert.MoClaim.algebraic,
  trivial, Cert.FfnClaim.algebraic,
  trivial, Cert.XfClaim.algebraic,
  trivial, Cert.QfClaim.algebraic,
  trivial, Cert.CfClaim.algebraic,
  IdealRules.named_const.statement Cert.Kernel12Ideal.κ "inv_head" .f32 0x3BAAAAAB#32 ((1 / 192 : ℝ) : EReal) rfl, Cert.HfClaim.algebraic,
  trivial, Cert.XgClaim.algebraic,
  trivial, Cert.ClClaim.algebraic,
  trivial, Cert.FfClaim.algebraic⟩

end Cert.Proof

end
